-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2 = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_KernelIdeal_experts_differ [hPre_experts_differ : Cert.Pre_experts_differ.Facts] (m : (ℓ : Loc Cert.KernelIdeal.nD Cert.KernelIdeal.τ Cert.KernelIdeal.sig) → Buf (Elt Ideal) ℓ) : Prop :=
  ∀ c : Dev Cert.KernelIdeal.nD,
    (Cert.Pre_experts_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_experts_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_experts_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_differ [hPre_experts_differ : Cert.Pre_experts_differ.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_experts_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_experts_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_experts_differ [hKernelIdeal : Cert.KernelIdeal.Facts] [hPre_experts_differ : Cert.Pre_experts_differ.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_differ m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_experts_differ [hReferenceIdeal : Cert.ReferenceIdeal.Facts] [hPre_experts_differ : Cert.Pre_experts_differ.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_differ m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.bf16_pair.Statement Cert.KernelIdeal.S512x128 Cert.KernelIdeal.S256x128
  ∧ IdealRules.bf16_pack.Statement Cert.KernelIdeal.S256x128

def algebraic_KernelIdeal_ReferenceIdeal_on_rows_of_tokens_pre_experts_differ [hKernelIdeal : Cert.KernelIdeal.Facts] [hReferenceIdeal : Cert.ReferenceIdeal.Facts] [hPre_experts_differ : Cert.Pre_experts_differ.Facts] [hOn_rows_of_tokens : Cert.On_rows_of_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_differ m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 79872, 128]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨3, ![156, 2, 128]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 79872, 128]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v66) i = v0 c i)
          ∧ (∀ i : (⟨3, ![156, 2, 128]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v67) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)) (v6 : (c : Dev Cert.Kernel2Ideal.nD) → Buf (Elt Ideal) ((c.tc : Thread Cert.Kernel2Ideal.nD Cert.Kernel2Ideal.τ).loc Cert.Kernel2Ideal.main_v24_6)) (v7 : (c : Dev Cert.Kernel2Ideal.nD) → Buf (Elt Ideal) ((c.tc : Thread Cert.Kernel2Ideal.nD Cert.Kernel2Ideal.τ).loc Cert.Kernel2Ideal.main_v31)) (v8 : (c : Dev Cert.Kernel2Ideal.nD) → Buf (Elt Ideal) ((c.tc : Thread Cert.Kernel2Ideal.nD Cert.Kernel2Ideal.τ).loc Cert.Kernel2Ideal.main_v38)) (v9 : (c : Dev Cert.Kernel2Ideal.nD) → Buf (Elt Ideal) ((c.tc : Thread Cert.Kernel2Ideal.nD Cert.Kernel2Ideal.τ).loc Cert.Kernel2Ideal.main_v45)) (v10 : (c : Dev Cert.Kernel2Ideal.nD) → Buf (Elt Ideal) ((c.tc : Thread Cert.Kernel2Ideal.nD Cert.Kernel2Ideal.τ).loc Cert.Kernel2Ideal.main_v52)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_v24_6) = v6 c
          ∧ r.2.mem ((c.tc : Thread Cert.Kernel2Ideal.nD Cert.Kernel2Ideal.τ).loc Cert.Kernel2Ideal.main_v31) = v7 c
          ∧ r.2.mem ((c.tc : Thread Cert.Kernel2Ideal.nD Cert.Kernel2Ideal.τ).loc Cert.Kernel2Ideal.main_v38) = v8 c
          ∧ r.2.mem ((c.tc : Thread Cert.Kernel2Ideal.nD Cert.Kernel2Ideal.τ).loc Cert.Kernel2Ideal.main_v45) = v9 c
          ∧ r.2.mem ((c.tc : Thread Cert.Kernel2Ideal.nD Cert.Kernel2Ideal.τ).loc Cert.Kernel2Ideal.main_v52) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_v70) = v3 c
          ∧ r.2.mem ((c.tc : Thread Cert.Reference2Ideal.nD Cert.Reference2Ideal.τ).loc Cert.Reference2Ideal.main_v71) = v4 c
          ∧ r.2.mem ((c.tc : Thread Cert.Reference2Ideal.nD Cert.Reference2Ideal.τ).loc Cert.Reference2Ideal.main_v72) = v5 c
          ∧ r.2.mem ((c.tc : Thread Cert.Reference2Ideal.nD Cert.Reference2Ideal.τ).loc Cert.Reference2Ideal.main_v73) = v6 c
          ∧ r.2.mem ((c.tc : Thread Cert.Reference2Ideal.nD Cert.Reference2Ideal.τ).loc Cert.Reference2Ideal.main_v75) = v7 c
          ∧ r.2.mem ((c.tc : Thread Cert.Reference2Ideal.nD Cert.Reference2Ideal.τ).loc Cert.Reference2Ideal.main_v77) = v8 c
          ∧ r.2.mem ((c.tc : Thread Cert.Reference2Ideal.nD Cert.Reference2Ideal.τ).loc Cert.Reference2Ideal.main_v83) = v9 c
          ∧ r.2.mem ((c.tc : Thread Cert.Reference2Ideal.nD Cert.Reference2Ideal.τ).loc Cert.Reference2Ideal.main_v89) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v83_0)) (v1 : (c : Dev Cert.Kernel3Ideal.nD) → Buf (Elt Ideal) ((c.tc : Thread Cert.Kernel3Ideal.nD Cert.Kernel3Ideal.τ).loc Cert.Kernel3Ideal.main_v83_1)) (v2 : (c : Dev Cert.Kernel3Ideal.nD) → Buf (Elt Ideal) ((c.tc : Thread Cert.Kernel3Ideal.nD Cert.Kernel3Ideal.τ).loc Cert.Kernel3Ideal.main_v97)) (v3 : (c : Dev Cert.Kernel3Ideal.nD) → Buf (Elt Ideal) ((c.tc : Thread Cert.Kernel3Ideal.nD Cert.Kernel3Ideal.τ).loc Cert.Kernel3Ideal.main_v111)) (v4 : (c : Dev Cert.Kernel3Ideal.nD) → Buf (Elt Ideal) ((c.tc : Thread Cert.Kernel3Ideal.nD Cert.Kernel3Ideal.τ).loc Cert.Kernel3Ideal.main_v121)) (v5 : (c : Dev Cert.Kernel3Ideal.nD) → Buf (Elt Ideal) ((c.tc : Thread Cert.Kernel3Ideal.nD Cert.Kernel3Ideal.τ).loc Cert.Kernel3Ideal.main_v131)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v83_0) = v0 c
          ∧ r.2.mem ((c.tc : Thread Cert.Kernel3Ideal.nD Cert.Kernel3Ideal.τ).loc Cert.Kernel3Ideal.main_v83_1) = v1 c
          ∧ r.2.mem ((c.tc : Thread Cert.Kernel3Ideal.nD Cert.Kernel3Ideal.τ).loc Cert.Kernel3Ideal.main_v97) = v2 c
          ∧ r.2.mem ((c.tc : Thread Cert.Kernel3Ideal.nD Cert.Kernel3Ideal.τ).loc Cert.Kernel3Ideal.main_v111) = v3 c
          ∧ r.2.mem ((c.tc : Thread Cert.Kernel3Ideal.nD Cert.Kernel3Ideal.τ).loc Cert.Kernel3Ideal.main_v121) = v4 c
          ∧ r.2.mem ((c.tc : Thread Cert.Kernel3Ideal.nD Cert.Kernel3Ideal.τ).loc Cert.Kernel3Ideal.main_v131) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v223) = v0 c
          ∧ r.2.mem ((c.tc : Thread Cert.Reference3Ideal.nD Cert.Reference3Ideal.τ).loc Cert.Reference3Ideal.main_v224) = v1 c
          ∧ r.2.mem ((c.tc : Thread Cert.Reference3Ideal.nD Cert.Reference3Ideal.τ).loc Cert.Reference3Ideal.main_v226) = v2 c
          ∧ r.2.mem ((c.tc : Thread Cert.Reference3Ideal.nD Cert.Reference3Ideal.τ).loc Cert.Reference3Ideal.main_v228) = v3 c
          ∧ r.2.mem ((c.tc : Thread Cert.Reference3Ideal.nD Cert.Reference3Ideal.τ).loc Cert.Reference3Ideal.main_v232) = v4 c
          ∧ r.2.mem ((c.tc : Thread Cert.Reference3Ideal.nD Cert.Reference3Ideal.τ).loc Cert.Reference3Ideal.main_v236) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_experts_exist : Cert.Pre_experts_exist.Facts) (hPre_experts_differ : Cert.Pre_experts_differ.Facts) (hOn_rows_of_tokens : Cert.On_rows_of_tokens.Facts),
    quiescent_Kernel (hKernel := hKernel) (hPre_experts_exist := hPre_experts_exist)
    ∧ quiescent_KernelIdeal (hKernelIdeal := hKernelIdeal) (hPre_experts_exist := hPre_experts_exist)
    ∧ quiescent_KernelIdeal_pre_experts_differ (hKernelIdeal := hKernelIdeal) (hPre_experts_differ := hPre_experts_differ)
    ∧ quiescent_ReferenceIdeal (hReferenceIdeal := hReferenceIdeal)
    ∧ quiescent_ReferenceIdeal_pre_experts_differ (hReferenceIdeal := hReferenceIdeal) (hPre_experts_differ := hPre_experts_differ)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_rows_of_tokens_pre_experts_differ (hKernelIdeal := hKernelIdeal) (hReferenceIdeal := hReferenceIdeal) (hPre_experts_differ := hPre_experts_differ) (hOn_rows_of_tokens := hOn_rows_of_tokens)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== On_rows_of_tokens.lean ====
abbrev S5x43520x128 : Shape := ⟨3, ![5, 43520, 128]⟩
abbrev S156 : Shape := ⟨1, ![156]⟩
abbrev S1x16x1536x1024 : Shape := ⟨4, ![1, 16, 1536, 1024]⟩
abbrev S4x156x256x2x128 : Shape := ⟨5, ![4, 156, 256, 2, 128]⟩
abbrev S1x156x1x1x1 : Shape := ⟨5, ![1, 156, 1, 1, 1]⟩
abbrev S4x79872x128 : Shape := ⟨3, ![4, 79872, 128]⟩
abbrev S_ : Shape := ⟨0, ![]⟩
abbrev S156x2x128 : Shape := ⟨3, ![156, 2, 128]⟩

class Facts : Prop where
  bcast_S156_S1x156x1x1x1_1 : S156.BroadcastsInDim S1x156x1x1x1 (![1] : Fin 1 → Fin S1x156x1x1x1.rank)
  bcast_S1x156x1x1x1_S4x156x256x2x128_0_1_2_3_4 : S1x156x1x1x1.BroadcastsInDim S4x156x256x2x128 (![0, 1, 2, 3, 4] : Fin 5 → Fin S4x156x256x2x128.rank)
  shapeCasts_S4x156x256x2x128_S4x79872x128 : S4x156x256x2x128.ShapeCasts S4x79872x128
  bcast_S_S156x2x128 : S_.BroadcastsInDim S156x2x128 (![] : Fin 0 → Fin S156x2x128.rank)

variable [Facts]

def fn {F : FTy → Type} [FloatOps F] (main_arg0 : IVec S5x43520x128 32) (main_arg1 : IVec S156 32) (main_arg2 : IVec S156 32) (main_arg3 : IVec S156 32) (main_arg4 : FVec F S1x16x1536x1024 .bf16) : IVec S4x79872x128 1 × IVec S156x2x128 1 :=
  let main_v0 : IVec S4x156x256x2x128 32 := iotaInDim S4x156x256x2x128 32 2
  let main_v1 : IVec S1x156x1x1x1 32 := broadcastInDim S1x156x1x1x1 ![1] bcast_S156_S1x156x1x1x1_1 main_arg3
  let main_v2 : IVec S4x156x256x2x128 32 := broadcastInDim S4x156x256x2x128 ![0, 1, 2, 3, 4] bcast_S1x156x1x1x1_S4x156x256x2x128_0_1_2_3_4 main_v1
  let main_v3 : IVec S4x156x256x2x128 1 := cmpi .slt main_v0 main_v2
  let main_v4 : IVec S4x79872x128 1 := shapeCast S4x79872x128 main_v3 shapeCasts_S4x156x256x2x128_S4x79872x128
  let main_c : IVec S_ 1 := constantI S_ 1 1#1
  let main_v5 : IVec S156x2x128 1 := broadcastInDim S156x2x128 ![] bcast_S_S156x2x128 main_c
  (main_v4, main_v5)
-- ==== Pre_experts_differ.lean ====
abbrev S5x43520x128 : Shape := ⟨3, ![5, 43520, 128]⟩
abbrev S156 : Shape := ⟨1, ![156]⟩
abbrev S1x16x1536x1024 : Shape := ⟨4, ![1, 16, 1536, 1024]⟩
abbrev S_ : Shape := ⟨0, ![]⟩

class Facts : Prop where
  bcast_S_S156 : S_.BroadcastsInDim S156 (![] : Fin 0 → Fin S156.rank)

variable [Facts]

def fn {F : FTy → Type} [FloatOps F] (main_arg0 : IVec S5x43520x128 32) (main_arg1 : IVec S156 32) (main_arg2 : IVec S156 32) (main_arg3 : IVec S156 32) (main_arg4 : FVec F S1x16x1536x1024 .bf16) : IVec S156 1 × IVec S156 1 × IVec S156 1 :=
  let main_c : IVec S_ 32 := constantI S_ 32 0#32
  let main_v0 : IVec S156 32 := broadcastInDim S156 ![] bcast_S_S156 main_c
  let main_v1 : IVec S156 1 := cmpi .sge main_arg1 main_v0
  let main_c_0 : IVec S_ 32 := constantI S_ 32 16#32
  let main_v2 : IVec S156 32 := broadcastInDim S156 ![] bcast_S_S156 main_c_0
  let main_v3 : IVec S156 1 := cmpi .slt main_arg1 main_v2
  let main_v4 : IVec S156 1 := andi main_v1 main_v3
  let main_c_1 : IVec S_ 32 := constantI S_ 32 0#32
  let main_v5 : IVec S156 32 := broadcastInDim S156 ![] bcast_S_S156 main_c_1
  let main_v6 : IVec S156 1 := cmpi .sge main_arg2 main_v5
  let main_c_2 : IVec S_ 32 := constantI S_ 32 16#32
  let main_v7 : IVec S156 32 := broadcastInDim S156 ![] bcast_S_S156 main_c_2
  let main_v8 : IVec S156 1 := cmpi .slt main_arg2 main_v7
  let main_v9 : IVec S156 1 := andi main_v6 main_v8
  let main_v10 : IVec S156 1 := cmpi .ne main_arg1 main_arg2
  (main_v4, main_v9, main_v10)
-- ==== Pre_experts_exist.lean ====
abbrev S5x43520x128 : Shape := ⟨3, ![5, 43520, 128]⟩
abbrev S156 : Shape := ⟨1, ![156]⟩
abbrev S1x16x1536x1024 : Shape := ⟨4, ![1, 16, 1536, 1024]⟩
abbrev S_ : Shape := ⟨0, ![]⟩

class Facts : Prop where
  bcast_S_S156 : S_.BroadcastsInDim S156 (![] : Fin 0 → Fin S156.rank)

variable [Facts]

def fn {F : FTy → Type} [FloatOps F] (main_arg0 : IVec S5x43520x128 32) (main_arg1 : IVec S156 32) (main_arg2 : IVec S156 32) (main_arg3 : IVec S156 32) (main_arg4 : FVec F S1x16x1536x1024 .bf16) : IVec S156 1 × IVec S156 1 :=
  let main_c : IVec S_ 32 := constantI S_ 32 0#32
  let main_v0 : IVec S156 32 := broadcastInDim S156 ![] bcast_S_S156 main_c
  let main_v1 : IVec S156 1 := cmpi .sge main_arg1 main_v0
  let main_c_0 : IVec S_ 32 := constantI S_ 32 16#32
  let main_v2 : IVec S156 32 := broadcastInDim S156 ![] bcast_S_S156 main_c_0
  let main_v3 : IVec S156 1 := cmpi .slt main_arg1 main_v2
  let main_v4 : IVec S156 1 := andi main_v1 main_v3
  let main_c_1 : IVec S_ 32 := constantI S_ 32 0#32
  let main_v5 : IVec S156 32 := broadcastInDim S156 ![] bcast_S_S156 main_c_1
  let main_v6 : IVec S156 1 := cmpi .sge main_arg2 main_v5
  let main_c_2 : IVec S_ 32 := constantI S_ 32 16#32
  let main_v7 : IVec S156 32 := broadcastInDim S156 ![] bcast_S_S156 main_c_2
  let main_v8 : IVec S156 1 := cmpi .slt main_arg2 main_v7
  let main_v9 : IVec S156 1 := andi main_v6 main_v8
  (main_v4, main_v9)
-- ==== Kernel.lean ====
abbrev S5x43520x128 : Shape := ⟨3, ![5, 43520, 128]⟩
abbrev S156 : Shape := ⟨1, ![156]⟩
abbrev S1x16x1536x1024 : Shape := ⟨4, ![1, 16, 1536, 1024]⟩
abbrev S4x79872x128 : Shape := ⟨3, ![4, 79872, 128]⟩
abbrev S156x2x128 : Shape := ⟨3, ![156, 2, 128]⟩
abbrev S5x512x128 : Shape := ⟨3, ![5, 512, 128]⟩
abbrev S1x1x1536x1024 : Shape := ⟨4, ![1, 1, 1536, 1024]⟩
abbrev S1 : Shape := ⟨1, ![1]⟩
abbrev S4x1024x128 : Shape := ⟨3, ![4, 1024, 128]⟩
abbrev S2x2x128 : Shape := ⟨3, ![2, 2, 128]⟩
abbrev S1x256x128 : Shape := ⟨3, ![1, 256, 128]⟩
abbrev S256x128 : Shape := ⟨2, ![256, 128]⟩
abbrev S1x256 : Shape := ⟨2, ![1, 256]⟩
abbrev S128x256 : Shape := ⟨2, ![128, 256]⟩
abbrev S1x128 : Shape := ⟨2, ![1, 128]⟩
abbrev S1x1x128 : Shape := ⟨3, ![1, 1, 128]⟩
abbrev S256x1024 : Shape := ⟨2, ![256, 1024]⟩
abbrev S1x1x1024x1024 : Shape := ⟨4, ![1, 1, 1024, 1024]⟩
abbrev S1024x1024 : Shape := ⟨2, ![1024, 1024]⟩
abbrev S256x512 : Shape := ⟨2, ![256, 512]⟩
abbrev S1x1x512x1024 : Shape := ⟨4, ![1, 1, 512, 1024]⟩
abbrev S512x1024 : Shape := ⟨2, ![512, 1024]⟩
abbrev S256x1 : Shape := ⟨2, ![256, 1]⟩
abbrev S512x128 : Shape := ⟨2, ![512, 128]⟩
abbrev S1x512x128 : Shape := ⟨3, ![1, 512, 128]⟩

abbrev nBuf : Space → Nat
  | .hbm => 4
  | .vmem => 14
  | .smem => 3
  | _ => 0

abbrev bufTy : (tb : Table) → Fin (tcTables nBuf tb) → BufTy
  | .hbm, ⟨0, _⟩ => ⟨S5x43520x128, .i32⟩
  | .hbm, ⟨1, _⟩ => ⟨S1x16x1536x1024, .bf16⟩
  | .hbm, ⟨2, _⟩ => ⟨S4x79872x128, .bf16⟩
  | .hbm, ⟨3, _⟩ => ⟨S156x2x128, .i32⟩
  | .local _ .vmem, ⟨0, _⟩ => ⟨S5x512x128, .i32⟩
  | .local _ .vmem, ⟨1, _⟩ => ⟨S5x512x128, .i32⟩
  | .local _ .vmem, ⟨2, _⟩ => ⟨S1x1x1536x1024, .bf16⟩
  | .local _ .vmem, ⟨3, _⟩ => ⟨S1x1x1536x1024, .bf16⟩
  | .local _ .vmem, ⟨4, _⟩ => ⟨S1x1x1536x1024, .bf16⟩
  | .local _ .vmem, ⟨5, _⟩ => ⟨S1x1x1536x1024, .bf16⟩
  | .local _ .vmem, ⟨6, _⟩ => ⟨S1x1x1536x1024, .bf16⟩
  | .local _ .vmem, ⟨7, _⟩ => ⟨S1x1x1536x1024, .bf16⟩
  | .local _ .vmem, ⟨8, _⟩ => ⟨S1x1x1536x1024, .bf16⟩
  | .local _ .vmem, ⟨9, _⟩ => ⟨S1x1x1536x1024, .bf16⟩
  | .local _ .vmem, ⟨10, _⟩ => ⟨S4x1024x128, .bf16⟩
  | .local _ .vmem, ⟨11, _⟩ => ⟨S4x1024x128, .bf16⟩
  | .local _ .vmem, ⟨12, _⟩ => ⟨S2x2x128, .i32⟩
  | .local _ .vmem, ⟨13, _⟩ => ⟨S2x2x128, .i32⟩
  | .local _ .smem, ⟨0, _⟩ => ⟨S156, .i32⟩
  | .local _ .smem, ⟨1, _⟩ => ⟨S156, .i32⟩
  | .local _ .smem, ⟨2, _⟩ => ⟨S156, .i32⟩
  | _, _ => ⟨S5x43520x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_v0_0 : Ref sig .tc := ⟨.hbm, 2, rfl⟩
abbrev main_v0_1 : Ref sig .tc := ⟨.hbm, 3, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![78], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let c2_i32 : BitVec 32 := 2#32
  let arg0 : BitVec 32 := BitVec.ofNat 32 (i 0).val
  let v0 : BitVec 32 := Scalar.muli c2_i32 arg0
  let v1 : BitVec 32 := Scalar.addi v0 c0_i32
  let v2 : Index := Scalar.indexCast v1
  ![v2.toNat]
def k0_off2 (i : grid0.Coords) (c0_i32 : BitVec 32) : Fin 1 → Nat :=
  let arg0 : BitVec 32 := BitVec.ofNat 32 (i 0).val
  let c2_i32 : BitVec 32 := 2#32
  let v7 : BitVec 32 := Scalar.muli arg0 c2_i32
  let v8 : BitVec 32 := Scalar.addi v7 c0_i32
  let v23 : Index := Scalar.indexCast v8
  ![v23.toNat]
def k0_off3 (i : grid0.Coords) : Fin 1 → Nat :=
  let arg0 : BitVec 32 := BitVec.ofNat 32 (i 0).val
  let c2_i32_28 : BitVec 32 := 2#32
  let v71 : BitVec 32 := Scalar.muli arg0 c2_i32_28
  let v72 : Index := Scalar.indexCast v71
  ![v72.toNat]
def k0_cond1 (v73 : BitVec 32) (v78 : BitVec 32) : BitVec 1 :=
  let c0_i32_29 : BitVec 32 := 0#32
  let v74 : BitVec 1 := Scalar.cmpi .sgt v73 c0_i32_29
  let c0_i32_32 : BitVec 32 := 0#32
  let v79 : BitVec 1 := Scalar.cmpi .sgt v78 c0_i32_32
  let v80 : BitVec 1 := Scalar.ori v74 v79
  let v81 : BitVec 32 := Scalar.extui v80
  let c0_i32_33 : BitVec 32 := 0#32
  let v82 : BitVec 1 := Scalar.cmpi .ne v81 c0_i32_33
  v82

def k0_cond2 (v73 : BitVec 32) (v78 : BitVec 32) : BitVec 1 :=
  let c0_i32_29 : BitVec 32 := 0#32
  let v74 : BitVec 1 := Scalar.cmpi .sgt v73 c0_i32_29
  let c0_i32_32 : BitVec 32 := 0#32
  let v79 : BitVec 1 := Scalar.cmpi .sgt v78 c0_i32_32
  let v80 : BitVec 1 := Scalar.ori v74 v79
  let v_true : BitVec 1 := 1#1
  let v83 : BitVec 1 := Scalar.xori v80 v_true
  let v84 : BitVec 32 := Scalar.extui v83
  let c0_i32_34 : BitVec 32 := 0#32
  let v85 : BitVec 1 := Scalar.cmpi .ne v84 c0_i32_34
  v85

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ (r : Fin 2), ∀ a, (k0_off1 i (BitVec.ofNat 32 r.val)) a + S1.size a ≤ S156.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S156) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_2 (k0_off1_inb : ∀ i : grid0.Coords, ∀ (r : Fin 2), ∀ a, (k0_off1 i (BitVec.ofNat 32 r.val)) a + S1.size a ≤ S156.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 1 (Rect.unit (s := S156) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_3 (k0_off1_inb : ∀ i : grid0.Coords, ∀ (r : Fin 2), ∀ a, (k0_off1 i (BitVec.ofNat 32 r.val)) a + S1.size a ≤ S156.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S156) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_4 (k0_off1_inb : ∀ i : grid0.Coords, ∀ (r : Fin 2), ∀ a, (k0_off1 i (BitVec.ofNat 32 r.val)) a + S1.size a ≤ S156.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 1 (Rect.unit (s := S156) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1536x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S5x43520x128 : Shape := ⟨3, ![5, 43520, 128]⟩
abbrev S156 : Shape := ⟨1, ![156]⟩
abbrev S1x16x1536x1024 : Shape := ⟨4, ![1, 16, 1536, 1024]⟩
abbrev S4x39936x128 : Shape := ⟨3, ![4, 39936, 128]⟩
abbrev S39936x4x128 : Shape := ⟨3, ![39936, 4, 128]⟩
abbrev S39936x512 : Shape := ⟨2, ![39936, 512]⟩
abbrev S_ : Shape := ⟨0, ![]⟩
abbrev S39936x1024 : Shape := ⟨2, ![39936, 1024]⟩
abbrev S1x39936x128 : Shape := ⟨3, ![1, 39936, 128]⟩
abbrev S39936x128 : Shape := ⟨2, ![39936, 128]⟩
abbrev S156x256 : Shape := ⟨2, ![156, 256]⟩
abbrev S39936 : Shape := ⟨1, ![39936]⟩
abbrev S39936x1 : Shape := ⟨2, ![39936, 1]⟩
abbrev S1x16 : Shape := ⟨2, ![1, 16]⟩
abbrev S39936x16 : Shape := ⟨2, ![39936, 16]⟩
abbrev S16x1536x1024 : Shape := ⟨3, ![16, 1536, 1024]⟩
abbrev S16x1024x1024 : Shape := ⟨3, ![16, 1024, 1024]⟩
abbrev S16x1024x39936 : Shape := ⟨3, ![16, 1024, 39936]⟩
abbrev S16x39936x1024 : Shape := ⟨3, ![16, 39936, 1024]⟩
abbrev S16x39936x512 : Shape := ⟨3, ![16, 39936, 512]⟩
abbrev S16x512x1024 : Shape := ⟨3, ![16, 512, 1024]⟩
abbrev S16x39936 : Shape := ⟨2, ![16, 39936]⟩
abbrev S16x39936x1 : Shape := ⟨3, ![16, 39936, 1]⟩
abbrev S256 : Shape := ⟨1, ![256]⟩
abbrev S1x256 : Shape := ⟨2, ![1, 256]⟩
abbrev S156x1 : Shape := ⟨2, ![156, 1]⟩
abbrev S39936x2x4x128 : Shape := ⟨4, ![39936, 2, 4, 128]⟩
abbrev S4x39936x2x128 : Shape := ⟨4, ![4, 39936, 2, 128]⟩
abbrev S4x79872x128 : Shape := ⟨3, ![4, 79872, 128]⟩
abbrev S156x2x128 : Shape := ⟨3, ![156, 2, 128]⟩

abbrev nBuf : Space → Nat
  | .hbm => 117
  | .vmem => 0
  | .smem => 0
  | _ => 0

abbrev bufTy : (tb : Table) → Fin (tcTables nBuf tb) → BufTy
  | .hbm, ⟨0, _⟩ => ⟨S5x43520x128, .i32⟩
  | .hbm, ⟨1, _⟩ => ⟨S156, .i32⟩
  | .hbm, ⟨2, _⟩ => ⟨S156, .i32⟩
  | .hbm, ⟨3, _⟩ => ⟨S156, .i32⟩
  | .hbm, ⟨4, _⟩ => ⟨S1x16x1536x1024, .bf16⟩
  | .hbm, ⟨5, _⟩ => ⟨S4x39936x128, .i32⟩
  | .hbm, ⟨6, _⟩ => ⟨S39936x4x128, .i32⟩
  | .hbm, ⟨7, _⟩ => ⟨S39936x512, .i32⟩
  | .hbm, ⟨8, _⟩ => ⟨S_, .i32⟩
  | .hbm, ⟨9, _⟩ => ⟨S39936x512, .i32⟩
  | .hbm, ⟨10, _⟩ => ⟨S39936x512, .i32⟩
  | .hbm, ⟨11, _⟩ => ⟨S39936x512, .f32⟩
  | .hbm, ⟨12, _⟩ => ⟨S_, .i32⟩
  | .hbm, ⟨13, _⟩ => ⟨S39936x512, .i32⟩
  | .hbm, ⟨14, _⟩ => ⟨S39936x512, .i32⟩
  | .hbm, ⟨15, _⟩ => ⟨S39936x512, .f32⟩
  | .hbm, ⟨16, _⟩ => ⟨S39936x1024, .f32⟩
  | .hbm, ⟨17, _⟩ => ⟨S1x39936x128, .i32⟩
  | .hbm, ⟨18, _⟩ => ⟨S39936x128, .i32⟩
  | .hbm, ⟨19, _⟩ => ⟨S39936x128, .f32⟩
  | .hbm, ⟨20, _⟩ => ⟨S156x256, .i32⟩
  | .hbm, ⟨21, _⟩ => ⟨S39936, .i32⟩
  | .hbm, ⟨22, _⟩ => ⟨S156x256, .i32⟩
  | .hbm, ⟨23, _⟩ => ⟨S39936, .i32⟩
  | .hbm, ⟨24, _⟩ => ⟨S39936x1, .i32⟩
  | .hbm, ⟨25, _⟩ => ⟨S1x16, .i32⟩
  | .hbm, ⟨26, _⟩ => ⟨S39936x16, .i32⟩
  | .hbm, ⟨27, _⟩ => ⟨S39936x16, .i32⟩
  | .hbm, ⟨28, _⟩ => ⟨S39936x16, .i1⟩
  | .hbm, ⟨29, _⟩ => ⟨S39936x16, .f32⟩
  | .hbm, ⟨30, _⟩ => ⟨S39936x1, .f32⟩
  | .hbm, ⟨31, _⟩ => ⟨S39936x16, .f32⟩
  | .hbm, ⟨32, _⟩ => ⟨S39936x16, .f32⟩
  | .hbm, ⟨33, _⟩ => ⟨S39936x1, .i32⟩
  | .hbm, ⟨34, _⟩ => ⟨S1x16, .i32⟩
  | .hbm, ⟨35, _⟩ => ⟨S39936x16, .i32⟩
  | .hbm, ⟨36, _⟩ => ⟨S39936x16, .i32⟩
  | .hbm, ⟨37, _⟩ => ⟨S39936x16, .i1⟩
  | .hbm, ⟨38, _⟩ => ⟨S39936x16, .f32⟩
  | .hbm, ⟨39, _⟩ => ⟨S39936x1, .f32⟩
  | .hbm, ⟨40, _⟩ => ⟨S39936x16, .f32⟩
  | .hbm, ⟨41, _⟩ => ⟨S39936x16, .f32⟩
  | .hbm, ⟨42, _⟩ => ⟨S39936x16, .f32⟩
  | .hbm, ⟨43, _⟩ => ⟨S16x1536x1024, .bf16⟩
  | .hbm, ⟨44, _⟩ => ⟨S16x1536x1024, .f32⟩
  | .hbm, ⟨45, _⟩ => ⟨S16x1024x1024, .f32⟩
  | .hbm, ⟨46, _⟩ => ⟨S16x1024x39936, .f32⟩
  | .hbm, ⟨47, _⟩ => ⟨S16x39936x1024, .f32⟩
  | .hbm, ⟨48, _⟩ => ⟨S16x39936x512, .f32⟩
  | .hbm, ⟨49, _⟩ => ⟨S16x39936x512, .f32⟩
  | .hbm, ⟨50, _⟩ => ⟨S16x39936x512, .f32⟩
  | .hbm, ⟨51, _⟩ => ⟨S16x39936x512, .f32⟩
  | .hbm, ⟨52, _⟩ => ⟨S_, .f32⟩
  | .hbm, ⟨53, _⟩ => ⟨S16x39936x512, .f32⟩
  | .hbm, ⟨54, _⟩ => ⟨S16x39936x512, .f32⟩
  | .hbm, ⟨55, _⟩ => ⟨S_, .f32⟩
  | .hbm, ⟨56, _⟩ => ⟨S16x39936x512, .f32⟩
  | .hbm, ⟨57, _⟩ => ⟨S16x39936x512, .f32⟩
  | .hbm, ⟨58, _⟩ => ⟨S16x39936x512, .f32⟩
  | .hbm, ⟨59, _⟩ => ⟨S16x39936x512, .f32⟩
  | .hbm, ⟨60, _⟩ => ⟨S16x512x1024, .f32⟩
  | .hbm, ⟨61, _⟩ => ⟨S16x39936x1024, .f32⟩
  | .hbm, ⟨62, _⟩ => ⟨S16x39936, .f32⟩
  | .hbm, ⟨63, _⟩ => ⟨S16x39936x1, .f32⟩
  | .hbm, ⟨64, _⟩ => ⟨S16x39936x1024, .f32⟩
  | .hbm, ⟨65, _⟩ => ⟨S16x39936x1024, .f32⟩
  | .hbm, ⟨66, _⟩ => ⟨S_, .f32⟩
  | .hbm, ⟨67, _⟩ => ⟨S39936x1024, .f32⟩
  | .hbm, ⟨68, _⟩ => ⟨S256, .i32⟩
  | .hbm, ⟨69, _⟩ => ⟨S1x256, .i32⟩
  | .hbm, ⟨70, _⟩ => ⟨S156, .i32⟩
  | .hbm, ⟨71, _⟩ => ⟨S156x1, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S156x1, .i32⟩
  | .hbm, ⟨79, _⟩ => ⟨S156x1, .i32⟩
  | .hbm, ⟨80, _⟩ => ⟨S_, .i32⟩
  | .hbm, ⟨81, _⟩ => ⟨S156x1, .i32⟩
  | .hbm, ⟨82, _⟩ => ⟨S156x1, .i1⟩
  | .hbm, ⟨83, _⟩ => ⟨S_, .i32⟩
  | .hbm, ⟨84, _⟩ => ⟨S156x1, .i32⟩
  | .hbm, ⟨85, _⟩ => ⟨S156x1, .i1⟩
  | .hbm, ⟨86, _⟩ => ⟨S_, .i32⟩
  | .hbm, ⟨87, _⟩ => ⟨S_, .i1⟩
  | .hbm, ⟨88, _⟩ => ⟨S156x1, .i1⟩
  | .hbm, ⟨89, _⟩ => ⟨S156x1, .i1⟩
  | .hbm, ⟨90, _⟩ => ⟨S156x1, .i1⟩
  | .hbm, ⟨91, _⟩ => ⟨S156x1, .i32⟩
  | .hbm, ⟨92, _⟩ => ⟨S156x1, .i32⟩
  | .hbm, ⟨93, _⟩ => ⟨S156x1, .i32⟩
  | .hbm, ⟨94, _⟩ => ⟨S_, .i32⟩
  | .hbm, ⟨95, _⟩ => ⟨S156x1, .i32⟩
  | .hbm, ⟨96, _⟩ => ⟨S156x1, .i32⟩
  | .hbm, ⟨97, _⟩ => ⟨S_, .i32⟩
  | .hbm, ⟨98, _⟩ => ⟨S156x1, .i32⟩
  | .hbm, ⟨99, _⟩ => ⟨S156x1, .i32⟩
  | .hbm, ⟨100, _⟩ => ⟨S156x256, .i32⟩
  | .hbm, ⟨101, _⟩ => ⟨S156x256, .i32⟩
  | .hbm, ⟨102, _⟩ => ⟨S156x256, .i32⟩
  | .hbm, ⟨103, _⟩ => ⟨S156x1, .i32⟩
  | .hbm, ⟨104, _⟩ => ⟨S156x256, .i32⟩
  | .hbm, ⟨105, _⟩ => ⟨S156x256, .i32⟩
  | .hbm, ⟨106, _⟩ => ⟨S156x256, .i1⟩
  | .hbm, ⟨107, _⟩ => ⟨S39936x1, .f32⟩
  | .hbm, ⟨108, _⟩ => ⟨S39936, .f32⟩
  | .hbm, ⟨109, _⟩ => ⟨S156x256, .f32⟩
  | .hbm, ⟨110, _⟩ => ⟨S156x256, .i32⟩
  | .hbm, ⟨111, _⟩ => ⟨S156x256, .i32⟩
  | .hbm, ⟨112, _⟩ => ⟨S39936x2x4x128, .f32⟩
  | .hbm, ⟨113, _⟩ => ⟨S4x39936x2x128, .f32⟩
  | .hbm, ⟨114, _⟩ => ⟨S4x79872x128, .f32⟩
  | .hbm, ⟨115, _⟩ => ⟨S4x79872x128, .bf16⟩
  | .hbm, ⟨116, _⟩ => ⟨S156x2x128, .i32⟩
  | _, _ => ⟨S5x43520x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_1 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v46 : Ref sig .tc := ⟨.hbm, 93, rfl⟩
abbrev main_c_2 : Ref sig .tc := ⟨.hbm, 94, rfl⟩
abbrev main_v47 : Ref sig .tc := ⟨.hbm, 95, rfl⟩
abbrev main_v48 : Ref sig .tc := ⟨.hbm, 96, rfl⟩
abbrev main_c_3 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩

abbrev nD : Nat := 1
abbrev τ : Topo := Topo.v7x

variable {F : FTy → Type} [FloatOps F]
-- ==== Kernel2.lean ====
abbrev S2x16384x1024 : Shape := ⟨3, ![2, 16384, 1024]⟩
abbrev S8x64x1024 : Shape := ⟨3, ![8, 64, 1024]⟩
abbrev S16x6144 : Shape := ⟨2, ![16, 6144]⟩
abbrev S1024 : Shape := ⟨1, ![1024]⟩
abbrev S1x1024x3088 : Shape := ⟨3, ![1, 1024, 3088]⟩
abbrev S1x16x256 : Shape := ⟨3, ![1, 16, 256]⟩
abbrev S1x256 : Shape := ⟨2, ![1, 256]⟩
abbrev S1x8x512x8x64 : Shape := ⟨5, ![1, 8, 512, 8, 64]⟩
abbrev S520 : Shape := ⟨1, ![520]⟩
abbrev S32768x1024 : Shape := ⟨2, ![32768, 1024]⟩
abbrev S512x1024 : Shape := ⟨2, ![512, 1024]⟩
abbrev S1024x3088 : Shape := ⟨2, ![1024, 3088]⟩
abbrev S1024x1536 : Shape := ⟨2, ![1024, 1536]⟩
abbrev S1024x3072 : Shape := ⟨2, ![1024, 3072]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S128x256 : Shape := ⟨2, ![128, 256]⟩
abbrev S16x256 : Shape := ⟨2, ![16, 256]⟩
abbrev S520x1 : Shape := ⟨2, ![520, 1]⟩
abbrev S520x6144 : Shape := ⟨2, ![520, 6144]⟩
abbrev S1x1024 : Shape := ⟨2, ![1, 1024]⟩
abbrev S256 : Shape := ⟨1, ![256]⟩
abbrev S33280x256 : Shape := ⟨2, ![33280, 256]⟩
abbrev S33280x512 : Shape := ⟨2, ![33280, 512]⟩
abbrev S8x1024 : Shape := ⟨2, ![8, 1024]⟩
abbrev S512x256 : Shape := ⟨2, ![512, 256]⟩
abbrev S512x512 : Shape := ⟨2, ![512, 512]⟩
abbrev S256x1024 : Shape := ⟨2, ![256, 1024]⟩
abbrev S4x1024 : Shape := ⟨2, ![4, 1024]⟩
abbrev S256x1 : Shape := ⟨2, ![256, 1]⟩
abbrev S64x1024 : Shape := ⟨2, ![64, 1024]⟩
abbrev S1024x256 : Shape := ⟨2, ![1024, 256]⟩
abbrev S256x256 : Shape := ⟨2, ![256, 256]⟩
abbrev S1024x512 : Shape := ⟨2, ![1024, 512]⟩
abbrev S256x512 : Shape := ⟨2, ![256, 512]⟩
abbrev S256x128 : Shape := ⟨2, ![256, 128]⟩
abbrev S1x512x512 : Shape := ⟨3, ![1, 512, 512]⟩
abbrev S2x512x512 : Shape := ⟨3, ![2, 512, 512]⟩
abbrev S1x2x512x8x64 : Shape := ⟨5, ![1, 2, 512, 8, 64]⟩
abbrev S8x512x8x64 : Shape := ⟨4, ![8, 512, 8, 64]⟩
abbrev S8x448x8x64 : Shape := ⟨4, ![8, 448, 8, 64]⟩
abbrev S8x64x8x64 : Shape := ⟨4, ![8, 64, 8, 64]⟩

abbrev nBuf : Space → Nat
  | .hbm => 76
  | .vmem => 28
  | .smem => 0
  | _ => 0

abbrev bufTy : (tb : Table) → Fin (tcTables nBuf tb) → BufTy
  | .hbm, ⟨0, _⟩ => ⟨S2x16384x1024, .f32⟩
  | .hbm, ⟨1, _⟩ => ⟨S8x64x1024, .f32⟩
  | .hbm, ⟨2, _⟩ => ⟨S16x6144, .f32⟩
  | .hbm, ⟨3, _⟩ => ⟨S1024, .f32⟩
  | .hbm, ⟨4, _⟩ => ⟨S1x1024x3088, .f32⟩
  | .hbm, ⟨5, _⟩ => ⟨S1x16x256, .f32⟩
  | .hbm, ⟨6, _⟩ => ⟨S1x256, .f32⟩
  | .hbm, ⟨7, _⟩ => ⟨S1x8x512x8x64, .f32⟩
  | .hbm, ⟨8, _⟩ => ⟨S1x8x512x8x64, .f32⟩
  | .hbm, ⟨9, _⟩ => ⟨S520, .i32⟩
  | .hbm, ⟨10, _⟩ => ⟨S520, .i1⟩
  | .hbm, ⟨11, _⟩ => ⟨S32768x1024, .f32⟩
  | .hbm, ⟨12, _⟩ => ⟨S512x1024, .f32⟩
  | .hbm, ⟨13, _⟩ => ⟨S1024x3088, .f32⟩
  | .hbm, ⟨14, _⟩ => ⟨S1024x1536, .f32⟩
  | .hbm, ⟨15, _⟩ => ⟨S1024x1536, .f32⟩
  | .hbm, ⟨16, _⟩ => ⟨S1024x3072, .f32⟩
  | .hbm, ⟨17, _⟩ => ⟨S1024x3072, .bf16⟩
  | .hbm, ⟨18, _⟩ => ⟨S_, .f32⟩
  | .hbm, ⟨19, _⟩ => ⟨S1024x128, .f32⟩
  | .hbm, ⟨20, _⟩ => ⟨S1024x16, .f32⟩
  | .hbm, ⟨21, _⟩ => ⟨S_, .i32⟩
  | .hbm, ⟨22, _⟩ => ⟨S1, .i32⟩
  | .hbm, ⟨23, _⟩ => ⟨S1024x128, .f32⟩
  | .hbm, ⟨24, _⟩ => ⟨S1024x128, .bf16⟩
  | .hbm, ⟨25, _⟩ => ⟨S_, .f32⟩
  | .hbm, ⟨26, _⟩ => ⟨S128x256, .f32⟩
  | .hbm, ⟨27, _⟩ => ⟨S16x256, .f32⟩
  | .hbm, ⟨28, _⟩ => ⟨S_, .i32⟩
  | .hbm, ⟨29, _⟩ => ⟨S1, .i32⟩
  | .hbm, ⟨30, _⟩ => ⟨S128x256, .f32⟩
  | .hbm, ⟨31, _⟩ => ⟨S_, .i32⟩
  | .hbm, ⟨32, _⟩ => ⟨S520, .i32⟩
  | .hbm, ⟨33, _⟩ => ⟨S520, .i32⟩
  | .hbm, ⟨34, _⟩ => ⟨S520, .i32⟩
  | .hbm, ⟨35, _⟩ => ⟨S520x1, .i32⟩
  | .hbm, ⟨36, _⟩ => ⟨S520x6144, .f32⟩
  | .hbm, ⟨37, _⟩ => ⟨S1x1024, .f32⟩
  | .hbm, ⟨38, _⟩ => ⟨S256, .f32⟩
  | .hbm, ⟨39, _⟩ => ⟨S1x256, .f32⟩
  | .hbm, ⟨40, _⟩ => ⟨S33280x256, .bf16⟩
  | .hbm, ⟨41, _⟩ => ⟨S33280x256, .bf16⟩
  | .hbm, ⟨42, _⟩ => ⟨S33280x512, .bf16⟩
  | .hbm, ⟨43, _⟩ => ⟨S33280x512, .bf16⟩
  | .hbm, ⟨44, _⟩ => ⟨S33280x512, .bf16⟩
  | .hbm, ⟨45, _⟩ => ⟨S33280x512, .bf16⟩
  | .hbm, ⟨46, _⟩ => ⟨S33280x512, .bf16⟩
  | .hbm, ⟨47, _⟩ => ⟨S33280x256, .f32⟩
  | .hbm, ⟨48, _⟩ => ⟨S512x512, .bf16⟩
  | .hbm, ⟨49, _⟩ => ⟨S512x512, .bf16⟩
  | .hbm, ⟨50, _⟩ => ⟨S1x512x512, .bf16⟩
  | .hbm, ⟨51, _⟩ => ⟨S1x512x512, .bf16⟩
  | .hbm, ⟨52, _⟩ => ⟨S2x512x512, .bf16⟩
  | .hbm, ⟨53, _⟩ => ⟨S2x512x512, .f32⟩
  | .hbm, ⟨54, _⟩ => ⟨S1x2x512x8x64, .f32⟩
  | .hbm, ⟨55, _⟩ => ⟨S512x512, .bf16⟩
  | .hbm, ⟨56, _⟩ => ⟨S512x512, .bf16⟩
  | .hbm, ⟨57, _⟩ => ⟨S1x512x512, .bf16⟩
  | .hbm, ⟨58, _⟩ => ⟨S1x512x512, .bf16⟩
  | .hbm, ⟨59, _⟩ => ⟨S2x512x512, .bf16⟩
  | .hbm, ⟨60, _⟩ => ⟨S2x512x512, .f32⟩
  | .hbm, ⟨61, _⟩ => ⟨S1x2x512x8x64, .f32⟩
  | .hbm, ⟨62, _⟩ => ⟨S8x512x8x64, .f32⟩
  | .hbm, ⟨63, _⟩ => ⟨S8x448x8x64, .f32⟩
  | .hbm, ⟨64, _⟩ => ⟨S512x512, .bf16⟩
  | .hbm, ⟨65, _⟩ => ⟨S512x512, .f32⟩
  | .hbm, ⟨66, _⟩ => ⟨S8x64x8x64, .f32⟩
  | .hbm, ⟨67, _⟩ => ⟨S8x512x8x64, .f32⟩
  | .hbm, ⟨68, _⟩ => ⟨S1x8x512x8x64, .f32⟩
  | .hbm, ⟨69, _⟩ => ⟨S8x512x8x64, .f32⟩
  | .hbm, ⟨70, _⟩ => ⟨S8x448x8x64, .f32⟩
  | .hbm, ⟨71, _⟩ => ⟨S512x512, .bf16⟩
  | .hbm, ⟨72, _⟩ => ⟨S512x512, .f32⟩
  | .hbm, ⟨73, _⟩ => ⟨S8x64x8x64, .f32⟩
  | .hbm, ⟨74, _⟩ => ⟨S8x512x8x64, .f32⟩
  | .hbm, ⟨75, _⟩ => ⟨S1x8x512x8x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S1x1024, .f32⟩
  | .local _ .vmem, ⟨8, _⟩ => ⟨S1024x3072, .bf16⟩
  | .local _ .vmem, ⟨9, _⟩ => ⟨S1024x128, .bf16⟩
  | .local _ .vmem, ⟨10, _⟩ => ⟨S128x256, .f32⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x256, .f32⟩
  | .local _ .vmem, ⟨27, _⟩ => ⟨S512x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev main_v24_5 : Ref sig .tc := ⟨.hbm, 45, rfl⟩
abbrev main_v24_6 : Ref sig .tc := ⟨.hbm, 46, rfl⟩
abbrev main_v24_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S2x16384x1024 : Shape := ⟨3, ![2, 16384, 1024]⟩
abbrev S8x64x1024 : Shape := ⟨3, ![8, 64, 1024]⟩
abbrev S16x6144 : Shape := ⟨2, ![16, 6144]⟩
abbrev S1024 : Shape := ⟨1, ![1024]⟩
abbrev S1x1024x3088 : Shape := ⟨3, ![1, 1024, 3088]⟩
abbrev S1x16x256 : Shape := ⟨3, ![1, 16, 256]⟩
abbrev S1x256 : Shape := ⟨2, ![1, 256]⟩
abbrev S1x8x512x8x64 : Shape := ⟨5, ![1, 8, 512, 8, 64]⟩
abbrev S2x6144 : Shape := ⟨2, ![2, 6144]⟩
abbrev S2x1024 : Shape := ⟨2, ![2, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S1024x3088 : Shape := ⟨2, ![1024, 3088]⟩
abbrev S2x16384x3088 : Shape := ⟨3, ![2, 16384, 3088]⟩
abbrev S8x6144 : Shape := ⟨2, ![8, 6144]⟩
abbrev S8x1024 : Shape := ⟨2, ![8, 1024]⟩
abbrev S8x64 : Shape := ⟨2, ![8, 64]⟩
abbrev S8x64x1 : Shape := ⟨3, ![8, 64, 1]⟩
abbrev S8x1x1024 : Shape := ⟨3, ![8, 1, 1024]⟩
abbrev S8x64x3088 : Shape := ⟨3, ![8, 64, 3088]⟩
abbrev S32768x3088 : Shape := ⟨2, ![32768, 3088]⟩
abbrev S512x3088 : Shape := ⟨2, ![512, 3088]⟩
abbrev S33280x3088 : Shape := ⟨2, ![33280, 3088]⟩
abbrev S33280x256 : Shape := ⟨2, ![33280, 256]⟩
abbrev S33280x512 : Shape := ⟨2, ![33280, 512]⟩
abbrev S33280x16 : Shape := ⟨2, ![33280, 16]⟩
abbrev S2x512x512 : Shape := ⟨3, ![2, 512, 512]⟩
abbrev S1x2x512x8x64 : Shape := ⟨5, ![1, 2, 512, 8, 64]⟩
abbrev S8x512x8x64 : Shape := ⟨4, ![8, 512, 8, 64]⟩
abbrev S8x64x512 : Shape := ⟨3, ![8, 64, 512]⟩
abbrev S8x64x8x64 : Shape := ⟨4, ![8, 64, 8, 64]⟩
abbrev S8x576x8x64 : Shape := ⟨4, ![8, 576, 8, 64]⟩

abbrev nBuf : Space → Nat
  | .hbm => 109
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S8x64x1024, .f32⟩
  | .hbm, ⟨2, _⟩ => ⟨S16x6144, .f32⟩
  | .hbm, ⟨3, _⟩ => ⟨S1024, .f32⟩
  | .hbm, ⟨4, _⟩ => ⟨S1x1024x3088, .f32⟩
  | .hbm, ⟨5, _⟩ => ⟨S1x16x256, .f32⟩
  | .hbm, ⟨6, _⟩ => ⟨S1x256, .f32⟩
  | .hbm, ⟨7, _⟩ => ⟨S1x8x512x8x64, .f32⟩
  | .hbm, ⟨8, _⟩ => ⟨S1x8x512x8x64, .f32⟩
  | .hbm, ⟨9, _⟩ => ⟨S2x6144, .f32⟩
  | .hbm, ⟨10, _⟩ => ⟨S2x1024, .f32⟩
  | .hbm, ⟨11, _⟩ => ⟨S2x1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x1x1024, .f32⟩
  | .hbm, ⟨35, _⟩ => ⟨S2x16384x1024, .f32⟩
  | .hbm, ⟨36, _⟩ => ⟨S2x16384x1024, .f32⟩
  | .hbm, ⟨37, _⟩ => ⟨S1024x3088, .f32⟩
  | .hbm, ⟨38, _⟩ => ⟨S2x16384x3088, .f32⟩
  | .hbm, ⟨39, _⟩ => ⟨S8x6144, .f32⟩
  | .hbm, ⟨40, _⟩ => ⟨S8x1024, .f32⟩
  | .hbm, ⟨41, _⟩ => ⟨S8x1024, .f32⟩
  | .hbm, ⟨42, _⟩ => ⟨S8x64x1024, .f32⟩
  | .hbm, ⟨43, _⟩ => ⟨S_, .f32⟩
  | .hbm, ⟨44, _⟩ => ⟨S8x64, .f32⟩
  | .hbm, ⟨45, _⟩ => ⟨S8x64x1, .f32⟩
  | .hbm, ⟨46, _⟩ => ⟨S_, .f32⟩
  | .hbm, ⟨47, _⟩ => ⟨S8x64x1, .f32⟩
  | .hbm, ⟨48, _⟩ => ⟨S8x64x1, .f32⟩
  | .hbm, ⟨49, _⟩ => ⟨S_, .f32⟩
  | .hbm, ⟨50, _⟩ => ⟨S8x64x1, .f32⟩
  | .hbm, ⟨51, _⟩ => ⟨S8x64x1, .f32⟩
  | .hbm, ⟨52, _⟩ => ⟨S8x64x1, .f32⟩
  | .hbm, ⟨53, _⟩ => ⟨S8x64x1024, .f32⟩
  | .hbm, ⟨54, _⟩ => ⟨S8x64x1024, .f32⟩
  | .hbm, ⟨55, _⟩ => ⟨S1x1x1024, .f32⟩
  | .hbm, ⟨56, _⟩ => ⟨S8x64x1024, .f32⟩
  | .hbm, ⟨57, _⟩ => ⟨S8x64x1024, .f32⟩
  | .hbm, ⟨58, _⟩ => ⟨S8x1x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x64x1024, .f32⟩
  | .hbm, ⟨63, _⟩ => ⟨S8x64x1024, .f32⟩
  | .hbm, ⟨64, _⟩ => ⟨S8x1x1024, .f32⟩
  | .hbm, ⟨65, _⟩ => ⟨S8x64x1024, .f32⟩
  | .hbm, ⟨66, _⟩ => ⟨S8x64x1024, .f32⟩
  | .hbm, ⟨67, _⟩ => ⟨S1024x3088, .f32⟩
  | .hbm, ⟨68, _⟩ => ⟨S8x64x3088, .f32⟩
  | .hbm, ⟨69, _⟩ => ⟨S32768x3088, .f32⟩
  | .hbm, ⟨70, _⟩ => ⟨S512x3088, .f32⟩
  | .hbm, ⟨71, _⟩ => ⟨S33280x3088, .f32⟩
  | .hbm, ⟨72, _⟩ => ⟨S33280x256, .f32⟩
  | .hbm, ⟨73, _⟩ => ⟨S33280x256, .f32⟩
  | .hbm, ⟨74, _⟩ => ⟨S33280x512, .f32⟩
  | .hbm, ⟨75, _⟩ => ⟨S33280x512, .f32⟩
  | .hbm, ⟨76, _⟩ => ⟨S33280x16, .f32⟩
  | .hbm, ⟨77, _⟩ => ⟨S33280x512, .f32⟩
  | .hbm, ⟨78, _⟩ => ⟨S33280x512, .f32⟩
  | .hbm, ⟨79, _⟩ => ⟨S33280x512, .f32⟩
  | .hbm, ⟨80, _⟩ => ⟨S_, .f32⟩
  | .hbm, ⟨81, _⟩ => ⟨S33280x256, .f32⟩
  | .hbm, ⟨82, _⟩ => ⟨S33280x256, .f32⟩
  | .hbm, ⟨83, _⟩ => ⟨S_, .f32⟩
  | .hbm, ⟨84, _⟩ => ⟨S33280x512, .f32⟩
  | .hbm, ⟨85, _⟩ => ⟨S33280x512, .f32⟩
  | .hbm, ⟨86, _⟩ => ⟨S33280x256, .bf16⟩
  | .hbm, ⟨87, _⟩ => ⟨S33280x256, .bf16⟩
  | .hbm, ⟨88, _⟩ => ⟨S33280x512, .bf16⟩
  | .hbm, ⟨89, _⟩ => ⟨S33280x512, .bf16⟩
  | .hbm, ⟨90, _⟩ => ⟨S33280x512, .bf16⟩
  | .hbm, ⟨91, _⟩ => ⟨S33280x512, .bf16⟩
  | .hbm, ⟨92, _⟩ => ⟨S33280x512, .bf16⟩
  | .hbm, ⟨93, _⟩ => ⟨S2x512x512, .f32⟩
  | .hbm, ⟨94, _⟩ => ⟨S1x2x512x8x64, .f32⟩
  | .hbm, ⟨95, _⟩ => ⟨S2x512x512, .f32⟩
  | .hbm, ⟨96, _⟩ => ⟨S1x2x512x8x64, .f32⟩
  | .hbm, ⟨97, _⟩ => ⟨S8x512x8x64, .f32⟩
  | .hbm, ⟨98, _⟩ => ⟨S8x64x512, .f32⟩
  | .hbm, ⟨99, _⟩ => ⟨S8x64x8x64, .f32⟩
  | .hbm, ⟨100, _⟩ => ⟨S8x576x8x64, .f32⟩
  | .hbm, ⟨101, _⟩ => ⟨S8x512x8x64, .f32⟩
  | .hbm, ⟨102, _⟩ => ⟨S1x8x512x8x64, .f32⟩
  | .hbm, ⟨103, _⟩ => ⟨S8x512x8x64, .f32⟩
  | .hbm, ⟨104, _⟩ => ⟨S8x64x512, .f32⟩
  | .hbm, ⟨105, _⟩ => ⟨S8x64x8x64, .f32⟩
  | .hbm, ⟨106, _⟩ => ⟨S8x576x8x64, .f32⟩
  | .hbm, ⟨107, _⟩ => ⟨S8x512x8x64, .f32⟩
  | .hbm, ⟨108, _⟩ => ⟨S1x8x512x8x64, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩

abbrev nD : Nat := 1
abbrev τ : Topo := Topo.v7x

variable {F : FTy → Type} [FloatOps F]
-- ==== Kernel3.lean ====
abbrev S33280x1024 : Shape := ⟨2, ![33280, 1024]⟩
abbrev S4x36864x128 : Shape := ⟨3, ![4, 36864, 128]⟩
abbrev S16x6144 : Shape := ⟨2, ![16, 6144]⟩
abbrev S1024 : Shape := ⟨1, ![1024]⟩
abbrev S1x1024x1280 : Shape := ⟨3, ![1, 1024, 1280]⟩
abbrev S1x8x128x2x64 : Shape := ⟨5, ![1, 8, 128, 2, 64]⟩
abbrev S128 : Shape := ⟨1, ![128]⟩
abbrev S520 : Shape := ⟨1, ![520]⟩
abbrev S1024x1280 : Shape := ⟨2, ![1024, 1280]⟩
abbrev S1024x128 : Shape := ⟨2, ![1024, 128]⟩
abbrev S1024x1024 : Shape := ⟨2, ![1024, 1024]⟩
abbrev S1024x64 : Shape := ⟨2, ![1024, 64]⟩
abbrev S1024x256 : Shape := ⟨2, ![1024, 256]⟩
abbrev S1024x1536 : Shape := ⟨2, ![1024, 1536]⟩
abbrev S32 : Shape := ⟨1, ![32]⟩
abbrev S_ : Shape := ⟨0, ![]⟩
abbrev S1x32 : Shape := ⟨2, ![1, 32]⟩
abbrev S4x32 : Shape := ⟨2, ![4, 32]⟩
abbrev S128x1 : Shape := ⟨2, ![128, 1]⟩
abbrev S1x128 : Shape := ⟨2, ![1, 128]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S16384x128 : Shape := ⟨2, ![16384, 128]⟩
abbrev S1x1x128 : Shape := ⟨3, ![1, 1, 128]⟩
abbrev S64x128 : Shape := ⟨2, ![64, 128]⟩
abbrev S1x64x1x128 : Shape := ⟨4, ![1, 64, 1, 128]⟩
abbrev S8x64x1x128 : Shape := ⟨4, ![8, 64, 1, 128]⟩
abbrev S512x128 : Shape := ⟨2, ![512, 128]⟩
abbrev S16896x128 : Shape := ⟨2, ![16896, 128]⟩
abbrev S520x1 : Shape := ⟨2, ![520, 1]⟩
abbrev S520x6144 : Shape := ⟨2, ![520, 6144]⟩
abbrev S1x1024 : Shape := ⟨2, ![1, 1024]⟩
abbrev S33280x256 : Shape := ⟨2, ![33280, 256]⟩
abbrev S4x512x128 : Shape := ⟨3, ![4, 512, 128]⟩
abbrev S8x1024 : Shape := ⟨2, ![8, 1024]⟩
abbrev S512x1024 : Shape := ⟨2, ![512, 1024]⟩
abbrev S512x256 : Shape := ⟨2, ![512, 256]⟩
abbrev S3x512x1024 : Shape := ⟨3, ![3, 512, 1024]⟩
abbrev S3 : Shape := ⟨1, ![3]⟩
abbrev S1 : Shape := ⟨1, ![1]⟩
abbrev S1x512x1024 : Shape := ⟨3, ![1, 512, 1024]⟩
abbrev S1x256x128 : Shape := ⟨3, ![1, 256, 128]⟩
abbrev S256x128 : Shape := ⟨2, ![256, 128]⟩
abbrev S256x1024 : Shape := ⟨2, ![256, 1024]⟩
abbrev S4x1024 : Shape := ⟨2, ![4, 1024]⟩
abbrev S64x1024 : Shape := ⟨2, ![64, 1024]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S128x256 : Shape := ⟨2, ![128, 256]⟩
abbrev S128x64 : Shape := ⟨2, ![128, 64]⟩
abbrev S2x128x128 : Shape := ⟨3, ![2, 128, 128]⟩
abbrev S1x2x128x2x64 : Shape := ⟨5, ![1, 2, 128, 2, 64]⟩
abbrev S8x128x2x64 : Shape := ⟨4, ![8, 128, 2, 64]⟩
abbrev S8x64x2x64 : Shape := ⟨4, ![8, 64, 2, 64]⟩
abbrev S512x64 : Shape := ⟨2, ![512, 64]⟩

abbrev nBuf : Space → Nat
  | .hbm => 153
  | .vmem => 23
  | .smem => 0
  | _ => 0

abbrev hbmTy0_0 (i : Nat) : BufTy := match i % 128 with
  | 0 => ⟨S33280x1024, .f32⟩
  | 1 => ⟨S4x36864x128, .i32⟩
  | 2 => ⟨S16x6144, .f32⟩
  | 3 => ⟨S16x6144, .f32⟩
  | 4 => ⟨S1024, .f32⟩
  | 5 => ⟨S1x1024x1280, .f32⟩
  | 6 => ⟨S1x8x128x2x64, .f32⟩
  | 7 => ⟨S1x8x128x2x64, .f32⟩
  | 8 => ⟨S128, .f32⟩
  | 9 => ⟨S128, .f32⟩
  | 10 => ⟨S128, .f32⟩
  | 11 => ⟨S520, .i32⟩
  | 12 => ⟨S520, .i1⟩
  | 13 => ⟨S520, .i1⟩
  | 14 => ⟨S1024x1280, .f32⟩
  | 15 => ⟨S1024x128, .f32⟩
  | 16 => ⟨S1024x128, .f32⟩
  | 17 => ⟨S1024x1024, .f32⟩
  | 18 => ⟨S1024x64, .f32⟩
  | 19 => ⟨S1024x64, .f32⟩
  | 20 => ⟨S1024x64, .f32⟩
  | 21 => ⟨S1024x64, .f32⟩
  | 22 => ⟨S1024x256, .f32⟩
  | 23 => ⟨S1024x64, .f32⟩
  | 24 => ⟨S1024x64, .f32⟩
  | 25 => ⟨S1024x64, .f32⟩
  | 26 => ⟨S1024x64, .f32⟩
  | 27 => ⟨S1024x256, .f32⟩
  | 28 => ⟨S1024x1536, .f32⟩
  | 29 => ⟨S1024x1536, .bf16⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S1x32, .f32⟩
  | 39 => ⟨S4x32, .f32⟩
  | 40 => ⟨S128, .f32⟩
  | 41 => ⟨S128x1, .f32⟩
  | 42 => ⟨S1x128, .f32⟩
  | 43 => ⟨S128x128, .f32⟩
  | 44 => ⟨S128x128, .f32⟩
  | 45 => ⟨S128x128, .f32⟩
  | 46 => ⟨S128x1, .f32⟩
  | 47 => ⟨S1x128, .f32⟩
  | 48 => ⟨S128x128, .f32⟩
  | 49 => ⟨S128x128, .f32⟩
  | 50 => ⟨S128x128, .f32⟩
  | 51 => ⟨S128x128, .f32⟩
  | 52 => ⟨S128x1x128, .f32⟩
  | 53 => ⟨S128x128, .f32⟩
  | 54 => ⟨S128x1x128, .f32⟩
  | 55 => ⟨S128x128, .f32⟩
  | 56 => ⟨S1x128x128, .f32⟩
  | 57 => ⟨S128x128, .f32⟩
  | 58 => ⟨S1x128x128, .f32⟩
  | 59 => ⟨S128x128x128, .f32⟩
  | 60 => ⟨S128x128x128, .f32⟩
  | 61 => ⟨S128x128x128, .f32⟩
  | 62 => ⟨S128x128x128, .f32⟩
  | 63 => ⟨S128x128x128, .f32⟩
  | 64 => ⟨S128x128x128, .f32⟩
  | 65 => ⟨S128x128x128, .f32⟩
  | 66 => ⟨S16384x128, .f32⟩
  | 67 => ⟨S128x128x128, .f32⟩
  | 68 => ⟨S128x128x128, .f32⟩
  | 69 => ⟨S128x128x128, .f32⟩
  | 70 => ⟨S128x128x128, .f32⟩
  | 71 => ⟨S128x128x128, .f32⟩
  | 72 => ⟨S128x128x128, .f32⟩
  | 73 => ⟨S128x128x128, .f32⟩
  | 74 => ⟨S1x1x128, .f32⟩
  | 75 => ⟨S128x128x128, .f32⟩
  | 76 => ⟨S128x128x128, .f32⟩
  | 77 => ⟨S16384x128, .f32⟩
  | 78 => ⟨S64x128, .f32⟩
  | 79 => ⟨S1x64x1x128, .f32⟩
  | 80 => ⟨S8x64x1x128, .f32⟩
  | 81 => ⟨S512x128, .f32⟩
  | 82 => ⟨S16896x128, .f32⟩
  | 83 => ⟨S64x128, .f32⟩
  | 84 => ⟨S1x64x1x128, .f32⟩
  | 85 => ⟨S8x64x1x128, .f32⟩
  | 86 => ⟨S512x128, .f32⟩
  | 87 => ⟨S16896x128, .f32⟩
  | 88 => ⟨S_, .i32⟩
  | 89 => ⟨S520, .i32⟩
  | 90 => ⟨S520, .i32⟩
  | 91 => ⟨S520, .i32⟩
  | 92 => ⟨S520x1, .i32⟩
  | 93 => ⟨S520x6144, .f32⟩
  | 94 => ⟨S_, .i32⟩
  | 95 => ⟨S520, .i32⟩
  | 96 => ⟨S520, .i32⟩
  | 97 => ⟨S520, .i32⟩
  | 98 => ⟨S520x1, .i32⟩
  | 99 => ⟨S520x6144, .f32⟩
  | 100 => ⟨S1x1024, .f32⟩
  | 101 => ⟨S33280x1024, .f32⟩
  | 102 => ⟨S33280x1024, .bf16⟩
  | 103 => ⟨S33280x256, .bf16⟩
  | 104 => ⟨S33280x256, .bf16⟩
  | 105 => ⟨S128x256, .bf16⟩
  | 106 => ⟨S128x64, .bf16⟩
  | 107 => ⟨S128x64, .bf16⟩
  | 108 => ⟨S128x128, .bf16⟩
  | 109 => ⟨S128x128, .f32⟩
  | 110 => ⟨S128x256, .bf16⟩
  | 111 => ⟨S128x64, .bf16⟩
  | 112 => ⟨S128x64, .bf16⟩
  | 113 => ⟨S128x128, .bf16⟩
  | 114 => ⟨S128x128, .f32⟩
  | 115 => ⟨S1x128x128, .f32⟩
  | 116 => ⟨S1x128x128, .f32⟩
  | 117 => ⟨S2x128x128, .f32⟩
  | 118 => ⟨S1x2x128x2x64, .f32⟩
  | 119 => ⟨S128x256, .bf16⟩
  | 120 => ⟨S128x64, .bf16⟩
  | 121 => ⟨S128x64, .bf16⟩
  | 122 => ⟨S128x128, .bf16⟩
  | 123 => ⟨S128x128, .f32⟩
  | 124 => ⟨S128x256, .bf16⟩
  | 125 => ⟨S128x64, .bf16⟩
  | 126 => ⟨S128x64, .bf16⟩
  | 127 => ⟨S128x128, .bf16⟩
  | _ => ⟨S33280x1024, .f32⟩

abbrev hbmTy0_1 (i : Nat) : BufTy := match i % 128 with
  | 0 => ⟨S128x128, .f32⟩
  | 1 => ⟨S1x128x128, .f32⟩
  | 2 => ⟨S1x128x128, .f32⟩
  | 3 => ⟨S2x128x128, .f32⟩
  | 4 => ⟨S1x2x128x2x64, .f32⟩
  | 5 => ⟨S8x128x2x64, .f32⟩
  | 6 => ⟨S8x64x2x64, .f32⟩
  | 7 => ⟨S512x256, .bf16⟩
  | 8 => ⟨S512x64, .bf16⟩
  | 9 => ⟨S512x64, .bf16⟩
  | 10 => ⟨S512x128, .bf16⟩
  | 11 => ⟨S512x128, .f32⟩
  | 12 => ⟨S8x64x2x64, .f32⟩
  | 13 => ⟨S8x128x2x64, .f32⟩
  | 14 => ⟨S1x8x128x2x64, .f32⟩
  | 15 => ⟨S8x128x2x64, .f32⟩
  | 16 => ⟨S8x64x2x64, .f32⟩
  | 17 => ⟨S512x256, .bf16⟩
  | 18 => ⟨S512x64, .bf16⟩
  | 19 => ⟨S512x64, .bf16⟩
  | 20 => ⟨S512x128, .bf16⟩
  | 21 => ⟨S512x128, .f32⟩
  | 22 => ⟨S8x64x2x64, .f32⟩
  | 23 => ⟨S8x128x2x64, .f32⟩
  | 24 => ⟨S1x8x128x2x64, .f32⟩
  | _ => ⟨S33280x1024, .f32⟩

abbrev hbmTy (i : Nat) : BufTy := match i / 128 with
  | 0 => hbmTy0_0 i
  | 1 => hbmTy0_1 i
  | _ => ⟨S33280x1024, .f32⟩

abbrev bufTy : (tb : Table) → Fin (tcTables nBuf tb) → BufTy
  | .hbm, ⟨i, _⟩ => hbmTy i
  | .local _ .vmem, ⟨0, _⟩ => ⟨S4x512x128, .i32⟩
  | .local _ .vmem, ⟨1, _⟩ => ⟨S4x512x128, .i32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1024x1536, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S3x512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_c : Ref sig .tc := ⟨.hbm, 11, rfl⟩
abbrev main_c_2 : Ref sig .tc := ⟨.hbm, 12, rfl⟩
abbrev main_c_3 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_c_6 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_c_7 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83_0 : Ref sig .tc := ⟨.hbm, 101, rfl⟩
abbrev main_v83_1 : Ref sig .tc := ⟨.hbm, 102, rfl⟩
abbrev main_v83_2 : Ref sig .tc := ⟨.hbm, 103, rfl⟩
abbrev main_v83_3 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_122 : BitVec 32 := 0#32
  c0_i32_122
def k0_mult2 : BitVec 32 :=
  let c512_i32 : BitVec 32 := 512#32
  c512_i32
def k0_cond2 (i : grid0.Coords) : BitVec 1 :=
  let arg0 : BitVec 32 := BitVec.ofNat 32 (i 0).val
  let c2_i32 : BitVec 32 := 2#32
  let v3 : BitVec 32 := Scalar.addi arg0 c2_i32
  let c65_i32 : BitVec 32 := 65#32
  let v4 : BitVec 1 := Scalar.cmpi .slt v3 c65_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32 : BitVec 32 := 2#32
  let v3 : BitVec 32 := Scalar.addi arg0 c2_i32
  let c512_i32 : BitVec 32 := 512#32
  let v349 : BitVec 32 := Scalar.muli v3 c512_i32
  v349
def k0_off1 (i : grid0.Coords) : Fin 1 → Nat :=
  let arg0 : BitVec 32 := BitVec.ofNat 32 (i 0).val
  let c2_i32 : BitVec 32 := 2#32
  let v3 : BitVec 32 := Scalar.addi arg0 c2_i32
  let c3_i32_122 : BitVec 32 := 3#32
  let c0_i32_123 : BitVec 32 := 0#32
  let v339 : BitVec 1 := Scalar.cmpi .eq c3_i32_122 c0_i32_123
  let c1_i32_124 : BitVec 32 := 1#32
  let v340 : BitVec 32 := Scalar.select v339 c1_i32_124 c3_i32_122
  let v341 : BitVec 32 := Scalar.remsi v3 v340
  let c0_i32_126 : BitVec 32 := 0#32
  let v343 : BitVec 1 := Scalar.cmpi .slt v341 c0_i32_126
  let c0_i32_127 : BitVec 32 := 0#32
  let v344 : BitVec 1 := Scalar.cmpi .slt v340 c0_i32_127
  let v345 : BitVec 1 := Scalar.xori v343 v344
  let c0_i32_125 : BitVec 32 := 0#32
  let v342 : BitVec 1 := Scalar.cmpi .ne v341 c0_i32_125
  let v346 : BitVec 1 := Scalar.andi v345 v342
  let v347 : BitVec 32 := Scalar.addi v341 v340
  let v348 : BitVec 32 := Scalar.select v346 v347 v341
  ![v348.toNat]
def k0_off2 (i : grid0.Coords) : Fin 3 → Nat :=
  let arg0 : BitVec 32 := BitVec.ofNat 32 (i 0).val
  let c2_i32 : BitVec 32 := 2#32
  let v3 : BitVec 32 := Scalar.addi arg0 c2_i32
  let c3_i32_122 : BitVec 32 := 3#32
  let c0_i32_123 : BitVec 32 := 0#32
  let v339 : BitVec 1 := Scalar.cmpi .eq c3_i32_122 c0_i32_123
  let c1_i32_124 : BitVec 32 := 1#32
  let v340 : BitVec 32 := Scalar.select v339 c1_i32_124 c3_i32_122
  let v341 : BitVec 32 := Scalar.remsi v3 v340
  let c0_i32_126 : BitVec 32 := 0#32
  let v343 : BitVec 1 := Scalar.cmpi .slt v341 c0_i32_126
  let c0_i32_127 : BitVec 32 := 0#32
  let v344 : BitVec 1 := Scalar.cmpi .slt v340 c0_i32_127
  let v345 : BitVec 1 := Scalar.xori v343 v344
  let c0_i32_125 : BitVec 32 := 0#32
  let v342 : BitVec 1 := Scalar.cmpi .ne v341 c0_i32_125
  let v346 : BitVec 1 := Scalar.andi v345 v342
  let v347 : BitVec 32 := Scalar.addi v341 v340
  let v348 : BitVec 32 := Scalar.select v346 v347 v341
  let c0_i32_128 : BitVec 32 := 0#32
  let c0_i32_129 : BitVec 32 := 0#32
  ![v348.toNat, 0, 0]
def k0_off3 (i : grid0.Coords) : Fin 2 → Nat :=
  let arg0 : BitVec 32 := BitVec.ofNat 32 (i 0).val
  let c2_i32 : BitVec 32 := 2#32
  let v3 : BitVec 32 := Scalar.addi arg0 c2_i32
  let c512_i32 : BitVec 32 := 512#32
  let v349 : BitVec 32 := Scalar.muli v3 c512_i32
  let v350 : BitVec 32 := v349
  let c0_i32_130 : BitVec 32 := 0#32
  ![v350.toNat, 0]
def k0_mult4 : BitVec 32 :=
  let c0_i32_6 : BitVec 32 := 0#32
  c0_i32_6
def k0_off4 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_7 : BitVec 32 := 0#32
  let c0_i32_8 : BitVec 32 := 0#32
  ![v16.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S33280x1024 : Shape := ⟨2, ![33280, 1024]⟩
abbrev S4x36864x128 : Shape := ⟨3, ![4, 36864, 128]⟩
abbrev S16x6144 : Shape := ⟨2, ![16, 6144]⟩
abbrev S1024 : Shape := ⟨1, ![1024]⟩
abbrev S1x1024x1280 : Shape := ⟨3, ![1, 1024, 1280]⟩
abbrev S1x8x128x2x64 : Shape := ⟨5, ![1, 8, 128, 2, 64]⟩
abbrev S4x33280x128 : Shape := ⟨3, ![4, 33280, 128]⟩
abbrev S33280x4x128 : Shape := ⟨3, ![33280, 4, 128]⟩
abbrev S33280x512 : Shape := ⟨2, ![33280, 512]⟩
abbrev S_ : Shape := ⟨0, ![]⟩
abbrev S32768x1024 : Shape := ⟨2, ![32768, 1024]⟩
abbrev S2x16384x1024 : Shape := ⟨3, ![2, 16384, 1024]⟩
abbrev S512x1024 : Shape := ⟨2, ![512, 1024]⟩
abbrev S8x64x1024 : Shape := ⟨3, ![8, 64, 1024]⟩
abbrev S2x6144 : Shape := ⟨2, ![2, 6144]⟩
abbrev S2x1024 : Shape := ⟨2, ![2, 1024]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S1024x1280 : Shape := ⟨2, ![1024, 1280]⟩
abbrev S2x16384x1280 : Shape := ⟨3, ![2, 16384, 1280]⟩
abbrev S2x16384x128 : Shape := ⟨3, ![2, 16384, 128]⟩
abbrev S16384 : Shape := ⟨1, ![16384]⟩
abbrev S2x16384x16x64 : Shape := ⟨4, ![2, 16384, 16, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S2x16384x16x32 : Shape := ⟨4, ![2, 16384, 16, 32]⟩
abbrev S2x16384x2x64 : Shape := ⟨4, ![2, 16384, 2, 64]⟩
abbrev S2x16384x2x32 : Shape := ⟨4, ![2, 16384, 2, 32]⟩
abbrev S8x6144 : Shape := ⟨2, ![8, 6144]⟩
abbrev S8x1024 : Shape := ⟨2, ![8, 1024]⟩
abbrev S8x1x1024 : Shape := ⟨3, ![8, 1, 1024]⟩
abbrev S8x64 : Shape := ⟨2, ![8, 64]⟩
abbrev S8x64x1 : Shape := ⟨3, ![8, 64, 1]⟩
abbrev S8x64x1280 : Shape := ⟨3, ![8, 64, 1280]⟩
abbrev S8x64x128 : Shape := ⟨3, ![8, 64, 128]⟩
abbrev S64 : Shape := ⟨1, ![64]⟩
abbrev S8x64x16x64 : Shape := ⟨4, ![8, 64, 16, 64]⟩
abbrev S64x1 : Shape := ⟨2, ![64, 1]⟩
abbrev S64x32 : Shape := ⟨2, ![64, 32]⟩
abbrev S1x64x1x32 : Shape := ⟨4, ![1, 64, 1, 32]⟩
abbrev S8x64x16x32 : Shape := ⟨4, ![8, 64, 16, 32]⟩
abbrev S8x64x2x64 : Shape := ⟨4, ![8, 64, 2, 64]⟩
abbrev S8x64x2x32 : Shape := ⟨4, ![8, 64, 2, 32]⟩
abbrev S2x128x2x64 : Shape := ⟨4, ![2, 128, 2, 64]⟩
abbrev S1x2x128x2x64 : Shape := ⟨5, ![1, 2, 128, 2, 64]⟩
abbrev S8x128x2x64 : Shape := ⟨4, ![8, 128, 2, 64]⟩
abbrev S8x192x2x64 : Shape := ⟨4, ![8, 192, 2, 64]⟩

abbrev nBuf : Space → Nat
  | .hbm => 266
  | .vmem => 0
  | .smem => 0
  | _ => 0

abbrev hbmTy0_0 (i : Nat) : BufTy := match i % 128 with
  | 0 => ⟨S33280x1024, .f32⟩
  | 1 => ⟨S4x36864x128, .i32⟩
  | 2 => ⟨S16x6144, .f32⟩
  | 3 => ⟨S16x6144, .f32⟩
  | 4 => ⟨S1024, .f32⟩
  | 5 => ⟨S1x1024x1280, .f32⟩
  | 6 => ⟨S1x8x128x2x64, .f32⟩
  | 7 => ⟨S1x8x128x2x64, .f32⟩
  | 8 => ⟨S4x33280x128, .i32⟩
  | 9 => ⟨S33280x4x128, .i32⟩
  | 10 => ⟨S33280x512, .i32⟩
  | 11 => ⟨S_, .i32⟩
  | 12 => ⟨S33280x512, .i32⟩
  | 13 => ⟨S33280x512, .i32⟩
  | 14 => ⟨S33280x512, .f32⟩
  | 15 => ⟨S_, .i32⟩
  | 16 => ⟨S33280x512, .i32⟩
  | 17 => ⟨S33280x512, .i32⟩
  | 18 => ⟨S33280x512, .f32⟩
  | 19 => ⟨S33280x1024, .f32⟩
  | 20 => ⟨S32768x1024, .f32⟩
  | 21 => ⟨S2x16384x1024, .f32⟩
  | 22 => ⟨S512x1024, .f32⟩
  | 23 => ⟨S8x64x1024, .f32⟩
  | 24 => ⟨S32768x1024, .f32⟩
  | 25 => ⟨S2x16384x1024, .f32⟩
  | 26 => ⟨S512x1024, .f32⟩
  | 27 => ⟨S8x64x1024, .f32⟩
  | 28 => ⟨S2x6144, .f32⟩
  | 29 => ⟨S2x6144, .f32⟩
  | 30 => ⟨S2x1024, .f32⟩
  | 31 => ⟨S2x1x1024, .f32⟩
  | 32 => ⟨S2x16384x1024, .f32⟩
  | 33 => ⟨S2x16384x1024, .f32⟩
  | 34 => ⟨S2x16384x1024, .f32⟩
  | 35 => ⟨S2x1024, .f32⟩
  | 36 => ⟨S2x1024, .f32⟩
  | 37 => ⟨S2x16384x1024, .f32⟩
  | 38 => ⟨S_, .f32⟩
  | 39 => ⟨S2x16384, .f32⟩
  | 40 => ⟨S2x16384x1, .f32⟩
  | 41 => ⟨S_, .f32⟩
  | 42 => ⟨S2x16384x1, .f32⟩
  | 43 => ⟨S2x16384x1, .f32⟩
  | 44 => ⟨S_, .f32⟩
  | 45 => ⟨S2x16384x1, .f32⟩
  | 46 => ⟨S2x16384x1, .f32⟩
  | 47 => ⟨S2x16384x1, .f32⟩
  | 48 => ⟨S2x16384x1024, .f32⟩
  | 49 => ⟨S2x16384x1024, .f32⟩
  | 50 => ⟨S1x1x1024, .f32⟩
  | 51 => ⟨S2x16384x1024, .f32⟩
  | 52 => ⟨S2x16384x1024, .f32⟩
  | 53 => ⟨S2x1x1024, .f32⟩
  | 54 => ⟨S_, .f32⟩
  | 55 => ⟨S2x1x1024, .f32⟩
  | 56 => ⟨S2x1x1024, .f32⟩
  | 57 => ⟨S2x16384x1024, .f32⟩
  | 58 => ⟨S2x16384x1024, .f32⟩
  | 59 => ⟨S2x1x1024, .f32⟩
  | 60 => ⟨S2x16384x1024, .f32⟩
  | 61 => ⟨S2x16384x1024, .f32⟩
  | 62 => ⟨S1024x1280, .f32⟩
  | 63 => ⟨S2x16384x1280, .f32⟩
  | 64 => ⟨S2x16384x1024, .f32⟩
  | 65 => ⟨S2x16384x128, .f32⟩
  | 66 => ⟨S2x16384x128, .f32⟩
  | 67 => ⟨S16384, .i32⟩
  | 68 => ⟨S_, .i32⟩
  | 69 => ⟨S16384, .i32⟩
  | 70 => ⟨S16384, .i32⟩
  | 71 => ⟨S2x16384x16x64, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S16384, .f32⟩
  | 81 => ⟨S16384x1, .f32⟩
  | 82 => ⟨S1x32, .f32⟩
  | 83 => ⟨S16384x32, .f32⟩
  | 84 => ⟨S16384x32, .f32⟩
  | 85 => ⟨S16384x32, .f32⟩
  | 86 => ⟨S16384x32, .f32⟩
  | 87 => ⟨S1x16384x1x32, .f32⟩
  | 88 => ⟨S16384x32, .f32⟩
  | 89 => ⟨S1x16384x1x32, .f32⟩
  | 90 => ⟨S2x16384x16x32, .f32⟩
  | 91 => ⟨S2x16384x16x32, .f32⟩
  | 92 => ⟨S2x16384x16x32, .f32⟩
  | 93 => ⟨S2x16384x16x32, .f32⟩
  | 94 => ⟨S2x16384x16x32, .f32⟩
  | 95 => ⟨S2x16384x16x32, .f32⟩
  | 96 => ⟨S2x16384x16x32, .f32⟩
  | 97 => ⟨S2x16384x16x32, .f32⟩
  | 98 => ⟨S2x16384x16x32, .f32⟩
  | 99 => ⟨S2x16384x16x32, .f32⟩
  | 100 => ⟨S2x16384x16x32, .f32⟩
  | 101 => ⟨S2x16384x16x32, .f32⟩
  | 102 => ⟨S2x16384x16x64, .f32⟩
  | 103 => ⟨S2x16384x2x64, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S16384, .f32⟩
  | 113 => ⟨S16384x1, .f32⟩
  | 114 => ⟨S1x32, .f32⟩
  | 115 => ⟨S16384x32, .f32⟩
  | 116 => ⟨S16384x32, .f32⟩
  | 117 => ⟨S16384x32, .f32⟩
  | 118 => ⟨S16384x32, .f32⟩
  | 119 => ⟨S1x16384x1x32, .f32⟩
  | 120 => ⟨S16384x32, .f32⟩
  | 121 => ⟨S1x16384x1x32, .f32⟩
  | 122 => ⟨S2x16384x2x32, .f32⟩
  | 123 => ⟨S2x16384x2x32, .f32⟩
  | 124 => ⟨S2x16384x2x32, .f32⟩
  | 125 => ⟨S2x16384x2x32, .f32⟩
  | 126 => ⟨S2x16384x2x32, .f32⟩
  | 127 => ⟨S2x16384x2x32, .f32⟩
  | _ => ⟨S33280x1024, .f32⟩

abbrev hbmTy0_1 (i : Nat) : BufTy := match i % 128 with
  | 0 => ⟨S2x16384x2x32, .f32⟩
  | 1 => ⟨S2x16384x2x32, .f32⟩
  | 2 => ⟨S2x16384x2x32, .f32⟩
  | 3 => ⟨S2x16384x2x32, .f32⟩
  | 4 => ⟨S2x16384x2x32, .f32⟩
  | 5 => ⟨S2x16384x2x32, .f32⟩
  | 6 => ⟨S2x16384x2x64, .f32⟩
  | 7 => ⟨S2x16384x2x64, .f32⟩
  | 8 => ⟨S8x6144, .f32⟩
  | 9 => ⟨S8x6144, .f32⟩
  | 10 => ⟨S8x1024, .f32⟩
  | 11 => ⟨S8x1x1024, .f32⟩
  | 12 => ⟨S8x64x1024, .f32⟩
  | 13 => ⟨S8x64x1024, .f32⟩
  | 14 => ⟨S8x64x1024, .f32⟩
  | 15 => ⟨S8x1024, .f32⟩
  | 16 => ⟨S8x1024, .f32⟩
  | 17 => ⟨S8x64x1024, .f32⟩
  | 18 => ⟨S_, .f32⟩
  | 19 => ⟨S8x64, .f32⟩
  | 20 => ⟨S8x64x1, .f32⟩
  | 21 => ⟨S_, .f32⟩
  | 22 => ⟨S8x64x1, .f32⟩
  | 23 => ⟨S8x64x1, .f32⟩
  | 24 => ⟨S_, .f32⟩
  | 25 => ⟨S8x64x1, .f32⟩
  | 26 => ⟨S8x64x1, .f32⟩
  | 27 => ⟨S8x64x1, .f32⟩
  | 28 => ⟨S8x64x1024, .f32⟩
  | 29 => ⟨S8x64x1024, .f32⟩
  | 30 => ⟨S1x1x1024, .f32⟩
  | 31 => ⟨S8x64x1024, .f32⟩
  | 32 => ⟨S8x64x1024, .f32⟩
  | 33 => ⟨S8x1x1024, .f32⟩
  | 34 => ⟨S_, .f32⟩
  | 35 => ⟨S8x1x1024, .f32⟩
  | 36 => ⟨S8x1x1024, .f32⟩
  | 37 => ⟨S8x64x1024, .f32⟩
  | 38 => ⟨S8x64x1024, .f32⟩
  | 39 => ⟨S8x1x1024, .f32⟩
  | 40 => ⟨S8x64x1024, .f32⟩
  | 41 => ⟨S8x64x1024, .f32⟩
  | 42 => ⟨S1024x1280, .f32⟩
  | 43 => ⟨S8x64x1280, .f32⟩
  | 44 => ⟨S8x64x1024, .f32⟩
  | 45 => ⟨S8x64x128, .f32⟩
  | 46 => ⟨S8x64x128, .f32⟩
  | 47 => ⟨S64, .i32⟩
  | 48 => ⟨S_, .i32⟩
  | 49 => ⟨S64, .i32⟩
  | 50 => ⟨S64, .i32⟩
  | 51 => ⟨S8x64x16x64, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S64, .f32⟩
  | 61 => ⟨S64x1, .f32⟩
  | 62 => ⟨S1x32, .f32⟩
  | 63 => ⟨S64x32, .f32⟩
  | 64 => ⟨S64x32, .f32⟩
  | 65 => ⟨S64x32, .f32⟩
  | 66 => ⟨S64x32, .f32⟩
  | 67 => ⟨S1x64x1x32, .f32⟩
  | 68 => ⟨S64x32, .f32⟩
  | 69 => ⟨S1x64x1x32, .f32⟩
  | 70 => ⟨S8x64x16x32, .f32⟩
  | 71 => ⟨S8x64x16x32, .f32⟩
  | 72 => ⟨S8x64x16x32, .f32⟩
  | 73 => ⟨S8x64x16x32, .f32⟩
  | 74 => ⟨S8x64x16x32, .f32⟩
  | 75 => ⟨S8x64x16x32, .f32⟩
  | 76 => ⟨S8x64x16x32, .f32⟩
  | 77 => ⟨S8x64x16x32, .f32⟩
  | 78 => ⟨S8x64x16x32, .f32⟩
  | 79 => ⟨S8x64x16x32, .f32⟩
  | 80 => ⟨S8x64x16x32, .f32⟩
  | 81 => ⟨S8x64x16x32, .f32⟩
  | 82 => ⟨S8x64x16x64, .f32⟩
  | 83 => ⟨S8x64x2x64, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S64, .f32⟩
  | 93 => ⟨S64x1, .f32⟩
  | 94 => ⟨S1x32, .f32⟩
  | 95 => ⟨S64x32, .f32⟩
  | 96 => ⟨S64x32, .f32⟩
  | 97 => ⟨S64x32, .f32⟩
  | 98 => ⟨S64x32, .f32⟩
  | 99 => ⟨S1x64x1x32, .f32⟩
  | 100 => ⟨S64x32, .f32⟩
  | 101 => ⟨S1x64x1x32, .f32⟩
  | 102 => ⟨S8x64x2x32, .f32⟩
  | 103 => ⟨S8x64x2x32, .f32⟩
  | 104 => ⟨S8x64x2x32, .f32⟩
  | 105 => ⟨S8x64x2x32, .f32⟩
  | 106 => ⟨S8x64x2x32, .f32⟩
  | 107 => ⟨S8x64x2x32, .f32⟩
  | 108 => ⟨S8x64x2x32, .f32⟩
  | 109 => ⟨S8x64x2x32, .f32⟩
  | 110 => ⟨S8x64x2x32, .f32⟩
  | 111 => ⟨S8x64x2x32, .f32⟩
  | 112 => ⟨S8x64x2x32, .f32⟩
  | 113 => ⟨S8x64x2x32, .f32⟩
  | 114 => ⟨S8x64x2x64, .f32⟩
  | 115 => ⟨S8x64x2x64, .f32⟩
  | 116 => ⟨S32768x1024, .f32⟩
  | 117 => ⟨S512x1024, .f32⟩
  | 118 => ⟨S33280x1024, .f32⟩
  | 119 => ⟨S_, .f32⟩
  | 120 => ⟨S33280x1024, .f32⟩
  | 121 => ⟨S33280x1024, .f32⟩
  | 122 => ⟨S32768x1024, .f32⟩
  | 123 => ⟨S512x1024, .f32⟩
  | 124 => ⟨S33280x1024, .f32⟩
  | 125 => ⟨S33280x1024, .bf16⟩
  | 126 => ⟨S2x128x2x64, .f32⟩
  | 127 => ⟨S1x2x128x2x64, .f32⟩
  | _ => ⟨S33280x1024, .f32⟩

abbrev hbmTy0_2 (i : Nat) : BufTy := match i % 128 with
  | 0 => ⟨S2x128x2x64, .f32⟩
  | 1 => ⟨S1x2x128x2x64, .f32⟩
  | 2 => ⟨S8x128x2x64, .f32⟩
  | 3 => ⟨S8x192x2x64, .f32⟩
  | 4 => ⟨S8x128x2x64, .f32⟩
  | 5 => ⟨S1x8x128x2x64, .f32⟩
  | 6 => ⟨S8x128x2x64, .f32⟩
  | 7 => ⟨S8x192x2x64, .f32⟩
  | 8 => ⟨S8x128x2x64, .f32⟩
  | 9 => ⟨S1x8x128x2x64, .f32⟩
  | _ => ⟨S33280x1024, .f32⟩

abbrev hbmTy (i : Nat) : BufTy := match i / 128 with
  | 0 => hbmTy0_0 i
  | 1 => hbmTy0_1 i
  | 2 => hbmTy0_2 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_4 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_7 : Ref sig .tc := ⟨.hbm, 106, rfl⟩
abbrev main_v89 : Ref sig .tc := ⟨.hbm, 107, rfl⟩
abbrev main_v90 : Ref sig .tc := ⟨.hbm, 108, rfl⟩
abbrev main_cst_8 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_cst_9 : Ref sig .tc := ⟨.hbm, 146, rfl⟩
abbrev main_v127 : Ref sig .tc := ⟨.hbm, 147, rfl⟩
abbrev main_v128 : Ref sig .tc := ⟨.hbm, 148, rfl⟩
abbrev main_cst_10 : Ref sig .tc := ⟨.hbm, 149, rfl⟩
abbrev main_v129 : Ref sig .tc := ⟨.hbm, 150, rfl⟩
abbrev main_v130 : Ref sig .tc := ⟨.hbm, 151, rfl⟩
abbrev main_cst_11 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_cst_12 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_c_13 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_cst_14 : Ref sig .tc := ⟨.hbm, 182, rfl⟩
abbrev main_v158 : Ref sig .tc := ⟨.hbm, 183, rfl⟩
abbrev main_v159 : Ref sig .tc := ⟨.hbm, 184, rfl⟩
abbrev main_cst_15 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_cst_16 : Ref sig .tc := ⟨.hbm, 214, rfl⟩
abbrev main_v188 : Ref sig .tc := ⟨.hbm, 215, rfl⟩
abbrev main_v189 : Ref sig .tc := ⟨.hbm, 216, rfl⟩
abbrev main_cst_17 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_cst_18 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩

abbrev nD : Nat := 1
abbrev τ : Topo := Topo.v7x

variable {F : FTy → Type} [FloatOps F]
-- ==== Proof.KernelFrame.lean ====
/- The frame of the expert call over machine words: the body's run with the outputs' contents unnamed, the body obligation
   at every point, and the launch. -/
module

public import proofs.«01_k».proof.Proof.KernelKit
public import Idealize.ShloMosaic.Lib.Claim

@[expose] public section

set_option maxRecDepth 16384

noncomputable section

namespace Cert.Kernel.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body runs on whole staged memrefs and the tables, whichever of its branches the tables' words choose, and hands
    every input back as found. -/
theorem body_run (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec F S5x512x128 .i32) (x1 : Vec F S1x1x1536x1024 .bf16) (x2 : Vec F S1x1x1536x1024 .bf16) (x3 : Vec F S1x1x1536x1024 .bf16) (x4 : Vec F S1x1x1536x1024 .bf16) (xt0 : TblBuf (F := F) c T0) (xt1 : TblBuf (F := F) c T1) (xt2 : TblBuf (F := F) c T2) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ heldTbl c T0 xt0 ∗ heldTbl c T1 xt1 ∗ heldTbl c T2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ heldTbl c T0 xt0 ∗ heldTbl c T1 xt1 ∗ heldTbl c T2 xt2) -∗ K ⟨⟩))
          ⊢ wp frame (wpE (defs₀ (F := F)) Variants.none c none) E (cc0_moe_grouped i T0 hT0 T1 hT1 T2 hT2 arg4 harg4 arg5 harg5 arg6 harg6 arg7 harg7 arg8 harg8 arg9 harg9 arg10 harg10) K := by
    intro E K
    simp only [cc0_moe_grouped_eq_skeleton]; unfold cc0_moe_grouped_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _, _; isplitr; swap; · iexact H5
      ipureintro; rfl
    isplitl [H6]
    · iexists _, _; isplitr; swap; · iexact H6
      ipureintro; rfl
    isplitl [HT0]; · iexact HT0
    isplitl [HT1]; · iexact HT1
    iexact HT2

/-- The outputs, whose contents this frame does not name. -/
def forgets : Fin 7 → Bool := fun w => w.val == 5 || w.val == 6

/-- The proof data on core `c`: the arrays as launched; after the body each input's buffer at its block and the outputs'
    unnamed; the invariant is the call's own with the tables held; each input holds its share of its array. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl

theorem before_0 (hO : Ok m) (c : Dev nD) (t : Fin (cfgM m hO).N) (d) : (dats m hO 0 c).before 0 t d = iblk m hO c 0 t :=
  found_0 m hO (dats m hO 0 c) (A_eq m hO c 0) (after_0 m hO c) t d
theorem before_1 (hO : Ok m) (c : Dev nD) (t : Fin (cfgM m hO).N) (d) : (dats m hO 0 c).before 1 t d = iblk m hO c 1 t :=
  found_1 m hO (dats m hO 0 c) (A_eq m hO c 1) (after_1 m hO c) t d
theorem before_2 (hO : Ok m) (c : Dev nD) (t : Fin (cfgM m hO).N) (d) : (dats m hO 0 c).before 2 t d = iblk m hO c 2 t :=
  found_2 m hO (dats m hO 0 c) (A_eq m hO c 2) (after_2 m hO c) t d
theorem before_3 (hO : Ok m) (c : Dev nD) (t : Fin (cfgM m hO).N) (d) : (dats m hO 0 c).before 3 t d = iblk m hO c 3 t :=
  found_3 m hO (dats m hO 0 c) (A_eq m hO c 3) (after_3 m hO c) t d
theorem before_4 (hO : Ok m) (c : Dev nD) (t : Fin (cfgM m hO).N) (d) : (dats m hO 0 c).before 4 t d = iblk m hO c 4 t :=
  found_4 m hO (dats m hO 0 c) (A_eq m hO c 4) (after_4 m hO c) t d

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare d)
    ∗ (∃ d, owns (c : Thread nD τ) (ms6 m hO t) fullShare d))

/-- What the body leaves there. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ (∃ d, owns (c : Thread nD τ) (ms5 m hO t) fullShare d)
    ∗ (∃ d, owns (c : Thread nD τ) (ms6 m hO t) fullShare d))

theorem body_sound (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, tables_held]
  rw [after_0, after_1, after_2, after_3, after_4]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ (iblk m hO c 0 t) (iblk m hO c 1 t) (iblk m hO c 2 t) (iblk m hO c 3 t) (iblk m hO c 4 t) (tbl m 0) (tbl m 1) (tbl m 2)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HT0]; · iexact HT0
  isplitl [HT1]; · iexact HT1
  isplitl [HT2]; · iexact HT2
  iintro ⟨H0, H1, H2, H3, H4, H5, H6, HT0, HT1, HT2⟩
  isplitl [HΦ HT0 HT1 HT2]
  · isplitl [HΦ]; · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (hO : Ok m) (c : Dev nD) : BodyObligation (dats (F := F) m hO 0 c) (defs₀ (F := F)) Variants.none () Set.univ forgets := fun t => by
  rw [bigSep_W0, bigSep_W0, defs_row m hO]
  exact triple_restated (body_sound m hO c t) rfl .rfl fun _ => .rfl

set_option backward.isDefEq.respectTransparency.types false in
/-- Every execution ends, with every array no output stages as launched and every counter at zero. -/
theorem launch (hO : Ok m) : θ_run defs (onTc (τ := τ) (main (F := F))) (s₀ m ρ) (fun r => (Pipeline.RDat.FramePost ((Pipeline.pin pcfgs fun _ => adm m hO) 0) (fun c => (dats m hO 0 c).toRForget forgets) (V m)) r ∧ r.2.sem = fun _ => 0) :=
  Pipeline.θ_run_frameP_forget_shared (Q' := _) pcfgs (fun _ => adm m hO) (dats m hO) (0 : Fin 1) launch₀0 defs₀ Variants.none forgets m ρ main
    (hbody := fun c => (body_obligation m hO c).loose) (hq := fun _ _ _ => rfl)
    (howed := fun _ _ => rfl) (V := V m) (hmain := main_is_call m Variants.none) (hA := A_eq m hO) (hpf := V_tbl m) (hΦ := fun _ _ => rfl)

/-- The frame: the five arguments end as they began. -/
theorem framed (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(Pipeline.RDat.FramePost.arr_in h.1 c 0 rfl).trans (A_eq m hO c 0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      (Pipeline.RDat.FramePost.arr_in h.1 c 4 rfl).trans (A_eq m hO c 4)⟩, h.2⟩) (launch m ρ hO)

end Cert.Kernel.Moe

end

end
-- ==== Proof.KernelIdealKit.lean ====
/- What the runs of the expert call share: its buffers as launched, the three prefetched tables and the side condition of
   their words, the two conditions of the body (which always differ), and the windows' blocks. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call is entered: the launch memory, the call being all of @main. -/
abbrev V (c : Dev nD) (b : Ref sig .tc) : Buf (Elt F) ((c : Thread nD τ).loc b) := m ((c : Thread nD τ).loc b)

set_option maxHeartbeats 800000 in
/-- @main is the call alone. -/
theorem main_is_call (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' words: each tile's two experts and its number of rows. -/
def tbl : pre0.Contents (Elt F) := fun j => V m (0 : Dev nD) (pre0.ref j)

theorem V_tbl (c : Dev nD) (j : Fin 3) : V m c (pre0.ref j) = tbl m j := by
  obtain rfl : c = 0 := Subsingleton.elim _ _; rfl

/-- Every weight block the tables name lies inside the weights. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them. -/
abbrev T0 : Memref sig .tc .smem S156 .i32 := Memref.whole main_arg1
abbrev hT0 : T0.IsWhole := Memref.isWhole_whole _
abbrev T1 : Memref sig .tc .smem S156 .i32 := Memref.whole main_arg2
abbrev hT1 : T1.IsWhole := Memref.isWhole_whole _
abbrev T2 : Memref sig .tc .smem S156 .i32 := Memref.whole main_arg3
abbrev hT2 : T2.IsWhole := Memref.isWhole_whole _

/-- A table's contents on core `c`, and the table held read-only at them. -/
abbrev TblBuf (c : Dev nD) {S : Shape} {e : EltTy} (M : Memref sig .tc .smem S e) : Type := Buf (Elt F) (M.view.loc (c : Thread nD τ))
abbrev heldTbl (c : Dev nD) {S : Shape} {e : EltTy} (M : Memref sig .tc .smem S e) (f : TblBuf (F := F) c M) : sProp 𝕄 :=
  M.view.loc (c : Thread nD τ) ↦{fullShare.right} f

theorem tables_held (c : Dev nD) : (Pipeline.ΦT pre0 (tbl m) c : sProp 𝕄) = iprop(heldTbl c T0 (tbl m 0) ∗ heldTbl c T1 (tbl m 1) ∗ heldTbl c T2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The body's two conditions -/

/-- Of the two conditions of the body exactly one holds: the second is the first's negation. -/
theorem cond_exclusive (a b : BitVec 32) : k0_cond2 a b = 1#1 ↔ ¬ k0_cond1 a b = 1#1 := by
  unfold k0_cond1 k0_cond2
  dsimp only
  generalize Scalar.cmpi .sgt a 0#32 = x
  generalize Scalar.cmpi .sgt b 0#32 = y
  revert x y
  decide

/-- So the window of the rows is written at every point. -/
theorem live5 (hO : Ok m) (i : grid0.Coords) : (cfgM m hO).idle 5 i = false := by
  change (!(k0_cond1 ((tbl m).atD 2 (k0_off3 i)) ((tbl m).atD 2 (k0_off2 i 1#32)) == 1#1) && !(k0_cond2 ((tbl m).atD 2 (k0_off3 i)) ((tbl m).atD 2 (k0_off2 i 1#32)) == 1#1)) = false
  generalize (tbl m).atD 2 (k0_off3 i) = a
  generalize (tbl m).atD 2 (k0_off2 i 1#32) = b
  have h := cond_exclusive a b
  by_cases h1 : k0_cond1 a b = 1#1
  · simp [h1]
  · simp [h.mpr h1]

/-- The two words of the third table the body branches on: the rows of its two tiles that hold tokens. -/
abbrev nrows0 (c : Dev nD) (i : grid0.Coords) (xt2 : TblBuf (F := F) c T2) : BitVec 32 :=
  View.readAt (Elt F) T2.view (Rect.unit (s := S156) (k0_off3 i) S1.size (k0_off3_inb i)).toLoadRect xt2 (Shape.Idx.first (show 0 < S1.numel by decide))
abbrev nrows1 (c : Dev nD) (i : grid0.Coords) (xt2 : TblBuf (F := F) c T2) : BitVec 32 :=
  View.readAt (Elt F) T2.view (Rect.unit (s := S156) (k0_off2 i 1#32) S1.size (k0_off2_inb i 1)).toLoadRect xt2 (Shape.Idx.first (show 0 < S1.numel by decide))

/-! ## The windows' blocks -/

/-- Window `w`'s block of its array at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem found_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The two outputs are written back at every point. -/
theorem flush_rows (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 1 (fun _ => rfl) (by decide)) (P := 1) (m := 0) (by decide) rfl t).mpr (Nat.mod_one _) : ∀ t : Fin grid0.N, Pipeline.Window.flushOf grid0 true cc0_transform_5 t = true)
theorem flush_toks (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The memref each window has staged at point `t`. -/
abbrev ms0 (hO : Ok m) (t : Fin (cfgM m hO).N) : Memref sig .tc .vmem S5x512x128 .i32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1536x1024 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1536x1024 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1536x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1536x1024 .bf16 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S4x1024x128 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S2x2x128 .i32 := spec0_6.stage ((cfgM m hO).slots t 6)
abbrev hs6 (hO : Ok m) (t : Fin (cfgM m hO).N) : (ms6 m hO t).IsWhole := hstage0_6 (((cfgM m hO).slots t 6).cast nbuf0_6)

/-- The body at point `t`, on the tables and the staged memrefs. -/
abbrev bodyAt (a : (pcfg0 (F := F)).Adm) (t : Fin (cfg0 a).N) : Prog (TpuEff nD τ sig (Elt F) Λ₀ .tc) PUnit :=
  cc0_moe_grouped (grid0.coords t) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6))

theorem defs_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- One staging buffer of each output, through which its contents are stated. -/
abbrev VO5 : View sig .tc .vmem S4x1024x128 .bf16 := (Memref.whole cc0_stg5_0 : Memref sig .tc .vmem S4x1024x128 .bf16).view
abbrev VO6 : View sig .tc .vmem S2x2x128 .i32 := (Memref.whole cc0_stg6_0 : Memref sig .tc .vmem S2x2x128 .i32).view

end Cert.KernelIdeal.Moe

end

end
-- ==== Proof.IdealRunA.lean ====
/- The body's run at a point one of whose tiles holds tokens: the pieces it stores into each output. -/
module

public import proofs.«01_k».proof.Proof.KernelIdealKit

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the rows (the experts' sums) and in the token words,
    with the proof that the body runs to them and hands every input and table back. -/
noncomputable def runA (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec F S5x512x128 .i32) (x1 : Vec F S1x1x1536x1024 .bf16) (x2 : Vec F S1x1x1536x1024 .bf16) (x3 : Vec F S1x1x1536x1024 .bf16) (x4 : Vec F S1x1x1536x1024 .bf16) (xt0 : TblBuf (F := F) c T0) (xt1 : TblBuf (F := F) c T1) (xt2 : TblBuf (F := F) c T2)
    (hc0 : k0_cond1 (nrows0 c i xt2) (nrows1 c i xt2) = 1#1) (hc1 : ¬k0_cond2 (nrows0 c i xt2) (nrows1 c i xt2) = 1#1) :
    Σ' (L5 : List (View.Piece (Elt F) S4x1024x128 .bf16)), { L6 : List (View.Piece (Elt F) S2x2x128 .i32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ heldTbl c T0 xt0 ∗ heldTbl c T1 xt1 ∗ heldTbl c T2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f L6) ∗ heldTbl c T0 xt0 ∗ heldTbl c T1 xt1 ∗ heldTbl c T2 xt2) -∗ K ⟨⟩))
          ⊢ wp frame (wpE (defs₀ (F := F)) Variants.none c none) E (cc0_moe_grouped i T0 hT0 T1 hT1 T2 hT2 arg4 harg4 arg5 harg5 arg6 harg6 arg7 harg7 arg8 harg8 arg9 harg9 arg10 harg10) K } := by
  refine ⟨?_, ?_, fun E K => ?run⟩
  case run =>
    simp only [cc0_moe_grouped_eq_skeleton]; unfold cc0_moe_grouped_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [H6]; · iexists _; iexact H6
    isplitl [HT0]; · iexact HT0
    isplitl [HT1]; · iexact HT1
    iexact HT2

end Cert.KernelIdeal.Moe

end

end
-- ==== Proof.IdealRunB.lean ====
/- The body's run at a point none of whose tiles holds tokens: the pieces it stores into each output. -/
module

public import proofs.«01_k».proof.Proof.IdealRunA

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the rows (zeros) and in the token words,
    with the proof that the body runs to them and hands every input and table back. -/
noncomputable def runB (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec F S5x512x128 .i32) (x1 : Vec F S1x1x1536x1024 .bf16) (x2 : Vec F S1x1x1536x1024 .bf16) (x3 : Vec F S1x1x1536x1024 .bf16) (x4 : Vec F S1x1x1536x1024 .bf16) (xt0 : TblBuf (F := F) c T0) (xt1 : TblBuf (F := F) c T1) (xt2 : TblBuf (F := F) c T2)
    (hc0 : ¬k0_cond1 (nrows0 c i xt2) (nrows1 c i xt2) = 1#1) (hc1 : k0_cond2 (nrows0 c i xt2) (nrows1 c i xt2) = 1#1) :
    Σ' (L5 : List (View.Piece (Elt F) S4x1024x128 .bf16)), { L6 : List (View.Piece (Elt F) S2x2x128 .i32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ heldTbl c T0 xt0 ∗ heldTbl c T1 xt1 ∗ heldTbl c T2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f L6) ∗ heldTbl c T0 xt0 ∗ heldTbl c T1 xt1 ∗ heldTbl c T2 xt2) -∗ K ⟨⟩))
          ⊢ wp frame (wpE (defs₀ (F := F)) Variants.none c none) E (cc0_moe_grouped i T0 hT0 T1 hT1 T2 hT2 arg4 harg4 arg5 harg5 arg6 harg6 arg7 harg7 arg8 harg8 arg9 harg9 arg10 harg10) K } := by
  refine ⟨?_, ?_, fun E K => ?run⟩
  case run =>
    simp only [cc0_moe_grouped_eq_skeleton]; unfold cc0_moe_grouped_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [H6]; · iexists _; iexact H6
    isplitl [HT0]; · iexact HT0
    isplitl [HT1]; · iexact HT1
    iexact HT2

end Cert.KernelIdeal.Moe

end

end
-- ==== Proof.IdealFrame.lean ====
/- The frame of the expert call over the reals with its outputs named: what each point leaves in the rows and in the
   token words, the body obligation at every point, and the launch. -/
module

public import proofs.«01_k».proof.Proof.IdealRunB
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whether a tile of point `t` holds tokens. -/
abbrev busy (hO : Ok m) (c : Dev nD) (t : Fin (cfgM m hO).N) : Prop := k0_cond1 (nrows0 (F := F) c (grid0.coords t) (tbl m 2)) (nrows1 (F := F) c (grid0.coords t) (tbl m 2)) = 1#1

open Classical in
/-- The rows point `t` leaves. -/
def outRows (hO : Ok m) (c : Dev nD) (t : Fin (cfgM m hO).N) : Vec F S4x1024x128 .bf16 :=
  if h : busy m hO c t then VO5.read (Elt F) (VO5.writes (Elt F) VO5.junk (runA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h (fun h2 => (cond_exclusive _ _).mp h2 h)).1)
  else VO5.read (Elt F) (VO5.writes (Elt F) VO5.junk (runB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h ((cond_exclusive _ _).mpr h)).1)

open Classical in
/-- The token words point `t` leaves. -/
def outToks (hO : Ok m) (c : Dev nD) (t : Fin (cfgM m hO).N) : Vec F S2x2x128 .i32 :=
  if h : busy m hO c t then VO6.read (Elt F) (VO6.writes (Elt F) VO6.junk (runA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h (fun h2 => (cond_exclusive _ _).mp h2 h)).2.1)
  else VO6.read (Elt F) (VO6.writes (Elt F) VO6.junk (runB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h ((cond_exclusive _ _).mpr h)).2.1)

theorem coverA_5 (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec F S5x512x128 .i32) (x1 : Vec F S1x1x1536x1024 .bf16) (x2 : Vec F S1x1x1536x1024 .bf16) (x3 : Vec F S1x1x1536x1024 .bf16) (x4 : Vec F S1x1x1536x1024 .bf16) (xt0 : TblBuf (F := F) c T0) (xt1 : TblBuf (F := F) c T1) (xt2 : TblBuf (F := F) c T2)
    (hc0 : k0_cond1 (nrows0 c i xt2) (nrows1 c i xt2) = 1#1) (hc1 : ¬k0_cond2 (nrows0 c i xt2) (nrows1 c i xt2) = 1#1) (y : S4x1024x128.Idx) : ∃ pc ∈ (runA c i arg4 harg4 arg5 harg5 arg6 harg6 arg7 harg7 arg8 harg8 arg9 harg9 arg10 harg10 x0 x1 x2 x3 x4 xt0 xt1 xt2 hc0 hc1).1, y ∈ pc.1.set :=
  View.cover_of_tiledL (runA c i arg4 harg4 arg5 harg5 arg6 harg6 arg7 harg7 arg8 harg8 arg9 harg9 arg10 harg10 x0 x1 x2 x3 x4 xt0 xt1 xt2 hc0 hc1).1 S1x512x128.size (by sl_kernel_rfl) y

theorem coverA_6 (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec F S5x512x128 .i32) (x1 : Vec F S1x1x1536x1024 .bf16) (x2 : Vec F S1x1x1536x1024 .bf16) (x3 : Vec F S1x1x1536x1024 .bf16) (x4 : Vec F S1x1x1536x1024 .bf16) (xt0 : TblBuf (F := F) c T0) (xt1 : TblBuf (F := F) c T1) (xt2 : TblBuf (F := F) c T2)
    (hc0 : k0_cond1 (nrows0 c i xt2) (nrows1 c i xt2) = 1#1) (hc1 : ¬k0_cond2 (nrows0 c i xt2) (nrows1 c i xt2) = 1#1) (y : S2x2x128.Idx) : ∃ pc ∈ (runA c i arg4 harg4 arg5 harg5 arg6 harg6 arg7 harg7 arg8 harg8 arg9 harg9 arg10 harg10 x0 x1 x2 x3 x4 xt0 xt1 xt2 hc0 hc1).2.1, y ∈ pc.1.set :=
  View.cover_of_tiledL (runA c i arg4 harg4 arg5 harg5 arg6 harg6 arg7 harg7 arg8 harg8 arg9 harg9 arg10 harg10 x0 x1 x2 x3 x4 xt0 xt1 xt2 hc0 hc1).2.1 S1x1x128.size (by sl_kernel_rfl) y

theorem coverB_5 (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec F S5x512x128 .i32) (x1 : Vec F S1x1x1536x1024 .bf16) (x2 : Vec F S1x1x1536x1024 .bf16) (x3 : Vec F S1x1x1536x1024 .bf16) (x4 : Vec F S1x1x1536x1024 .bf16) (xt0 : TblBuf (F := F) c T0) (xt1 : TblBuf (F := F) c T1) (xt2 : TblBuf (F := F) c T2)
    (hc0 : ¬k0_cond1 (nrows0 c i xt2) (nrows1 c i xt2) = 1#1) (hc1 : k0_cond2 (nrows0 c i xt2) (nrows1 c i xt2) = 1#1) (y : S4x1024x128.Idx) : ∃ pc ∈ (runB c i arg4 harg4 arg5 harg5 arg6 harg6 arg7 harg7 arg8 harg8 arg9 harg9 arg10 harg10 x0 x1 x2 x3 x4 xt0 xt1 xt2 hc0 hc1).1, y ∈ pc.1.set :=
  View.cover_of_tiledL (runB c i arg4 harg4 arg5 harg5 arg6 harg6 arg7 harg7 arg8 harg8 arg9 harg9 arg10 harg10 x0 x1 x2 x3 x4 xt0 xt1 xt2 hc0 hc1).1 S4x1024x128.size (by sl_kernel_rfl) y

theorem coverB_6 (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec F S5x512x128 .i32) (x1 : Vec F S1x1x1536x1024 .bf16) (x2 : Vec F S1x1x1536x1024 .bf16) (x3 : Vec F S1x1x1536x1024 .bf16) (x4 : Vec F S1x1x1536x1024 .bf16) (xt0 : TblBuf (F := F) c T0) (xt1 : TblBuf (F := F) c T1) (xt2 : TblBuf (F := F) c T2)
    (hc0 : ¬k0_cond1 (nrows0 c i xt2) (nrows1 c i xt2) = 1#1) (hc1 : k0_cond2 (nrows0 c i xt2) (nrows1 c i xt2) = 1#1) (y : S2x2x128.Idx) : ∃ pc ∈ (runB c i arg4 harg4 arg5 harg5 arg6 harg6 arg7 harg7 arg8 harg8 arg9 harg9 arg10 harg10 x0 x1 x2 x3 x4 xt0 xt1 xt2 hc0 hc1).2.1, y ∈ pc.1.set :=
  View.cover_of_tiledL (runB c i arg4 harg4 arg5 harg5 arg6 harg6 arg7 harg7 arg8 harg8 arg9 harg9 arg10 harg10 x0 x1 x2 x3 x4 xt0 xt1 xt2 hc0 hc1).2.1 S1x1x128.size (by sl_kernel_rfl) y

/-- The proof data on core `c`: the arrays as launched; after the body each input's buffer at its block and the outputs'
    at what the run leaves; the invariant is the call's own with the tables held; each input holds its share of its array. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outRows m hO c t
    | ⟨6, _⟩ => outToks m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outRows m hO c t := by dsimp only [dats]; try rfl
theorem after_6 (hO : Ok m) (c : Dev nD) (t : Fin (cfgM m hO).N) : (dats m hO 0 c).after 6 t = outToks m hO c t := by dsimp only [dats]; try rfl

theorem before_0 (hO : Ok m) (c : Dev nD) (t : Fin (cfgM m hO).N) (d) : (dats m hO 0 c).before 0 t d = iblk m hO c 0 t :=
  found_0 m hO (dats m hO 0 c) (A_eq m hO c 0) (after_0 m hO c) t d
theorem before_1 (hO : Ok m) (c : Dev nD) (t : Fin (cfgM m hO).N) (d) : (dats m hO 0 c).before 1 t d = iblk m hO c 1 t :=
  found_1 m hO (dats m hO 0 c) (A_eq m hO c 1) (after_1 m hO c) t d
theorem before_2 (hO : Ok m) (c : Dev nD) (t : Fin (cfgM m hO).N) (d) : (dats m hO 0 c).before 2 t d = iblk m hO c 2 t :=
  found_2 m hO (dats m hO 0 c) (A_eq m hO c 2) (after_2 m hO c) t d
theorem before_3 (hO : Ok m) (c : Dev nD) (t : Fin (cfgM m hO).N) (d) : (dats m hO 0 c).before 3 t d = iblk m hO c 3 t :=
  found_3 m hO (dats m hO 0 c) (A_eq m hO c 3) (after_3 m hO c) t d
theorem before_4 (hO : Ok m) (c : Dev nD) (t : Fin (cfgM m hO).N) (d) : (dats m hO 0 c).before 4 t d = iblk m hO c 4 t :=
  found_4 m hO (dats m hO 0 c) (A_eq m hO c 4) (after_4 m hO c) t d

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d)))

/-- What the body leaves there. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

theorem body_sound (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, tables_held]
  rw [show (dats m hO 0 c).leavesExact 0 t = owns (c : Thread nD τ) (ms0 m hO t) fullShare ((dats m hO 0 c).after 0 t) from by
    unfold Dat.leavesExact; rw [show (cfgM m hO).idle 0 (grid0.coords t) = false from rfl]; rfl, after_0]
  rw [show (dats m hO 0 c).leavesExact 1 t = owns (c : Thread nD τ) (ms1 m hO t) fullShare ((dats m hO 0 c).after 1 t) from by
    unfold Dat.leavesExact; rw [show (cfgM m hO).idle 1 (grid0.coords t) = false from rfl]; rfl, after_1]
  rw [show (dats m hO 0 c).leavesExact 2 t = owns (c : Thread nD τ) (ms2 m hO t) fullShare ((dats m hO 0 c).after 2 t) from by
    unfold Dat.leavesExact; rw [show (cfgM m hO).idle 2 (grid0.coords t) = false from rfl]; rfl, after_2]
  rw [show (dats m hO 0 c).leavesExact 3 t = owns (c : Thread nD τ) (ms3 m hO t) fullShare ((dats m hO 0 c).after 3 t) from by
    unfold Dat.leavesExact; rw [show (cfgM m hO).idle 3 (grid0.coords t) = false from rfl]; rfl, after_3]
  rw [show (dats m hO 0 c).leavesExact 4 t = owns (c : Thread nD τ) (ms4 m hO t) fullShare ((dats m hO 0 c).after 4 t) from by
    unfold Dat.leavesExact; rw [show (cfgM m hO).idle 4 (grid0.coords t) = false from rfl]; rfl, after_4]
  rw [show (dats m hO 0 c).leavesExact 5 t = owns (c : Thread nD τ) (ms5 m hO t) fullShare ((dats m hO 0 c).after 5 t) from by
    unfold Dat.leavesExact; rw [live5 m hO (grid0.coords t)]; rfl, after_5]
  rw [show (dats m hO 0 c).leavesExact 6 t = owns (c : Thread nD τ) (ms6 m hO t) fullShare ((dats m hO 0 c).after 6 t) from by
    unfold Dat.leavesExact; rw [show (cfgM m hO).idle 6 (grid0.coords t) = false from rfl]; rfl, after_6]
  by_cases h : busy m hO c t
  · rw [show outRows m hO c t = VO5.read (Elt F) (VO5.writes (Elt F) VO5.junk (runA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h (fun h2 => (cond_exclusive _ _).mp h2 h)).1) from dif_pos h,
      show outToks m hO c t = VO6.read (Elt F) (VO6.writes (Elt F) VO6.junk (runA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h (fun h2 => (cond_exclusive _ _).mp h2 h)).2.1) from dif_pos h]
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h (fun h2 => (cond_exclusive _ _).mp h2 h)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HT0]; · iexact HT0
    isplitl [HT1]; · iexact HT1
    isplitl [HT2]; · iexact HT2
    iintro ⟨H0, H1, H2, H3, H4, ⟨%e5, H5⟩, ⟨%e6, H6⟩, HT0, HT1, HT2⟩
    isplitl [HΦ HT0 HT1 HT2]
    · isplitl [HΦ]; · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA_5 c _ _ _ _ _ _ _ _ _ _ _ _ _ _ _ _ _ _ _ _ _ _ _ _ _)
    unfold owns; iexists _; isplitr
    swap; · iexact H6
    ipureintro; exact View.read_writes_of_cover _ _ _ _ _ (coverA_6 c _ _ _ _ _ _ _ _ _ _ _ _ _ _ _ _ _ _ _ _ _ _ _ _ _)
  · rw [show outRows m hO c t = VO5.read (Elt F) (VO5.writes (Elt F) VO5.junk (runB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h ((cond_exclusive _ _).mpr h)).1) from dif_neg h,
      show outToks m hO c t = VO6.read (Elt F) (VO6.writes (Elt F) VO6.junk (runB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h ((cond_exclusive _ _).mpr h)).2.1) from dif_neg h]
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (tbl m 0) (tbl m 1) (tbl m 2) h ((cond_exclusive _ _).mpr h)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HT0]; · iexact HT0
    isplitl [HT1]; · iexact HT1
    isplitl [HT2]; · iexact HT2
    iintro ⟨H0, H1, H2, H3, H4, ⟨%e5, H5⟩, ⟨%e6, H6⟩, HT0, HT1, HT2⟩
    isplitl [HΦ HT0 HT1 HT2]
    · isplitl [HΦ]; · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB_5 c _ _ _ _ _ _ _ _ _ _ _ _ _ _ _ _ _ _ _ _ _ _ _ _ _)
    unfold owns; iexists _; isplitr
    swap; · iexact H6
    ipureintro; exact View.read_writes_of_cover _ _ _ _ _ (coverB_6 c _ _ _ _ _ _ _ _ _ _ _ _ _ _ _ _ _ _ _ _ _ _ _ _ _)

theorem body_obligation (hO : Ok m) (c : Dev nD) : BodyObligation (dats (F := F) m hO 0 c) (defs₀ (F := F)) Variants.none () Set.univ := fun t => by
  rw [bigSep_W0, bigSep_W0, defs_row m hO]
  exact triple_restated (body_sound m hO c t) rfl .rfl fun _ => .rfl

set_option backward.isDefEq.respectTransparency.types false in
/-- Every execution ends, with every staged array at what its points leave in it, every other as launched, and every
    counter at zero. -/
theorem launch (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := main_is_call m Variants.none) (hA := A_eq m hO) (hpf := V_tbl m) (hΦ := fun _ _ => rfl)

/-- The five arguments end as they began. -/
theorem args_of_post (hO : Ok m) {r : PUnit × MemSt nD τ sig (Elt F)} (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m hO 0 c).arrAt_in 0 rfl _).trans (A_eq m hO c 0)),
      (h c).2 main_arg1 (by decide : main_arg1 ∈ Pipeline.restRefs sig spec0),
      (h c).2 main_arg2 (by decide : main_arg2 ∈ Pipeline.restRefs sig spec0),
      (h c).2 main_arg3 (by decide : main_arg3 ∈ Pipeline.restRefs sig spec0),
      ((h c).1 4).trans (((dats m hO 0 c).arrAt_in 4 rfl _).trans (A_eq m hO c 4))⟩

/-- The frame. -/
theorem framed (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of_post m hO h.1, h.2⟩) (launch m ρ hO)

end Cert.KernelIdeal.Moe

end

end
-- ==== Proof.ExpertWords.lean ====
/- The preconditions decoded: the words of the two expert tables lie in [0, 16), and of `experts_differ` a tile's two differ. -/
module

public import proofs.«01_k».proof.Defs
public import proofs.«01_k».proof.Proof.Gen.Pre_experts_exist
public import proofs.«01_k».proof.Proof.Gen.Pre_experts_differ

@[expose] public section

namespace Cert.Experts

open Idealize.ShloMosaic

private theorem andi_one (a b : BitVec 1) : IntOp.andi a b = 1#1 ↔ a = 1#1 ∧ b = 1#1 := by revert a b; decide
private theorem ofBool_eq_one (p : Bool) : (BitVec.ofBool p = 1#1) ↔ p = true := by cases p <;> decide

/-- A word at least 0 and below 16, as a number. -/
theorem below (v : BitVec 32) (h0 : IntOp.cmpi .sge v 0#32 = 1#1) (h1 : IntOp.cmpi .slt v 16#32 = 1#1) : v.toNat < 16 := by
  simp only [IntOp.cmpi, ofBool_eq_one, BitVec.sle_eq_decide, BitVec.slt_eq_decide, decide_eq_true_eq,
    BitVec.toInt_eq_toNat_cond, BitVec.toNat_ofNat, Nat.reducePow, Nat.reduceMod] at h0 h1
  omega

section exist
open Cert.Pre_experts_exist
variable {F : FTy → Type} [FloatOps F] (x : IVec S5x43520x128 32) (lo hi nv : IVec S156 32) (w : FVec F S1x16x1536x1024 .bf16)

theorem exist_lo (h : (fn x lo hi nv w).1 = fun _ => 1#1) (i : S156.Idx) : (lo i).toNat < 16 := by
  have e := congrFun h i
  simp only [fn, constantI, broadcastInDim, cmpi, andi, andi_one] at e
  exact below _ e.1 e.2

theorem exist_hi (h : (fn x lo hi nv w).2 = fun _ => 1#1) (i : S156.Idx) : (hi i).toNat < 16 := by
  have e := congrFun h i
  simp only [fn, constantI, broadcastInDim, cmpi, andi, andi_one] at e
  exact below _ e.1 e.2
end exist

section differ
open Cert.Pre_experts_differ
variable {F : FTy → Type} [FloatOps F] (x : IVec S5x43520x128 32) (lo hi nv : IVec S156 32) (w : FVec F S1x16x1536x1024 .bf16)

theorem differ_lo (h : (fn x lo hi nv w).1 = fun _ => 1#1) (i : S156.Idx) : (lo i).toNat < 16 := by
  have e := congrFun h i
  simp only [fn, constantI, broadcastInDim, cmpi, andi, andi_one] at e
  exact below _ e.1 e.2

theorem differ_hi (h : (fn x lo hi nv w).2.1 = fun _ => 1#1) (i : S156.Idx) : (hi i).toNat < 16 := by
  have e := congrFun h i
  simp only [fn, constantI, broadcastInDim, cmpi, andi, andi_one] at e
  exact below _ e.1 e.2

theorem differ_ne (h : (fn x lo hi nv w).2.2 = fun _ => 1#1) (i : S156.Idx) : lo i ≠ hi i := by
  have e := congrFun h i
  simp only [fn, cmpi, IntOp.cmpi, ofBool_eq_one, bne_iff_ne] at e
  exact e
end differ

end Cert.Experts
-- ==== Proof.IdealWords.lean ====
/- The tables' words: under the precondition every expert a tile names is one of the sixteen, so that every weight block the
   call fetches lies inside the weights. -/
module

public import proofs.«01_k».proof.Proof.KernelIdealKit
public import proofs.«01_k».proof.Proof.ExpertWords

@[expose] public section

noncomputable section

namespace Cert.KernelIdeal.Moe

open Idealize.ShloMosaic Idealize.ShloMosaic.TcCoe
open Cert.KernelIdeal.Gen

variable {F : FTy → Type} [FloatOps F]
variable (m : (ℓ : Loc nD τ sig) → Buf (Elt F) ℓ)

private theorem inside (v : BitVec 32) (h : v.toNat < 16) (a : Fin 4) :
    ((![(0#32 : BitVec 32).toNat, v.toNat, (0#32 : BitVec 32).toNat, (0#32 : BitVec 32).toNat] : Fin 4 → Nat) a + 1) * S1x1x1536x1024.size a ≤ S1x16x1536x1024.size a := by
  fin_cases a
  · show (0 + 1) * 1 ≤ 1; omega
  · show (v.toNat + 1) * 1 ≤ 16; omega
  · show (0 + 1) * 1536 ≤ 1536; omega
  · show (0 + 1) * 1024 ≤ 1024; omega

/-- Where every expert the tables name is one of the sixteen, the weight blocks lie inside the weights. -/
theorem ok_of_words (h0 : ∀ i : S156.Idx, ((tbl m 0 i : BitVec 32)).toNat < 16) (h1 : ∀ i : S156.Idx, ((tbl m 1 i : BitVec 32)).toNat < 16) : Ok m :=
  ⟨fun i => ⟨inside _ (h0 _), .inr (Affine.block_words_dvd (of_decide_eq_true rfl) (by decide))⟩,
    fun i => ⟨inside _ (h1 _), .inr (Affine.block_words_dvd (of_decide_eq_true rfl) (by decide))⟩,
    fun i => ⟨inside _ (h0 _), .inr (Affine.block_words_dvd (of_decide_eq_true rfl) (by decide))⟩,
    fun i => ⟨inside _ (h1 _), .inr (Affine.block_words_dvd (of_decide_eq_true rfl) (by decide))⟩⟩

end Cert.KernelIdeal.Moe

end
-- ==== Proof.Frames.lean ====
/- The frames of the three programs, and the two rewrites' statements: all claims but the equality of the values. -/
module

public import proofs.«01_k».proof.Defs
public import proofs.«01_k».proof.Proof.KernelFrame
public import proofs.«01_k».proof.Proof.IdealFrame
public import proofs.«01_k».proof.Proof.KernelWords
public import proofs.«01_k».proof.Proof.IdealWords
public import proofs.«01_k».proof.Proof.Gen.ReferenceIdeal.Run
public import Idealize.ShloMosaic.Lib.Quiescent
public import Idealize.ShloMosaic.Lib.Bf16Pair

@[expose] public section

noncomputable section

namespace Cert.Frames

open Idealize.ShloMosaic Idealize.ShloMosaic.TcCoe Idealize.SL.Sem

theorem kernel_ok (m : (ℓ : Loc Cert.Kernel.nD Cert.Kernel.τ Cert.Kernel.sig) → Buf (Elt Bits) ℓ) (h : Cert.Pre_Kernel m) : Cert.Kernel.Moe.Ok m :=
  Cert.Kernel.Moe.ok_of_words m (fun i => Cert.Experts.exist_lo _ _ _ _ _ (h 0).1 i) (fun i => Cert.Experts.exist_hi _ _ _ _ _ (h 0).2 i)

theorem ideal_ok (m : (ℓ : Loc Cert.KernelIdeal.nD Cert.KernelIdeal.τ Cert.KernelIdeal.sig) → Buf (Elt Ideal) ℓ) (h : Cert.Pre_KernelIdeal m) : Cert.KernelIdeal.Moe.Ok m :=
  Cert.KernelIdeal.Moe.ok_of_words m (fun i => Cert.Experts.exist_lo _ _ _ _ _ (h 0).1 i) (fun i => Cert.Experts.exist_hi _ _ _ _ _ (h 0).2 i)

theorem ideal_ok_differ (m : (ℓ : Loc Cert.KernelIdeal.nD Cert.KernelIdeal.τ Cert.KernelIdeal.sig) → Buf (Elt Ideal) ℓ) (h : Cert.Pre_KernelIdeal_experts_differ m) : Cert.KernelIdeal.Moe.Ok m :=
  Cert.KernelIdeal.Moe.ok_of_words m (fun i => Cert.Experts.differ_lo _ _ _ _ _ (h 0).1 i) (fun i => Cert.Experts.differ_hi _ _ _ _ _ (h 0).2.1 i)

theorem kernel : Cert.quiescent_Kernel := fun m ρ h => Cert.Kernel.Moe.framed m ρ (kernel_ok m h)
theorem ideal : Cert.quiescent_KernelIdeal := fun m ρ h => Cert.KernelIdeal.Moe.framed m ρ (ideal_ok m h)
theorem ideal_differ : Cert.quiescent_KernelIdeal_pre_experts_differ := fun m ρ h => Cert.KernelIdeal.Moe.framed m ρ (ideal_ok_differ m h)

open Cert.ReferenceIdeal in
theorem reference_framed (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems rfl r.2⟩) (Cert.ReferenceIdeal.Value.run m ρ)

theorem reference : Cert.quiescent_ReferenceIdeal := fun m ρ _ => reference_framed m ρ
theorem reference_differ : Cert.quiescent_ReferenceIdeal_pre_experts_differ := fun m ρ _ => reference_framed m ρ

theorem preserves : Cert.preserves_Kernel_KernelIdeal :=
  ⟨IdealRules.bf16_pair.statement _ _, IdealRules.bf16_pack.statement _⟩

end Cert.Frames

end
-- ==== Proof.IdealBlocks.lean ====
module

public import proofs.«01_k».proof.Proof.IdealFrame
public import Idealize.ShloMosaic.Lib.Pointwise
public import Idealize.ShloMosaic.Lib.Pipeline.ValueKit

@[expose] public section

set_option maxRecDepth 16384

noncomputable section

namespace Cert.KernelIdeal.Moe

open Idealize.ShloMosaic Idealize.ShloMosaic.TcCoe Idealize.ShloMosaic.Tactic
open Idealize.SL Idealize.SL.Sem
open Idealize.ShloMosaic.Pipeline (Dat Cfg Window)
open Cert.KernelIdeal.Gen

variable (m : (ℓ : Loc nD τ sig) → Buf (Elt Ideal) ℓ)

/-- The packed rows, the tables and the weights at their coordinates. -/
def rows (c : Dev nD) (s : Fin 5) (r : Fin 43520) (l : Fin 128) : BitVec 32 := (show Vec Ideal S5x43520x128 .i32 from m (c.tc.loc main_arg0)) (ix3 s r l)
def lo (c : Dev nD) (n : Fin 156) : BitVec 32 := (show Vec Ideal S156 .i32 from m (c.tc.loc main_arg1)) (ix1 n)
def hi (c : Dev nD) (n : Fin 156) : BitVec 32 := (show Vec Ideal S156 .i32 from m (c.tc.loc main_arg2)) (ix1 n)
def valid (c : Dev nD) (n : Fin 156) : BitVec 32 := (show Vec Ideal S156 .i32 from m (c.tc.loc main_arg3)) (ix1 n)
def weight (c : Dev nD) (e : Fin 16) (k : Fin 1536) (f : Fin 1024) : EReal := (show Vec Ideal S1x16x1536x1024 .bf16 from m (c.tc.loc main_arg4)) (ix4 0 e k f)

theorem coords_val : ∀ t : Fin grid0.N, (grid0.coords t 0).val = t.val := by decide +kernel
theorem step0 : ∀ t : Fin grid0.N, cc0_transform_0 (grid0.coords t) = ![0, t.val, 0] := by decide +kernel
theorem step5 : ∀ t : Fin grid0.N, cc0_transform_5 (grid0.coords t) = ![0, t.val, 0] := by decide +kernel
theorem step6 : ∀ t : Fin grid0.N, cc0_transform_6 (grid0.coords t) = ![t.val, 0, 0] := by decide +kernel
theorem table0 : ∀ t : Fin grid0.N, k0_off1 (grid0.coords t) 0#32 = ![2 * t.val + 0] := by decide +kernel
theorem table1 : ∀ t : Fin grid0.N, k0_off1 (grid0.coords t) 1#32 = ![2 * t.val + 1] := by decide +kernel

theorem iblk0_at (hO : Ok m) (c : Dev nD) (t : Fin (cfgM m hO).N) (s : Fin 5) (r : Fin 512) (l : Fin 128) (q : Fin 43520) (hq : q.val = 512 * t.val + r.val) :
    (show Vec Ideal S5x512x128 .i32 from iblk m hO c 0 t) (ix3 s r l) = rows m c s q l := by
  unfold rows
  show (show Vec Ideal S5x43520x128 .i32 from m (c.tc.loc main_arg0)) ((((cfgM m hO).win 0).blk t).view.emb (ix3 s r l)) = _
  congr 1
  funext a
  apply Fin.ext
  fin_cases a
  · show cc0_transform_0 (grid0.coords t) 0 * 5 + 1 * s.val = s.val
    rw [step0]; show 0 * 5 + 1 * s.val = s.val; omega
  · show cc0_transform_0 (grid0.coords t) 1 * 512 + 1 * r.val = q.val
    rw [step0]; show t.val * 512 + 1 * r.val = q.val; omega
  · show cc0_transform_0 (grid0.coords t) 2 * 128 + 1 * l.val = l.val
    rw [step0]; show 0 * 128 + 1 * l.val = l.val; omega

theorem step1 (t : Fin grid0.N) : cc0_transform_1 (F := Ideal) k0_off1_inb numel1_S1 (tbl m) (grid0.coords t) = ![0, (lo m 0 ⟨2 * t.val + 0, by have := t.isLt; change t.val < 78 at this; omega⟩).toNat, 0, 0] := by
  have e : (show Vec Ideal S156 .i32 from m ((0 : Dev nD).tc.loc main_arg1)) ((Rect.unit (s := S156) (k0_off1 (grid0.coords t) 0#32) S1.size (k0_off1_inb (grid0.coords t) 0)).emb (Shape.Idx.first (show 0 < S1.numel by decide)))
      = lo m 0 ⟨2 * t.val + 0, by have := t.isLt; change t.val < 78 at this; omega⟩ := by
    unfold lo
    congr 1
    funext a
    apply Fin.ext
    obtain rfl : a = 0 := Subsingleton.elim _ _
    show k0_off1 (grid0.coords t) 0#32 0 + 1 * 0 = 2 * t.val + 0
    rw [table0]
    rfl
  show ![0, ((show Vec Ideal S156 .i32 from m ((0 : Dev nD).tc.loc main_arg1)) ((Rect.unit (s := S156) (k0_off1 (grid0.coords t) 0#32) S1.size (k0_off1_inb (grid0.coords t) 0)).emb (Shape.Idx.first (show 0 < S1.numel by decide)))).toNat, 0, 0] = _
  rw [e]

theorem iblk1_at (hO : Ok m) (c : Dev nD) (t : Fin (cfgM m hO).N) (k : Fin 1536) (f : Fin 1024) (e : Fin 16)
    (he : (lo m c ⟨2 * t.val + 0, by have := t.isLt; change t.val < 78 at this; omega⟩).toNat % 16 = e.val) (hb : ∀ c n, (lo m c n).toNat < 16) :
    (show Vec Ideal S1x1x1536x1024 .bf16 from iblk m hO c 1 t) (ix4 0 0 k f) = weight m c e k f := by
  obtain rfl : c = 0 := Subsingleton.elim _ _
  rw [Nat.mod_eq_of_lt (hb _ _)] at he
  unfold weight
  show (show Vec Ideal S1x16x1536x1024 .bf16 from m ((0 : Dev nD).tc.loc main_arg4)) ((((cfgM m hO).win 1).blk t).view.emb (ix4 0 0 k f)) = _
  congr 1
  funext a
  apply Fin.ext
  fin_cases a
  · show cc0_transform_1 (F := Ideal) k0_off1_inb numel1_S1 (tbl m) (grid0.coords t) 0 * 1 + 1 * 0 = 0
    rw [step1]; rfl
  · show cc0_transform_1 (F := Ideal) k0_off1_inb numel1_S1 (tbl m) (grid0.coords t) 1 * 1 + 1 * 0 = e.val
    rw [step1, ← he]; show _ * 1 + 1 * 0 = _; rw [Nat.mul_one]; rfl
  · show cc0_transform_1 (F := Ideal) k0_off1_inb numel1_S1 (tbl m) (grid0.coords t) 2 * 1536 + 1 * k.val = k.val
    rw [step1]; show 0 * 1536 + 1 * k.val = k.val; omega
  · show cc0_transform_1 (F := Ideal) k0_off1_inb numel1_S1 (tbl m) (grid0.coords t) 3 * 1024 + 1 * f.val = f.val
    rw [step1]; show 0 * 1024 + 1 * f.val = f.val; omega

theorem step2 (t : Fin grid0.N) : cc0_transform_2 (F := Ideal) k0_off1_inb numel1_S1 (tbl m) (grid0.coords t) = ![0, (hi m 0 ⟨2 * t.val + 0, by have := t.isLt; change t.val < 78 at this; omega⟩).toNat, 0, 0] := by
  have e : (show Vec Ideal S156 .i32 from m ((0 : Dev nD).tc.loc main_arg2)) ((Rect.unit (s := S156) (k0_off1 (grid0.coords t) 0#32) S1.size (k0_off1_inb (grid0.coords t) 0)).emb (Shape.Idx.first (show 0 < S1.numel by decide)))
      = hi m 0 ⟨2 * t.val + 0, by have := t.isLt; change t.val < 78 at this; omega⟩ := by
    unfold hi
    congr 1
    funext a
    apply Fin.ext
    obtain rfl : a = 0 := Subsingleton.elim _ _
    show k0_off1 (grid0.coords t) 0#32 0 + 1 * 0 = 2 * t.val + 0
    rw [table0]
    rfl
  show ![0, ((show Vec Ideal S156 .i32 from m ((0 : Dev nD).tc.loc main_arg2)) ((Rect.unit (s := S156) (k0_off1 (grid0.coords t) 0#32) S1.size (k0_off1_inb (grid0.coords t) 0)).emb (Shape.Idx.first (show 0 < S1.numel by decide)))).toNat, 0, 0] = _
  rw [e]

theorem iblk2_at (hO : Ok m) (c : Dev nD) (t : Fin (cfgM m hO).N) (k : Fin 1536) (f : Fin 1024) (e : Fin 16)
    (he : (hi m c ⟨2 * t.val + 0, by have := t.isLt; change t.val < 78 at this; omega⟩).toNat % 16 = e.val) (hb : ∀ c n, (hi m c n).toNat < 16) :
    (show Vec Ideal S1x1x1536x1024 .bf16 from iblk m hO c 2 t) (ix4 0 0 k f) = weight m c e k f := by
  obtain rfl : c = 0 := Subsingleton.elim _ _
  rw [Nat.mod_eq_of_lt (hb _ _)] at he
  unfold weight
  show (show Vec Ideal S1x16x1536x1024 .bf16 from m ((0 : Dev nD).tc.loc main_arg4)) ((((cfgM m hO).win 2).blk t).view.emb (ix4 0 0 k f)) = _
  congr 1
  funext a
  apply Fin.ext
  fin_cases a
  · show cc0_transform_2 (F := Ideal) k0_off1_inb numel1_S1 (tbl m) (grid0.coords t) 0 * 1 + 1 * 0 = 0
    rw [step2]; rfl
  · show cc0_transform_2 (F := Ideal) k0_off1_inb numel1_S1 (tbl m) (grid0.coords t) 1 * 1 + 1 * 0 = e.val
    rw [step2, ← he]; show _ * 1 + 1 * 0 = _; rw [Nat.mul_one]; rfl
  · show cc0_transform_2 (F := Ideal) k0_off1_inb numel1_S1 (tbl m) (grid0.coords t) 2 * 1536 + 1 * k.val = k.val
    rw [step2]; show 0 * 1536 + 1 * k.val = k.val; omega
  · show cc0_transform_2 (F := Ideal) k0_off1_inb numel1_S1 (tbl m) (grid0.coords t) 3 * 1024 + 1 * f.val = f.val
    rw [step2]; show 0 * 1024 + 1 * f.val = f.val; omega

theorem step3 (t : Fin grid0.N) : cc0_transform_3 (F := Ideal) k0_off1_inb numel1_S1 (tbl m) (grid0.coords t) = ![0, (lo m 0 ⟨2 * t.val + 1, by have := t.isLt; change t.val < 78 at this; omega⟩).toNat, 0, 0] := by
  have e : (show Vec Ideal S156 .i32 from m ((0 : Dev nD).tc.loc main_arg1)) ((Rect.unit (s := S156) (k0_off1 (grid0.coords t) 1#32) S1.size (k0_off1_inb (grid0.coords t) 1)).emb (Shape.Idx.first (show 0 < S1.numel by decide)))
      = lo m 0 ⟨2 * t.val + 1, by have := t.isLt; change t.val < 78 at this; omega⟩ := by
    unfold lo
    congr 1
    funext a
    apply Fin.ext
    obtain rfl : a = 0 := Subsingleton.elim _ _
    show k0_off1 (grid0.coords t) 1#32 0 + 1 * 0 = 2 * t.val + 1
    rw [table1]
    rfl
  show ![0, ((show Vec Ideal S156 .i32 from m ((0 : Dev nD).tc.loc main_arg1)) ((Rect.unit (s := S156) (k0_off1 (grid0.coords t) 1#32) S1.size (k0_off1_inb (grid0.coords t) 1)).emb (Shape.Idx.first (show 0 < S1.numel by decide)))).toNat, 0, 0] = _
  rw [e]

theorem iblk3_at (hO : Ok m) (c : Dev nD) (t : Fin (cfgM m hO).N) (k : Fin 1536) (f : Fin 1024) (e : Fin 16)
    (he : (lo m c ⟨2 * t.val + 1, by have := t.isLt; change t.val < 78 at this; omega⟩).toNat % 16 = e.val) (hb : ∀ c n, (lo m c n).toNat < 16) :
    (show Vec Ideal S1x1x1536x1024 .bf16 from iblk m hO c 3 t) (ix4 0 0 k f) = weight m c e k f := by
  obtain rfl : c = 0 := Subsingleton.elim _ _
  rw [Nat.mod_eq_of_lt (hb _ _)] at he
  unfold weight
  show (show Vec Ideal S1x16x1536x1024 .bf16 from m ((0 : Dev nD).tc.loc main_arg4)) ((((cfgM m hO).win 3).blk t).view.emb (ix4 0 0 k f)) = _
  congr 1
  funext a
  apply Fin.ext
  fin_cases a
  · show cc0_transform_3 (F := Ideal) k0_off1_inb numel1_S1 (tbl m) (grid0.coords t) 0 * 1 + 1 * 0 = 0
    rw [step3]; rfl
  · show cc0_transform_3 (F := Ideal) k0_off1_inb numel1_S1 (tbl m) (grid0.coords t) 1 * 1 + 1 * 0 = e.val
    rw [step3, ← he]; show _ * 1 + 1 * 0 = _; rw [Nat.mul_one]; rfl
  · show cc0_transform_3 (F := Ideal) k0_off1_inb numel1_S1 (tbl m) (grid0.coords t) 2 * 1536 + 1 * k.val = k.val
    rw [step3]; show 0 * 1536 + 1 * k.val = k.val; omega
  · show cc0_transform_3 (F := Ideal) k0_off1_inb numel1_S1 (tbl m) (grid0.coords t) 3 * 1024 + 1 * f.val = f.val
    rw [step3]; show 0 * 1024 + 1 * f.val = f.val; omega

theorem step4 (t : Fin grid0.N) : cc0_transform_4 (F := Ideal) k0_off1_inb numel1_S1 (tbl m) (grid0.coords t) = ![0, (hi m 0 ⟨2 * t.val + 1, by have := t.isLt; change t.val < 78 at this; omega⟩).toNat, 0, 0] := by
  have e : (show Vec Ideal S156 .i32 from m ((0 : Dev nD).tc.loc main_arg2)) ((Rect.unit (s := S156) (k0_off1 (grid0.coords t) 1#32) S1.size (k0_off1_inb (grid0.coords t) 1)).emb (Shape.Idx.first (show 0 < S1.numel by decide)))
      = hi m 0 ⟨2 * t.val + 1, by have := t.isLt; change t.val < 78 at this; omega⟩ := by
    unfold hi
    congr 1
    funext a
    apply Fin.ext
    obtain rfl : a = 0 := Subsingleton.elim _ _
    show k0_off1 (grid0.coords t) 1#32 0 + 1 * 0 = 2 * t.val + 1
    rw [table1]
    rfl
  show ![0, ((show Vec Ideal S156 .i32 from m ((0 : Dev nD).tc.loc main_arg2)) ((Rect.unit (s := S156) (k0_off1 (grid0.coords t) 1#32) S1.size (k0_off1_inb (grid0.coords t) 1)).emb (Shape.Idx.first (show 0 < S1.numel by decide)))).toNat, 0, 0] = _
  rw [e]

theorem iblk4_at (hO : Ok m) (c : Dev nD) (t : Fin (cfgM m hO).N) (k : Fin 1536) (f : Fin 1024) (e : Fin 16)
    (he : (hi m c ⟨2 * t.val + 1, by have := t.isLt; change t.val < 78 at this; omega⟩).toNat % 16 = e.val) (hb : ∀ c n, (hi m c n).toNat < 16) :
    (show Vec Ideal S1x1x1536x1024 .bf16 from iblk m hO c 4 t) (ix4 0 0 k f) = weight m c e k f := by
  obtain rfl : c = 0 := Subsingleton.elim _ _
  rw [Nat.mod_eq_of_lt (hb _ _)] at he
  unfold weight
  show (show Vec Ideal S1x16x1536x1024 .bf16 from m ((0 : Dev nD).tc.loc main_arg4)) ((((cfgM m hO).win 4).blk t).view.emb (ix4 0 0 k f)) = _
  congr 1
  funext a
  apply Fin.ext
  fin_cases a
  · show cc0_transform_4 (F := Ideal) k0_off1_inb numel1_S1 (tbl m) (grid0.coords t) 0 * 1 + 1 * 0 = 0
    rw [step4]; rfl
  · show cc0_transform_4 (F := Ideal) k0_off1_inb numel1_S1 (tbl m) (grid0.coords t) 1 * 1 + 1 * 0 = e.val
    rw [step4, ← he]; show _ * 1 + 1 * 0 = _; rw [Nat.mul_one]; rfl
  · show cc0_transform_4 (F := Ideal) k0_off1_inb numel1_S1 (tbl m) (grid0.coords t) 2 * 1536 + 1 * k.val = k.val
    rw [step4]; show 0 * 1536 + 1 * k.val = k.val; omega
  · show cc0_transform_4 (F := Ideal) k0_off1_inb numel1_S1 (tbl m) (grid0.coords t) 3 * 1024 + 1 * f.val = f.val
    rw [step4]; show 0 * 1024 + 1 * f.val = f.val; omega

end Cert.KernelIdeal.Moe

end

end
-- ==== Proof.Mixture.lean ====
/- The expert layer's mathematics for one row, written once for the kernel and the reference: a row of 1024 values packed as
   the two halves of 512 words, the gated hidden values under one expert's weights, the expert's output, and the
   mixture of two experts. -/
module

public import Idealize.ShloMosaic.Lib.Pointwise

@[expose] public section

noncomputable section

namespace Cert.Experts

open Idealize.ShloMosaic

/-- Value `k` of a row packed in 4 times 128 words: the low halves hold values 0 to 511, the high halves the rest. -/
def column (w : Fin 4 → Fin 128 → BitVec 32) (k : Fin 1024) : EReal :=
  if k.val < 512 then Ideal.ofBits .f32 (IntOp.shli .vector (w ⟨k.val / 128 % 4, Nat.mod_lt _ (by decide)⟩ ⟨k.val % 128, Nat.mod_lt _ (by decide)⟩) 16#32)
  else Ideal.ofBits .f32 (IntOp.andi (w ⟨k.val / 128 % 4, Nat.mod_lt _ (by decide)⟩ ⟨k.val % 128, Nat.mod_lt _ (by decide)⟩) 4294901760#32)

/-- The product of a row with column `f` of an expert's first matrix (rows 0 to 1023 of its weights). -/
def first (h : Fin 1024 → EReal) (w : Fin 1536 → Fin 1024 → EReal) (f : Fin 1024) : EReal :=
  ∑ k : Fin 1024, h k * w ⟨k.val, by omega⟩ f

/-- Hidden value `f`: the gate's `a / (1 + exp (-a))` times the up projection. -/
def hidden (h : Fin 1024 → EReal) (w : Fin 1536 → Fin 1024 → EReal) (f : Fin 512) : EReal :=
  first h w ⟨f.val, by omega⟩ * Ideal.div 1 (1 + Ideal.exp (0 - first h w ⟨f.val, by omega⟩)) * first h w ⟨512 + f.val, by omega⟩

/-- Value `d` of one expert's output on a row (rows 1024 to 1535 of its weights are its second matrix). -/
def expert (h : Fin 1024 → EReal) (w : Fin 1536 → Fin 1024 → EReal) (d : Fin 1024) : EReal :=
  ∑ f : Fin 512, hidden h w f * w ⟨1024 + f.val, by omega⟩ d

/-- Value `d` of the row's two experts, each by its own share. -/
def mix (a b : EReal) (h : Fin 1024 → EReal) (u w : Fin 1536 → Fin 1024 → EReal) (d : Fin 1024) : EReal :=
  a * expert h u d + b * expert h w d

/-- The first spare row of tile `n`: the spare rows follow the 33280 real ones, 14 tiles of 256 used in turn. -/
def spare (n : ℕ) : BitVec 32 := BitVec.ofNat 32 (33280 + n % 14 * 256)

/-- The token word of row `r` of tile `n`: the row's own token (a float in word `w`) where the tile's `nv` rows reach, and
    a spare row elsewhere. -/
def token (n : ℕ) (nv w : BitVec 32) (r : ℕ) : BitVec 32 :=
  Scalar.select (IntOp.cmpi .slt (BitVec.ofNat 32 r) nv) (FloatOps.fptosi (F := Ideal) 32 (Ideal.ofBits .f32 w))
    (IntOp.addi (spare n) (BitVec.ofNat 32 r))

/-- The layer at word position (`s`, `q`, `l`) of its laid-out rows: row `q / 2`, in column `512 (q mod 2) + 128 s + l`,
    of the mixture of the two experts the row's tile of 256 names. -/
def layerRow (x : Fin 5 → Fin 43520 → Fin 128 → BitVec 32) (lo hi : Fin 156 → BitVec 32)
    (w : Fin 16 → Fin 1536 → Fin 1024 → EReal) (s : Fin 4) (q : Fin 79872) (l : Fin 128) : EReal :=
  mix (Ideal.ofBits .f32 (x 4 ⟨q.val / 2, by omega⟩ 0)) (Ideal.ofBits .f32 (x 4 ⟨q.val / 2, by omega⟩ 1))
    (column fun s l => x ⟨s.val, by omega⟩ ⟨q.val / 2, by omega⟩ l)
    (w ⟨(lo ⟨q.val / 512, by omega⟩).toNat % 16, Nat.mod_lt _ (by decide)⟩)
    (w ⟨(hi ⟨q.val / 512, by omega⟩).toNat % 16, Nat.mod_lt _ (by decide)⟩)
    ⟨512 * (q.val % 2) + 128 * s.val + l.val, by omega⟩

/-- The token word of row `128 g + l` of tile `n`. -/
def layerTok (x : Fin 5 → Fin 43520 → Fin 128 → BitVec 32) (nv : Fin 156 → BitVec 32) (n : Fin 156) (g : Fin 2) (l : Fin 128) : BitVec 32 :=
  token n.val (nv n) (x 4 ⟨256 * n.val + (128 * g.val + l.val), by omega⟩ 2) (128 * g.val + l.val)

end Cert.Experts

end

end
-- ==== Proof.IdealTile.lean ====
/- One grid point of the expert call over the reals: what the two accumulators hold, element by element, in terms of the
   rows, the experts' weights and the shares. -/
module

public import proofs.«01_k».proof.Proof.IdealFrame
public import Idealize.ShloMosaic.Lib.Pointwise
public import Idealize.ShloMosaic.Lib.Pipeline.ValueKit
public import proofs.«01_k».proof.Proof.Mixture
@[expose] public section

set_option maxRecDepth 16384

noncomputable section

namespace Cert.KernelIdeal.Moe

open Idealize.ShloMosaic Idealize.ShloMosaic.TcCoe Idealize.ShloMosaic.Tactic
open Idealize.SL Idealize.SL.Sem
open Idealize.ShloMosaic.Pipeline (Dat Cfg Window)
open Cert.KernelIdeal.Gen

/-- Row `r` of the first tile of a block of words is the packed row. -/
theorem row0 (x0 : Vec Ideal S5x512x128 .i32) (r : Fin 256) (k : Fin 1024) :
    (k0_pay6 (F := Ideal) (View.ld x0 (Rect.unit ![0, 0, 0] ![1, 256, 128] inb_S5x512x128_S1x256x128_0_0_0)) (View.ld x0 (Rect.unit ![1, 0, 0] ![1, 256, 128] inb_S5x512x128_S1x256x128_1_0_0)) (View.ld x0 (Rect.unit ![2, 0, 0] ![1, 256, 128] inb_S5x512x128_S1x256x128_2_0_0)) (View.ld x0 (Rect.unit ![3, 0, 0] ![1, 256, 128] inb_S5x512x128_S1x256x128_3_0_0))) (ix2 r k) = Experts.column (fun s l => x0 (ix3 ⟨s.val, by omega⟩ ⟨r.val, by omega⟩ l)) k := by
  pointwise [k0_pay6, Experts.column]
  blk_point []
  all_goals (exfalso; omega)

/-- Row `r` of the second tile is the packed row 256 further. -/
theorem row1 (x0 : Vec Ideal S5x512x128 .i32) (r : Fin 256) (k : Fin 1024) :
    (k0_pay8 (F := Ideal) (k0_pay7 (F := Ideal) (View.ld x0 (Rect.unit ![0, 256, 0] ![1, 256, 128] inb_S5x512x128_S1x256x128_0_256_0))) (View.ld x0 (Rect.unit ![1, 256, 0] ![1, 256, 128] inb_S5x512x128_S1x256x128_1_256_0)) (View.ld x0 (Rect.unit ![2, 256, 0] ![1, 256, 128] inb_S5x512x128_S1x256x128_2_256_0)) (View.ld x0 (Rect.unit ![3, 256, 0] ![1, 256, 128] inb_S5x512x128_S1x256x128_3_256_0))) (ix2 r k) = Experts.column (fun s l => x0 (ix3 ⟨s.val, by omega⟩ ⟨256 + r.val, by omega⟩ l)) k := by
  pointwise [k0_pay7, k0_pay8, Experts.column]
  blk_point []
  all_goals (exfalso; omega)

/-- The first tile's accumulator: the mixture of its two experts. -/
theorem sum0 (h : FVec Ideal S256x1024 .bf16) (x0 : Vec Ideal S5x512x128 .i32) (x1 x2 : Vec Ideal S1x1x1536x1024 .bf16) (r : Fin 256) (d : Fin 1024) :
    k0_pay22 (F := Ideal) (k0_pay17 (F := Ideal) (k0_pay13 h (View.ld x2 (Rect.unit ![0, 0, 0, 0] ![1, 1, 1024, 1024] inb_S1x1x1536x1024_S1x1x1024x1024_0_0_0_0))) (View.ld x2 (Rect.unit ![0, 0, 1024, 0] ![1, 1, 512, 1024] inb_S1x1x1536x1024_S1x1x512x1024_0_0_1024_0))) (k0_pay20 (F := Ideal) (k0_pay39 (View.ld x0 (Rect.unit ![4, 0, 0] ![1, 256, 128] inb_S5x512x128_S1x256x128_4_0_0))) (k0_pay12 (k0_pay9 h (View.ld x1 (Rect.unit ![0, 0, 0, 0] ![1, 1, 1024, 1024] inb_S1x1x1536x1024_S1x1x1024x1024_0_0_0_0)))) (View.ld x1 (Rect.unit ![0, 0, 1024, 0] ![1, 1, 512, 1024] inb_S1x1x1536x1024_S1x1x512x1024_0_0_1024_0))) (k0_pay21 (F := Ideal) (k0_pay39 (View.ld x0 (Rect.unit ![4, 0, 0] ![1, 256, 128] inb_S5x512x128_S1x256x128_4_0_0)))) (ix2 r d)
      = Experts.mix (Ideal.ofBits .f32 (x0 (ix3 4 ⟨r.val, by omega⟩ 0))) (Ideal.ofBits .f32 (x0 (ix3 4 ⟨r.val, by omega⟩ 1))) (fun k => h (ix2 r k)) (fun k f => x1 (ix4 0 0 k f)) (fun k f => x2 (ix4 0 0 k f)) d := by
  pointwise [k0_pay22, k0_pay17, k0_pay20, k0_pay21, k0_pay39, k0_pay12, k0_pay13, k0_pay9, Experts.mix, Experts.expert, Experts.hidden, Experts.first]

/-- The second tile's accumulator. -/
theorem sum1 (h : FVec Ideal S256x1024 .bf16) (x0 : Vec Ideal S5x512x128 .i32) (x3 x4 : Vec Ideal S1x1x1536x1024 .bf16) (r : Fin 256) (d : Fin 1024) :
    k0_pay30 (F := Ideal) (k0_pay40 (F := Ideal) (View.ld x0 (Rect.unit ![4, 256, 0] ![1, 256, 128] inb_S5x512x128_S1x256x128_4_256_0))) (k0_pay18 (F := Ideal) (k0_pay10 h (View.ld x3 (Rect.unit ![0, 0, 0, 0] ![1, 1, 1024, 1024] inb_S1x1x1536x1024_S1x1x1024x1024_0_0_0_0))) (k0_pay14 h (View.ld x3 (Rect.unit ![0, 0, 0, 0] ![1, 1, 1024, 1024] inb_S1x1x1536x1024_S1x1x1024x1024_0_0_0_0))) (k0_pay15 h (View.ld x3 (Rect.unit ![0, 0, 0, 0] ![1, 1, 1024, 1024] inb_S1x1x1536x1024_S1x1x1024x1024_0_0_0_0))) k0_pay16 (View.ld x3 (Rect.unit ![0, 0, 1024, 0] ![1, 1, 512, 1024] inb_S1x1x1536x1024_S1x1x512x1024_0_0_1024_0))) (k0_pay19 (F := Ideal) (k0_pay11 h (View.ld x4 (Rect.unit ![0, 0, 0, 0] ![1, 1, 1024, 1024] inb_S1x1x1536x1024_S1x1x1024x1024_0_0_0_0))) (View.ld x4 (Rect.unit ![0, 0, 1024, 0] ![1, 1, 512, 1024] inb_S1x1x1536x1024_S1x1x512x1024_0_0_1024_0))) (ix2 r d)
      = Experts.mix (Ideal.ofBits .f32 (x0 (ix3 4 ⟨256 + r.val, by omega⟩ 0))) (Ideal.ofBits .f32 (x0 (ix3 4 ⟨256 + r.val, by omega⟩ 1))) (fun k => h (ix2 r k)) (fun k f => x3 (ix4 0 0 k f)) (fun k f => x4 (ix4 0 0 k f)) d := by
  pointwise [k0_pay30, k0_pay18, k0_pay19, k0_pay40, k0_pay10, k0_pay11, k0_pay14, k0_pay15, k0_pay16, Experts.mix, Experts.expert, Experts.hidden, Experts.first]

/-- What a busy point leaves at an element of its block of rows: row `y 1 / 2` of the block mixed from its tile's two
    experts; the elements of a packed pair lie in rows `2 r` and `2 r + 1`. -/
def blockRows (x0 : Vec Ideal S5x512x128 .i32) (x1 x2 x3 x4 : Vec Ideal S1x1x1536x1024 .bf16) (y : S4x1024x128.Idx) : EReal :=
  let r : Fin 512 := ⟨(y 1).val / 2, by have := (y 1).isLt; change (y 1).val < 1024 at this; omega⟩
  let d : Fin 1024 := ⟨512 * ((y 1).val % 2) + 128 * (y 0).val + (y 2).val, by
    have h0 := (y 0).isLt; have h2 := (y 2).isLt
    change (y 0).val < 4 at h0; change (y 2).val < 128 at h2; omega⟩
  Experts.mix (Ideal.ofBits .f32 (x0 (ix3 4 r 0))) (Ideal.ofBits .f32 (x0 (ix3 4 r 1)))
    (Experts.column fun s l => x0 (ix3 ⟨s.val, by omega⟩ r l))
    (fun k f => if (y 1).val < 512 then x1 (ix4 0 0 k f) else x3 (ix4 0 0 k f))
    (fun k f => if (y 1).val < 512 then x2 (ix4 0 0 k f) else x4 (ix4 0 0 k f)) d

/-- An element of the first tile's accumulator in its place. -/
theorem core0 (x0 : Vec Ideal S5x512x128 .i32) (x1 x2 x3 x4 : Vec Ideal S1x1x1536x1024 .bf16) (y : S4x1024x128.Idx) (r : Fin 256) (d : Fin 1024)
    (h1 : (y 1).val = 2 * r.val + d.val / 512) (h2 : d.val % 512 = 128 * (y 0).val + (y 2).val) :
    k0_pay22 (F := Ideal) (k0_pay17 (F := Ideal) (k0_pay13 (k0_pay6 (F := Ideal) (View.ld x0 (Rect.unit ![0, 0, 0] ![1, 256, 128] inb_S5x512x128_S1x256x128_0_0_0)) (View.ld x0 (Rect.unit ![1, 0, 0] ![1, 256, 128] inb_S5x512x128_S1x256x128_1_0_0)) (View.ld x0 (Rect.unit ![2, 0, 0] ![1, 256, 128] inb_S5x512x128_S1x256x128_2_0_0)) (View.ld x0 (Rect.unit ![3, 0, 0] ![1, 256, 128] inb_S5x512x128_S1x256x128_3_0_0))) (View.ld x2 (Rect.unit ![0, 0, 0, 0] ![1, 1, 1024, 1024] inb_S1x1x1536x1024_S1x1x1024x1024_0_0_0_0))) (View.ld x2 (Rect.unit ![0, 0, 1024, 0] ![1, 1, 512, 1024] inb_S1x1x1536x1024_S1x1x512x1024_0_0_1024_0))) (k0_pay20 (F := Ideal) (k0_pay39 (View.ld x0 (Rect.unit ![4, 0, 0] ![1, 256, 128] inb_S5x512x128_S1x256x128_4_0_0))) (k0_pay12 (k0_pay9 (k0_pay6 (F := Ideal) (View.ld x0 (Rect.unit ![0, 0, 0] ![1, 256, 128] inb_S5x512x128_S1x256x128_0_0_0)) (View.ld x0 (Rect.unit ![1, 0, 0] ![1, 256, 128] inb_S5x512x128_S1x256x128_1_0_0)) (View.ld x0 (Rect.unit ![2, 0, 0] ![1, 256, 128] inb_S5x512x128_S1x256x128_2_0_0)) (View.ld x0 (Rect.unit ![3, 0, 0] ![1, 256, 128] inb_S5x512x128_S1x256x128_3_0_0))) (View.ld x1 (Rect.unit ![0, 0, 0, 0] ![1, 1, 1024, 1024] inb_S1x1x1536x1024_S1x1x1024x1024_0_0_0_0)))) (View.ld x1 (Rect.unit ![0, 0, 1024, 0] ![1, 1, 512, 1024] inb_S1x1x1536x1024_S1x1x512x1024_0_0_1024_0))) (k0_pay21 (F := Ideal) (k0_pay39 (View.ld x0 (Rect.unit ![4, 0, 0] ![1, 256, 128] inb_S5x512x128_S1x256x128_4_0_0)))) (ix2 r d) = blockRows x0 x1 x2 x3 x4 y := by
  have hd := d.isLt
  have hr := r.isLt
  have e1 : (y 1).val / 2 = r.val := by omega
  have e2 : 512 * ((y 1).val % 2) + 128 * (y 0).val + (y 2).val = d.val := by omega
  have e3 : (y 1).val < 512 := by omega
  rw [sum0]
  simp only [row0]
  unfold blockRows
  simp only [e1, e2, e3, if_true]

/-- An element of the second tile's accumulator in its place. -/
theorem core1 (x0 : Vec Ideal S5x512x128 .i32) (x1 x2 x3 x4 : Vec Ideal S1x1x1536x1024 .bf16) (y : S4x1024x128.Idx) (r : Fin 256) (d : Fin 1024)
    (h1 : (y 1).val = 512 + 2 * r.val + d.val / 512) (h2 : d.val % 512 = 128 * (y 0).val + (y 2).val) :
    k0_pay30 (F := Ideal) (k0_pay40 (F := Ideal) (View.ld x0 (Rect.unit ![4, 256, 0] ![1, 256, 128] inb_S5x512x128_S1x256x128_4_256_0))) (k0_pay18 (F := Ideal) (k0_pay10 (k0_pay8 (F := Ideal) (k0_pay7 (F := Ideal) (View.ld x0 (Rect.unit ![0, 256, 0] ![1, 256, 128] inb_S5x512x128_S1x256x128_0_256_0))) (View.ld x0 (Rect.unit ![1, 256, 0] ![1, 256, 128] inb_S5x512x128_S1x256x128_1_256_0)) (View.ld x0 (Rect.unit ![2, 256, 0] ![1, 256, 128] inb_S5x512x128_S1x256x128_2_256_0)) (View.ld x0 (Rect.unit ![3, 256, 0] ![1, 256, 128] inb_S5x512x128_S1x256x128_3_256_0))) (View.ld x3 (Rect.unit ![0, 0, 0, 0] ![1, 1, 1024, 1024] inb_S1x1x1536x1024_S1x1x1024x1024_0_0_0_0))) (k0_pay14 (k0_pay8 (F := Ideal) (k0_pay7 (F := Ideal) (View.ld x0 (Rect.unit ![0, 256, 0] ![1, 256, 128] inb_S5x512x128_S1x256x128_0_256_0))) (View.ld x0 (Rect.unit ![1, 256, 0] ![1, 256, 128] inb_S5x512x128_S1x256x128_1_256_0)) (View.ld x0 (Rect.unit ![2, 256, 0] ![1, 256, 128] inb_S5x512x128_S1x256x128_2_256_0)) (View.ld x0 (Rect.unit ![3, 256, 0] ![1, 256, 128] inb_S5x512x128_S1x256x128_3_256_0))) (View.ld x3 (Rect.unit ![0, 0, 0, 0] ![1, 1, 1024, 1024] inb_S1x1x1536x1024_S1x1x1024x1024_0_0_0_0))) (k0_pay15 (k0_pay8 (F := Ideal) (k0_pay7 (F := Ideal) (View.ld x0 (Rect.unit ![0, 256, 0] ![1, 256, 128] inb_S5x512x128_S1x256x128_0_256_0))) (View.ld x0 (Rect.unit ![1, 256, 0] ![1, 256, 128] inb_S5x512x128_S1x256x128_1_256_0)) (View.ld x0 (Rect.unit ![2, 256, 0] ![1, 256, 128] inb_S5x512x128_S1x256x128_2_256_0)) (View.ld x0 (Rect.unit ![3, 256, 0] ![1, 256, 128] inb_S5x512x128_S1x256x128_3_256_0))) (View.ld x3 (Rect.unit ![0, 0, 0, 0] ![1, 1, 1024, 1024] inb_S1x1x1536x1024_S1x1x1024x1024_0_0_0_0))) k0_pay16 (View.ld x3 (Rect.unit ![0, 0, 1024, 0] ![1, 1, 512, 1024] inb_S1x1x1536x1024_S1x1x512x1024_0_0_1024_0))) (k0_pay19 (F := Ideal) (k0_pay11 (k0_pay8 (F := Ideal) (k0_pay7 (F := Ideal) (View.ld x0 (Rect.unit ![0, 256, 0] ![1, 256, 128] inb_S5x512x128_S1x256x128_0_256_0))) (View.ld x0 (Rect.unit ![1, 256, 0] ![1, 256, 128] inb_S5x512x128_S1x256x128_1_256_0)) (View.ld x0 (Rect.unit ![2, 256, 0] ![1, 256, 128] inb_S5x512x128_S1x256x128_2_256_0)) (View.ld x0 (Rect.unit ![3, 256, 0] ![1, 256, 128] inb_S5x512x128_S1x256x128_3_256_0))) (View.ld x4 (Rect.unit ![0, 0, 0, 0] ![1, 1, 1024, 1024] inb_S1x1x1536x1024_S1x1x1024x1024_0_0_0_0))) (View.ld x4 (Rect.unit ![0, 0, 1024, 0] ![1, 1, 512, 1024] inb_S1x1x1536x1024_S1x1x512x1024_0_0_1024_0))) (ix2 r d) = blockRows x0 x1 x2 x3 x4 y := by
  have hd := d.isLt
  have hr := r.isLt
  have e1 : (y 1).val / 2 = 256 + r.val := by omega
  have e2 : 512 * ((y 1).val % 2) + 128 * (y 0).val + (y 2).val = d.val := by omega
  have e3 : ¬ (y 1).val < 512 := by omega
  rw [sum1]
  simp only [row1]
  unfold blockRows
  simp only [e1, e2, e3, if_false]

end Cert.KernelIdeal.Moe

end

end
-- ==== Proof.IdealRows.lean ====
/- The block of rows a busy grid point leaves, element by element. -/
module

public import proofs.«01_k».proof.Proof.IdealFrame
public import Idealize.ShloMosaic.Lib.Pointwise
public import Idealize.ShloMosaic.Lib.Pipeline.ValueKit
public import proofs.«01_k».proof.Proof.IdealTile
@[expose] public section

set_option maxRecDepth 16384

noncomputable section

namespace Cert.KernelIdeal.Moe

open Idealize.ShloMosaic Idealize.ShloMosaic.TcCoe Idealize.ShloMosaic.Tactic
open Idealize.SL Idealize.SL.Sem
open Idealize.ShloMosaic.Pipeline (Dat Cfg Window)
open Cert.KernelIdeal.Gen

set_option maxHeartbeats 1000000 in
/-- The rows a busy point leaves, element by element. -/
theorem rowsA (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec Ideal S5x512x128 .i32) (x1 : Vec Ideal S1x1x1536x1024 .bf16) (x2 : Vec Ideal S1x1x1536x1024 .bf16) (x3 : Vec Ideal S1x1x1536x1024 .bf16) (x4 : Vec Ideal S1x1x1536x1024 .bf16) (xt0 : TblBuf (F := Ideal) c T0) (xt1 : TblBuf (F := Ideal) c T1) (xt2 : TblBuf (F := Ideal) c T2)
    (hc0 : k0_cond1 (nrows0 (F := Ideal) c i xt2) (nrows1 (F := Ideal) c i xt2) = 1#1) (hc1 : ¬k0_cond2 (nrows0 (F := Ideal) c i xt2) (nrows1 (F := Ideal) c i xt2) = 1#1) (y : S4x1024x128.Idx) :
    VO5.read (Elt Ideal) (VO5.writes (Elt Ideal) VO5.junk (runA c i arg4 harg4 arg5 harg5 arg6 harg6 arg7 harg7 arg8 harg8 arg9 harg9 arg10 harg10 x0 x1 x2 x3 x4 xt0 xt1 xt2 hc0 hc1).1) y = blockRows x0 x1 x2 x3 x4 y := by
  frame_out
  canon_tiles x h
  case piece0 =>
    pointwise [k0_pay25, k0_pay26, k0_pay28, k0_pay27, k0_pay29, k0_pay23, k0_pay24, k0_pay1, k0_pay2, k0_pay3, k0_pay4, k0_pay31, k0_pay32, k0_pay33, k0_pay34, k0_pay35, k0_pay36, k0_pay37, k0_pay38]
    split_ifs
    · refine core1 x0 x1 x2 x3 x4 y _ _ ?_ ?_ <;> (simp only []; omega)
    · refine core1 x0 x1 x2 x3 x4 y _ _ ?_ ?_ <;> (simp only []; omega)
  case piece1 =>
    pointwise [k0_pay25, k0_pay26, k0_pay28, k0_pay27, k0_pay29, k0_pay23, k0_pay24, k0_pay1, k0_pay2, k0_pay3, k0_pay4, k0_pay31, k0_pay32, k0_pay33, k0_pay34, k0_pay35, k0_pay36, k0_pay37, k0_pay38]
    split_ifs
    · refine core1 x0 x1 x2 x3 x4 y _ _ ?_ ?_ <;> (simp only []; omega)
    · refine core1 x0 x1 x2 x3 x4 y _ _ ?_ ?_ <;> (simp only []; omega)
  case piece2 =>
    pointwise [k0_pay25, k0_pay26, k0_pay28, k0_pay27, k0_pay29, k0_pay23, k0_pay24, k0_pay1, k0_pay2, k0_pay3, k0_pay4, k0_pay31, k0_pay32, k0_pay33, k0_pay34, k0_pay35, k0_pay36, k0_pay37, k0_pay38]
    split_ifs
    · refine core1 x0 x1 x2 x3 x4 y _ _ ?_ ?_ <;> (simp only []; omega)
    · refine core1 x0 x1 x2 x3 x4 y _ _ ?_ ?_ <;> (simp only []; omega)
  case piece3 =>
    pointwise [k0_pay25, k0_pay26, k0_pay28, k0_pay27, k0_pay29, k0_pay23, k0_pay24, k0_pay1, k0_pay2, k0_pay3, k0_pay4, k0_pay31, k0_pay32, k0_pay33, k0_pay34, k0_pay35, k0_pay36, k0_pay37, k0_pay38]
    split_ifs
    · refine core1 x0 x1 x2 x3 x4 y _ _ ?_ ?_ <;> (simp only []; omega)
    · refine core1 x0 x1 x2 x3 x4 y _ _ ?_ ?_ <;> (simp only []; omega)
  case piece4 =>
    pointwise [k0_pay25, k0_pay26, k0_pay28, k0_pay27, k0_pay29, k0_pay23, k0_pay24, k0_pay1, k0_pay2, k0_pay3, k0_pay4, k0_pay31, k0_pay32, k0_pay33, k0_pay34, k0_pay35, k0_pay36, k0_pay37, k0_pay38]
    split_ifs
    · refine core0 x0 x1 x2 x3 x4 y _ _ ?_ ?_ <;> (simp only []; omega)
    · refine core0 x0 x1 x2 x3 x4 y _ _ ?_ ?_ <;> (simp only []; omega)
  case piece5 =>
    pointwise [k0_pay25, k0_pay26, k0_pay28, k0_pay27, k0_pay29, k0_pay23, k0_pay24, k0_pay1, k0_pay2, k0_pay3, k0_pay4, k0_pay31, k0_pay32, k0_pay33, k0_pay34, k0_pay35, k0_pay36, k0_pay37, k0_pay38]
    split_ifs
    · refine core0 x0 x1 x2 x3 x4 y _ _ ?_ ?_ <;> (simp only []; omega)
    · refine core0 x0 x1 x2 x3 x4 y _ _ ?_ ?_ <;> (simp only []; omega)
  case piece6 =>
    pointwise [k0_pay25, k0_pay26, k0_pay28, k0_pay27, k0_pay29, k0_pay23, k0_pay24, k0_pay1, k0_pay2, k0_pay3, k0_pay4, k0_pay31, k0_pay32, k0_pay33, k0_pay34, k0_pay35, k0_pay36, k0_pay37, k0_pay38]
    split_ifs
    · refine core0 x0 x1 x2 x3 x4 y _ _ ?_ ?_ <;> (simp only []; omega)
    · refine core0 x0 x1 x2 x3 x4 y _ _ ?_ ?_ <;> (simp only []; omega)
  case piece7 =>
    pointwise [k0_pay25, k0_pay26, k0_pay28, k0_pay27, k0_pay29, k0_pay23, k0_pay24, k0_pay1, k0_pay2, k0_pay3, k0_pay4, k0_pay31, k0_pay32, k0_pay33, k0_pay34, k0_pay35, k0_pay36, k0_pay37, k0_pay38]
    split_ifs
    · refine core0 x0 x1 x2 x3 x4 y _ _ ?_ ?_ <;> (simp only []; omega)
    · refine core0 x0 x1 x2 x3 x4 y _ _ ?_ ?_ <;> (simp only []; omega)

end Cert.KernelIdeal.Moe

end

end
-- ==== Proof.IdealToks.lean ====
/- The token words a grid point leaves, element by element, whether its tiles hold tokens or not. -/
module

public import proofs.«01_k».proof.Proof.IdealFrame
public import Idealize.ShloMosaic.Lib.Pointwise
public import Idealize.ShloMosaic.Lib.Pipeline.ValueKit
public import proofs.«01_k».proof.Proof.Mixture
@[expose] public section

set_option maxRecDepth 16384

noncomputable section

namespace Cert.KernelIdeal.Moe

open Idealize.ShloMosaic Idealize.ShloMosaic.TcCoe Idealize.ShloMosaic.Tactic
open Idealize.SL Idealize.SL.Sem
open Idealize.ShloMosaic.Pipeline (Dat Cfg Window)
open Cert.KernelIdeal.Gen

/-- The word of the third table for tile `j` of point `i`. -/
def rowsOf (c : Dev nD) (xt2 : TblBuf (F := Ideal) c T2) (i : grid0.Coords) (j : Fin 2) : BitVec 32 :=
  (show IVec S156 32 from xt2) (ix1 ⟨2 * (i 0).val + j.val, by have := (i 0).isLt; change (i 0).val < 78 at this; omega⟩)

/-- What a point leaves in its block of token words. -/
def blockToks (c : Dev nD) (i : grid0.Coords) (xt2 : TblBuf (F := Ideal) c T2) (x0 : Vec Ideal S5x512x128 .i32) (y : S2x2x128.Idx) : BitVec 32 :=
  let j : Fin 2 := y 0
  let r : Fin 256 := ⟨128 * (y 1).val + (y 2).val, by
    have h1 := (y 1).isLt; have h2 := (y 2).isLt
    change (y 1).val < 2 at h1; change (y 2).val < 128 at h2; omega⟩
  Experts.token (2 * (i 0).val + j.val) (rowsOf c xt2 i j) (x0 (ix3 4 ⟨256 * j.val + r.val, by have := j.isLt; omega⟩ 2)) r.val

theorem off2_0 (i : grid0.Coords) : k0_off2 i 0#32 = ![2 * (i 0).val] := by
  revert i; decide +kernel
theorem off2_1 (i : grid0.Coords) : k0_off2 i 1#32 = ![2 * (i 0).val + 1] := by
  revert i; decide +kernel
theorem off3 (i : grid0.Coords) : k0_off3 i = ![2 * (i 0).val] := by
  revert i; decide +kernel

/-- The kernel's own remainder, signs and all, is the spare row's number: the first tile of a point. -/
theorem spare0 (i : grid0.Coords) :
    Scalar.addi (33280#32)
    (Scalar.muli
      (Scalar.select
        (Scalar.andi
          (Scalar.xori
            (Scalar.cmpi CmpIPredicate.slt (Scalar.remsi (Scalar.addi (Scalar.muli (BitVec.ofNat 32 (i 0).val) 2#32) 0#32) (Scalar.select (Scalar.cmpi CmpIPredicate.eq 14#32 0#32) 1#32 14#32)) 0#32)
            (Scalar.cmpi CmpIPredicate.slt (Scalar.select (Scalar.cmpi CmpIPredicate.eq 14#32 0#32) 1#32 14#32) 0#32))
          (Scalar.cmpi CmpIPredicate.ne (Scalar.remsi (Scalar.addi (Scalar.muli (BitVec.ofNat 32 (i 0).val) 2#32) 0#32) (Scalar.select (Scalar.cmpi CmpIPredicate.eq 14#32 0#32) 1#32 14#32)) 0#32))
        (Scalar.addi (Scalar.remsi (Scalar.addi (Scalar.muli (BitVec.ofNat 32 (i 0).val) 2#32) 0#32) (Scalar.select (Scalar.cmpi CmpIPredicate.eq 14#32 0#32) 1#32 14#32))
          (Scalar.select (Scalar.cmpi CmpIPredicate.eq 14#32 0#32) 1#32 14#32))
        (Scalar.remsi (Scalar.addi (Scalar.muli (BitVec.ofNat 32 (i 0).val) 2#32) 0#32) (Scalar.select (Scalar.cmpi CmpIPredicate.eq 14#32 0#32) 1#32 14#32)))
      256#32) = Experts.spare (2 * (i 0).val) := by
  revert i; decide +kernel

/-- The same for the second tile. -/
theorem spare1 (i : grid0.Coords) :
    Scalar.addi (33280#32)
    (Scalar.muli
      (Scalar.select
        (Scalar.andi
          (Scalar.xori
            (Scalar.cmpi CmpIPredicate.slt (Scalar.remsi (Scalar.addi (Scalar.muli (BitVec.ofNat 32 (i 0).val) 2#32) 1#32) (Scalar.select (Scalar.cmpi CmpIPredicate.eq 14#32 0#32) 1#32 14#32)) 0#32)
            (Scalar.cmpi CmpIPredicate.slt (Scalar.select (Scalar.cmpi CmpIPredicate.eq 14#32 0#32) 1#32 14#32) 0#32))
          (Scalar.cmpi CmpIPredicate.ne (Scalar.remsi (Scalar.addi (Scalar.muli (BitVec.ofNat 32 (i 0).val) 2#32) 1#32) (Scalar.select (Scalar.cmpi CmpIPredicate.eq 14#32 0#32) 1#32 14#32)) 0#32))
        (Scalar.addi (Scalar.remsi (Scalar.addi (Scalar.muli (BitVec.ofNat 32 (i 0).val) 2#32) 1#32) (Scalar.select (Scalar.cmpi CmpIPredicate.eq 14#32 0#32) 1#32 14#32))
          (Scalar.select (Scalar.cmpi CmpIPredicate.eq 14#32 0#32) 1#32 14#32))
        (Scalar.remsi (Scalar.addi (Scalar.muli (BitVec.ofNat 32 (i 0).val) 2#32) 1#32) (Scalar.select (Scalar.cmpi CmpIPredicate.eq 14#32 0#32) 1#32 14#32)))
      256#32) = Experts.spare (2 * (i 0).val + 1) := by
  revert i; decide +kernel

/-- The table word the kernel loads for a point's first tile. -/
theorem word0 (c : Dev nD) (i : grid0.Coords) (xt2 : TblBuf (F := Ideal) c T2) :
    View.ld (View.read (Elt Ideal) (View.whole main_arg3) xt2) (Rect.unit (s := S156) (k0_off2 i 0#32) S1.size (k0_off2_inb i 0)) (Shape.Idx.first (show 0 < S1.numel by decide)) = rowsOf c xt2 i 0 := by
  pointwise [rowsOf]
  show xt2 _ = xt2 _
  congr 1
  blk_ext [off2_0]

/-- … and for its second tile. -/
theorem word1 (c : Dev nD) (i : grid0.Coords) (xt2 : TblBuf (F := Ideal) c T2) :
    View.ld (View.read (Elt Ideal) (View.whole main_arg3) xt2) (Rect.unit (s := S156) (k0_off2 i 1#32) S1.size (k0_off2_inb i 1)) (Shape.Idx.first (show 0 < S1.numel by decide)) = rowsOf c xt2 i 1 := by
  pointwise [rowsOf]
  show xt2 _ = xt2 _
  congr 1
  blk_ext [off2_1]

theorem tok00 (i : grid0.Coords) (x0 : Vec Ideal S5x512x128 .i32) (nv : BitVec 32) (x : S1x1x128.Idx) :
    k0_pay42 (F := Ideal) i (View.ld x0 (Rect.unit ![4, 0, 0] ![1, 256, 128] inb_S5x512x128_S1x256x128_4_0_0)) nv x = Experts.token (2 * (i 0).val) nv (x0 (ix3 4 ⟨(x 2).val, by have := (x 2).isLt; change (x 2).val < 128 at this; omega⟩ 2)) (x 2).val := by
  pointwise [k0_pay42, k0_pay41, k0_pay39, Experts.token]
  rw [spare0]
theorem tok01 (i : grid0.Coords) (x0 : Vec Ideal S5x512x128 .i32) (nv : BitVec 32) (x : S1x1x128.Idx) :
    k0_pay44 (k0_pay43 (F := Ideal) i (View.ld x0 (Rect.unit ![4, 0, 0] ![1, 256, 128] inb_S5x512x128_S1x256x128_4_0_0)) nv) x = Experts.token (2 * (i 0).val) nv (x0 (ix3 4 ⟨128 + (x 2).val, by have := (x 2).isLt; change (x 2).val < 128 at this; omega⟩ 2)) (128 + (x 2).val) := by
  pointwise [k0_pay44, k0_pay43, k0_pay41, k0_pay39, Experts.token]
  rw [spare0]
theorem tok10 (i : grid0.Coords) (x0 : Vec Ideal S5x512x128 .i32) (nv : BitVec 32) (x : S1x1x128.Idx) :
    k0_pay46 (F := Ideal) (BitVec.ofNat 32 (i 0).val) (k0_pay40 (View.ld x0 (Rect.unit ![4, 256, 0] ![1, 256, 128] inb_S5x512x128_S1x256x128_4_256_0))) (iota Kind.tc S1x256 32 [1] iota_S1x256_d1_w32) nv x = Experts.token (2 * (i 0).val + 1) nv (x0 (ix3 4 ⟨256 + (x 2).val, by have := (x 2).isLt; change (x 2).val < 128 at this; omega⟩ 2)) (x 2).val := by
  pointwise [k0_pay46, k0_pay45, k0_pay40, Experts.token]
  rw [spare1]
theorem tok11 (i : grid0.Coords) (x0 : Vec Ideal S5x512x128 .i32) (nv : BitVec 32) (x : S1x1x128.Idx) :
    k0_pay47 (F := Ideal) (BitVec.ofNat 32 (i 0).val) (k0_pay40 (View.ld x0 (Rect.unit ![4, 256, 0] ![1, 256, 128] inb_S5x512x128_S1x256x128_4_256_0))) (iota Kind.tc S1x256 32 [1] iota_S1x256_d1_w32) nv x = Experts.token (2 * (i 0).val + 1) nv (x0 (ix3 4 ⟨384 + (x 2).val, by have := (x 2).isLt; change (x 2).val < 128 at this; omega⟩ 2)) (128 + (x 2).val) := by
  pointwise [k0_pay47, k0_pay45, k0_pay40, Experts.token]
  rw [spare1]
  try blk_point []

/-- A block's token word at a named tile and row. -/
theorem blockToks_at (c : Dev nD) (i : grid0.Coords) (xt2 : TblBuf (F := Ideal) c T2) (x0 : Vec Ideal S5x512x128 .i32) (y : S2x2x128.Idx)
    (j : Fin 2) (q : Fin 512) (r : ℕ) (hj : (y 0).val = j.val) (hr : 128 * (y 1).val + (y 2).val = r) (hq : q.val = 256 * j.val + r) :
    blockToks c i xt2 x0 y = Experts.token (2 * (i 0).val + j.val) (rowsOf c xt2 i j) (x0 (ix3 4 q 2)) r := by
  obtain rfl : y 0 = j := Fin.ext hj
  subst hr
  have e : q = ⟨256 * (y 0).val + (128 * (y 1).val + (y 2).val), hq ▸ q.isLt⟩ := Fin.ext hq
  rw [e]
  rfl

/-- The token words a busy point leaves. -/
theorem toksA (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec Ideal S5x512x128 .i32) (x1 : Vec Ideal S1x1x1536x1024 .bf16) (x2 : Vec Ideal S1x1x1536x1024 .bf16) (x3 : Vec Ideal S1x1x1536x1024 .bf16) (x4 : Vec Ideal S1x1x1536x1024 .bf16) (xt0 : TblBuf (F := Ideal) c T0) (xt1 : TblBuf (F := Ideal) c T1) (xt2 : TblBuf (F := Ideal) c T2)
    (hc0 : k0_cond1 (nrows0 (F := Ideal) c i xt2) (nrows1 (F := Ideal) c i xt2) = 1#1) (hc1 : ¬k0_cond2 (nrows0 (F := Ideal) c i xt2) (nrows1 (F := Ideal) c i xt2) = 1#1) (y : S2x2x128.Idx) :
    VO6.read (Elt Ideal) (VO6.writes (Elt Ideal) VO6.junk (runA c i arg4 harg4 arg5 harg5 arg6 harg6 arg7 harg7 arg8 harg8 arg9 harg9 arg10 harg10 x0 x1 x2 x3 x4 xt0 xt1 xt2 hc0 hc1).2.1) y = blockToks c i xt2 x0 y := by
  frame_out
  canon_tiles x h
  case piece0 =>
    refine (tok11 i x0 _ x).trans ?_
    rw [blockToks_at c i xt2 x0 y 1 ⟨384 + (x 2).val, by omega⟩ (128 + (x 2).val) (by omega) (by omega) (by simp only []; omega)]
    exact congrArg (fun nv => Experts.token (2 * (i 0).val + 1) nv _ _) (word1 c i xt2)
  case piece1 =>
    refine (tok10 i x0 _ x).trans ?_
    rw [blockToks_at c i xt2 x0 y 1 ⟨256 + (x 2).val, by omega⟩ ((x 2).val) (by omega) (by omega) (by simp only []; omega)]
    exact congrArg (fun nv => Experts.token (2 * (i 0).val + 1) nv _ _) (word1 c i xt2)
  case piece2 =>
    refine (tok01 i x0 _ x).trans ?_
    rw [blockToks_at c i xt2 x0 y 0 ⟨128 + (x 2).val, by omega⟩ (128 + (x 2).val) (by omega) (by omega) (by simp only []; omega)]
    exact congrArg (fun nv => Experts.token (2 * (i 0).val + 0) nv _ _) (word0 c i xt2)
  case piece3 =>
    refine (tok00 i x0 _ x).trans ?_
    rw [blockToks_at c i xt2 x0 y 0 ⟨(x 2).val, by omega⟩ ((x 2).val) (by omega) (by omega) (by simp only []; omega)]
    exact congrArg (fun nv => Experts.token (2 * (i 0).val + 0) nv _ _) (word0 c i xt2)

/-- The token words an idle point leaves. -/
theorem toksB (c : Dev nD) (i : grid0.Coords) (arg4 : Memref sig .tc .vmem S5x512x128 .i32) (harg4 : arg4.IsWhole) (arg5 : Memref sig .tc .vmem S1x1x1536x1024 .bf16) (harg5 : arg5.IsWhole) (arg6 : Memref sig .tc .vmem S1x1x1536x1024 .bf16) (harg6 : arg6.IsWhole) (arg7 : Memref sig .tc .vmem S1x1x1536x1024 .bf16) (harg7 : arg7.IsWhole) (arg8 : Memref sig .tc .vmem S1x1x1536x1024 .bf16) (harg8 : arg8.IsWhole) (arg9 : Memref sig .tc .vmem S4x1024x128 .bf16) (harg9 : arg9.IsWhole) (arg10 : Memref sig .tc .vmem S2x2x128 .i32) (harg10 : arg10.IsWhole)
    (x0 : Vec Ideal S5x512x128 .i32) (x1 : Vec Ideal S1x1x1536x1024 .bf16) (x2 : Vec Ideal S1x1x1536x1024 .bf16) (x3 : Vec Ideal S1x1x1536x1024 .bf16) (x4 : Vec Ideal S1x1x1536x1024 .bf16) (xt0 : TblBuf (F := Ideal) c T0) (xt1 : TblBuf (F := Ideal) c T1) (xt2 : TblBuf (F := Ideal) c T2)
    (hc0 : ¬k0_cond1 (nrows0 (F := Ideal) c i xt2) (nrows1 (F := Ideal) c i xt2) = 1#1) (hc1 : k0_cond2 (nrows0 (F := Ideal) c i xt2) (nrows1 (F := Ideal) c i xt2) = 1#1) (y : S2x2x128.Idx) :
    VO6.read (Elt Ideal) (VO6.writes (Elt Ideal) VO6.junk (runB c i arg4 harg4 arg5 harg5 arg6 harg6 arg7 harg7 arg8 harg8 arg9 harg9 arg10 harg10 x0 x1 x2 x3 x4 xt0 xt1 xt2 hc0 hc1).2.1) y = blockToks c i xt2 x0 y := by
  frame_out
  canon_tiles x h
  case piece0 =>
    refine (tok11 i x0 _ x).trans ?_
    rw [blockToks_at c i xt2 x0 y 1 ⟨384 + (x 2).val, by omega⟩ (128 + (x 2).val) (by omega) (by omega) (by simp only []; omega)]
    exact congrArg (fun nv => Experts.token (2 * (i 0).val + 1) nv _ _) (word1 c i xt2)
  case piece1 =>
    refine (tok10 i x0 _ x).trans ?_
    rw [blockToks_at c i xt2 x0 y 1 ⟨256 + (x 2).val, by omega⟩ ((x 2).val) (by omega) (by omega) (by simp only []; omega)]
    exact congrArg (fun nv => Experts.token (2 * (i 0).val + 1) nv _ _) (word1 c i xt2)
  case piece2 =>
    refine (tok01 i x0 _ x).trans ?_
    rw [blockToks_at c i xt2 x0 y 0 ⟨128 + (x 2).val, by omega⟩ (128 + (x 2).val) (by omega) (by omega) (by simp only []; omega)]
    exact congrArg (fun nv => Experts.token (2 * (i 0).val + 0) nv _ _) (word0 c i xt2)
  case piece3 =>
    refine (tok00 i x0 _ x).trans ?_
    rw [blockToks_at c i xt2 x0 y 0 ⟨(x 2).val, by omega⟩ ((x 2).val) (by omega) (by omega) (by simp only []; omega)]
    exact congrArg (fun nv => Experts.token (2 * (i 0).val + 0) nv _ _) (word0 c i xt2)

end Cert.KernelIdeal.Moe

end

end
-- ==== Proof.IdealArrays.lean ====
module

public import proofs.«01_k».proof.Proof.IdealFrame
public import Idealize.ShloMosaic.Lib.Pointwise
public import Idealize.ShloMosaic.Lib.Pipeline.ValueKit
public import proofs.«01_k».proof.Proof.IdealBlocks
public import proofs.«01_k».proof.Proof.IdealRows
public import proofs.«01_k».proof.Proof.IdealToks
@[expose] public section

set_option maxRecDepth 16384

noncomputable section

namespace Cert.KernelIdeal.Moe

open Idealize.ShloMosaic Idealize.ShloMosaic.TcCoe Idealize.ShloMosaic.Tactic
open Idealize.SL Idealize.SL.Sem
open Idealize.ShloMosaic.Pipeline (Dat Cfg Window)
open Cert.KernelIdeal.Gen

variable (m : (ℓ : Loc nD τ sig) → Buf (Elt Ideal) ℓ)

theorem disjoint5 (hO : Ok m) : ∀ t t' : Fin (cfgM m hO).N, ((cfgM m hO).win 5).flush t = true → ((cfgM m hO).win 5).flush t' = true → t ≠ t' →
    Disjoint (((cfgM m hO).win 5).blk t).view.set (((cfgM m hO).win 5).blk t').view.set :=
  Window.hdisj_of_index_inj ((cfgM m hO).win 5) fun t t' _ _ h => by
    have e : cc0_transform_5 (grid0.coords t) 1 = cc0_transform_5 (grid0.coords t') 1 := congrFun h (1 : Fin 3)
    rw [step5, step5] at e
    exact Fin.ext e

theorem disjoint6 (hO : Ok m) : ∀ t t' : Fin (cfgM m hO).N, ((cfgM m hO).win 6).flush t = true → ((cfgM m hO).win 6).flush t' = true → t ≠ t' →
    Disjoint (((cfgM m hO).win 6).blk t).view.set (((cfgM m hO).win 6).blk t').view.set :=
  Window.hdisj_of_index_inj ((cfgM m hO).win 6) fun t t' _ _ h => by
    have e : cc0_transform_6 (grid0.coords t) 0 = cc0_transform_6 (grid0.coords t') 0 := congrFun h (0 : Fin 3)
    rw [step6, step6] at e
    exact Fin.ext e

/-- The rows array at the end, at one element: what its point's body left. -/
theorem rows_end (hO : Ok m) (c : Dev nD) (t : Fin (cfgM m hO).N) (s : Fin 4) (p : Fin 1024) (l : Fin 128) (q : Fin 79872) (hq : q.val = 1024 * t.val + p.val) :
    (show Vec Ideal S4x79872x128 .bf16 from (dats m hO 0 c).arrAt 5 (cfgM m hO).N) (ix3 s q l) = outRows m hO c t (ix3 s p l) := by
  have e : (show S4x79872x128.Idx from (((cfgM m hO).win 5).blk t).view.emb (ix3 s p l : S4x1024x128.Idx)) = ix3 s q l := by
    funext a
    apply Fin.ext
    fin_cases a
    · show cc0_transform_5 (grid0.coords t) 0 * 4 + 1 * s.val = s.val
      rw [step5]; show 0 * 4 + 1 * s.val = s.val; omega
    · show cc0_transform_5 (grid0.coords t) 1 * 1024 + 1 * p.val = q.val
      rw [step5]; show t.val * 1024 + 1 * p.val = q.val; omega
    · show cc0_transform_5 (grid0.coords t) 2 * 128 + 1 * l.val = l.val
      rw [step5]; show 0 * 128 + 1 * l.val = l.val; omega
  rw [← e]
  have h := (dats m hO 0 c).arrAt_emb_eq_flushed 5 (disjoint5 m hO) t (flush_rows _ t) (ix3 s p l : S4x1024x128.Idx)
  have a := after_5 m hO c t
  exact h.trans (congrFun a (ix3 s p l))

/-- The token words at the end, at one element. -/
theorem toks_end (hO : Ok m) (c : Dev nD) (t : Fin (cfgM m hO).N) (j g : Fin 2) (l : Fin 128) (n : Fin 156) (hn : n.val = 2 * t.val + j.val) :
    (show Vec Ideal S156x2x128 .i32 from (dats m hO 0 c).arrAt 6 (cfgM m hO).N) (ix3 n g l) = outToks m hO c t (ix3 j g l) := by
  have e : (show S156x2x128.Idx from (((cfgM m hO).win 6).blk t).view.emb (ix3 j g l : S2x2x128.Idx)) = ix3 n g l := by
    funext a
    apply Fin.ext
    fin_cases a
    · show cc0_transform_6 (grid0.coords t) 0 * 2 + 1 * j.val = n.val
      rw [step6]; show t.val * 2 + 1 * j.val = n.val; omega
    · show cc0_transform_6 (grid0.coords t) 1 * 2 + 1 * g.val = g.val
      rw [step6]; show 0 * 2 + 1 * g.val = g.val; omega
    · show cc0_transform_6 (grid0.coords t) 2 * 128 + 1 * l.val = l.val
      rw [step6]; show 0 * 128 + 1 * l.val = l.val; omega
  rw [← e]
  have h := (dats m hO 0 c).arrAt_emb_eq_flushed 6 (disjoint6 m hO) t (flush_toks _ t) (ix3 j g l : S2x2x128.Idx)
  have a := after_6 m hO c t
  exact h.trans (congrFun a (ix3 j g l))

theorem rowsOf_eq (c : Dev nD) (t : Fin grid0.N) (j : Fin 2) (n : Fin 156) (hn : n.val = 2 * t.val + j.val) :
    rowsOf c (tbl m 2) (grid0.coords t) j = valid m c n := by
  obtain rfl : c = 0 := Subsingleton.elim _ _
  unfold rowsOf valid
  show (show Vec Ideal S156 .i32 from m ((0 : Dev nD).tc.loc main_arg3)) _ = _
  congr 1
  funext a
  apply Fin.ext
  obtain rfl : a = 0 := Subsingleton.elim _ _
  show 2 * (grid0.coords t 0).val + j.val = n.val
  rw [coords_val, hn]

/-- Every token word. -/
theorem toks_final (hO : Ok m) (c : Dev nD) (n : Fin 156) (g : Fin 2) (l : Fin 128) :
    (show Vec Ideal S156x2x128 .i32 from (dats m hO 0 c).arrAt 6 (cfgM m hO).N) (ix3 n g l) = Experts.layerTok (rows m c) (valid m c) n g l := by
  have hN : (cfgM m hO).N = 78 := rfl
  let t : Fin (cfgM m hO).N := ⟨n.val / 2, by omega⟩
  let j : Fin 2 := ⟨n.val % 2, by omega⟩
  have hn : n.val = 2 * t.val + j.val := by show n.val = 2 * (n.val / 2) + n.val % 2; omega
  rw [toks_end m hO c t j g l n hn]
  have e : outToks m hO c t (ix3 j g l) = blockToks c (grid0.coords t) (tbl m 2) (iblk m hO c 0 t) (ix3 j g l) := by
    unfold outToks
    by_cases h : busy m hO c t
    · rw [dif_pos h]; exact toksA c (grid0.coords t) _ _ _ _ _ _ _ _ _ _ _ _ _ _ _ _ _ _ _ _ _ _ _ _ _
    · rw [dif_neg h]; exact toksB c (grid0.coords t) _ _ _ _ _ _ _ _ _ _ _ _ _ _ _ _ _ _ _ _ _ _ _ _ _
  rw [e]
  show Experts.token (2 * (grid0.coords t 0).val + j.val) (rowsOf c (tbl m 2) (grid0.coords t) j) ((show Vec Ideal S5x512x128 .i32 from iblk m hO c 0 t) (ix3 4 ⟨256 * j.val + (128 * g.val + l.val), by omega⟩ 2)) (128 * g.val + l.val) = _
  rw [rowsOf_eq m c t j n hn, iblk0_at m hO c t 4 _ 2 ⟨256 * n.val + (128 * g.val + l.val), by omega⟩ (by show 256 * n.val + (128 * g.val + l.val) = 512 * t.val + (256 * j.val + (128 * g.val + l.val)); omega), coords_val, ← hn]
  rfl

theorem positive (a : BitVec 32) (h : 0 < a.toInt) : Scalar.cmpi .sgt a 0#32 = 1#1 := by
  show BitVec.ofBool (BitVec.slt 0#32 a) = 1#1
  have e : BitVec.slt 0#32 a = true := by rw [BitVec.slt_iff_toInt_lt]; exact h
  rw [e]; rfl

theorem cond_left (a b : BitVec 32) (h : 0 < a.toInt) : k0_cond1 a b = 1#1 := by
  unfold k0_cond1
  simp only [positive a h]
  generalize Scalar.cmpi .sgt b 0#32 = x
  revert x; decide

theorem cond_right (a b : BitVec 32) (h : 0 < b.toInt) : k0_cond1 a b = 1#1 := by
  unfold k0_cond1
  simp only [positive b h]
  generalize Scalar.cmpi .sgt a 0#32 = x
  revert x; decide

/-- A point is busy where one of its tiles has a row. -/
theorem busy_of_valid (hO : Ok m) (c : Dev nD) (t : Fin (cfgM m hO).N) (j : Fin 2) (n : Fin 156) (hn : n.val = 2 * t.val + j.val)
    (h : 0 < (valid m c n).toInt) : busy m hO c t := by
  have e0 : nrows0 (F := Ideal) c (grid0.coords t) (tbl m 2) = rowsOf c (tbl m 2) (grid0.coords t) 0 := by
    unfold rowsOf
    show (show Vec Ideal S156 .i32 from tbl m 2) _ = _
    refine congrArg (show Vec Ideal S156 .i32 from tbl m 2) ?_
    funext a
    apply Fin.ext
    obtain rfl : a = (0 : Fin 1) := Subsingleton.elim (α := Fin 1) _ _
    show k0_off3 (grid0.coords t) 0 + 1 * 0 = 2 * (grid0.coords t 0).val + 0
    rw [off3]; rfl
  have e1 : nrows1 (F := Ideal) c (grid0.coords t) (tbl m 2) = rowsOf c (tbl m 2) (grid0.coords t) 1 := by
    unfold rowsOf
    show (show Vec Ideal S156 .i32 from tbl m 2) _ = _
    refine congrArg (show Vec Ideal S156 .i32 from tbl m 2) ?_
    funext a
    apply Fin.ext
    obtain rfl : a = (0 : Fin 1) := Subsingleton.elim (α := Fin 1) _ _
    show k0_off2 (grid0.coords t) 1#32 0 + 1 * 0 = 2 * (grid0.coords t 0).val + 1
    rw [off2_1]; rfl
  show k0_cond1 (nrows0 (F := Ideal) c (grid0.coords t) (tbl m 2)) (nrows1 (F := Ideal) c (grid0.coords t) (tbl m 2)) = 1#1
  rw [e0, e1]
  rw [← rowsOf_eq m c t j n hn] at h
  fin_cases j
  · exact cond_left _ _ h
  · exact cond_right _ _ h

/-- The rows of the tiles' own rows. -/
theorem rows_final (hO : Ok m) (hl : ∀ c n, (lo m c n).toNat < 16) (hh : ∀ c n, (hi m c n).toNat < 16) (c : Dev nD) (s : Fin 4) (q : Fin 79872) (l : Fin 128)
    (hv : 0 < (valid m c ⟨q.val / 512, by omega⟩).toInt) :
    (show Vec Ideal S4x79872x128 .bf16 from (dats m hO 0 c).arrAt 5 (cfgM m hO).N) (ix3 s q l) = Experts.layerRow (rows m c) (lo m c) (hi m c) (weight m c) s q l := by
  have hN : (cfgM m hO).N = 78 := rfl
  let t : Fin (cfgM m hO).N := ⟨q.val / 1024, by omega⟩
  let p : Fin 1024 := ⟨q.val % 1024, by omega⟩
  have hq : q.val = 1024 * t.val + p.val := by show q.val = 1024 * (q.val / 1024) + q.val % 1024; omega
  rw [rows_end m hO c t s p l q hq]
  have hb : busy m hO c t := busy_of_valid m hO c t ⟨q.val / 512 % 2, by omega⟩ ⟨q.val / 512, by omega⟩ (by show q.val / 512 = 2 * (q.val / 1024) + q.val / 512 % 2; omega) hv
  have e : outRows m hO c t (ix3 s p l) = blockRows (iblk m hO c 0 t) (iblk m hO c 1 t) (iblk m hO c 2 t) (iblk m hO c 3 t) (iblk m hO c 4 t) (ix3 s p l) := by
    unfold outRows
    rw [dif_pos hb]; exact rowsA c (grid0.coords t) _ _ _ _ _ _ _ _ _ _ _ _ _ _ _ _ _ _ _ _ _ _ _ _ _
  rw [e]
  have hr : q.val / 2 < 43520 := by omega
  have x0 : ∀ (s : Fin 5) (l : Fin 128), (show Vec Ideal S5x512x128 .i32 from iblk m hO c 0 t) (ix3 s ⟨p.val / 2, by omega⟩ l) = rows m c s ⟨q.val / 2, hr⟩ l := fun s l =>
    iblk0_at m hO c t s _ l _ (by show q.val / 2 = 512 * t.val + p.val / 2; omega)
  have w0 : (fun k f => if p.val < 512 then (show Vec Ideal S1x1x1536x1024 .bf16 from iblk m hO c 1 t) (ix4 0 0 k f) else (show Vec Ideal S1x1x1536x1024 .bf16 from iblk m hO c 3 t) (ix4 0 0 k f))
      = weight m c ⟨(lo m c ⟨q.val / 512, by omega⟩).toNat % 16, Nat.mod_lt _ (by decide)⟩ := by
    funext k f
    by_cases h : p.val < 512
    · rw [if_pos h]; refine iblk1_at m hO c t k f _ ?_ hl
      congr 4; omega
    · rw [if_neg h]; refine iblk3_at m hO c t k f _ ?_ hl
      congr 4; omega
  have w1 : (fun k f => if p.val < 512 then (show Vec Ideal S1x1x1536x1024 .bf16 from iblk m hO c 2 t) (ix4 0 0 k f) else (show Vec Ideal S1x1x1536x1024 .bf16 from iblk m hO c 4 t) (ix4 0 0 k f))
      = weight m c ⟨(hi m c ⟨q.val / 512, by omega⟩).toNat % 16, Nat.mod_lt _ (by decide)⟩ := by
    funext k f
    by_cases h : p.val < 512
    · rw [if_pos h]; refine iblk2_at m hO c t k f _ ?_ hh
      congr 4; omega
    · rw [if_neg h]; refine iblk4_at m hO c t k f _ ?_ hh
      congr 4; omega
  unfold Experts.layerRow
  rw [← w0, ← w1, ← x0 4 0, ← x0 4 1]
  have hd : (⟨512 * (q.val % 2) + 128 * s.val + l.val, by omega⟩ : Fin 1024) = ⟨512 * (p.val % 2) + 128 * s.val + l.val, by omega⟩ := Fin.ext (by show 512 * (q.val % 2) + 128 * s.val + l.val = 512 * (p.val % 2) + 128 * s.val + l.val; omega)
  rw [hd]
  have hc : (fun (s : Fin 4) (l : Fin 128) => rows m c ⟨s.val, by omega⟩ ⟨q.val / 2, hr⟩ l) = fun s l => (show Vec Ideal S5x512x128 .i32 from iblk m hO c 0 t) (ix3 ⟨s.val, by omega⟩ ⟨p.val / 2, by omega⟩ l) := by
    funext s l; rw [x0]
  rw [hc]
  rfl

end Cert.KernelIdeal.Moe

end

end
-- ==== Proof.ReferenceRows.lean ====
/- The reference's result rows at an index. The composed term is read in stages: the rows' values, the products, the gated
   hidden values, each expert's output, the combine weights, their sum over the experts, and the layout. -/
module

public import proofs.«01_k».proof.Proof.Gen.ReferenceIdeal.Run
public import proofs.«01_k».proof.Proof.Mixture
public import Idealize.ShloMosaic.Lib.Pointwise

@[expose] public section

set_option maxRecDepth 16384

noncomputable section

namespace Cert.ReferenceIdeal.Moe

open Cert.ReferenceIdeal Cert.ReferenceIdeal.Gen Cert.ReferenceIdeal.Value Idealize.ShloMosaic Idealize.ShloMosaic.TcCoe Idealize.SL.Sem Idealize.ShloMosaic.StableHlo

section stages
variable (x : IVec S5x43520x128 32) (lo hi : IVec S156 32) (w : FVec Ideal S1x16x1536x1024 .bf16)

/-- The packed words of each row, in 512 columns. -/
def words : IVec S39936x512 32 :=
  shapeCast _ (transpose S39936x4x128 [1, 0, 2] (extractStridedSlice S4x39936x128 ![0, 0, 0] x slices_S5x43520x128_S4x39936x128_0_0_0) transposes_S4x39936x128_S39936x4x128_1_0_2) shapeCasts_S39936x4x128_S39936x512

/-- The rows' 1024 values. -/
def vals : FVec Ideal S39936x1024 .f32 :=
  fn_main_v9 (F := Ideal) (bitcastToFloat (F := Ideal) .f32 (Host.shli (words x) (broadcastInDim S39936x512 ![] bcast_S_S39936x512 (constantI S_ 32 16#32))))
    (bitcastToFloat (F := Ideal) .f32 (andi (words x) (broadcastInDim S39936x512 ![] bcast_S_S39936x512 (constantI S_ 32 4294901760#32))))

/-- The words beside the rows, as floats. -/
def beside : FVec Ideal S39936x128 .f32 :=
  bitcastToFloat (F := Ideal) .f32 (shapeCast _ (extractStridedSlice S1x39936x128 ![4, 0, 0] x slices_S5x43520x128_S1x39936x128_4_0_0) shapeCasts_S1x39936x128_S39936x128)

def wts : FVec Ideal S16x1536x1024 .f32 := extf (F := Ideal) .f32 (shapeCast S16x1536x1024 w shapeCasts_S1x16x1536x1024_S16x1536x1024) bitsLt_bf16_f32

/-- The first products, of every expert on every row. -/
def prods : FVec Ideal S16x39936x1024 .f32 :=
  transpose S16x39936x1024 [0, 2, 1] (Host.dotGeneral (F := Ideal) dot_S16x1024x1024_S39936x1024_S16x1024x39936_1_1_02_0_n_n none (extractStridedSlice S16x1024x1024 ![0, 0, 0] (wts w) slices_S16x1536x1024_S16x1024x1024_0_0_0) (vals x)) transposes_S16x1024x39936_S16x39936x1024_0_2_1

def gate : FVec Ideal S16x39936x512 .f32 := extractStridedSlice S16x39936x512 ![0, 0, 0] (prods x w) slices_S16x39936x1024_S16x39936x512_0_0_0

def ones : FVec Ideal S16x39936x512 .f32 := broadcastInDim S16x39936x512 ![] bcast_S_S16x39936x512 (constant (F := Ideal) S_ .f32 0x3F800000#32)

/-- The gated hidden values. -/
def acts : FVec Ideal S16x39936x512 .f32 :=
  mulf (F := Ideal) (mulf (F := Ideal) (gate x w) (Host.divf (F := Ideal) ones (addf (F := Ideal) ones (Host.exp (F := Ideal) (Host.negf (F := Ideal) (gate x w))))))
    (extractStridedSlice S16x39936x512 ![0, 0, 512] (prods x w) slices_S16x39936x1024_S16x39936x512_0_0_512)

/-- Every expert's output on every row. -/
def outs : FVec Ideal S16x39936x1024 .f32 :=
  Host.dotGeneral (F := Ideal) dot_S16x39936x512_S16x512x1024_S16x39936x1024_2_1_1_2_0_0 none (acts x w) (extractStridedSlice S16x512x1024 ![0, 1024, 0] (wts w) slices_S16x1536x1024_S16x512x1024_0_1024_0)

/-- One of the two experts' shares, at that expert's place. -/
def share (t : IVec S156 32) (k : FVec Ideal S39936x1 .f32) : FVec Ideal S39936x16 .f32 :=
  mulf (F := Ideal) (uitofp (F := Ideal) .f32 (cmpi .eq (broadcastInDim S39936x16 ![0, 1] bcast_S39936x1_S39936x16_0_1 (broadcastInDim S39936x1 ![0] bcast_S39936_S39936x1_0 (shapeCast _ (broadcastInDim S156x256 ![0] bcast_S156_S156x256_0 t) shapeCasts_S156x256_S39936))) (broadcastInDim S39936x16 ![0, 1] bcast_S1x16_S39936x16_0_1 (iotaInDim S1x16 32 1))))
    (broadcastInDim S39936x16 ![0, 1] bcast_S39936x1_S39936x16_0_1 k)

def shares : FVec Ideal S39936x16 .f32 :=
  addf (F := Ideal) (share lo (extractStridedSlice S39936x1 ![0, 0] (beside x) slices_S39936x128_S39936x1_0_0)) (share hi (extractStridedSlice S39936x1 ![0, 1] (beside x) slices_S39936x128_S39936x1_0_1))

/-- The sum over the experts. -/
def sums : FVec Ideal S39936x1024 .f32 :=
  Host.reduceAdd (F := Ideal) (mulf (F := Ideal) (broadcastInDim S16x39936x1024 ![0, 1, 2] bcast_S16x39936x1_S16x39936x1024_0_1_2 (broadcastInDim S16x39936x1 ![0, 1] bcast_S16x39936_S16x39936x1_0_1 (transpose S16x39936 [1, 0] (shares x lo hi) transposes_S39936x16_S16x39936_1_0))) (outs x w))
    (constant (F := Ideal) S_ .f32 0x00000000#32) reducesTo_S16x39936x1024_S39936x1024_d0 h_S_

def laid : FVec Ideal S4x79872x128 .bf16 :=
  truncf (F := Ideal) .bf16 (shapeCast _ (transpose S4x39936x2x128 [2, 0, 1, 3] (shapeCast _ (sums x lo hi w) shapeCasts_S39936x1024_S39936x2x4x128) transposes_S39936x2x4x128_S4x39936x2x128_2_0_1_3) shapeCasts_S4x39936x2x128_S4x79872x128) bitsLt_bf16_f32

end stages

theorem res_eq (m : (ℓ : Loc nD τ sig) → Buf (Elt Ideal) ℓ) (c : Dev nD) :
    res_main_v66 m c = laid (m ((c.tc : Thread nD τ).loc main_arg0)) (m ((c.tc : Thread nD τ).loc main_arg1)) (m ((c.tc : Thread nD τ).loc main_arg2)) (m ((c.tc : Thread nD τ).loc main_arg4)) := rfl

/-- The comparison of two words as a float: one or zero. -/
theorem flag (a b : BitVec 32) : FloatOps.uitofp (F := Ideal) .f32 (IntOp.cmpi .eq a b) = if a = b then (1 : EReal) else 0 := by
  by_cases h : a = b
  · have e : IntOp.cmpi .eq a b = 1#1 := by subst h; simp [IntOp.cmpi]
    rw [if_pos h, e]
    show ((((1#1 : BitVec 1).toNat : ℝ)) : EReal) = 1
    simp
  · have e : IntOp.cmpi .eq a b = 0#1 := by
      show BitVec.ofBool (a == b) = 0#1
      rw [beq_eq_false_iff_ne.mpr h]; rfl
    rw [if_neg h, e]
    show ((((0#1 : BitVec 1).toNat : ℝ)) : EReal) = 0
    simp

/-- A sum over the experts of shares that are nonzero at two of them only. -/
theorem sum_two (a b : EReal) (i j : Fin 16) (h : i ≠ j) (y : Fin 16 → EReal) :
    ∑ e : Fin 16, ((if i = e then 1 else 0) * a + (if j = e then 1 else 0) * b) * y e = a * y i + b * y j := by
  rw [Finset.sum_eq_add i j h]
  · rw [if_pos rfl, if_neg h.symm, if_neg h, if_pos rfl, one_mul, zero_mul, add_zero, one_mul, zero_mul, zero_add]
  · intro e _ he
    rw [if_neg he.1.symm, if_neg he.2.symm, zero_mul, zero_mul, add_zero, zero_mul]
  · intro hi; exact absurd (Finset.mem_univ _) hi
  · intro hi; exact absurd (Finset.mem_univ _) hi

/-- A word below 16 is expert `e`'s number exactly where `e` is it. -/
theorem word_eq (v : BitVec 32) (h : v.toNat < 16) (e : Fin 16) : (v = BitVec.ofNat 32 e.val) = ((⟨v.toNat % 16, Nat.mod_lt _ (by decide)⟩ : Fin 16) = e) := by
  apply propext
  rw [← BitVec.toNat_inj, Fin.ext_iff, BitVec.toNat_ofNat]
  have := e.isLt
  show v.toNat = e.val % 2 ^ 32 ↔ v.toNat % 16 = e.val
  omega

section values
variable (x : IVec S5x43520x128 32) (lo hi : IVec S156 32) (w : FVec Ideal S1x16x1536x1024 .bf16)

theorem words_at (r : Fin 39936) (k : Fin 512) : words x (ix2 r k) = x (ix3 ⟨k.val / 128, by omega⟩ ⟨r.val, by omega⟩ ⟨k.val % 128, by omega⟩) := by
  unfold words
  pointwise []

theorem vals_at (r : Fin 39936) (k : Fin 1024) : vals x (ix2 r k) = Experts.column (fun s l => x (ix3 ⟨s.val, by omega⟩ ⟨r.val, by omega⟩ l)) k := by
  unfold vals Experts.column
  pointwise [fn_main_v9, words_at]
  have hk := k.isLt
  by_cases h : k.val < 512
  · rw [dif_pos h, if_pos h]
    have e : k.val / 128 % 4 = k.val / 128 := by omega
    simp only [e]
    rfl
  · rw [dif_neg h, if_neg h]
    have e : (k.val - 512) / 128 = k.val / 128 % 4 := by omega
    have e' : (k.val - 512) % 128 = k.val % 128 := by omega
    simp only [e, e']

theorem beside_at (r : Fin 39936) (l : Fin 128) : beside x (ix2 r l) = Ideal.ofBits .f32 (x (ix3 4 ⟨r.val, by omega⟩ l)) := by
  unfold beside
  pointwise []

theorem wts_at (e : Fin 16) (k : Fin 1536) (f : Fin 1024) : wts w (ix3 e k f) = w (ix4 0 e k f) := by
  unfold wts
  pointwise []

theorem prods_at (e : Fin 16) (r : Fin 39936) (f : Fin 1024) : prods x w (ix3 e r f) = Experts.first (fun k => vals x (ix2 r k)) (fun k f => w (ix4 0 e k f)) f := by
  unfold prods Experts.first
  pointwise [wts_at]
  exact Finset.sum_congr rfl fun k _ => mul_comm _ _

theorem acts_at (e : Fin 16) (r : Fin 39936) (f : Fin 512) : acts x w (ix3 e r f) = Experts.hidden (fun k => vals x (ix2 r k)) (fun k f => w (ix4 0 e k f)) f := by
  unfold acts gate ones Experts.hidden
  pointwise [prods_at]
  rw [sub_eq_add_neg, zero_add]

theorem outs_at (e : Fin 16) (r : Fin 39936) (d : Fin 1024) : outs x w (ix3 e r d) = Experts.expert (fun k => vals x (ix2 r k)) (fun k f => w (ix4 0 e k f)) d := by
  unfold outs Experts.expert
  pointwise [acts_at, wts_at]

theorem shares_at (r : Fin 39936) (e : Fin 16) : shares x lo hi (ix2 r e) = (if lo (ix1 ⟨r.val / 256, by omega⟩) = BitVec.ofNat 32 e.val then 1 else 0) * Ideal.ofBits .f32 (x (ix3 4 ⟨r.val, by omega⟩ 0))
      + (if hi (ix1 ⟨r.val / 256, by omega⟩) = BitVec.ofNat 32 e.val then 1 else 0) * Ideal.ofBits .f32 (x (ix3 4 ⟨r.val, by omega⟩ 1)) := by
  unfold shares share
  pointwise [beside_at]
  rw [flag, flag]

theorem sums_at (r : Fin 39936) (d : Fin 1024) : sums x lo hi w (ix2 r d) = ∑ e : Fin 16, shares x lo hi (ix2 r e) * outs x w (ix3 e r d) := by
  unfold sums
  pointwise []

theorem laid_at (s : Fin 4) (q : Fin 79872) (l : Fin 128) : laid x lo hi w (ix3 s q l) = sums x lo hi w (ix2 ⟨q.val / 2, by omega⟩ ⟨512 * (q.val % 2) + 128 * s.val + l.val, by omega⟩) := by
  unfold laid
  pointwise []
  have e : q.val % 2 * 512 + s.val * 128 + l.val = 512 * (q.val % 2) + 128 * s.val + l.val := by omega
  simp only [e]

/-- The result rows are the layer's. -/
theorem laid_eq (hl : ∀ i, (lo i).toNat < 16) (hh : ∀ i, (hi i).toNat < 16) (hne : ∀ i, lo i ≠ hi i) (s : Fin 4) (q : Fin 79872) (l : Fin 128) :
    laid x lo hi w (ix3 s q l) = Experts.layerRow (fun s r l => x (ix3 s r l)) (fun n => lo (ix1 n)) (fun n => hi (ix1 n)) (fun e k f => w (ix4 0 e k f)) s q l := by
  have hq : q.val / 2 / 256 = q.val / 512 := by omega
  rw [laid_at, sums_at]
  simp only [shares_at, outs_at, vals_at, hq]
  simp only [word_eq _ (hl _), word_eq _ (hh _)]
  rw [sum_two]
  · rfl
  · intro h
    refine hne (ix1 ⟨q.val / 512, by omega⟩) (BitVec.eq_of_toNat_eq ?_)
    have e := congrArg Fin.val h
    have h0 := hl (ix1 ⟨q.val / 512, by omega⟩)
    have h1 := hh (ix1 ⟨q.val / 512, by omega⟩)
    change (lo _).toNat % 16 = (hi _).toNat % 16 at e
    rwa [Nat.mod_eq_of_lt h0, Nat.mod_eq_of_lt h1] at e

end values

end Cert.ReferenceIdeal.Moe
-- ==== Proof.ReferenceToks.lean ====
/- The reference's token words at an index: a row's own token where its tile's rows reach, and a spare row elsewhere. -/
module

public import proofs.«01_k».proof.Proof.ReferenceRows

@[expose] public section

set_option maxRecDepth 16384

noncomputable section

namespace Cert.ReferenceIdeal.Moe

open Cert.ReferenceIdeal Cert.ReferenceIdeal.Gen Cert.ReferenceIdeal.Value Idealize.ShloMosaic Idealize.ShloMosaic.TcCoe Idealize.SL.Sem Idealize.ShloMosaic.StableHlo

/-- The number of spare tiles (the divisor, guarded against zero as a floor remainder's is). -/
def tiles : IVec S_ 32 := select (cmpi .eq (id (constantI S_ 32 14#32)) (constantI S_ 32 0#32)) (constantI S_ 32 1#32) (id (constantI S_ 32 14#32))

/-- Each tile's number, and its remainder by the number of spare tiles. -/
def remainders : IVec S156x1 32 := Host.remsi (broadcastInDim S156x1 ![0] bcast_S156_S156x1_0 (iotaInDim S156 32 0)) (broadcastInDim S156x1 ![] bcast_S_S156x1 tiles)

/-- The first spare row of each tile. -/
def spares : IVec S156x1 32 :=
  addi (broadcastInDim S156x1 ![] bcast_S_S156x1 (constantI S_ 32 33280#32))
    (muli (select (andi (cmpi .ne (cmpi .slt remainders (broadcastInDim S156x1 ![] bcast_S_S156x1 (constantI S_ 32 0#32))) (broadcastInDim S156x1 ![] bcast_S_S156x1 (cmpi .slt tiles (constantI S_ 32 0#32)))) (cmpi .ne remainders (broadcastInDim S156x1 ![] bcast_S_S156x1 (constantI S_ 32 0#32))))
      (addi remainders (broadcastInDim S156x1 ![] bcast_S_S156x1 tiles)) remainders) (broadcastInDim S156x1 ![] bcast_S_S156x1 (constantI S_ 32 256#32)))

/-- The rows of a tile, numbered. -/
def numbers : IVec S1x256 32 := broadcastInDim S1x256 ![1] bcast_S256_S1x256_1 (iotaInDim S256 32 0)

/-- The token words. -/
def toks (x : IVec S5x43520x128 32) (nv : IVec S156 32) : IVec S156x2x128 32 :=
  shapeCast _ (select (cmpi .slt (broadcastInDim S156x256 ![0, 1] bcast_S1x256_S156x256_0_1 numbers) (broadcastInDim S156x256 ![0, 1] bcast_S156x1_S156x256_0_1 (broadcastInDim S156x1 ![0] bcast_S156_S156x1_0 nv)))
    (fptosi (F := Ideal) 32 (shapeCast _ (shapeCast _ (extractStridedSlice S39936x1 ![0, 2] (beside x) slices_S39936x128_S39936x1_0_2) shapeCasts_S39936x1_S39936) shapeCasts_S39936_S156x256))
    (addi (broadcastInDim S156x256 ![0, 1] bcast_S156x1_S156x256_0_1 spares) (broadcastInDim S156x256 ![0, 1] bcast_S1x256_S156x256_0_1 numbers))) shapeCasts_S156x256_S156x2x128

theorem spares_at (n : Fin 156) : spares (ix2 n 0) = Experts.spare n.val := by
  unfold spares remainders tiles
  pointwise []
  unfold Experts.spare
  revert n
  decide +kernel

theorem toks_at (x : IVec S5x43520x128 32) (nv : IVec S156 32) (n : Fin 156) (g : Fin 2) (l : Fin 128) :
    toks x nv (ix3 n g l) = Experts.layerTok (fun s r l => x (ix3 s r l)) (fun n => nv (ix1 n)) n g l := by
  unfold toks numbers Experts.layerTok Experts.token
  pointwise [beside_at, spares_at]
  have e : g.val * 128 + l.val = 128 * g.val + l.val := by omega
  have e' : n.val * 256 + (128 * g.val + l.val) = 256 * n.val + (128 * g.val + l.val) := by omega
  simp only [e, e']

end Cert.ReferenceIdeal.Moe
-- ==== Proof.Values.lean ====
/- The equality of the values: on every row of a token the kernel's rows are the layer's, as the reference's are, and all
   token words are equal. -/
module

public import proofs.«01_k».proof.Defs
public import proofs.«01_k».proof.Proof.Frames
public import proofs.«01_k».proof.Proof.IdealArrays
public import proofs.«01_k».proof.Proof.ReferenceToks
public import proofs.«01_k».proof.Proof.Gen.On_rows_of_tokens
public import Idealize.ShloMosaic.Lib.Pointwise

@[expose] public section

set_option maxRecDepth 16384

noncomputable section

namespace Cert.Values

open Idealize.ShloMosaic Idealize.ShloMosaic.TcCoe Idealize.SL.Sem

/-- Where the mask holds, the row's tile has a row. -/
theorem tile_has_rows (x : IVec Cert.On_rows_of_tokens.S5x43520x128 32) (lo hi nv : IVec Cert.On_rows_of_tokens.S156 32) (w : FVec Ideal Cert.On_rows_of_tokens.S1x16x1536x1024 .bf16)
    (s : Fin 4) (q : Fin 79872) (l : Fin 128) (h : (Cert.On_rows_of_tokens.fn (F := Ideal) x lo hi nv w).1 (ix3 s q l) = 1#1) :
    0 < (nv (ix1 ⟨q.val / 512, by omega⟩)).toInt := by
  have e : (Cert.On_rows_of_tokens.fn (F := Ideal) x lo hi nv w).1 (ix3 s q l) = IntOp.cmpi .slt (BitVec.ofNat 32 (q.val % 512 / 2)) (nv (ix1 ⟨q.val / 512, by omega⟩)) := by
    unfold Cert.On_rows_of_tokens.fn
    pointwise []
    have e : q.val / 2 % 256 = q.val % 512 / 2 := by omega
    exact congrArg (fun n => IntOp.cmpi .slt (BitVec.ofNat 32 n) (nv (ix1 ⟨q.val / 512, by omega⟩))) e
  rw [e] at h
  generalize nv (ix1 ⟨q.val / 512, _⟩) = v at h
  have h2 : BitVec.slt (BitVec.ofNat 32 (q.val % 512 / 2)) v = true := by
    revert h
    show BitVec.ofBool _ = 1#1 → _
    generalize BitVec.slt (BitVec.ofNat 32 (q.val % 512 / 2)) v = b
    cases b <;> simp
  rw [BitVec.slt_iff_toInt_lt] at h2
  have h3 : 0 ≤ (BitVec.ofNat 32 (q.val % 512 / 2)).toInt := by
    rw [BitVec.toInt_eq_toNat_cond, BitVec.toNat_ofNat]
    omega
  omega

open Cert.KernelIdeal.Moe in
theorem algebraic : Cert.algebraic_KernelIdeal_ReferenceIdeal_on_rows_of_tokens_pre_experts_differ := by
  intro m g m' g' hpre hargs
  have hO : Ok m := Cert.Frames.ideal_ok_differ m hpre
  have hl : ∀ (c : Dev Cert.KernelIdeal.nD) i, ((show IVec Cert.KernelIdeal.S156 32 from m ((c.tc : Thread Cert.KernelIdeal.nD Cert.KernelIdeal.τ).loc Cert.KernelIdeal.main_arg1)) i).toNat < 16 :=
    fun c i => Cert.Experts.differ_lo _ _ _ _ _ (hpre c).1 i
  have hh : ∀ (c : Dev Cert.KernelIdeal.nD) i, ((show IVec Cert.KernelIdeal.S156 32 from m ((c.tc : Thread Cert.KernelIdeal.nD Cert.KernelIdeal.τ).loc Cert.KernelIdeal.main_arg2)) i).toNat < 16 :=
    fun c i => Cert.Experts.differ_hi _ _ _ _ _ (hpre c).2.1 i
  have hne : ∀ (c : Dev Cert.KernelIdeal.nD) i, (show IVec Cert.KernelIdeal.S156 32 from m ((c.tc : Thread Cert.KernelIdeal.nD Cert.KernelIdeal.τ).loc Cert.KernelIdeal.main_arg1)) i ≠ (show IVec Cert.KernelIdeal.S156 32 from m ((c.tc : Thread Cert.KernelIdeal.nD Cert.KernelIdeal.τ).loc Cert.KernelIdeal.main_arg2)) i :=
    fun c i => Cert.Experts.differ_ne _ _ _ _ _ (hpre c).2.2 i
  refine ⟨fun c => Cert.ReferenceIdeal.Moe.laid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    fun c => Cert.ReferenceIdeal.Moe.toks (m ((c.tc : Thread Cert.KernelIdeal.nD Cert.KernelIdeal.τ).loc Cert.KernelIdeal.main_arg0)) (m ((c.tc : Thread Cert.KernelIdeal.nD Cert.KernelIdeal.τ).loc Cert.KernelIdeal.main_arg3)), ?_, ?_⟩
  · refine (θ_run _ _ _).mono (fun r h c => ?_) (launch m g hO)
    have ha := args_of_post m hO h.1 c
    refine ⟨fun i hi => ?_, fun i _ => ?_, ha.1, ha.2.1, ha.2.2.1, ha.2.2.2.1, ha.2.2.2.2⟩
    · rw [← ix3_eta i] at hi ⊢
      refine (congrFun ((h.1 c).1 5) (ix3 (i 0) (i 1) (i 2))).trans ?_
      refine (rows_final m hO (fun c n => hl c (ix1 n)) (fun c n => hh c (ix1 n)) c (i 0) (i 1) (i 2) (tile_has_rows _ _ _ _ _ _ _ _ hi)).trans ?_
      exact (Cert.ReferenceIdeal.Moe.laid_eq _ _ _ _ (hl c) (hh c) (hne c) _ _ _).symm
    · rw [← ix3_eta i]
      refine (congrFun ((h.1 c).1 6) (ix3 (i 0) (i 1) (i 2))).trans ?_
      refine (toks_final m hO c (i 0) (i 1) (i 2)).trans ?_
      exact (Cert.ReferenceIdeal.Moe.toks_at _ _ _ _ _).symm
  · refine (θ_run _ _ _).mono (fun r h c => ?_) (Cert.ReferenceIdeal.Value.run m' g')
    obtain ⟨e0, e1, e2, e3, e4⟩ := hargs c
    obtain ⟨h0, h1, ha⟩ := h c
    refine ⟨fun i _ => ?_, fun i _ => ?_, ha⟩
    · refine (congrFun (h0.trans (Cert.ReferenceIdeal.Moe.res_eq m' c)) i).trans ?_
      rw [e0, e1, e2, e4]
    · refine (congrFun (h1.trans (show _ = Cert.ReferenceIdeal.Moe.toks (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) from rfl)) i).trans ?_
      rw [e0, e3]

end Cert.Values
-- ==== Proof.EvenRun.lean ====
module

public import proofs.«01_k».proof.Proof.Gen.Kernel2Ideal
public import proofs.«01_k».proof.Proof.Gen.Kernel2Ideal.Frame
public import Idealize.ShloMosaic.Lib.StableHlo.Run
public import Idealize.ShloMosaic.Lib.Pipeline.FrameSuffix

/-! The run of the input projection over the reals: the seven arrays the region leaves are named (`reg_…`), the
host operations after it are read as one term of them and of the two old caches (`tail_…`, `fin_…`), and `run`
says that every execution ends with these contents and the arguments unchanged. Two of the region's input windows
read the same array, so an array's exit contents are read by the lemma for shared inputs. -/

@[expose] public section

noncomputable section

namespace Cert.EvenRun

open Cert.Kernel2Ideal Cert.Kernel2Ideal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v24_0` (window 9's): not opened here. -/
def reg_main_v24_0 (c : Dev nD) : Buf (Elt F) ((c.tc : Thread nD τ).loc main_v24_0) := (Gen.dats m 0 c).arrAt 9 cfg0.N
/-- What the kernel region leaves in its result array `main_v24_1` (window 10's): not opened here. -/
def reg_main_v24_1 (c : Dev nD) : Buf (Elt F) ((c.tc : Thread nD τ).loc main_v24_1) := (Gen.dats m 0 c).arrAt 10 cfg0.N
/-- What the kernel region leaves in its result array `main_v24_2` (window 11's): not opened here. -/
def reg_main_v24_2 (c : Dev nD) : Buf (Elt F) ((c.tc : Thread nD τ).loc main_v24_2) := (Gen.dats m 0 c).arrAt 11 cfg0.N
/-- What the kernel region leaves in its result array `main_v24_3` (window 12's): not opened here. -/
def reg_main_v24_3 (c : Dev nD) : Buf (Elt F) ((c.tc : Thread nD τ).loc main_v24_3) := (Gen.dats m 0 c).arrAt 12 cfg0.N
/-- What the kernel region leaves in its result array `main_v24_4` (window 13's): not opened here. -/
def reg_main_v24_4 (c : Dev nD) : Buf (Elt F) ((c.tc : Thread nD τ).loc main_v24_4) := (Gen.dats m 0 c).arrAt 13 cfg0.N
/-- What the kernel region leaves in its result array `main_v24_5` (window 14's): not opened here. -/
def reg_main_v24_5 (c : Dev nD) : Buf (Elt F) ((c.tc : Thread nD τ).loc main_v24_5) := (Gen.dats m 0 c).arrAt 14 cfg0.N
/-- What the kernel region leaves in its result array `main_v24_6` (window 15's): not opened here. -/
def reg_main_v24_6 (c : Dev nD) : Buf (Elt F) ((c.tc : Thread nD τ).loc main_v24_6) := (Gen.dats m 0 c).arrAt 15 cfg0.N
/-- What the kernel region leaves in its result array `main_v24_7` (window 16's): not opened here. -/
def reg_main_v24_7 (c : Dev nD) : Buf (Elt F) ((c.tc : Thread nD τ).loc main_v24_7) := (Gen.dats m 0 c).arrAt 16 cfg0.N

/-- The exit contents at argument `main_arg7`: as launched. -/
theorem exit_main_arg7 (c : Dev nD) : exitV m c (Proc.devRef .tc main_arg7) = m ((c.tc : Thread nD τ).loc main_arg7) :=
  (Pipeline.withArrays_of_ne _ c (Gen.V0 m c) _ main_arg7 (by exact (by decide : ∀ w, Pipeline.arrRef spec0 w ≠ main_arg7))).trans (Gen.V_main_arg7 m c)
/-- The exit contents at argument `main_arg8`: as launched. -/
theorem exit_main_arg8 (c : Dev nD) : exitV m c (Proc.devRef .tc main_arg8) = m ((c.tc : Thread nD τ).loc main_arg8) :=
  (Pipeline.withArrays_of_ne _ c (Gen.V0 m c) _ main_arg8 (by exact (by decide : ∀ w, Pipeline.arrRef spec0 w ≠ main_arg8))).trans (Gen.V_main_arg8 m c)
/-- The exit contents at any array of the region: what its last point leaves. -/
theorem exit_arr (c : Dev nD) (w : Fin cfg0.W) :
    exitV m c (Proc.devRef .tc (Pipeline.arrRef spec0 w)) = (Gen.dats m 0 c).arrAt w cfg0.N :=
  Pipeline.Dat.withArrays_arrAt (Gen.dats m 0 c) Gen.launch₀0.sharedIn (Gen.V0 m c) (Gen.A_eq m c) w
/-- The exit contents at the region's result array `main_v24_5`. -/
theorem exit_main_v24_5 (c : Dev nD) : exitV m c (Proc.devRef .tc main_v24_5) = reg_main_v24_5 m c :=
  exit_arr m c 14
/-- The exit contents at the region's result array `main_v24_6`. -/
theorem exit_main_v24_6 (c : Dev nD) : exitV m c (Proc.devRef .tc main_v24_6) = reg_main_v24_6 m c :=
  exit_arr m c 15
/-- The exit contents at the region's result array `main_v24_0`. -/
theorem exit_main_v24_0 (c : Dev nD) : exitV m c (Proc.devRef .tc main_v24_0) = reg_main_v24_0 m c :=
  exit_arr m c 9
/-- The exit contents at the region's result array `main_v24_1`. -/
theorem exit_main_v24_1 (c : Dev nD) : exitV m c (Proc.devRef .tc main_v24_1) = reg_main_v24_1 m c :=
  exit_arr m c 10
/-- The exit contents at the region's result array `main_v24_2`. -/
theorem exit_main_v24_2 (c : Dev nD) : exitV m c (Proc.devRef .tc main_v24_2) = reg_main_v24_2 m c :=
  exit_arr m c 11
/-- The exit contents at the region's result array `main_v24_3`. -/
theorem exit_main_v24_3 (c : Dev nD) : exitV m c (Proc.devRef .tc main_v24_3) = reg_main_v24_3 m c :=
  exit_arr m c 12
/-- The exit contents at the region's result array `main_v24_4`. -/
theorem exit_main_v24_4 (c : Dev nD) : exitV m c (Proc.devRef .tc main_v24_4) = reg_main_v24_4 m c :=
  exit_arr m c 13

set_option maxHeartbeats 2000000 in
/-- The later operations from any contents `V0`, read at result `main_v31`. -/
theorem tail_main_v31 (V0 : Valuation τ sig (Elt F)) :
    after (List.flatten [Gen.hostOps1]) V0 (Proc.devRef .tc main_v31) = shapeCast _ (extf .f32 (concatenate S2x512x512 0 [⟨S1x512x512, (broadcastInDim S1x512x512 ![1, 2] bcast_S512x512_S1x512x512_1_2 (extractStridedSlice S512x512 ![15872, 0] (V0 (Proc.devRef .tc main_v24_5)) slices_S33280x512_S512x512_15872_0))⟩, ⟨S1x512x512, (broadcastInDim S1x512x512 ![1, 2] bcast_S512x512_S1x512x512_1_2 (extractStridedSlice S512x512 ![32256, 0] (V0 (Proc.devRef .tc main_v24_5)) slices_S33280x512_S512x512_32256_0))⟩] concatenates_S1x512x512_S1x512x512_S2x512x512_d0) bitsLt_bf16_f32) shapeCasts_S2x512x512_S1x2x512x8x64 := by
  simp only [Gen.hostOps1, List.flatten_cons, List.flatten_nil, List.append_nil, List.cons_append, List.nil_append]
  after_results <;> rfl
/-- Result `main_v31` after the later operations from the region's exit contents. -/
theorem fin_main_v31 (c : Dev nD) :
    Pipeline.afterTail₀ cfgs (Gen.dats m) 0 (Gen.V0 m) [Gen.hostOps1] c main_v31 = shapeCast _ (extf .f32 (concatenate S2x512x512 0 [⟨S1x512x512, (broadcastInDim S1x512x512 ![1, 2] bcast_S512x512_S1x512x512_1_2 (extractStridedSlice S512x512 ![15872, 0] (reg_main_v24_5 m c) slices_S33280x512_S512x512_15872_0))⟩, ⟨S1x512x512, (broadcastInDim S1x512x512 ![1, 2] bcast_S512x512_S1x512x512_1_2 (extractStridedSlice S512x512 ![32256, 0] (reg_main_v24_5 m c) slices_S33280x512_S512x512_32256_0))⟩] concatenates_S1x512x512_S1x512x512_S2x512x512_d0) bitsLt_bf16_f32) shapeCasts_S2x512x512_S1x2x512x8x64 :=
  (tail_main_v31 (exitV m c)).trans (by rw [exit_main_v24_5])

set_option maxHeartbeats 2000000 in
/-- The later operations from any contents `V0`, read at result `main_v38`. -/
theorem tail_main_v38 (V0 : Valuation τ sig (Elt F)) :
    after (List.flatten [Gen.hostOps1]) V0 (Proc.devRef .tc main_v38) = shapeCast _ (extf .f32 (concatenate S2x512x512 0 [⟨S1x512x512, (broadcastInDim S1x512x512 ![1, 2] bcast_S512x512_S1x512x512_1_2 (extractStridedSlice S512x512 ![15872, 0] (V0 (Proc.devRef .tc main_v24_6)) slices_S33280x512_S512x512_15872_0))⟩, ⟨S1x512x512, (broadcastInDim S1x512x512 ![1, 2] bcast_S512x512_S1x512x512_1_2 (extractStridedSlice S512x512 ![32256, 0] (V0 (Proc.devRef .tc main_v24_6)) slices_S33280x512_S512x512_32256_0))⟩] concatenates_S1x512x512_S1x512x512_S2x512x512_d0) bitsLt_bf16_f32) shapeCasts_S2x512x512_S1x2x512x8x64 := by
  simp only [Gen.hostOps1, List.flatten_cons, List.flatten_nil, List.append_nil, List.cons_append, List.nil_append]
  after_results <;> rfl
/-- Result `main_v38` after the later operations from the region's exit contents. -/
theorem fin_main_v38 (c : Dev nD) :
    Pipeline.afterTail₀ cfgs (Gen.dats m) 0 (Gen.V0 m) [Gen.hostOps1] c main_v38 = shapeCast _ (extf .f32 (concatenate S2x512x512 0 [⟨S1x512x512, (broadcastInDim S1x512x512 ![1, 2] bcast_S512x512_S1x512x512_1_2 (extractStridedSlice S512x512 ![15872, 0] (reg_main_v24_6 m c) slices_S33280x512_S512x512_15872_0))⟩, ⟨S1x512x512, (broadcastInDim S1x512x512 ![1, 2] bcast_S512x512_S1x512x512_1_2 (extractStridedSlice S512x512 ![32256, 0] (reg_main_v24_6 m c) slices_S33280x512_S512x512_32256_0))⟩] concatenates_S1x512x512_S1x512x512_S2x512x512_d0) bitsLt_bf16_f32) shapeCasts_S2x512x512_S1x2x512x8x64 :=
  (tail_main_v38 (exitV m c)).trans (by rw [exit_main_v24_6])

set_option maxHeartbeats 2000000 in
/-- The later operations from any contents `V0`, read at result `main_v45`. -/
theorem tail_main_v45 (V0 : Valuation τ sig (Elt F)) :
    after (List.flatten [Gen.hostOps1]) V0 (Proc.devRef .tc main_v45) = broadcastInDim S1x8x512x8x64 ![1, 2, 3, 4] bcast_S8x512x8x64_S1x8x512x8x64_1_2_3_4 (concatenate S8x512x8x64 1 [⟨S8x448x8x64, (extractStridedSlice S8x448x8x64 ![0, 64, 0, 0] (shapeCast _ (V0 (Proc.devRef .tc main_arg7)) shapeCasts_S1x8x512x8x64_S8x512x8x64) slices_S8x512x8x64_S8x448x8x64_0_64_0_0)⟩, ⟨S8x64x8x64, (shapeCast _ (extf .f32 (extractStridedSlice S512x512 ![32768, 0] (V0 (Proc.devRef .tc main_v24_5)) slices_S33280x512_S512x512_32768_0) bitsLt_bf16_f32) shapeCasts_S512x512_S8x64x8x64)⟩] concatenates_S8x448x8x64_S8x64x8x64_S8x512x8x64_d1) := by
  simp only [Gen.hostOps1, List.flatten_cons, List.flatten_nil, List.append_nil, List.cons_append, List.nil_append]
  after_results <;> rfl
/-- Result `main_v45` after the later operations from the region's exit contents. -/
theorem fin_main_v45 (c : Dev nD) :
    Pipeline.afterTail₀ cfgs (Gen.dats m) 0 (Gen.V0 m) [Gen.hostOps1] c main_v45 = broadcastInDim S1x8x512x8x64 ![1, 2, 3, 4] bcast_S8x512x8x64_S1x8x512x8x64_1_2_3_4 (concatenate S8x512x8x64 1 [⟨S8x448x8x64, (extractStridedSlice S8x448x8x64 ![0, 64, 0, 0] (shapeCast _ (m ((c.tc : Thread nD τ).loc main_arg7)) shapeCasts_S1x8x512x8x64_S8x512x8x64) slices_S8x512x8x64_S8x448x8x64_0_64_0_0)⟩, ⟨S8x64x8x64, (shapeCast _ (extf .f32 (extractStridedSlice S512x512 ![32768, 0] (reg_main_v24_5 m c) slices_S33280x512_S512x512_32768_0) bitsLt_bf16_f32) shapeCasts_S512x512_S8x64x8x64)⟩] concatenates_S8x448x8x64_S8x64x8x64_S8x512x8x64_d1) :=
  (tail_main_v45 (exitV m c)).trans (by rw [exit_main_arg7, exit_main_v24_5])

set_option maxHeartbeats 2000000 in
/-- The later operations from any contents `V0`, read at result `main_v52`. -/
theorem tail_main_v52 (V0 : Valuation τ sig (Elt F)) :
    after (List.flatten [Gen.hostOps1]) V0 (Proc.devRef .tc main_v52) = broadcastInDim S1x8x512x8x64 ![1, 2, 3, 4] bcast_S8x512x8x64_S1x8x512x8x64_1_2_3_4 (concatenate S8x512x8x64 1 [⟨S8x448x8x64, (extractStridedSlice S8x448x8x64 ![0, 64, 0, 0] (shapeCast _ (V0 (Proc.devRef .tc main_arg8)) shapeCasts_S1x8x512x8x64_S8x512x8x64) slices_S8x512x8x64_S8x448x8x64_0_64_0_0)⟩, ⟨S8x64x8x64, (shapeCast _ (extf .f32 (extractStridedSlice S512x512 ![32768, 0] (V0 (Proc.devRef .tc main_v24_6)) slices_S33280x512_S512x512_32768_0) bitsLt_bf16_f32) shapeCasts_S512x512_S8x64x8x64)⟩] concatenates_S8x448x8x64_S8x64x8x64_S8x512x8x64_d1) := by
  simp only [Gen.hostOps1, List.flatten_cons, List.flatten_nil, List.append_nil, List.cons_append, List.nil_append]
  after_results <;> rfl
/-- Result `main_v52` after the later operations from the region's exit contents. -/
theorem fin_main_v52 (c : Dev nD) :
    Pipeline.afterTail₀ cfgs (Gen.dats m) 0 (Gen.V0 m) [Gen.hostOps1] c main_v52 = broadcastInDim S1x8x512x8x64 ![1, 2, 3, 4] bcast_S8x512x8x64_S1x8x512x8x64_1_2_3_4 (concatenate S8x512x8x64 1 [⟨S8x448x8x64, (extractStridedSlice S8x448x8x64 ![0, 64, 0, 0] (shapeCast _ (m ((c.tc : Thread nD τ).loc main_arg8)) shapeCasts_S1x8x512x8x64_S8x512x8x64) slices_S8x512x8x64_S8x448x8x64_0_64_0_0)⟩, ⟨S8x64x8x64, (shapeCast _ (extf .f32 (extractStridedSlice S512x512 ![32768, 0] (reg_main_v24_6 m c) slices_S33280x512_S512x512_32768_0) bitsLt_bf16_f32) shapeCasts_S512x512_S8x64x8x64)⟩] concatenates_S8x448x8x64_S8x64x8x64_S8x512x8x64_d1) :=
  (tail_main_v52 (exitV m c)).trans (by rw [exit_main_arg8, exit_main_v24_6])

set_option maxHeartbeats 1200000 in
/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v24_0) = reg_main_v24_0 m c
      ∧ r.2.mem ((c.tc : Thread nD τ).loc main_v24_1) = reg_main_v24_1 m c
      ∧ r.2.mem ((c.tc : Thread nD τ).loc main_v24_2) = reg_main_v24_2 m c
      ∧ r.2.mem ((c.tc : Thread nD τ).loc main_v24_3) = reg_main_v24_3 m c
      ∧ r.2.mem ((c.tc : Thread nD τ).loc main_v24_4) = reg_main_v24_4 m c
      ∧ r.2.mem ((c.tc : Thread nD τ).loc main_v24_5) = reg_main_v24_5 m c
      ∧ r.2.mem ((c.tc : Thread nD τ).loc main_v24_6) = reg_main_v24_6 m c
      ∧ r.2.mem ((c.tc : Thread nD τ).loc main_v31) = shapeCast _ (extf .f32 (concatenate S2x512x512 0 [⟨S1x512x512, (broadcastInDim S1x512x512 ![1, 2] bcast_S512x512_S1x512x512_1_2 (extractStridedSlice S512x512 ![15872, 0] (reg_main_v24_5 m c) slices_S33280x512_S512x512_15872_0))⟩, ⟨S1x512x512, (broadcastInDim S1x512x512 ![1, 2] bcast_S512x512_S1x512x512_1_2 (extractStridedSlice S512x512 ![32256, 0] (reg_main_v24_5 m c) slices_S33280x512_S512x512_32256_0))⟩] concatenates_S1x512x512_S1x512x512_S2x512x512_d0) bitsLt_bf16_f32) shapeCasts_S2x512x512_S1x2x512x8x64
      ∧ r.2.mem ((c.tc : Thread nD τ).loc main_v38) = shapeCast _ (extf .f32 (concatenate S2x512x512 0 [⟨S1x512x512, (broadcastInDim S1x512x512 ![1, 2] bcast_S512x512_S1x512x512_1_2 (extractStridedSlice S512x512 ![15872, 0] (reg_main_v24_6 m c) slices_S33280x512_S512x512_15872_0))⟩, ⟨S1x512x512, (broadcastInDim S1x512x512 ![1, 2] bcast_S512x512_S1x512x512_1_2 (extractStridedSlice S512x512 ![32256, 0] (reg_main_v24_6 m c) slices_S33280x512_S512x512_32256_0))⟩] concatenates_S1x512x512_S1x512x512_S2x512x512_d0) bitsLt_bf16_f32) shapeCasts_S2x512x512_S1x2x512x8x64
      ∧ r.2.mem ((c.tc : Thread nD τ).loc main_v45) = broadcastInDim S1x8x512x8x64 ![1, 2, 3, 4] bcast_S8x512x8x64_S1x8x512x8x64_1_2_3_4 (concatenate S8x512x8x64 1 [⟨S8x448x8x64, (extractStridedSlice S8x448x8x64 ![0, 64, 0, 0] (shapeCast _ (m ((c.tc : Thread nD τ).loc main_arg7)) shapeCasts_S1x8x512x8x64_S8x512x8x64) slices_S8x512x8x64_S8x448x8x64_0_64_0_0)⟩, ⟨S8x64x8x64, (shapeCast _ (extf .f32 (extractStridedSlice S512x512 ![32768, 0] (reg_main_v24_5 m c) slices_S33280x512_S512x512_32768_0) bitsLt_bf16_f32) shapeCasts_S512x512_S8x64x8x64)⟩] concatenates_S8x448x8x64_S8x64x8x64_S8x512x8x64_d1)
      ∧ r.2.mem ((c.tc : Thread nD τ).loc main_v52) = broadcastInDim S1x8x512x8x64 ![1, 2, 3, 4] bcast_S8x512x8x64_S1x8x512x8x64_1_2_3_4 (concatenate S8x512x8x64 1 [⟨S8x448x8x64, (extractStridedSlice S8x448x8x64 ![0, 64, 0, 0] (shapeCast _ (m ((c.tc : Thread nD τ).loc main_arg8)) shapeCasts_S1x8x512x8x64_S8x512x8x64) slices_S8x512x8x64_S8x448x8x64_0_64_0_0)⟩, ⟨S8x64x8x64, (shapeCast _ (extf .f32 (extractStridedSlice S512x512 ![32768, 0] (reg_main_v24_6 m c) slices_S33280x512_S512x512_32768_0) bitsLt_bf16_f32) shapeCasts_S512x512_S8x64x8x64)⟩] concatenates_S8x448x8x64_S8x64x8x64_S8x512x8x64_d1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 9).trans (show _ = reg_main_v24_0 m c from rfl),
      ((h c).1 10).trans (show _ = reg_main_v24_1 m c from rfl),
      ((h c).1 11).trans (show _ = reg_main_v24_2 m c from rfl),
      ((h c).1 12).trans (show _ = reg_main_v24_3 m c from rfl),
      ((h c).1 13).trans (show _ = reg_main_v24_4 m c from rfl),
      ((h c).1 14).trans (show _ = reg_main_v24_5 m c from rfl),
      ((h c).1 15).trans (show _ = reg_main_v24_6 m c from rfl),
      ((h c).2 main_v31 (Pipeline.mem_restRefs_of main_v31 (by decide) (by decide))).trans (fin_main_v31 m c),
      ((h c).2 main_v38 (Pipeline.mem_restRefs_of main_v38 (by decide) (by decide))).trans (fin_main_v38 m c),
      ((h c).2 main_v45 (Pipeline.mem_restRefs_of main_v45 (by decide) (by decide))).trans (fin_main_v45 m c),
      ((h c).2 main_v52 (Pipeline.mem_restRefs_of main_v52 (by decide) (by decide))).trans (fin_main_v52 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c)⟩) (Gen.run_main m ρ)

end Cert.EvenRun

end
-- ==== Proof.Projection.lean ====
/- The input projection of an even layer, as plain sums: a row is divided by its root mean square, multiplied by the norm's
   weights, scaled and shifted by its sequence's modulation, and multiplied by the weights. -/
module

public import Idealize.ShloMosaic.Lib.Pointwise

@[expose] public section

noncomputable section

namespace Cert.Projection

open Idealize.ShloMosaic

/-- The normalised and modulated row `x` at column `d`. -/
def normed (x g shift scale : Fin 1024 → EReal) (d : Fin 1024) : EReal :=
  x d * Ideal.rsqrt (Ideal.div (∑ k, x k * x k) (Ideal.ofBits .f32 0x44800000#32) + Ideal.ofBits .f32 0x358637BD#32) * g d * (1 + scale d) + shift d

/-- That row times one column `w` of the weights. -/
def projected (x g shift scale w : Fin 1024 → EReal) : EReal := ∑ k, normed x g shift scale k * w k

section layer
variable (x : Fin 2 → Fin 16384 → Fin 1024 → EReal) (y : Fin 8 → Fin 64 → Fin 1024 → EReal) (mods : Fin 16 → Fin 6144 → EReal) (g : Fin 1024 → EReal) (w : Fin 1024 → Fin 3088 → EReal)

/-- Column `c` of the prompt's projected row `r` of sequence `b`. -/
def prompt (b : Fin 2) (r : Fin 16384) (c : Fin 3088) : EReal :=
  projected (x b r) g (fun d => mods ⟨b.val, by omega⟩ ⟨d.val, by omega⟩) (fun d => mods ⟨b.val, by omega⟩ ⟨1024 + d.val, by omega⟩) (fun d => w d c)

/-- Column `c` of the sample's projected row `r` of sequence `b`. -/
def sample (b : Fin 8) (r : Fin 64) (c : Fin 3088) : EReal :=
  projected (y b r) g (fun d => mods ⟨2 + b.val, by omega⟩ ⟨d.val, by omega⟩) (fun d => mods ⟨2 + b.val, by omega⟩ ⟨1024 + d.val, by omega⟩) (fun d => w d c)

/-- The rows of the prompt above the rows of the sample. -/
def stacked (n : Fin 33280) (c : Fin 3088) : EReal :=
  if h : n.val < 32768 then prompt x mods g w ⟨n.val / 16384, by omega⟩ ⟨n.val % 16384, by omega⟩ c
  else sample y mods g w ⟨(n.val - 32768) / 64, by omega⟩ ⟨(n.val - 32768) % 64, by omega⟩ c

end layer

end Cert.Projection

end
-- ==== Proof.EvenTile.lean ====
/- One grid point of the input projection over the reals: its two halves normalise and modulate 256 rows each, and every output
   block is those rows times a range of columns of the weights. A point below 64 reads the prompt's block, the last point the
   sample's. -/
module

public import proofs.«01_k».proof.Proof.EvenRun
public import proofs.«01_k».proof.Proof.Projection
public import Idealize.ShloMosaic.Lib.Pointwise
public import Idealize.ShloMosaic.Lib.Pipeline.ValueKit
@[expose] public section

set_option maxRecDepth 16384

noncomputable section

namespace Cert.Kernel2Ideal.Even

open Idealize.ShloMosaic Idealize.ShloMosaic.TcCoe Idealize.ShloMosaic.Tactic
open Idealize.SL Idealize.SL.Sem
open Idealize.ShloMosaic.Pipeline (Dat Cfg Window)
open Cert.Kernel2Ideal Cert.Kernel2Ideal.Gen

/-- Row `n` of a block of 512 rows, normalised and modulated by its group's shift and scale. -/
def blockRow (x : Vec Ideal S512x1024 .f32) (sh sc : Vec Ideal S8x1024 .f32) (g : Vec Ideal S1x1024 .f32) (n : Fin 512) (d : Fin 1024) : EReal :=
  Projection.normed (fun k => x (ix2 n k)) (fun k => g (ix2 0 k)) (fun k => sh (ix2 ⟨n.val / 64, by omega⟩ k)) (fun k => sc (ix2 ⟨n.val / 64, by omega⟩ k)) d

theorem blockRow_of (x : Vec Ideal S512x1024 .f32) (sh sc : Vec Ideal S8x1024 .f32) (g : Vec Ideal S1x1024 .f32) (n n' : Fin 512) (q : Fin 8) (d : Fin 1024)
    (e : n = n') (h : n'.val / 64 = q.val) :
    blockRow x sh sc g n d = x (ix2 n' d) * Ideal.rsqrt (Ideal.div (∑ k, x (ix2 n' k) * x (ix2 n' k)) (Ideal.ofBits .f32 0x44800000#32) + Ideal.ofBits .f32 0x358637BD#32) * g (ix2 0 d) * (1 + sc (ix2 q d)) + sh (ix2 q d) := by
  subst e
  have e : (⟨n.val / 64, by omega⟩ : Fin 8) = q := Fin.ext h
  unfold blockRow Projection.normed
  simp only [e]

theorem rows0A (x : Vec Ideal S512x1024 .f32) (sh sc : Vec Ideal S8x1024 .f32) (g : Vec Ideal S1x1024 .f32) (r : Fin 256) (d : Fin 1024) :
    k0_pay13 (F := Ideal) (k0_pay5 sh) (k0_pay8 sh sc (View.ld x (Rect.unit ![0, 0] ![256, 1024] inb_S512x1024_S256x1024_0_0)) g) (k0_pay9 sh sc (View.ld x (Rect.unit ![0, 0] ![256, 1024] inb_S512x1024_S256x1024_0_0)) g) (k0_pay10 sh sc (View.ld x (Rect.unit ![0, 0] ![256, 1024] inb_S512x1024_S256x1024_0_0)) g) (k0_pay11 (View.ld x (Rect.unit ![0, 0] ![256, 1024] inb_S512x1024_S256x1024_0_0)) g) (k0_pay12 sc) (ix2 r d) = blockRow x sh sc g ⟨r.val, by omega⟩ d := by
  pointwise [k0_pay3, k0_pay4, k0_pay5, k0_pay6, k0_pay7, k0_pay8, k0_pay9, k0_pay10, k0_pay11, k0_pay12, k0_pay13]
  have hr := r.isLt
  by_cases h0 : r.val < 64
  · rw [dif_pos h0]
    exact (blockRow_of x sh sc g _ ⟨r.val, by omega⟩ 0 d (Fin.ext (by show r.val = r.val; omega)) (by show (r.val) / 64 = 0; omega)).symm
  rw [dif_neg h0]
  by_cases h1 : r.val - 64 < 64
  · rw [dif_pos h1]
    exact (blockRow_of x sh sc g _ ⟨64 + (r.val - 64), by omega⟩ 1 d (Fin.ext (by show r.val = 64 + (r.val - 64); omega)) (by show (64 + (r.val - 64)) / 64 = 1; omega)).symm
  rw [dif_neg h1]
  by_cases h2 : r.val - 64 - 64 < 64
  · rw [dif_pos h2]
    exact (blockRow_of x sh sc g _ ⟨128 + (r.val - 64 - 64), by omega⟩ 2 d (Fin.ext (by show r.val = 128 + (r.val - 64 - 64); omega)) (by show (128 + (r.val - 64 - 64)) / 64 = 2; omega)).symm
  rw [dif_neg h2]
  exact (blockRow_of x sh sc g _ ⟨192 + (r.val - 64 - 64 - 64), by omega⟩ 3 d (Fin.ext (by show r.val = 192 + (r.val - 64 - 64 - 64); omega)) (by show (192 + (r.val - 64 - 64 - 64)) / 64 = 3; omega)).symm

theorem rows1A (x : Vec Ideal S512x1024 .f32) (sh sc : Vec Ideal S8x1024 .f32) (g : Vec Ideal S1x1024 .f32) (r : Fin 256) (d : Fin 1024) :
    k0_pay22 (F := Ideal) (k0_pay17 (k0_pay3 sh) (k0_pay4 sc) (View.ld x (Rect.unit ![256, 0] ![256, 1024] inb_S512x1024_S256x1024_256_0)) g) (k0_pay18 (k0_pay3 sh) (k0_pay4 sc) (View.ld x (Rect.unit ![256, 0] ![256, 1024] inb_S512x1024_S256x1024_256_0)) g) (k0_pay19 (k0_pay3 sh) (k0_pay4 sc) (View.ld x (Rect.unit ![256, 0] ![256, 1024] inb_S512x1024_S256x1024_256_0)) g) (k0_pay20 (k0_pay4 sc) (View.ld x (Rect.unit ![256, 0] ![256, 1024] inb_S512x1024_S256x1024_256_0)) g) (k0_pay21 (k0_pay3 sh)) (ix2 r d) = blockRow x sh sc g ⟨256 + r.val, by omega⟩ d := by
  pointwise [k0_pay3, k0_pay4, k0_pay14, k0_pay15, k0_pay16, k0_pay17, k0_pay18, k0_pay19, k0_pay20, k0_pay21, k0_pay22]
  have hr := r.isLt
  by_cases h0 : r.val < 64
  · rw [dif_pos h0]
    exact (blockRow_of x sh sc g _ ⟨256 + (r.val), by omega⟩ 4 d (Fin.ext (by show 256 + r.val = 256 + (r.val); omega)) (by show (256 + (r.val)) / 64 = 4; omega)).symm
  rw [dif_neg h0]
  by_cases h1 : r.val - 64 < 64
  · rw [dif_pos h1]
    exact (blockRow_of x sh sc g _ ⟨256 + (64 + (r.val - 64)), by omega⟩ 5 d (Fin.ext (by show 256 + r.val = 256 + (64 + (r.val - 64)); omega)) (by show (256 + (64 + (r.val - 64))) / 64 = 5; omega)).symm
  rw [dif_neg h1]
  by_cases h2 : r.val - 64 - 64 < 64
  · rw [dif_pos h2]
    exact (blockRow_of x sh sc g _ ⟨256 + (128 + (r.val - 64 - 64)), by omega⟩ 6 d (Fin.ext (by show 256 + r.val = 256 + (128 + (r.val - 64 - 64)); omega)) (by show (256 + (128 + (r.val - 64 - 64))) / 64 = 6; omega)).symm
  rw [dif_neg h2]
  exact (blockRow_of x sh sc g _ ⟨256 + (192 + (r.val - 64 - 64 - 64)), by omega⟩ 7 d (Fin.ext (by show 256 + r.val = 256 + (192 + (r.val - 64 - 64 - 64)); omega)) (by show (256 + (192 + (r.val - 64 - 64 - 64))) / 64 = 7; omega)).symm

theorem rows0B (x : Vec Ideal S512x1024 .f32) (sh sc : Vec Ideal S8x1024 .f32) (g : Vec Ideal S1x1024 .f32) (r : Fin 256) (d : Fin 1024) :
    k0_pay66 (F := Ideal) (k0_pay58 sh) (k0_pay61 sh sc (View.ld x (Rect.unit ![0, 0] ![256, 1024] inb_S512x1024_S256x1024_0_0)) g) (k0_pay62 sh sc (View.ld x (Rect.unit ![0, 0] ![256, 1024] inb_S512x1024_S256x1024_0_0)) g) (k0_pay63 sh sc (View.ld x (Rect.unit ![0, 0] ![256, 1024] inb_S512x1024_S256x1024_0_0)) g) (k0_pay64 (View.ld x (Rect.unit ![0, 0] ![256, 1024] inb_S512x1024_S256x1024_0_0)) g) (k0_pay65 sc) (ix2 r d) = blockRow x sh sc g ⟨r.val, by omega⟩ d := by
  exact rows0A x sh sc g r d

theorem rows1B (x : Vec Ideal S512x1024 .f32) (sh sc : Vec Ideal S8x1024 .f32) (g : Vec Ideal S1x1024 .f32) (r : Fin 256) (d : Fin 1024) :
    k0_pay75 (F := Ideal) (k0_pay70 (k0_pay56 sh) (k0_pay57 sc) (View.ld x (Rect.unit ![256, 0] ![256, 1024] inb_S512x1024_S256x1024_256_0)) g) (k0_pay71 (k0_pay56 sh) (k0_pay57 sc) (View.ld x (Rect.unit ![256, 0] ![256, 1024] inb_S512x1024_S256x1024_256_0)) g) (k0_pay72 (k0_pay56 sh) (k0_pay57 sc) (View.ld x (Rect.unit ![256, 0] ![256, 1024] inb_S512x1024_S256x1024_256_0)) g) (k0_pay73 (k0_pay57 sc) (View.ld x (Rect.unit ![256, 0] ![256, 1024] inb_S512x1024_S256x1024_256_0)) g) (k0_pay74 (k0_pay56 sh)) (ix2 r d) = blockRow x sh sc g ⟨256 + r.val, by omega⟩ d := by
  exact rows1A x sh sc g r d

variable (m : (ℓ : Loc nD τ sig) → Buf (Elt Ideal) ℓ)

theorem pointQaA (c : Dev nD) (t : Fin cfg0.N) (h0 : t.val < 64) (h1 : ¬ t.val % 65 = 64) (y : S512x256.Idx) :
    (outsAt0 m c t.val t.isLt).1 y = (∑ k, blockRow (iblk m c 0 t) (iblk m c 2 t) (iblk m c 3 t) (iblk m c 4 t) (y 0) k * iblk m c 5 t (ix2 k ⟨(y 1).val, by have := (y 1).isLt; change (y 1).val < 256 at this; omega⟩)) * Ideal.ofBits .f32 0x3E000000#32 := by
  rw [outsAt0_A m c t h0 h1]
  frame_out
  canon_tiles x h
  case piece0 =>
    rw [← ix2_eta x]
    pointwise [k0_pay46, k0_pay39, rows1A]
    blk_point []
  case piece1 =>
    rw [← ix2_eta x]
    pointwise [k0_pay30, rows0A]
    blk_point []

theorem pointQaB (c : Dev nD) (t : Fin cfg0.N) (h0 : ¬ t.val < 64) (h1 : t.val % 65 = 64) (y : S512x256.Idx) :
    (outsAt0 m c t.val t.isLt).1 y = (∑ k, blockRow (iblk m c 1 t) (iblk m c 2 t) (iblk m c 3 t) (iblk m c 4 t) (y 0) k * iblk m c 5 t (ix2 k ⟨(y 1).val, by have := (y 1).isLt; change (y 1).val < 256 at this; omega⟩)) * Ideal.ofBits .f32 0x3E000000#32 := by
  rw [outsAt0_B m c t h0 h1]
  frame_out
  canon_tiles x h
  case piece0 =>
    rw [← ix2_eta x]
    pointwise [k0_pay99, k0_pay92, rows1B]
    blk_point []
  case piece1 =>
    rw [← ix2_eta x]
    pointwise [k0_pay83, rows0B]
    blk_point []

theorem pointKaA (c : Dev nD) (t : Fin cfg0.N) (h0 : t.val < 64) (h1 : ¬ t.val % 65 = 64) (y : S512x256.Idx) :
    (outsAt0 m c t.val t.isLt).2.1 y = (∑ k, blockRow (iblk m c 0 t) (iblk m c 2 t) (iblk m c 3 t) (iblk m c 4 t) (y 0) k * iblk m c 5 t (ix2 k ⟨256 + (y 1).val, by have := (y 1).isLt; change (y 1).val < 256 at this; omega⟩)) := by
  rw [outsAt0_A m c t h0 h1]
  frame_out
  canon_tiles x h
  case piece0 =>
    rw [← ix2_eta x]
    pointwise [k0_pay47, k0_pay40, rows1A]
    blk_point []
  case piece1 =>
    rw [← ix2_eta x]
    pointwise [k0_pay31, k0_pay23, rows0A]
    blk_point []

theorem pointKaB (c : Dev nD) (t : Fin cfg0.N) (h0 : ¬ t.val < 64) (h1 : t.val % 65 = 64) (y : S512x256.Idx) :
    (outsAt0 m c t.val t.isLt).2.1 y = (∑ k, blockRow (iblk m c 1 t) (iblk m c 2 t) (iblk m c 3 t) (iblk m c 4 t) (y 0) k * iblk m c 5 t (ix2 k ⟨256 + (y 1).val, by have := (y 1).isLt; change (y 1).val < 256 at this; omega⟩)) := by
  rw [outsAt0_B m c t h0 h1]
  frame_out
  canon_tiles x h
  case piece0 =>
    rw [← ix2_eta x]
    pointwise [k0_pay100, k0_pay93, rows1B]
    blk_point []
  case piece1 =>
    rw [← ix2_eta x]
    pointwise [k0_pay84, k0_pay76, rows0B]
    blk_point []

theorem pointVaA (c : Dev nD) (t : Fin cfg0.N) (h0 : t.val < 64) (h1 : ¬ t.val % 65 = 64) (y : S512x512.Idx) :
    (outsAt0 m c t.val t.isLt).2.2.1 y = (∑ k, blockRow (iblk m c 0 t) (iblk m c 2 t) (iblk m c 3 t) (iblk m c 4 t) (y 0) k * iblk m c 5 t (ix2 k ⟨512 + (y 1).val, by have := (y 1).isLt; change (y 1).val < 512 at this; omega⟩)) := by
  rw [outsAt0_A m c t h0 h1]
  frame_out
  canon_tiles x h
  case piece0 =>
    rw [← ix2_eta x]
    pointwise [k0_pay48, k0_pay41, rows1A]
    blk_point []
  case piece1 =>
    rw [← ix2_eta x]
    pointwise [k0_pay32, k0_pay24, rows0A]
    blk_point []

theorem pointVaB (c : Dev nD) (t : Fin cfg0.N) (h0 : ¬ t.val < 64) (h1 : t.val % 65 = 64) (y : S512x512.Idx) :
    (outsAt0 m c t.val t.isLt).2.2.1 y = (∑ k, blockRow (iblk m c 1 t) (iblk m c 2 t) (iblk m c 3 t) (iblk m c 4 t) (y 0) k * iblk m c 5 t (ix2 k ⟨512 + (y 1).val, by have := (y 1).isLt; change (y 1).val < 512 at this; omega⟩)) := by
  rw [outsAt0_B m c t h0 h1]
  frame_out
  canon_tiles x h
  case piece0 =>
    rw [← ix2_eta x]
    pointwise [k0_pay101, k0_pay94, rows1B]
    blk_point []
  case piece1 =>
    rw [← ix2_eta x]
    pointwise [k0_pay85, k0_pay77, rows0B]
    blk_point []

theorem pointRaA (c : Dev nD) (t : Fin cfg0.N) (h0 : t.val < 64) (h1 : ¬ t.val % 65 = 64) (y : S512x512.Idx) :
    (outsAt0 m c t.val t.isLt).2.2.2.1 y = (∑ k, blockRow (iblk m c 0 t) (iblk m c 2 t) (iblk m c 3 t) (iblk m c 4 t) (y 0) k * iblk m c 5 t (ix2 k ⟨1024 + (y 1).val, by have := (y 1).isLt; change (y 1).val < 512 at this; omega⟩)) := by
  rw [outsAt0_A m c t h0 h1]
  frame_out
  canon_tiles x h
  case piece0 =>
    rw [← ix2_eta x]
    pointwise [k0_pay49, k0_pay42, rows1A]
    blk_point []
  case piece1 =>
    rw [← ix2_eta x]
    pointwise [k0_pay33, k0_pay25, rows0A]
    blk_point []

theorem pointRaB (c : Dev nD) (t : Fin cfg0.N) (h0 : ¬ t.val < 64) (h1 : t.val % 65 = 64) (y : S512x512.Idx) :
    (outsAt0 m c t.val t.isLt).2.2.2.1 y = (∑ k, blockRow (iblk m c 1 t) (iblk m c 2 t) (iblk m c 3 t) (iblk m c 4 t) (y 0) k * iblk m c 5 t (ix2 k ⟨1024 + (y 1).val, by have := (y 1).isLt; change (y 1).val < 512 at this; omega⟩)) := by
  rw [outsAt0_B m c t h0 h1]
  frame_out
  canon_tiles x h
  case piece0 =>
    rw [← ix2_eta x]
    pointwise [k0_pay102, k0_pay95, rows1B]
    blk_point []
  case piece1 =>
    rw [← ix2_eta x]
    pointwise [k0_pay86, k0_pay78, rows0B]
    blk_point []

theorem pointQbA (c : Dev nD) (t : Fin cfg0.N) (h0 : t.val < 64) (h1 : ¬ t.val % 65 = 64) (y : S512x512.Idx) :
    (outsAt0 m c t.val t.isLt).2.2.2.2.1 y = (∑ k, blockRow (iblk m c 0 t) (iblk m c 2 t) (iblk m c 3 t) (iblk m c 4 t) (y 0) k * iblk m c 5 t (ix2 k ⟨1536 + (y 1).val, by have := (y 1).isLt; change (y 1).val < 512 at this; omega⟩)) * Ideal.ofBits .f32 0x3E38AA3B#32 := by
  rw [outsAt0_A m c t h0 h1]
  frame_out
  canon_tiles x h
  case piece0 =>
    rw [← ix2_eta x]
    pointwise [k0_pay50, k0_pay43, rows1A]
    blk_point []
  case piece1 =>
    rw [← ix2_eta x]
    pointwise [k0_pay34, k0_pay26, rows0A]
    blk_point []

theorem pointQbB (c : Dev nD) (t : Fin cfg0.N) (h0 : ¬ t.val < 64) (h1 : t.val % 65 = 64) (y : S512x512.Idx) :
    (outsAt0 m c t.val t.isLt).2.2.2.2.1 y = (∑ k, blockRow (iblk m c 1 t) (iblk m c 2 t) (iblk m c 3 t) (iblk m c 4 t) (y 0) k * iblk m c 5 t (ix2 k ⟨1536 + (y 1).val, by have := (y 1).isLt; change (y 1).val < 512 at this; omega⟩)) * Ideal.ofBits .f32 0x3E38AA3B#32 := by
  rw [outsAt0_B m c t h0 h1]
  frame_out
  canon_tiles x h
  case piece0 =>
    rw [← ix2_eta x]
    pointwise [k0_pay103, k0_pay96, rows1B]
    blk_point []
  case piece1 =>
    rw [← ix2_eta x]
    pointwise [k0_pay87, k0_pay79, rows0B]
    blk_point []

theorem pointKbA (c : Dev nD) (t : Fin cfg0.N) (h0 : t.val < 64) (h1 : ¬ t.val % 65 = 64) (y : S512x512.Idx) :
    (outsAt0 m c t.val t.isLt).2.2.2.2.2.1 y = (∑ k, blockRow (iblk m c 0 t) (iblk m c 2 t) (iblk m c 3 t) (iblk m c 4 t) (y 0) k * iblk m c 5 t (ix2 k ⟨2048 + (y 1).val, by have := (y 1).isLt; change (y 1).val < 512 at this; omega⟩)) := by
  rw [outsAt0_A m c t h0 h1]
  frame_out
  canon_tiles x h
  case piece0 =>
    rw [← ix2_eta x]
    pointwise [k0_pay51, k0_pay44, rows1A]
    blk_point []
  case piece1 =>
    rw [← ix2_eta x]
    pointwise [k0_pay35, k0_pay27, rows0A]
    blk_point []

theorem pointKbB (c : Dev nD) (t : Fin cfg0.N) (h0 : ¬ t.val < 64) (h1 : t.val % 65 = 64) (y : S512x512.Idx) :
    (outsAt0 m c t.val t.isLt).2.2.2.2.2.1 y = (∑ k, blockRow (iblk m c 1 t) (iblk m c 2 t) (iblk m c 3 t) (iblk m c 4 t) (y 0) k * iblk m c 5 t (ix2 k ⟨2048 + (y 1).val, by have := (y 1).isLt; change (y 1).val < 512 at this; omega⟩)) := by
  rw [outsAt0_B m c t h0 h1]
  frame_out
  canon_tiles x h
  case piece0 =>
    rw [← ix2_eta x]
    pointwise [k0_pay104, k0_pay97, rows1B]
    blk_point []
  case piece1 =>
    rw [← ix2_eta x]
    pointwise [k0_pay88, k0_pay80, rows0B]
    blk_point []

theorem pointVbA (c : Dev nD) (t : Fin cfg0.N) (h0 : t.val < 64) (h1 : ¬ t.val % 65 = 64) (y : S512x512.Idx) :
    (outsAt0 m c t.val t.isLt).2.2.2.2.2.2.1 y = (∑ k, blockRow (iblk m c 0 t) (iblk m c 2 t) (iblk m c 3 t) (iblk m c 4 t) (y 0) k * iblk m c 5 t (ix2 k ⟨2560 + (y 1).val, by have := (y 1).isLt; change (y 1).val < 512 at this; omega⟩)) := by
  rw [outsAt0_A m c t h0 h1]
  frame_out
  canon_tiles x h
  case piece0 =>
    rw [← ix2_eta x]
    pointwise [k0_pay52, rows1A]
    blk_point []
  case piece1 =>
    rw [← ix2_eta x]
    pointwise [k0_pay36, k0_pay28, rows0A]
    blk_point []

theorem pointVbB (c : Dev nD) (t : Fin cfg0.N) (h0 : ¬ t.val < 64) (h1 : t.val % 65 = 64) (y : S512x512.Idx) :
    (outsAt0 m c t.val t.isLt).2.2.2.2.2.2.1 y = (∑ k, blockRow (iblk m c 1 t) (iblk m c 2 t) (iblk m c 3 t) (iblk m c 4 t) (y 0) k * iblk m c 5 t (ix2 k ⟨2560 + (y 1).val, by have := (y 1).isLt; change (y 1).val < 512 at this; omega⟩)) := by
  rw [outsAt0_B m c t h0 h1]
  frame_out
  canon_tiles x h
  case piece0 =>
    rw [← ix2_eta x]
    pointwise [k0_pay105, rows1B]
    blk_point []
  case piece1 =>
    rw [← ix2_eta x]
    pointwise [k0_pay89, k0_pay81, rows0B]
    blk_point []

end Cert.Kernel2Ideal.Even

end
-- ==== Proof.EvenBlocks.lean ====
/- What one grid point of the input projection reads, element by element: its rows of the prompt or of the sample, the shift and
   scale of its eight groups, the norm's weights, and the joined columns of the weights. -/
module

public import proofs.«01_k».proof.Proof.EvenRun
public import Idealize.ShloMosaic.Lib.Pointwise
public import Idealize.ShloMosaic.Lib.Routing.Ops

@[expose] public section

set_option maxRecDepth 16384

noncomputable section

namespace Cert.Kernel2Ideal.Even

open Idealize.ShloMosaic Idealize.ShloMosaic.TcCoe Idealize.ShloMosaic.Tactic Idealize.ShloMosaic.StableHlo
open Idealize.SL Idealize.SL.Sem
open Cert.Kernel2Ideal Cert.Kernel2Ideal.Gen

section host
variable (V0 : Valuation τ sig (Elt Ideal))

theorem host_v0 : after (List.flatten [Gen.hostOps0]) V0 (Proc.devRef .tc main_v0) = shapeCast S32768x1024 (V0 (Proc.devRef .tc main_arg0)) shapeCasts_S2x16384x1024_S32768x1024 := by
  simp only [Gen.hostOps0, List.flatten_cons, List.flatten_nil, List.append_nil, List.cons_append, List.nil_append]
  after_results <;> rfl

theorem host_v1 : after (List.flatten [Gen.hostOps0]) V0 (Proc.devRef .tc main_v1) = shapeCast S512x1024 (V0 (Proc.devRef .tc main_arg1)) shapeCasts_S8x64x1024_S512x1024 := by
  simp only [Gen.hostOps0, List.flatten_cons, List.flatten_nil, List.append_nil, List.cons_append, List.nil_append]
  after_results <;> rfl

/-- The weights without the sixteen columns of the decay. -/
def joined (w : FVec Ideal S1x1024x3088 .f32) : FVec Ideal S1024x3072 .bf16 :=
  truncf (F := Ideal) .bf16 (concatenate S1024x3072 1 [⟨S1024x1536, extractStridedSlice S1024x1536 ![0, 0] (shapeCast S1024x3088 w shapeCasts_S1x1024x3088_S1024x3088) slices_S1024x3088_S1024x1536_0_0⟩,
    ⟨S1024x1536, extractStridedSlice S1024x1536 ![0, 1552] (shapeCast S1024x3088 w shapeCasts_S1x1024x3088_S1024x3088) slices_S1024x3088_S1024x1536_0_1552⟩] concatenates_S1024x1536_S1024x1536_S1024x3072_d1) bitsLt_bf16_f32

theorem host_v6 : after (List.flatten [Gen.hostOps0]) V0 (Proc.devRef .tc main_v6) = joined (V0 (Proc.devRef .tc main_arg4)) := by
  simp only [Gen.hostOps0, List.flatten_cons, List.flatten_nil, List.append_nil, List.cons_append, List.nil_append]
  after_results <;> rfl

/-- The row of the modulation that each group of 64 rows takes. -/
def groups : IVec S520x1 32 :=
  broadcastInDim S520x1 ![0] bcast_S520_S520x1_0 (select (constantI S520 1 0#1) (addi (fun i => lit0 (S520.rowMajor i) : IVec S520 32) (broadcastInDim S520 ![] bcast_S_S520 (constantI S_ 32 16#32))) (fun i => lit0 (S520.rowMajor i) : IVec S520 32))

theorem host_v20 : after (List.flatten [Gen.hostOps0]) V0 (Proc.devRef .tc main_v20)
    = (show FVec Ideal S520x6144 .f32 from Host.gather gather_S16x6144_S520x1_S520x6144_1_0_n_n_0_1_16144 (show FVec Ideal S16x6144 .f32 from V0 (Proc.devRef .tc main_arg2)) groups) := by
  simp only [Gen.hostOps0, List.flatten_cons, List.flatten_nil, List.append_nil, List.cons_append, List.nil_append]
  after_results <;> rfl

theorem host_v21 : after (List.flatten [Gen.hostOps0]) V0 (Proc.devRef .tc main_v21) = broadcastInDim S1x1024 ![1] bcast_S1024_S1x1024_1 (V0 (Proc.devRef .tc main_arg3)) := by
  simp only [Gen.hostOps0, List.flatten_cons, List.flatten_nil, List.append_nil, List.cons_append, List.nil_append]
  after_results <;> rfl

end host

/-- The row of the modulation of group `g`: the prompt's two sequences have 256 groups each, the sample's eight one each. -/
def seqOf (g : Nat) : Nat := if g < 512 then g / 256 else 2 + (g - 512)

theorem row520 : ∀ g : Fin 520, (S520.rowMajor (ix1 g)).val = g.val := by decide +kernel

theorem lit0_seqOf : ∀ g : Fin 520, lit0 g = BitVec.ofNat 32 (seqOf g.val) := by decide +kernel

theorem seqOf_lt (g : Fin 520) : seqOf g.val < 16 := by have := g.isLt; unfold seqOf; split <;> omega

theorem groups_at (g : Fin 520) : groups (ix2 g (0 : Fin 1)) = BitVec.ofNat 32 (seqOf g.val) := by
  rw [← lit0_seqOf]
  unfold groups
  pointwise []
  exact congrArg lit0 (Fin.ext (row520 g))

theorem gathered_at (x : FVec Ideal S16x6144 .f32) (g : Fin 520) (d : Fin 6144) :
    (show FVec Ideal S520x6144 .f32 from Host.gather gather_S16x6144_S520x1_S520x6144_1_0_n_n_0_1_16144 x groups) (ix2 g d) = x (ix2 ⟨seqOf g.val, seqOf_lt g⟩ d) :=
  Routing.gather_row gather_S16x6144_S520x1_S520x6144_1_0_n_n_0_1_16144 rfl rfl rfl rfl rfl x groups g d ⟨seqOf g.val, seqOf_lt g⟩ (groups_at g) (by decide)

theorem joined_at (w : FVec Ideal S1x1024x3088 .f32) (k : Fin 1024) (c : Fin 3072) (q : Fin 3088) (hq : q.val = if c.val < 1536 then c.val else c.val + 16) :
    joined w (ix2 k c) = w (ix3 0 k q) := by
  unfold joined
  pointwise []
  by_cases h : c.val < 1536
  · rw [dif_pos h]; rw [if_pos h] at hq
    congr 2; exact Fin.ext hq.symm
  · rw [dif_neg h]; rw [if_neg h] at hq
    congr 2; exact Fin.ext (by show 1552 + (c.val - 1536) = q.val; omega)

theorem flatP_at (x : FVec Ideal S2x16384x1024 .f32) (n : Fin 32768) (k : Fin 1024) (b : Fin 2) (q : Fin 16384) (h : n.val = b.val * 16384 + q.val) :
    shapeCast S32768x1024 x shapeCasts_S2x16384x1024_S32768x1024 (ix2 n k) = x (ix3 b q k) := by
  pointwise []
  have e0 : (⟨n.val / 16384, by omega⟩ : Fin 2) = b := Fin.ext (by show n.val / 16384 = b.val; omega)
  have e1 : (⟨n.val % 16384, by omega⟩ : Fin 16384) = q := Fin.ext (by show n.val % 16384 = q.val; omega)
  simp only [e0, e1]

theorem flatS_at (x : FVec Ideal S8x64x1024 .f32) (n : Fin 512) (k : Fin 1024) (b : Fin 8) (q : Fin 64) (h : n.val = b.val * 64 + q.val) :
    shapeCast S512x1024 x shapeCasts_S8x64x1024_S512x1024 (ix2 n k) = x (ix3 b q k) := by
  pointwise []
  have e0 : (⟨n.val / 64, by omega⟩ : Fin 8) = b := Fin.ext (by show n.val / 64 = b.val; omega)
  have e1 : (⟨n.val % 64, by omega⟩ : Fin 64) = q := Fin.ext (by show n.val % 64 = q.val; omega)
  simp only [e0, e1]

variable (m : (ℓ : Loc nD τ sig) → Buf (Elt Ideal) ℓ)

/-- The arguments at their coordinates. -/
def xPrompt (c : Dev nD) (b : Fin 2) (r : Fin 16384) (k : Fin 1024) : EReal := (show Vec Ideal S2x16384x1024 .f32 from m (c.tc.loc main_arg0)) (ix3 b r k)
def xSample (c : Dev nD) (b : Fin 8) (r : Fin 64) (k : Fin 1024) : EReal := (show Vec Ideal S8x64x1024 .f32 from m (c.tc.loc main_arg1)) (ix3 b r k)
def modsOf (c : Dev nD) (s : Fin 16) (d : Fin 6144) : EReal := (show Vec Ideal S16x6144 .f32 from m (c.tc.loc main_arg2)) (ix2 s d)
def gainOf (c : Dev nD) (k : Fin 1024) : EReal := (show Vec Ideal S1024 .f32 from m (c.tc.loc main_arg3)) (ix1 k)
def weightOf (c : Dev nD) (k : Fin 1024) (q : Fin 3088) : EReal := (show Vec Ideal S1x1024x3088 .f32 from m (c.tc.loc main_arg4)) (ix3 0 k q)

theorem step0 : ∀ t : Fin grid0.N, cc0_transform_0 (grid0.coords t) = ![min t.val 63, 0] := by decide +kernel
theorem step1 : ∀ t : Fin grid0.N, cc0_transform_1 (grid0.coords t) = ![0, 0] := by decide +kernel
theorem step2 : ∀ t : Fin grid0.N, cc0_transform_2 (grid0.coords t) = ![t.val, 0] := by decide +kernel
theorem step3 : ∀ t : Fin grid0.N, cc0_transform_3 (grid0.coords t) = ![t.val, 1] := by decide +kernel
theorem step4 : ∀ t : Fin grid0.N, cc0_transform_4 (grid0.coords t) = ![0, 0] := by decide +kernel
theorem step5 : ∀ t : Fin grid0.N, cc0_transform_5 (grid0.coords t) = ![0, 0] := by decide +kernel

/-- The prompt's block, at a point below 64. -/
theorem iblk0_at (c : Dev nD) (t : Fin cfg0.N) (ht : t.val < 64) (r : Fin 512) (k : Fin 1024) (b : Fin 2) (q : Fin 16384)
    (h : b.val * 16384 + q.val = 512 * t.val + r.val) :
    (show Vec Ideal S512x1024 .f32 from iblk m c 0 t) (ix2 r k) = xPrompt m c b q k := by
  have e : V m c main_v0 = shapeCast S32768x1024 (show Vec Ideal S2x16384x1024 .f32 from m (c.tc.loc main_arg0)) shapeCasts_S2x16384x1024_S32768x1024 := host_v0 _
  have hb := b.isLt
  have p : (((cfg0).win 0).blk t).view.emb (ix2 r k : S512x1024.Idx) = (ix2 ⟨b.val * 16384 + q.val, by omega⟩ k : S32768x1024.Idx) := by
    funext a
    apply Fin.ext
    fin_cases a
    · show cc0_transform_0 (grid0.coords t) 0 * 512 + 1 * r.val = b.val * 16384 + q.val
      rw [step0]; show min t.val 63 * 512 + 1 * r.val = b.val * 16384 + q.val; omega
    · show cc0_transform_0 (grid0.coords t) 1 * 1024 + 1 * k.val = k.val
      rw [step0]; show 0 * 1024 + 1 * k.val = k.val; rw [Nat.zero_mul, Nat.zero_add, Nat.one_mul]
  show (show Vec Ideal S32768x1024 .f32 from V m c main_v0) ((((cfg0).win 0).blk t).view.emb (ix2 r k : S512x1024.Idx)) = _
  rw [e]
  exact (congrArg (shapeCast S32768x1024 (show Vec Ideal S2x16384x1024 .f32 from m (c.tc.loc main_arg0)) shapeCasts_S2x16384x1024_S32768x1024) p).trans (flatP_at _ _ _ _ _ rfl)

/-- The sample's block. -/
theorem iblk1_at (c : Dev nD) (t : Fin cfg0.N) (r : Fin 512) (k : Fin 1024) (b : Fin 8) (q : Fin 64)
    (h : b.val * 64 + q.val = r.val) :
    (show Vec Ideal S512x1024 .f32 from iblk m c 1 t) (ix2 r k) = xSample m c b q k := by
  have e : V m c main_v1 = shapeCast S512x1024 (show Vec Ideal S8x64x1024 .f32 from m (c.tc.loc main_arg1)) shapeCasts_S8x64x1024_S512x1024 := host_v1 _
  have hb := b.isLt
  have p : (((cfg0).win 1).blk t).view.emb (ix2 r k : S512x1024.Idx) = (ix2 ⟨b.val * 64 + q.val, by omega⟩ k : S512x1024.Idx) := by
    funext a
    apply Fin.ext
    fin_cases a
    · show cc0_transform_1 (grid0.coords t) 0 * 512 + 1 * r.val = b.val * 64 + q.val
      rw [step1]; show 0 * 512 + 1 * r.val = b.val * 64 + q.val; omega
    · show cc0_transform_1 (grid0.coords t) 1 * 1024 + 1 * k.val = k.val
      rw [step1]; show 0 * 1024 + 1 * k.val = k.val; rw [Nat.zero_mul, Nat.zero_add, Nat.one_mul]
  show (show Vec Ideal S512x1024 .f32 from V m c main_v1) ((((cfg0).win 1).blk t).view.emb (ix2 r k : S512x1024.Idx)) = _
  rw [e]
  exact (congrArg (shapeCast S512x1024 (show Vec Ideal S8x64x1024 .f32 from m (c.tc.loc main_arg1)) shapeCasts_S8x64x1024_S512x1024) p).trans (flatS_at _ _ _ _ _ rfl)

/-- The shift of the point's groups. -/
theorem iblk2_at (c : Dev nD) (t : Fin cfg0.N) (q : Fin 8) (k : Fin 1024) (s : Fin 16) (d : Fin 6144) (hs : s.val = seqOf (8 * t.val + q.val)) (hd : d.val = k.val) :
    (show Vec Ideal S8x1024 .f32 from iblk m c 2 t) (ix2 q k) = modsOf m c s d := by
  have e : V m c main_v20 = (show FVec Ideal S520x6144 .f32 from Host.gather gather_S16x6144_S520x1_S520x6144_1_0_n_n_0_1_16144 (show FVec Ideal S16x6144 .f32 from m (c.tc.loc main_arg2)) groups) := host_v20 _
  have ht : t.val < 65 := t.isLt
  have p : (((cfg0).win 2).blk t).view.emb (ix2 q k : S8x1024.Idx) = (ix2 ⟨8 * t.val + q.val, by omega⟩ d : S520x6144.Idx) := by
    funext a
    apply Fin.ext
    fin_cases a
    · show cc0_transform_2 (grid0.coords t) 0 * 8 + 1 * q.val = 8 * t.val + q.val
      rw [step2]; show t.val * 8 + 1 * q.val = 8 * t.val + q.val; omega
    · show cc0_transform_2 (grid0.coords t) 1 * 1024 + 1 * k.val = d.val
      rw [step2]; show 0 * 1024 + 1 * k.val = d.val; omega
  show (show Vec Ideal S520x6144 .f32 from V m c main_v20) ((((cfg0).win 2).blk t).view.emb (ix2 q k : S8x1024.Idx)) = _
  rw [e]
  refine (congrArg (show FVec Ideal S520x6144 .f32 from Host.gather gather_S16x6144_S520x1_S520x6144_1_0_n_n_0_1_16144 (show FVec Ideal S16x6144 .f32 from m (c.tc.loc main_arg2)) groups) p).trans ?_
  refine (gathered_at _ _ _).trans ?_
  unfold modsOf
  congr 2
  exact Fin.ext hs.symm

/-- The scale of the point's groups. -/
theorem iblk3_at (c : Dev nD) (t : Fin cfg0.N) (q : Fin 8) (k : Fin 1024) (s : Fin 16) (d : Fin 6144) (hs : s.val = seqOf (8 * t.val + q.val)) (hd : d.val = 1024 + k.val) :
    (show Vec Ideal S8x1024 .f32 from iblk m c 3 t) (ix2 q k) = modsOf m c s d := by
  have e : V m c main_v20 = (show FVec Ideal S520x6144 .f32 from Host.gather gather_S16x6144_S520x1_S520x6144_1_0_n_n_0_1_16144 (show FVec Ideal S16x6144 .f32 from m (c.tc.loc main_arg2)) groups) := host_v20 _
  have ht : t.val < 65 := t.isLt
  have p : (((cfg0).win 3).blk t).view.emb (ix2 q k : S8x1024.Idx) = (ix2 ⟨8 * t.val + q.val, by omega⟩ d : S520x6144.Idx) := by
    funext a
    apply Fin.ext
    fin_cases a
    · show cc0_transform_3 (grid0.coords t) 0 * 8 + 1 * q.val = 8 * t.val + q.val
      rw [step3]; show t.val * 8 + 1 * q.val = 8 * t.val + q.val; omega
    · show cc0_transform_3 (grid0.coords t) 1 * 1024 + 1 * k.val = d.val
      rw [step3]; show 1 * 1024 + 1 * k.val = d.val; omega
  show (show Vec Ideal S520x6144 .f32 from V m c main_v20) ((((cfg0).win 3).blk t).view.emb (ix2 q k : S8x1024.Idx)) = _
  rw [e]
  refine (congrArg (show FVec Ideal S520x6144 .f32 from Host.gather gather_S16x6144_S520x1_S520x6144_1_0_n_n_0_1_16144 (show FVec Ideal S16x6144 .f32 from m (c.tc.loc main_arg2)) groups) p).trans ?_
  refine (gathered_at _ _ _).trans ?_
  unfold modsOf
  congr 2
  exact Fin.ext hs.symm

/-- The norm's weights. -/
theorem iblk4_at (c : Dev nD) (t : Fin cfg0.N) (k : Fin 1024) :
    (show Vec Ideal S1x1024 .f32 from iblk m c 4 t) (ix2 0 k) = gainOf m c k := by
  have e : V m c main_v21 = broadcastInDim S1x1024 ![1] bcast_S1024_S1x1024_1 (show Vec Ideal S1024 .f32 from m (c.tc.loc main_arg3)) := host_v21 _
  have p : (((cfg0).win 4).blk t).view.emb (ix2 0 k : S1x1024.Idx) = (ix2 0 k : S1x1024.Idx) := by
    funext a
    apply Fin.ext
    fin_cases a
    · show cc0_transform_4 (grid0.coords t) 0 * 1 + 1 * 0 = 0
      rw [step4]; rfl
    · show cc0_transform_4 (grid0.coords t) 1 * 1024 + 1 * k.val = k.val
      rw [step4]; show 0 * 1024 + 1 * k.val = k.val; rw [Nat.zero_mul, Nat.zero_add, Nat.one_mul]
  show (show Vec Ideal S1x1024 .f32 from V m c main_v21) ((((cfg0).win 4).blk t).view.emb (ix2 0 k : S1x1024.Idx)) = _
  rw [e]
  refine (congrArg (broadcastInDim S1x1024 ![1] bcast_S1024_S1x1024_1 (show Vec Ideal S1024 .f32 from m (c.tc.loc main_arg3))) p).trans ?_
  unfold gainOf
  pointwise []

/-- The weights. -/
theorem iblk5_at (c : Dev nD) (t : Fin cfg0.N) (k : Fin 1024) (f : Fin 3072) (q : Fin 3088) (hq : q.val = if f.val < 1536 then f.val else f.val + 16) :
    (show Vec Ideal S1024x3072 .bf16 from iblk m c 5 t) (ix2 k f) = weightOf m c k q := by
  have e : V m c main_v6 = joined (show Vec Ideal S1x1024x3088 .f32 from m (c.tc.loc main_arg4)) := host_v6 _
  have p : (((cfg0).win 5).blk t).view.emb (ix2 k f : S1024x3072.Idx) = (ix2 k f : S1024x3072.Idx) := by
    funext a
    apply Fin.ext
    fin_cases a
    · show cc0_transform_5 (grid0.coords t) 0 * 1024 + 1 * k.val = k.val
      rw [step5]; show 0 * 1024 + 1 * k.val = k.val; rw [Nat.zero_mul, Nat.zero_add, Nat.one_mul]
    · show cc0_transform_5 (grid0.coords t) 1 * 3072 + 1 * f.val = f.val
      rw [step5]; show 0 * 3072 + 1 * f.val = f.val; omega
  show (show Vec Ideal S1024x3072 .bf16 from V m c main_v6) ((((cfg0).win 5).blk t).view.emb (ix2 k f : S1024x3072.Idx)) = _
  rw [e]
  refine (congrArg (joined (show Vec Ideal S1x1024x3088 .f32 from m (c.tc.loc main_arg4))) p).trans ?_
  exact joined_at _ k f q hq

end Cert.Kernel2Ideal.Even

end
-- ==== Proof.EvenArrays.lean ====
/- The arrays the input projection leaves, element by element: row `n` of each is the projected row `n` of the prompt stacked on
   the sample, at the output's range of columns. -/
module

public import proofs.«01_k».proof.Proof.EvenTile
public import proofs.«01_k».proof.Proof.EvenBlocks

@[expose] public section

set_option maxRecDepth 16384

noncomputable section

namespace Cert.Kernel2Ideal.Even

open Idealize.ShloMosaic Idealize.ShloMosaic.TcCoe Idealize.ShloMosaic.Tactic
open Idealize.SL Idealize.SL.Sem
open Idealize.ShloMosaic.Pipeline (Dat Cfg Window)
open Cert.Kernel2Ideal Cert.Kernel2Ideal.Gen

variable (m : (ℓ : Loc nD τ sig) → Buf (Elt Ideal) ℓ)

/-- The projected rows of the kernel's own arguments. -/
def rowsAt (c : Dev nD) (n : Fin 33280) (q : Fin 3088) : EReal :=
  Projection.stacked (xPrompt m c) (xSample m c) (modsOf m c) (gainOf m c) (weightOf m c) n q

theorem blockRow_eq (x : Vec Ideal S512x1024 .f32) (sh sc : Vec Ideal S8x1024 .f32) (g : Vec Ideal S1x1024 .f32) (r : Fin 512) (p : Fin 8) (X G S C : Fin 1024 → EReal)
    (hp : p.val = r.val / 64) (hx : ∀ k, x (ix2 r k) = X k) (hg : ∀ k, g (ix2 0 k) = G k) (hs : ∀ k, sh (ix2 p k) = S k) (hc : ∀ k, sc (ix2 p k) = C k) (k : Fin 1024) :
    blockRow x sh sc g r k = Projection.normed X G S C k := by
  obtain rfl : X = fun k => x (ix2 r k) := funext fun k => (hx k).symm
  obtain rfl : G = fun k => g (ix2 0 k) := funext fun k => (hg k).symm
  obtain rfl : S = fun k => sh (ix2 p k) := funext fun k => (hs k).symm
  obtain rfl : C = fun k => sc (ix2 p k) := funext fun k => (hc k).symm
  have e : (⟨r.val / 64, by omega⟩ : Fin 8) = p := Fin.ext hp.symm
  unfold blockRow
  rw [e]

theorem seqA (n t r : Nat) (hr : r < 512) (ht : t < 64) (hn : n = 512 * t + r) : n / 16384 = seqOf (8 * t + r / 64) := by
  unfold seqOf; rw [if_pos (by omega)]; omega

theorem seqB (n t r : Nat) (hr : r < 512) (ht : t = 64) (hn : n = 512 * t + r) : 2 + (n - 32768) / 64 = seqOf (8 * t + r / 64) := by
  unfold seqOf; rw [if_neg (by omega)]; omega

/-- A point below 64: its rows are the prompt's. -/
theorem sumA (c : Dev nD) (t : Fin cfg0.N) (ht : t.val < 64) (r : Fin 512) (f : Fin 3072) (n : Fin 33280) (q : Fin 3088)
    (hn : n.val = 512 * t.val + r.val) (hq : q.val = if f.val < 1536 then f.val else f.val + 16) :
    (∑ k, blockRow (iblk m c 0 t) (iblk m c 2 t) (iblk m c 3 t) (iblk m c 4 t) r k * (show Vec Ideal S1024x3072 .bf16 from iblk m c 5 t) (ix2 k f)) = rowsAt m c n q := by
  have hlt : n.val < 32768 := by have := r.isLt; omega
  have hm : n.val / 16384 * 16384 + n.val % 16384 = 512 * t.val + r.val := by omega
  have hs := seqA n.val t.val r.val r.isLt ht hn
  unfold rowsAt Projection.stacked
  rw [dif_pos hlt]
  unfold Projection.prompt Projection.projected
  refine Finset.sum_congr rfl fun k _ => ?_
  have h0 : ∀ k, (show Vec Ideal S512x1024 .f32 from iblk m c 0 t) (ix2 r k) = xPrompt m c ⟨n.val / 16384, by omega⟩ ⟨n.val % 16384, by omega⟩ k := fun k => iblk0_at m c t ht r k _ _ hm
  have h2 : ∀ k : Fin 1024, (show Vec Ideal S8x1024 .f32 from iblk m c 2 t) (ix2 (⟨r.val / 64, by omega⟩ : Fin 8) k) = modsOf m c ⟨n.val / 16384, by omega⟩ ⟨k.val, by omega⟩ :=
    fun k => iblk2_at m c t ⟨r.val / 64, by omega⟩ k ⟨n.val / 16384, by omega⟩ ⟨k.val, by omega⟩ hs (Eq.refl k.val)
  have h3 : ∀ k : Fin 1024, (show Vec Ideal S8x1024 .f32 from iblk m c 3 t) (ix2 (⟨r.val / 64, by omega⟩ : Fin 8) k) = modsOf m c ⟨n.val / 16384, by omega⟩ ⟨1024 + k.val, by omega⟩ :=
    fun k => iblk3_at m c t ⟨r.val / 64, by omega⟩ k ⟨n.val / 16384, by omega⟩ ⟨1024 + k.val, by omega⟩ hs (Eq.refl (1024 + k.val))
  have h := blockRow_eq _ _ _ _ r ⟨r.val / 64, by omega⟩ _ _ _ _ rfl h0 (fun k => iblk4_at m c t k) h2 h3 k
  rw [h, iblk5_at m c t k f q hq]

/-- The last point: its rows are the sample's. -/
theorem sumB (c : Dev nD) (t : Fin cfg0.N) (ht : t.val = 64) (r : Fin 512) (f : Fin 3072) (n : Fin 33280) (q : Fin 3088)
    (hn : n.val = 512 * t.val + r.val) (hq : q.val = if f.val < 1536 then f.val else f.val + 16) :
    (∑ k, blockRow (iblk m c 1 t) (iblk m c 2 t) (iblk m c 3 t) (iblk m c 4 t) r k * (show Vec Ideal S1024x3072 .bf16 from iblk m c 5 t) (ix2 k f)) = rowsAt m c n q := by
  have hlt : ¬ n.val < 32768 := by omega
  have hm : (n.val - 32768) / 64 * 64 + (n.val - 32768) % 64 = r.val := by omega
  have hs := seqB n.val t.val r.val r.isLt ht hn
  unfold rowsAt Projection.stacked
  rw [dif_neg hlt]
  unfold Projection.sample Projection.projected
  refine Finset.sum_congr rfl fun k _ => ?_
  have h0 : ∀ k, (show Vec Ideal S512x1024 .f32 from iblk m c 1 t) (ix2 r k) = xSample m c ⟨(n.val - 32768) / 64, by omega⟩ ⟨(n.val - 32768) % 64, by omega⟩ k := fun k => iblk1_at m c t r k _ _ hm
  have h2 : ∀ k : Fin 1024, (show Vec Ideal S8x1024 .f32 from iblk m c 2 t) (ix2 (⟨r.val / 64, by omega⟩ : Fin 8) k) = modsOf m c ⟨2 + (n.val - 32768) / 64, by omega⟩ ⟨k.val, by omega⟩ :=
    fun k => iblk2_at m c t ⟨r.val / 64, by omega⟩ k ⟨2 + (n.val - 32768) / 64, by omega⟩ ⟨k.val, by omega⟩ hs (Eq.refl k.val)
  have h3 : ∀ k : Fin 1024, (show Vec Ideal S8x1024 .f32 from iblk m c 3 t) (ix2 (⟨r.val / 64, by omega⟩ : Fin 8) k) = modsOf m c ⟨2 + (n.val - 32768) / 64, by omega⟩ ⟨1024 + k.val, by omega⟩ :=
    fun k => iblk3_at m c t ⟨r.val / 64, by omega⟩ k ⟨2 + (n.val - 32768) / 64, by omega⟩ ⟨1024 + k.val, by omega⟩ hs (Eq.refl (1024 + k.val))
  have h := blockRow_eq _ _ _ _ r ⟨r.val / 64, by omega⟩ _ _ _ _ rfl h0 (fun k => iblk4_at m c t k) h2 h3 k
  rw [h, iblk5_at m c t k f q hq]

theorem step9 : ∀ t : Fin grid0.N, cc0_transform_9 (grid0.coords t) = ![t.val, 0] := by decide +kernel

theorem flush9 : ∀ t : Fin cfg0.N, (cfg0.win 9).flush t = true := (by decide +kernel : ∀ t : Fin grid0.N, (win0_9).flush t = true)

theorem disjoint9 : ∀ t t' : Fin cfg0.N, (cfg0.win 9).flush t = true → (cfg0.win 9).flush t' = true → t ≠ t' →
    Disjoint ((cfg0.win 9).blk t).view.set ((cfg0.win 9).blk t').view.set :=
  Window.hdisj_of_index_inj (cfg0.win 9) fun t t' _ _ h => by
    have e : cc0_transform_9 (grid0.coords t) 0 = cc0_transform_9 (grid0.coords t') 0 := congrFun h (0 : Fin 2)
    rw [step9, step9] at e
    exact Fin.ext e

theorem endQa (c₀ : Dev nD) (n : Fin 33280) (c : Fin 256) :
    (show Vec Ideal S33280x256 .bf16 from EvenRun.reg_main_v24_0 m c₀) (ix2 n c) = rowsAt m c₀ n ⟨c.val, by omega⟩ * Ideal.ofBits .f32 0x3E000000#32 := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x256.Idx from ((cfg0.win 9).blk t).view.emb (ix2 r c : S512x256.Idx)) = ix2 n c := by
    funext a
    apply Fin.ext
    fin_cases a
    · show cc0_transform_9 (grid0.coords t) 0 * 512 + 1 * r.val = n.val
      rw [step9]; show t.val * 512 + 1 * r.val = n.val; rw [hr]; omega
    · show cc0_transform_9 (grid0.coords t) 1 * 256 + 1 * c.val = c.val
      rw [step9]; show 0 * 256 + 1 * c.val = c.val; rw [Nat.zero_mul, Nat.zero_add, Nat.one_mul]
  have h := (dats m 0 c₀).arrAt_emb_eq_flushed 9 disjoint9 t (flush9 t) (ix2 r c : S512x256.Idx)
  have a : (dats m 0 c₀).flushed 9 t = (outsAt0 m c₀ t.val t.isLt).1 := by
    show (cfg0.win 9).cut (grid0.coords t) ((dats m 0 c₀).after 9 t) = _
    rw [after0_9]
    rfl
  rw [← e]
  refine h.trans ((congrFun a (ix2 r c)).trans ?_)
  by_cases ht : n.val / 512 < 64
  · exact (pointQaA m c₀ t ht (by show ¬ n.val / 512 % 65 = 64; omega) (ix2 r c)).trans (congrArg (· * Ideal.ofBits .f32 0x3E000000#32) (sumA m c₀ t ht r ⟨c.val, by omega⟩ n ⟨c.val, by omega⟩ hr (by show c.val = if c.val < 1536 then c.val else c.val + 16; rw [if_pos (by omega)])))
  · have h64 : n.val / 512 = 64 := by omega
    exact (pointQaB m c₀ t ht (by show n.val / 512 % 65 = 64; omega) (ix2 r c)).trans (congrArg (· * Ideal.ofBits .f32 0x3E000000#32) (sumB m c₀ t h64 r ⟨c.val, by omega⟩ n ⟨c.val, by omega⟩ hr (by show c.val = if c.val < 1536 then c.val else c.val + 16; rw [if_pos (by omega)])))

theorem step10 : ∀ t : Fin grid0.N, cc0_transform_10 (grid0.coords t) = ![t.val, 0] := by decide +kernel

theorem flush10 : ∀ t : Fin cfg0.N, (cfg0.win 10).flush t = true := (by decide +kernel : ∀ t : Fin grid0.N, (win0_10).flush t = true)

theorem disjoint10 : ∀ t t' : Fin cfg0.N, (cfg0.win 10).flush t = true → (cfg0.win 10).flush t' = true → t ≠ t' →
    Disjoint ((cfg0.win 10).blk t).view.set ((cfg0.win 10).blk t').view.set :=
  Window.hdisj_of_index_inj (cfg0.win 10) fun t t' _ _ h => by
    have e : cc0_transform_10 (grid0.coords t) 0 = cc0_transform_10 (grid0.coords t') 0 := congrFun h (0 : Fin 2)
    rw [step10, step10] at e
    exact Fin.ext e

theorem endKa (c₀ : Dev nD) (n : Fin 33280) (c : Fin 256) :
    (show Vec Ideal S33280x256 .bf16 from EvenRun.reg_main_v24_1 m c₀) (ix2 n c) = rowsAt m c₀ n ⟨(256 + c.val), by omega⟩ := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x256.Idx from ((cfg0.win 10).blk t).view.emb (ix2 r c : S512x256.Idx)) = ix2 n c := by
    funext a
    apply Fin.ext
    fin_cases a
    · show cc0_transform_10 (grid0.coords t) 0 * 512 + 1 * r.val = n.val
      rw [step10]; show t.val * 512 + 1 * r.val = n.val; rw [hr]; omega
    · show cc0_transform_10 (grid0.coords t) 1 * 256 + 1 * c.val = c.val
      rw [step10]; show 0 * 256 + 1 * c.val = c.val; rw [Nat.zero_mul, Nat.zero_add, Nat.one_mul]
  have h := (dats m 0 c₀).arrAt_emb_eq_flushed 10 disjoint10 t (flush10 t) (ix2 r c : S512x256.Idx)
  have a : (dats m 0 c₀).flushed 10 t = (outsAt0 m c₀ t.val t.isLt).2.1 := by
    show (cfg0.win 10).cut (grid0.coords t) ((dats m 0 c₀).after 10 t) = _
    rw [after0_10]
    rfl
  rw [← e]
  refine h.trans ((congrFun a (ix2 r c)).trans ?_)
  by_cases ht : n.val / 512 < 64
  · exact (pointKaA m c₀ t ht (by show ¬ n.val / 512 % 65 = 64; omega) (ix2 r c)).trans (sumA m c₀ t ht r ⟨(256 + c.val), by omega⟩ n ⟨(256 + c.val), by omega⟩ hr (by show (256 + c.val) = if (256 + c.val) < 1536 then (256 + c.val) else (256 + c.val) + 16; rw [if_pos (by omega)]))
  · have h64 : n.val / 512 = 64 := by omega
    exact (pointKaB m c₀ t ht (by show n.val / 512 % 65 = 64; omega) (ix2 r c)).trans (sumB m c₀ t h64 r ⟨(256 + c.val), by omega⟩ n ⟨(256 + c.val), by omega⟩ hr (by show (256 + c.val) = if (256 + c.val) < 1536 then (256 + c.val) else (256 + c.val) + 16; rw [if_pos (by omega)]))

theorem step11 : ∀ t : Fin grid0.N, cc0_transform_11 (grid0.coords t) = ![t.val, 0] := by decide +kernel

theorem flush11 : ∀ t : Fin cfg0.N, (cfg0.win 11).flush t = true := (by decide +kernel : ∀ t : Fin grid0.N, (win0_11).flush t = true)

theorem disjoint11 : ∀ t t' : Fin cfg0.N, (cfg0.win 11).flush t = true → (cfg0.win 11).flush t' = true → t ≠ t' →
    Disjoint ((cfg0.win 11).blk t).view.set ((cfg0.win 11).blk t').view.set :=
  Window.hdisj_of_index_inj (cfg0.win 11) fun t t' _ _ h => by
    have e : cc0_transform_11 (grid0.coords t) 0 = cc0_transform_11 (grid0.coords t') 0 := congrFun h (0 : Fin 2)
    rw [step11, step11] at e
    exact Fin.ext e

theorem endVa (c₀ : Dev nD) (n : Fin 33280) (c : Fin 512) :
    (show Vec Ideal S33280x512 .bf16 from EvenRun.reg_main_v24_2 m c₀) (ix2 n c) = rowsAt m c₀ n ⟨(512 + c.val), by omega⟩ := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x512.Idx from ((cfg0.win 11).blk t).view.emb (ix2 r c : S512x512.Idx)) = ix2 n c := by
    funext a
    apply Fin.ext
    fin_cases a
    · show cc0_transform_11 (grid0.coords t) 0 * 512 + 1 * r.val = n.val
      rw [step11]; show t.val * 512 + 1 * r.val = n.val; rw [hr]; omega
    · show cc0_transform_11 (grid0.coords t) 1 * 512 + 1 * c.val = c.val
      rw [step11]; show 0 * 512 + 1 * c.val = c.val; rw [Nat.zero_mul, Nat.zero_add, Nat.one_mul]
  have h := (dats m 0 c₀).arrAt_emb_eq_flushed 11 disjoint11 t (flush11 t) (ix2 r c : S512x512.Idx)
  have a : (dats m 0 c₀).flushed 11 t = (outsAt0 m c₀ t.val t.isLt).2.2.1 := by
    show (cfg0.win 11).cut (grid0.coords t) ((dats m 0 c₀).after 11 t) = _
    rw [after0_11]
    rfl
  rw [← e]
  refine h.trans ((congrFun a (ix2 r c)).trans ?_)
  by_cases ht : n.val / 512 < 64
  · exact (pointVaA m c₀ t ht (by show ¬ n.val / 512 % 65 = 64; omega) (ix2 r c)).trans (sumA m c₀ t ht r ⟨(512 + c.val), by omega⟩ n ⟨(512 + c.val), by omega⟩ hr (by show (512 + c.val) = if (512 + c.val) < 1536 then (512 + c.val) else (512 + c.val) + 16; rw [if_pos (by omega)]))
  · have h64 : n.val / 512 = 64 := by omega
    exact (pointVaB m c₀ t ht (by show n.val / 512 % 65 = 64; omega) (ix2 r c)).trans (sumB m c₀ t h64 r ⟨(512 + c.val), by omega⟩ n ⟨(512 + c.val), by omega⟩ hr (by show (512 + c.val) = if (512 + c.val) < 1536 then (512 + c.val) else (512 + c.val) + 16; rw [if_pos (by omega)]))

theorem step12 : ∀ t : Fin grid0.N, cc0_transform_12 (grid0.coords t) = ![t.val, 0] := by decide +kernel

theorem flush12 : ∀ t : Fin cfg0.N, (cfg0.win 12).flush t = true := (by decide +kernel : ∀ t : Fin grid0.N, (win0_12).flush t = true)

theorem disjoint12 : ∀ t t' : Fin cfg0.N, (cfg0.win 12).flush t = true → (cfg0.win 12).flush t' = true → t ≠ t' →
    Disjoint ((cfg0.win 12).blk t).view.set ((cfg0.win 12).blk t').view.set :=
  Window.hdisj_of_index_inj (cfg0.win 12) fun t t' _ _ h => by
    have e : cc0_transform_12 (grid0.coords t) 0 = cc0_transform_12 (grid0.coords t') 0 := congrFun h (0 : Fin 2)
    rw [step12, step12] at e
    exact Fin.ext e

theorem endRa (c₀ : Dev nD) (n : Fin 33280) (c : Fin 512) :
    (show Vec Ideal S33280x512 .bf16 from EvenRun.reg_main_v24_3 m c₀) (ix2 n c) = rowsAt m c₀ n ⟨(1024 + c.val), by omega⟩ := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x512.Idx from ((cfg0.win 12).blk t).view.emb (ix2 r c : S512x512.Idx)) = ix2 n c := by
    funext a
    apply Fin.ext
    fin_cases a
    · show cc0_transform_12 (grid0.coords t) 0 * 512 + 1 * r.val = n.val
      rw [step12]; show t.val * 512 + 1 * r.val = n.val; rw [hr]; omega
    · show cc0_transform_12 (grid0.coords t) 1 * 512 + 1 * c.val = c.val
      rw [step12]; show 0 * 512 + 1 * c.val = c.val; rw [Nat.zero_mul, Nat.zero_add, Nat.one_mul]
  have h := (dats m 0 c₀).arrAt_emb_eq_flushed 12 disjoint12 t (flush12 t) (ix2 r c : S512x512.Idx)
  have a : (dats m 0 c₀).flushed 12 t = (outsAt0 m c₀ t.val t.isLt).2.2.2.1 := by
    show (cfg0.win 12).cut (grid0.coords t) ((dats m 0 c₀).after 12 t) = _
    rw [after0_12]
    rfl
  rw [← e]
  refine h.trans ((congrFun a (ix2 r c)).trans ?_)
  by_cases ht : n.val / 512 < 64
  · exact (pointRaA m c₀ t ht (by show ¬ n.val / 512 % 65 = 64; omega) (ix2 r c)).trans (sumA m c₀ t ht r ⟨(1024 + c.val), by omega⟩ n ⟨(1024 + c.val), by omega⟩ hr (by show (1024 + c.val) = if (1024 + c.val) < 1536 then (1024 + c.val) else (1024 + c.val) + 16; rw [if_pos (by omega)]))
  · have h64 : n.val / 512 = 64 := by omega
    exact (pointRaB m c₀ t ht (by show n.val / 512 % 65 = 64; omega) (ix2 r c)).trans (sumB m c₀ t h64 r ⟨(1024 + c.val), by omega⟩ n ⟨(1024 + c.val), by omega⟩ hr (by show (1024 + c.val) = if (1024 + c.val) < 1536 then (1024 + c.val) else (1024 + c.val) + 16; rw [if_pos (by omega)]))

theorem step13 : ∀ t : Fin grid0.N, cc0_transform_13 (grid0.coords t) = ![t.val, 0] := by decide +kernel

theorem flush13 : ∀ t : Fin cfg0.N, (cfg0.win 13).flush t = true := (by decide +kernel : ∀ t : Fin grid0.N, (win0_13).flush t = true)

theorem disjoint13 : ∀ t t' : Fin cfg0.N, (cfg0.win 13).flush t = true → (cfg0.win 13).flush t' = true → t ≠ t' →
    Disjoint ((cfg0.win 13).blk t).view.set ((cfg0.win 13).blk t').view.set :=
  Window.hdisj_of_index_inj (cfg0.win 13) fun t t' _ _ h => by
    have e : cc0_transform_13 (grid0.coords t) 0 = cc0_transform_13 (grid0.coords t') 0 := congrFun h (0 : Fin 2)
    rw [step13, step13] at e
    exact Fin.ext e

theorem endQb (c₀ : Dev nD) (n : Fin 33280) (c : Fin 512) :
    (show Vec Ideal S33280x512 .bf16 from EvenRun.reg_main_v24_4 m c₀) (ix2 n c) = rowsAt m c₀ n ⟨(1552 + c.val), by omega⟩ * Ideal.ofBits .f32 0x3E38AA3B#32 := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x512.Idx from ((cfg0.win 13).blk t).view.emb (ix2 r c : S512x512.Idx)) = ix2 n c := by
    funext a
    apply Fin.ext
    fin_cases a
    · show cc0_transform_13 (grid0.coords t) 0 * 512 + 1 * r.val = n.val
      rw [step13]; show t.val * 512 + 1 * r.val = n.val; rw [hr]; omega
    · show cc0_transform_13 (grid0.coords t) 1 * 512 + 1 * c.val = c.val
      rw [step13]; show 0 * 512 + 1 * c.val = c.val; rw [Nat.zero_mul, Nat.zero_add, Nat.one_mul]
  have h := (dats m 0 c₀).arrAt_emb_eq_flushed 13 disjoint13 t (flush13 t) (ix2 r c : S512x512.Idx)
  have a : (dats m 0 c₀).flushed 13 t = (outsAt0 m c₀ t.val t.isLt).2.2.2.2.1 := by
    show (cfg0.win 13).cut (grid0.coords t) ((dats m 0 c₀).after 13 t) = _
    rw [after0_13]
    rfl
  rw [← e]
  refine h.trans ((congrFun a (ix2 r c)).trans ?_)
  by_cases ht : n.val / 512 < 64
  · exact (pointQbA m c₀ t ht (by show ¬ n.val / 512 % 65 = 64; omega) (ix2 r c)).trans (congrArg (· * Ideal.ofBits .f32 0x3E38AA3B#32) (sumA m c₀ t ht r ⟨(1536 + c.val), by omega⟩ n ⟨(1552 + c.val), by omega⟩ hr (by show (1552 + c.val) = if (1536 + c.val) < 1536 then (1536 + c.val) else (1536 + c.val) + 16; rw [if_neg (by omega)]; omega)))
  · have h64 : n.val / 512 = 64 := by omega
    exact (pointQbB m c₀ t ht (by show n.val / 512 % 65 = 64; omega) (ix2 r c)).trans (congrArg (· * Ideal.ofBits .f32 0x3E38AA3B#32) (sumB m c₀ t h64 r ⟨(1536 + c.val), by omega⟩ n ⟨(1552 + c.val), by omega⟩ hr (by show (1552 + c.val) = if (1536 + c.val) < 1536 then (1536 + c.val) else (1536 + c.val) + 16; rw [if_neg (by omega)]; omega)))

theorem step14 : ∀ t : Fin grid0.N, cc0_transform_14 (grid0.coords t) = ![t.val, 0] := by decide +kernel

theorem flush14 : ∀ t : Fin cfg0.N, (cfg0.win 14).flush t = true := (by decide +kernel : ∀ t : Fin grid0.N, (win0_14).flush t = true)

theorem disjoint14 : ∀ t t' : Fin cfg0.N, (cfg0.win 14).flush t = true → (cfg0.win 14).flush t' = true → t ≠ t' →
    Disjoint ((cfg0.win 14).blk t).view.set ((cfg0.win 14).blk t').view.set :=
  Window.hdisj_of_index_inj (cfg0.win 14) fun t t' _ _ h => by
    have e : cc0_transform_14 (grid0.coords t) 0 = cc0_transform_14 (grid0.coords t') 0 := congrFun h (0 : Fin 2)
    rw [step14, step14] at e
    exact Fin.ext e

theorem endKb (c₀ : Dev nD) (n : Fin 33280) (c : Fin 512) :
    (show Vec Ideal S33280x512 .bf16 from EvenRun.reg_main_v24_5 m c₀) (ix2 n c) = rowsAt m c₀ n ⟨(2064 + c.val), by omega⟩ := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x512.Idx from ((cfg0.win 14).blk t).view.emb (ix2 r c : S512x512.Idx)) = ix2 n c := by
    funext a
    apply Fin.ext
    fin_cases a
    · show cc0_transform_14 (grid0.coords t) 0 * 512 + 1 * r.val = n.val
      rw [step14]; show t.val * 512 + 1 * r.val = n.val; rw [hr]; omega
    · show cc0_transform_14 (grid0.coords t) 1 * 512 + 1 * c.val = c.val
      rw [step14]; show 0 * 512 + 1 * c.val = c.val; rw [Nat.zero_mul, Nat.zero_add, Nat.one_mul]
  have h := (dats m 0 c₀).arrAt_emb_eq_flushed 14 disjoint14 t (flush14 t) (ix2 r c : S512x512.Idx)
  have a : (dats m 0 c₀).flushed 14 t = (outsAt0 m c₀ t.val t.isLt).2.2.2.2.2.1 := by
    show (cfg0.win 14).cut (grid0.coords t) ((dats m 0 c₀).after 14 t) = _
    rw [after0_14]
    rfl
  rw [← e]
  refine h.trans ((congrFun a (ix2 r c)).trans ?_)
  by_cases ht : n.val / 512 < 64
  · exact (pointKbA m c₀ t ht (by show ¬ n.val / 512 % 65 = 64; omega) (ix2 r c)).trans (sumA m c₀ t ht r ⟨(2048 + c.val), by omega⟩ n ⟨(2064 + c.val), by omega⟩ hr (by show (2064 + c.val) = if (2048 + c.val) < 1536 then (2048 + c.val) else (2048 + c.val) + 16; rw [if_neg (by omega)]; omega))
  · have h64 : n.val / 512 = 64 := by omega
    exact (pointKbB m c₀ t ht (by show n.val / 512 % 65 = 64; omega) (ix2 r c)).trans (sumB m c₀ t h64 r ⟨(2048 + c.val), by omega⟩ n ⟨(2064 + c.val), by omega⟩ hr (by show (2064 + c.val) = if (2048 + c.val) < 1536 then (2048 + c.val) else (2048 + c.val) + 16; rw [if_neg (by omega)]; omega))

theorem step15 : ∀ t : Fin grid0.N, cc0_transform_15 (grid0.coords t) = ![t.val, 0] := by decide +kernel

theorem flush15 : ∀ t : Fin cfg0.N, (cfg0.win 15).flush t = true := (by decide +kernel : ∀ t : Fin grid0.N, (win0_15).flush t = true)

theorem disjoint15 : ∀ t t' : Fin cfg0.N, (cfg0.win 15).flush t = true → (cfg0.win 15).flush t' = true → t ≠ t' →
    Disjoint ((cfg0.win 15).blk t).view.set ((cfg0.win 15).blk t').view.set :=
  Window.hdisj_of_index_inj (cfg0.win 15) fun t t' _ _ h => by
    have e : cc0_transform_15 (grid0.coords t) 0 = cc0_transform_15 (grid0.coords t') 0 := congrFun h (0 : Fin 2)
    rw [step15, step15] at e
    exact Fin.ext e

theorem endVb (c₀ : Dev nD) (n : Fin 33280) (c : Fin 512) :
    (show Vec Ideal S33280x512 .bf16 from EvenRun.reg_main_v24_6 m c₀) (ix2 n c) = rowsAt m c₀ n ⟨(2576 + c.val), by omega⟩ := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x512.Idx from ((cfg0.win 15).blk t).view.emb (ix2 r c : S512x512.Idx)) = ix2 n c := by
    funext a
    apply Fin.ext
    fin_cases a
    · show cc0_transform_15 (grid0.coords t) 0 * 512 + 1 * r.val = n.val
      rw [step15]; show t.val * 512 + 1 * r.val = n.val; rw [hr]; omega
    · show cc0_transform_15 (grid0.coords t) 1 * 512 + 1 * c.val = c.val
      rw [step15]; show 0 * 512 + 1 * c.val = c.val; rw [Nat.zero_mul, Nat.zero_add, Nat.one_mul]
  have h := (dats m 0 c₀).arrAt_emb_eq_flushed 15 disjoint15 t (flush15 t) (ix2 r c : S512x512.Idx)
  have a : (dats m 0 c₀).flushed 15 t = (outsAt0 m c₀ t.val t.isLt).2.2.2.2.2.2.1 := by
    show (cfg0.win 15).cut (grid0.coords t) ((dats m 0 c₀).after 15 t) = _
    rw [after0_15]
    rfl
  rw [← e]
  refine h.trans ((congrFun a (ix2 r c)).trans ?_)
  by_cases ht : n.val / 512 < 64
  · exact (pointVbA m c₀ t ht (by show ¬ n.val / 512 % 65 = 64; omega) (ix2 r c)).trans (sumA m c₀ t ht r ⟨(2560 + c.val), by omega⟩ n ⟨(2576 + c.val), by omega⟩ hr (by show (2576 + c.val) = if (2560 + c.val) < 1536 then (2560 + c.val) else (2560 + c.val) + 16; rw [if_neg (by omega)]; omega))
  · have h64 : n.val / 512 = 64 := by omega
    exact (pointVbB m c₀ t ht (by show n.val / 512 % 65 = 64; omega) (ix2 r c)).trans (sumB m c₀ t h64 r ⟨(2560 + c.val), by omega⟩ n ⟨(2576 + c.val), by omega⟩ hr (by show (2576 + c.val) = if (2560 + c.val) < 1536 then (2560 + c.val) else (2560 + c.val) + 16; rw [if_neg (by omega)]; omega))

end Cert.Kernel2Ideal.Even

end
-- ==== Proof.EvenReference.lean ====
/- The projected rows of the reference at an index, read in stages: the normalised and modulated rows of the prompt and of
   the sample, their products with the weights, the stacked rows, and the results. -/
module

public import proofs.«01_k».proof.Proof.Gen.Reference2Ideal.Run
public import proofs.«01_k».proof.Proof.Projection
public import Idealize.ShloMosaic.Lib.Pointwise

@[expose] public section

set_option maxRecDepth 16384

noncomputable section

namespace Cert.Reference2Ideal.Even

open Cert.Reference2Ideal Cert.Reference2Ideal.Gen Cert.Reference2Ideal.Value Idealize.ShloMosaic Idealize.ShloMosaic.TcCoe Idealize.SL.Sem Idealize.ShloMosaic.StableHlo

section stages
variable (x : FVec Ideal S2x16384x1024 .f32) (y : FVec Ideal S8x64x1024 .f32) (mods : FVec Ideal S16x6144 .f32) (g : FVec Ideal S1024 .f32) (w : FVec Ideal S1x1024x3088 .f32)

/-- The prompt's rows, normalised and multiplied by the norm's weights. -/
def normP : FVec Ideal S2x16384x1024 .f32 :=
  mulf (F := Ideal) (mulf (F := Ideal) x (broadcastInDim S2x16384x1024 ![0, 1, 2] bcast_S2x16384x1_S2x16384x1024_0_1_2 (Host.rsqrt (F := Ideal) (addf (F := Ideal) (Host.divf (F := Ideal) (broadcastInDim S2x16384x1 ![0, 1] bcast_S2x16384_S2x16384x1_0_1 (Host.reduceAdd (F := Ideal) (mulf (F := Ideal) x x) (constant (F := Ideal) S_ .f32 0x00000000#32) reducesTo_S2x16384x1024_S2x16384_d2 h_S_)) (broadcastInDim S2x16384x1 ![] bcast_S_S2x16384x1 (constant (F := Ideal) S_ .f32 0x44800000#32))) (broadcastInDim S2x16384x1 ![] bcast_S_S2x16384x1 (constant (F := Ideal) S_ .f32 0x358637BD#32)))))) (broadcastInDim S2x16384x1024 ![0, 1, 2] bcast_S1x1x1024_S2x16384x1024_0_1_2 (broadcastInDim S1x1x1024 ![2] bcast_S1024_S1x1x1024_2 g))

/-- The prompt's rows, modulated. -/
def rowsP : FVec Ideal S2x16384x1024 .f32 :=
  addf (F := Ideal) (mulf (F := Ideal) (normP x g) (broadcastInDim S2x16384x1024 ![0, 1, 2] bcast_S2x1x1024_S2x16384x1024_0_1_2 (addf (F := Ideal) (broadcastInDim S2x1x1024 ![] bcast_S_S2x1x1024 (constant (F := Ideal) S_ .f32 0x3F800000#32)) (broadcastInDim S2x1x1024 ![0, 2] bcast_S2x1024_S2x1x1024_0_2 (extractStridedSlice S2x1024 ![0, 1024] (extractStridedSlice S2x6144 ![0, 0] mods slices_S16x6144_S2x6144_0_0) slices_S2x6144_S2x1024_0_1024)))))
    (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S2x6144 ![0, 0] mods slices_S16x6144_S2x6144_0_0) slices_S2x6144_S2x1024_0_0)))

/-- The prompt's rows, projected. -/
def zP : FVec Ideal S2x16384x3088 .f32 :=
  Host.dotGeneral (F := Ideal) dot_S2x16384x1024_S1024x3088_S2x16384x3088_2_0_01_1_n_n none (rowsP x mods g) (shapeCast S1024x3088 w shapeCasts_S1x1024x3088_S1024x3088)

/-- The sample's rows, normalised and multiplied by the norm's weights. -/
def normS : FVec Ideal S8x64x1024 .f32 :=
  mulf (F := Ideal) (mulf (F := Ideal) y (broadcastInDim S8x64x1024 ![0, 1, 2] bcast_S8x64x1_S8x64x1024_0_1_2 (Host.rsqrt (F := Ideal) (addf (F := Ideal) (Host.divf (F := Ideal) (broadcastInDim S8x64x1 ![0, 1] bcast_S8x64_S8x64x1_0_1 (Host.reduceAdd (F := Ideal) (mulf (F := Ideal) y y) (constant (F := Ideal) S_ .f32 0x00000000#32) reducesTo_S8x64x1024_S8x64_d2 h_S_)) (broadcastInDim S8x64x1 ![] bcast_S_S8x64x1 (constant (F := Ideal) S_ .f32 0x44800000#32))) (broadcastInDim S8x64x1 ![] bcast_S_S8x64x1 (constant (F := Ideal) S_ .f32 0x358637BD#32)))))) (broadcastInDim S8x64x1024 ![0, 1, 2] bcast_S1x1x1024_S8x64x1024_0_1_2 (broadcastInDim S1x1x1024 ![2] bcast_S1024_S1x1x1024_2 g))

/-- The sample's rows, modulated. -/
def rowsS : FVec Ideal S8x64x1024 .f32 :=
  addf (F := Ideal) (mulf (F := Ideal) (normS y g) (broadcastInDim S8x64x1024 ![0, 1, 2] bcast_S8x1x1024_S8x64x1024_0_1_2 (addf (F := Ideal) (broadcastInDim S8x1x1024 ![] bcast_S_S8x1x1024 (constant (F := Ideal) S_ .f32 0x3F800000#32)) (broadcastInDim S8x1x1024 ![0, 2] bcast_S8x1024_S8x1x1024_0_2 (extractStridedSlice S8x1024 ![0, 1024] (extractStridedSlice S8x6144 ![2, 0] mods slices_S16x6144_S8x6144_2_0) slices_S8x6144_S8x1024_0_1024)))))
    (broadcastInDim S8x64x1024 ![0, 1, 2] bcast_S8x1x1024_S8x64x1024_0_1_2 (broadcastInDim S8x1x1024 ![0, 2] bcast_S8x1024_S8x1x1024_0_2 (extractStridedSlice S8x1024 ![0, 0] (extractStridedSlice S8x6144 ![2, 0] mods slices_S16x6144_S8x6144_2_0) slices_S8x6144_S8x1024_0_0)))

/-- The sample's rows, projected. -/
def zS : FVec Ideal S8x64x3088 .f32 :=
  Host.dotGeneral (F := Ideal) dot_S8x64x1024_S1024x3088_S8x64x3088_2_0_01_1_n_n none (rowsS y mods g) (shapeCast S1024x3088 w shapeCasts_S1x1024x3088_S1024x3088)

/-- All projected rows, the prompt's above the sample's. -/
def zAll : FVec Ideal S33280x3088 .f32 :=
  fn_main_v54 (F := Ideal) (shapeCast S32768x3088 (zP x mods g w) shapeCasts_S2x16384x3088_S32768x3088) (shapeCast S512x3088 (zS y mods g w) shapeCasts_S8x64x3088_S512x3088)

def resQa : FVec Ideal S33280x256 .bf16 :=
  truncf (F := Ideal) .bf16 (mulf (F := Ideal) (extractStridedSlice S33280x256 ![0, 0] (zAll x y mods g w) slices_S33280x3088_S33280x256_0_0) (broadcastInDim S33280x256 ![] bcast_S_S33280x256 (constant (F := Ideal) S_ .f32 0x3E000000#32))) bitsLt_bf16_f32
def resKa : FVec Ideal S33280x256 .bf16 := truncf (F := Ideal) .bf16 (extractStridedSlice S33280x256 ![0, 256] (zAll x y mods g w) slices_S33280x3088_S33280x256_0_256) bitsLt_bf16_f32
def resVa : FVec Ideal S33280x512 .bf16 := truncf (F := Ideal) .bf16 (extractStridedSlice S33280x512 ![0, 512] (zAll x y mods g w) slices_S33280x3088_S33280x512_0_512) bitsLt_bf16_f32
def resRa : FVec Ideal S33280x512 .bf16 := truncf (F := Ideal) .bf16 (extractStridedSlice S33280x512 ![0, 1024] (zAll x y mods g w) slices_S33280x3088_S33280x512_0_1024) bitsLt_bf16_f32
def resQb : FVec Ideal S33280x512 .bf16 :=
  truncf (F := Ideal) .bf16 (mulf (F := Ideal) (extractStridedSlice S33280x512 ![0, 1552] (zAll x y mods g w) slices_S33280x3088_S33280x512_0_1552) (broadcastInDim S33280x512 ![] bcast_S_S33280x512 (constant (F := Ideal) S_ .f32 0x3E38AA3B#32))) bitsLt_bf16_f32
def resKb : FVec Ideal S33280x512 .bf16 := truncf (F := Ideal) .bf16 (extractStridedSlice S33280x512 ![0, 2064] (zAll x y mods g w) slices_S33280x3088_S33280x512_0_2064) bitsLt_bf16_f32
def resVb : FVec Ideal S33280x512 .bf16 := truncf (F := Ideal) .bf16 (extractStridedSlice S33280x512 ![0, 2576] (zAll x y mods g w) slices_S33280x3088_S33280x512_0_2576) bitsLt_bf16_f32

def keptK : FVec Ideal S1x2x512x8x64 .f32 := shapeCast S1x2x512x8x64 (extractStridedSlice S2x512x512 ![0, 15872, 2064] (zP x mods g w) slices_S2x16384x3088_S2x512x512_0_15872_2064) shapeCasts_S2x512x512_S1x2x512x8x64
def keptV : FVec Ideal S1x2x512x8x64 .f32 := shapeCast S1x2x512x8x64 (extractStridedSlice S2x512x512 ![0, 15872, 2576] (zP x mods g w) slices_S2x16384x3088_S2x512x512_0_15872_2576) shapeCasts_S2x512x512_S1x2x512x8x64

variable (old : FVec Ideal S1x8x512x8x64 .f32)

def grownK : FVec Ideal S1x8x512x8x64 .f32 :=
  broadcastInDim S1x8x512x8x64 ![1, 2, 3, 4] bcast_S8x512x8x64_S1x8x512x8x64_1_2_3_4 (extractStridedSlice S8x512x8x64 ![0, 64, 0, 0] (fn_main_v81 (F := Ideal) (shapeCast S8x512x8x64 old shapeCasts_S1x8x512x8x64_S8x512x8x64) (shapeCast S8x64x8x64 (extractStridedSlice S8x64x512 ![0, 0, 2064] (zS y mods g w) slices_S8x64x3088_S8x64x512_0_0_2064) shapeCasts_S8x64x512_S8x64x8x64)) slices_S8x576x8x64_S8x512x8x64_0_64_0_0)
def grownV : FVec Ideal S1x8x512x8x64 .f32 :=
  broadcastInDim S1x8x512x8x64 ![1, 2, 3, 4] bcast_S8x512x8x64_S1x8x512x8x64_1_2_3_4 (extractStridedSlice S8x512x8x64 ![0, 64, 0, 0] (fn_main_v87 (F := Ideal) (shapeCast S8x512x8x64 old shapeCasts_S1x8x512x8x64_S8x512x8x64) (shapeCast S8x64x8x64 (extractStridedSlice S8x64x512 ![0, 0, 2576] (zS y mods g w) slices_S8x64x3088_S8x64x512_0_0_2576) shapeCasts_S8x64x512_S8x64x8x64)) slices_S8x576x8x64_S8x512x8x64_0_64_0_0)

end stages

section values
variable (x : FVec Ideal S2x16384x1024 .f32) (y : FVec Ideal S8x64x1024 .f32) (mods : FVec Ideal S16x6144 .f32) (g : FVec Ideal S1024 .f32) (w : FVec Ideal S1x1024x3088 .f32)

theorem normP_at (b : Fin 2) (r : Fin 16384) (d : Fin 1024) : normP x g (ix3 b r d) =
    x (ix3 b r d) * Ideal.rsqrt (Ideal.div (∑ k, x (ix3 b r k) * x (ix3 b r k)) (Ideal.ofBits .f32 0x44800000#32) + Ideal.ofBits .f32 0x358637BD#32) * g (ix1 d) := by
  unfold normP
  pointwise []

theorem normS_at (b : Fin 8) (r : Fin 64) (d : Fin 1024) : normS y g (ix3 b r d) =
    y (ix3 b r d) * Ideal.rsqrt (Ideal.div (∑ k, y (ix3 b r k) * y (ix3 b r k)) (Ideal.ofBits .f32 0x44800000#32) + Ideal.ofBits .f32 0x358637BD#32) * g (ix1 d) := by
  unfold normS
  pointwise []

theorem rowsP_at (b : Fin 2) (r : Fin 16384) (d : Fin 1024) : rowsP x mods g (ix3 b r d) =
    Projection.normed (fun k => x (ix3 b r k)) (fun k => g (ix1 k)) (fun k => mods (ix2 ⟨b.val, by omega⟩ ⟨k.val, by omega⟩)) (fun k => mods (ix2 ⟨b.val, by omega⟩ ⟨1024 + k.val, by omega⟩)) d := by
  unfold rowsP Projection.normed
  pointwise [normP_at]

theorem rowsS_at (b : Fin 8) (r : Fin 64) (d : Fin 1024) : rowsS y mods g (ix3 b r d) =
    Projection.normed (fun k => y (ix3 b r k)) (fun k => g (ix1 k)) (fun k => mods (ix2 ⟨2 + b.val, by omega⟩ ⟨k.val, by omega⟩)) (fun k => mods (ix2 ⟨2 + b.val, by omega⟩ ⟨1024 + k.val, by omega⟩)) d := by
  unfold rowsS Projection.normed
  pointwise [normS_at]

/-- The arrays as functions of plain coordinates. -/
abbrev fP : Fin 2 → Fin 16384 → Fin 1024 → EReal := fun b r k => x (ix3 b r k)
abbrev fS : Fin 8 → Fin 64 → Fin 1024 → EReal := fun b r k => y (ix3 b r k)
abbrev fM : Fin 16 → Fin 6144 → EReal := fun s k => mods (ix2 s k)
abbrev fG : Fin 1024 → EReal := fun k => g (ix1 k)
abbrev fW : Fin 1024 → Fin 3088 → EReal := fun k c => w (ix3 0 k c)

theorem zP_at (b : Fin 2) (r : Fin 16384) (c : Fin 3088) : zP x mods g w (ix3 b r c) = Projection.prompt (fP x) (fM mods) (fG g) (fW w) b r c := by
  unfold zP Projection.prompt Projection.projected
  pointwise [rowsP_at]

theorem zS_at (b : Fin 8) (r : Fin 64) (c : Fin 3088) : zS y mods g w (ix3 b r c) = Projection.sample (fS y) (fM mods) (fG g) (fW w) b r c := by
  unfold zS Projection.sample Projection.projected
  pointwise [rowsS_at]

theorem zAll_at (n : Fin 33280) (c : Fin 3088) : zAll x y mods g w (ix2 n c) = Projection.stacked (fP x) (fS y) (fM mods) (fG g) (fW w) n c := by
  unfold zAll Projection.stacked
  pointwise [fn_main_v54, zP_at, zS_at]

theorem resQa_at (n : Fin 33280) (c : Fin 256) : resQa x y mods g w (ix2 n c) = Projection.stacked (fP x) (fS y) (fM mods) (fG g) (fW w) n ⟨c.val, by omega⟩ * Ideal.ofBits .f32 0x3E000000#32 := by
  unfold resQa
  pointwise [zAll_at]

theorem resKa_at (n : Fin 33280) (c : Fin 256) : resKa x y mods g w (ix2 n c) = Projection.stacked (fP x) (fS y) (fM mods) (fG g) (fW w) n ⟨256 + c.val, by omega⟩ := by
  unfold resKa
  pointwise [zAll_at]

theorem resVa_at (n : Fin 33280) (c : Fin 512) : resVa x y mods g w (ix2 n c) = Projection.stacked (fP x) (fS y) (fM mods) (fG g) (fW w) n ⟨512 + c.val, by omega⟩ := by
  unfold resVa
  pointwise [zAll_at]

theorem resRa_at (n : Fin 33280) (c : Fin 512) : resRa x y mods g w (ix2 n c) = Projection.stacked (fP x) (fS y) (fM mods) (fG g) (fW w) n ⟨1024 + c.val, by omega⟩ := by
  unfold resRa
  pointwise [zAll_at]

theorem resQb_at (n : Fin 33280) (c : Fin 512) : resQb x y mods g w (ix2 n c) = Projection.stacked (fP x) (fS y) (fM mods) (fG g) (fW w) n ⟨1552 + c.val, by omega⟩ * Ideal.ofBits .f32 0x3E38AA3B#32 := by
  unfold resQb
  pointwise [zAll_at]

theorem resKb_at (n : Fin 33280) (c : Fin 512) : resKb x y mods g w (ix2 n c) = Projection.stacked (fP x) (fS y) (fM mods) (fG g) (fW w) n ⟨2064 + c.val, by omega⟩ := by
  unfold resKb
  pointwise [zAll_at]

theorem resVb_at (n : Fin 33280) (c : Fin 512) : resVb x y mods g w (ix2 n c) = Projection.stacked (fP x) (fS y) (fM mods) (fG g) (fW w) n ⟨2576 + c.val, by omega⟩ := by
  unfold resVb
  pointwise [zAll_at]

theorem keptK_at (b : Fin 2) (p : Fin 512) (h : Fin 8) (e : Fin 64) : keptK x mods g w (ix5 0 b p h e) =
    Projection.prompt (fP x) (fM mods) (fG g) (fW w) b ⟨15872 + p.val, by omega⟩ ⟨2064 + (h.val * 64 + e.val), by omega⟩ := by
  unfold keptK
  pointwise [zP_at]

theorem keptV_at (b : Fin 2) (p : Fin 512) (h : Fin 8) (e : Fin 64) : keptV x mods g w (ix5 0 b p h e) =
    Projection.prompt (fP x) (fM mods) (fG g) (fW w) b ⟨15872 + p.val, by omega⟩ ⟨2576 + (h.val * 64 + e.val), by omega⟩ := by
  unfold keptV
  pointwise [zP_at]

theorem grownK_at (old : FVec Ideal S1x8x512x8x64 .f32) (b : Fin 8) (p : Fin 512) (h : Fin 8) (e : Fin 64) : grownK y mods g w old (ix5 0 b p h e) =
    if h' : 64 + p.val < 512 then old (ix5 0 b ⟨64 + p.val, h'⟩ h e)
    else Projection.sample (fS y) (fM mods) (fG g) (fW w) b ⟨64 + p.val - 512, by omega⟩ ⟨2064 + (h.val * 64 + e.val), by omega⟩ := by
  unfold grownK
  pointwise [fn_main_v81, zS_at]

theorem grownV_at (old : FVec Ideal S1x8x512x8x64 .f32) (b : Fin 8) (p : Fin 512) (h : Fin 8) (e : Fin 64) : grownV y mods g w old (ix5 0 b p h e) =
    if h' : 64 + p.val < 512 then old (ix5 0 b ⟨64 + p.val, h'⟩ h e)
    else Projection.sample (fS y) (fM mods) (fG g) (fW w) b ⟨64 + p.val - 512, by omega⟩ ⟨2576 + (h.val * 64 + e.val), by omega⟩ := by
  unfold grownV
  pointwise [fn_main_v87, zS_at]

end values

set_option maxHeartbeats 1000000 in
/-- The reference's run: every execution ends with these results and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v67) = resQa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v68) = resKa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v69) = resVa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v70) = resRa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v71) = resQb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v72) = resKb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v73) = resVb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v75) = keptK (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v77) = keptV (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v83) = grownK (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v89) = grownV (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => by
    obtain ⟨h0, h1, h2, h3, h4, h5, h6, h7, h8, h9, h10, ha⟩ := h c
    exact ⟨h0, h1, h2, h3, h4, h5, h6, h7, h8, h9, h10, ha⟩) (Cert.Reference2Ideal.Value.run m ρ)

end Cert.Reference2Ideal.Even

end
-- ==== Proof.EvenValues.lean ====
/- The input projection of an even layer, kernel against reference: both leave the same seven arrays of projected rows and the
   same four caches. -/
module

public import proofs.«01_k».proof.Proof.EvenArrays
public import proofs.«01_k».proof.Proof.EvenReference
public import proofs.«01_k».proof.Defs
public import proofs.«01_k».proof.Proof.Gen.Kernel2
public import proofs.«01_k».proof.Proof.Gen.Kernel2.Frame
public import Idealize.ShloMosaic.Lib.Quiescent

@[expose] public section

set_option maxRecDepth 16384

noncomputable section

namespace Cert.EvenValues

open Idealize.ShloMosaic Idealize.ShloMosaic.TcCoe Idealize.ShloMosaic.Tactic
open Idealize.SL Idealize.SL.Sem
open Cert.Kernel2Ideal Cert.Kernel2Ideal.Gen Cert.Kernel2Ideal.Even

variable (m : (ℓ : Loc nD τ sig) → Buf (Elt Ideal) ℓ)

theorem rowsAt_prompt (c : Dev nD) (n : Fin 33280) (q : Fin 3088) (b : Fin 2) (r : Fin 16384) (h : n.val = b.val * 16384 + r.val) :
    rowsAt m c n q = Projection.prompt (xPrompt m c) (modsOf m c) (gainOf m c) (weightOf m c) b r q := by
  have hb := b.isLt
  have hr := r.isLt
  have e0 : n.val / 16384 = b.val := by omega
  have e1 : n.val % 16384 = r.val := by omega
  unfold rowsAt Projection.stacked
  rw [dif_pos (by omega)]
  have f0 : (⟨n.val / 16384, by omega⟩ : Fin 2) = b := Fin.ext e0
  have f1 : (⟨n.val % 16384, by omega⟩ : Fin 16384) = r := Fin.ext e1
  rw [f0, f1]

theorem rowsAt_sample (c : Dev nD) (n : Fin 33280) (q : Fin 3088) (b : Fin 8) (r : Fin 64) (h : n.val = 32768 + (b.val * 64 + r.val)) :
    rowsAt m c n q = Projection.sample (xSample m c) (modsOf m c) (gainOf m c) (weightOf m c) b r q := by
  have hb := b.isLt
  have hr := r.isLt
  have e0 : (n.val - 32768) / 64 = b.val := by omega
  have e1 : (n.val - 32768) % 64 = r.val := by omega
  unfold rowsAt Projection.stacked
  rw [dif_neg (by omega)]
  have f0 : (⟨(n.val - 32768) / 64, by omega⟩ : Fin 8) = b := Fin.ext e0
  have f1 : (⟨(n.val - 32768) % 64, by omega⟩ : Fin 64) = r := Fin.ext e1
  rw [f0, f1]

theorem heads_ext {B P : Nat} {f g : (⟨5, ![1, B, P, 8, 64]⟩ : Shape).Idx → EReal} (h : ∀ (b : Fin B) (p : Fin P) (k : Fin 8) (e : Fin 64), f (ix5 0 b p k e) = g (ix5 0 b p k e)) : f = g := by
  funext i
  have h0 : (show Fin 1 from i 0) = 0 := Subsingleton.elim _ _
  have hi : i = ix5 (0 : Fin 1) (i 1) (i 2) (i 3) (i 4) := (ix5_eta i).symm.trans (congrArg (fun z : Fin 1 => (ix5 z (i 1) (i 2) (i 3) (i 4) : (⟨5, ![1, B, P, 8, 64]⟩ : Shape).Idx)) h0)
  rw [hi]
  exact h _ _ _ _

theorem resQa_eq (c : Dev nD) : EvenRun.reg_main_v24_0 m c = Reference2Ideal.Even.resQa (m (c.tc.loc main_arg0)) (m (c.tc.loc main_arg1)) (m (c.tc.loc main_arg2)) (m (c.tc.loc main_arg3)) (m (c.tc.loc main_arg4)) := by
  funext i
  rw [← ix2_eta (show S33280x256.Idx from i)]
  exact (endQa m c _ _).trans (Reference2Ideal.Even.resQa_at _ _ _ _ _ _ _).symm

theorem resKa_eq (c : Dev nD) : EvenRun.reg_main_v24_1 m c = Reference2Ideal.Even.resKa (m (c.tc.loc main_arg0)) (m (c.tc.loc main_arg1)) (m (c.tc.loc main_arg2)) (m (c.tc.loc main_arg3)) (m (c.tc.loc main_arg4)) := by
  funext i
  rw [← ix2_eta (show S33280x256.Idx from i)]
  exact (endKa m c _ _).trans (Reference2Ideal.Even.resKa_at _ _ _ _ _ _ _).symm

theorem resVa_eq (c : Dev nD) : EvenRun.reg_main_v24_2 m c = Reference2Ideal.Even.resVa (m (c.tc.loc main_arg0)) (m (c.tc.loc main_arg1)) (m (c.tc.loc main_arg2)) (m (c.tc.loc main_arg3)) (m (c.tc.loc main_arg4)) := by
  funext i
  rw [← ix2_eta (show S33280x512.Idx from i)]
  exact (endVa m c _ _).trans (Reference2Ideal.Even.resVa_at _ _ _ _ _ _ _).symm

theorem resRa_eq (c : Dev nD) : EvenRun.reg_main_v24_3 m c = Reference2Ideal.Even.resRa (m (c.tc.loc main_arg0)) (m (c.tc.loc main_arg1)) (m (c.tc.loc main_arg2)) (m (c.tc.loc main_arg3)) (m (c.tc.loc main_arg4)) := by
  funext i
  rw [← ix2_eta (show S33280x512.Idx from i)]
  exact (endRa m c _ _).trans (Reference2Ideal.Even.resRa_at _ _ _ _ _ _ _).symm

theorem resQb_eq (c : Dev nD) : EvenRun.reg_main_v24_4 m c = Reference2Ideal.Even.resQb (m (c.tc.loc main_arg0)) (m (c.tc.loc main_arg1)) (m (c.tc.loc main_arg2)) (m (c.tc.loc main_arg3)) (m (c.tc.loc main_arg4)) := by
  funext i
  rw [← ix2_eta (show S33280x512.Idx from i)]
  exact (endQb m c _ _).trans (Reference2Ideal.Even.resQb_at _ _ _ _ _ _ _).symm

theorem resKb_eq (c : Dev nD) : EvenRun.reg_main_v24_5 m c = Reference2Ideal.Even.resKb (m (c.tc.loc main_arg0)) (m (c.tc.loc main_arg1)) (m (c.tc.loc main_arg2)) (m (c.tc.loc main_arg3)) (m (c.tc.loc main_arg4)) := by
  funext i
  rw [← ix2_eta (show S33280x512.Idx from i)]
  exact (endKb m c _ _).trans (Reference2Ideal.Even.resKb_at _ _ _ _ _ _ _).symm

theorem resVb_eq (c : Dev nD) : EvenRun.reg_main_v24_6 m c = Reference2Ideal.Even.resVb (m (c.tc.loc main_arg0)) (m (c.tc.loc main_arg1)) (m (c.tc.loc main_arg2)) (m (c.tc.loc main_arg3)) (m (c.tc.loc main_arg4)) := by
  funext i
  rw [← ix2_eta (show S33280x512.Idx from i)]
  exact (endVb m c _ _).trans (Reference2Ideal.Even.resVb_at _ _ _ _ _ _ _).symm

/-- The prompt's last 512 rows of each sequence, split into heads. -/
theorem keptK_eq (c : Dev nD) (z : FVec Ideal S33280x512 .bf16) (hz : ∀ n d, z (ix2 n d) = rowsAt m c n ⟨2064 + d.val, by omega⟩) :
    (shapeCast S1x2x512x8x64 (extf (F := Ideal) .f32 (concatenate S2x512x512 0 [⟨S1x512x512, (broadcastInDim S1x512x512 ![1, 2] bcast_S512x512_S1x512x512_1_2 (extractStridedSlice S512x512 ![15872, 0] z slices_S33280x512_S512x512_15872_0))⟩, ⟨S1x512x512, (broadcastInDim S1x512x512 ![1, 2] bcast_S512x512_S1x512x512_1_2 (extractStridedSlice S512x512 ![32256, 0] z slices_S33280x512_S512x512_32256_0))⟩] concatenates_S1x512x512_S1x512x512_S2x512x512_d0) bitsLt_bf16_f32) shapeCasts_S2x512x512_S1x2x512x8x64 : FVec Ideal S1x2x512x8x64 .f32)
      = Reference2Ideal.Even.keptK (m (c.tc.loc main_arg0)) (m (c.tc.loc main_arg2)) (m (c.tc.loc main_arg3)) (m (c.tc.loc main_arg4)) := by
  refine heads_ext fun b p h e => ?_
  refine Eq.trans ?_ (Reference2Ideal.Even.keptK_at _ _ _ _ b p h e).symm
  pointwise [hz]
  by_cases hb : b.val < 1
  · rw [dif_pos hb]
    exact rowsAt_prompt m c _ _ b _ (by show 15872 + p.val = b.val * 16384 + (15872 + p.val); omega)
  · rw [dif_neg hb]
    exact rowsAt_prompt m c _ _ b _ (by show 32256 + p.val = b.val * 16384 + (15872 + p.val); omega)

/-- The old cache's last 448 rows above the sample's 64 new ones, split into heads. -/
theorem grownK_eq (c : Dev nD) (z : FVec Ideal S33280x512 .bf16) (old : FVec Ideal S1x8x512x8x64 .f32) (hz : ∀ n d, z (ix2 n d) = rowsAt m c n ⟨2064 + d.val, by omega⟩) :
    (broadcastInDim S1x8x512x8x64 ![1, 2, 3, 4] bcast_S8x512x8x64_S1x8x512x8x64_1_2_3_4 (concatenate S8x512x8x64 1 [⟨S8x448x8x64, (extractStridedSlice S8x448x8x64 ![0, 64, 0, 0] (shapeCast _ old shapeCasts_S1x8x512x8x64_S8x512x8x64) slices_S8x512x8x64_S8x448x8x64_0_64_0_0)⟩, ⟨S8x64x8x64, (shapeCast _ (extf (F := Ideal) .f32 (extractStridedSlice S512x512 ![32768, 0] z slices_S33280x512_S512x512_32768_0) bitsLt_bf16_f32) shapeCasts_S512x512_S8x64x8x64)⟩] concatenates_S8x448x8x64_S8x64x8x64_S8x512x8x64_d1) : FVec Ideal S1x8x512x8x64 .f32)
      = Reference2Ideal.Even.grownK (m (c.tc.loc main_arg1)) (m (c.tc.loc main_arg2)) (m (c.tc.loc main_arg3)) (m (c.tc.loc main_arg4)) old := by
  refine heads_ext fun b p h e => ?_
  refine Eq.trans ?_ (Reference2Ideal.Even.grownK_at _ _ _ _ _ b p h e).symm
  pointwise [hz]
  by_cases hp : p.val < 448
  · rw [dif_pos hp, dif_pos (by omega)]
  · rw [dif_neg hp, dif_neg (by omega)]
    exact rowsAt_sample m c _ _ b _ (by show 32768 + (b.val * 64 + (p.val - 448)) = 32768 + (b.val * 64 + (64 + p.val - 512)); omega)

/-- The prompt's last 512 rows of each sequence, split into heads. -/
theorem keptV_eq (c : Dev nD) (z : FVec Ideal S33280x512 .bf16) (hz : ∀ n d, z (ix2 n d) = rowsAt m c n ⟨2576 + d.val, by omega⟩) :
    (shapeCast S1x2x512x8x64 (extf (F := Ideal) .f32 (concatenate S2x512x512 0 [⟨S1x512x512, (broadcastInDim S1x512x512 ![1, 2] bcast_S512x512_S1x512x512_1_2 (extractStridedSlice S512x512 ![15872, 0] z slices_S33280x512_S512x512_15872_0))⟩, ⟨S1x512x512, (broadcastInDim S1x512x512 ![1, 2] bcast_S512x512_S1x512x512_1_2 (extractStridedSlice S512x512 ![32256, 0] z slices_S33280x512_S512x512_32256_0))⟩] concatenates_S1x512x512_S1x512x512_S2x512x512_d0) bitsLt_bf16_f32) shapeCasts_S2x512x512_S1x2x512x8x64 : FVec Ideal S1x2x512x8x64 .f32)
      = Reference2Ideal.Even.keptV (m (c.tc.loc main_arg0)) (m (c.tc.loc main_arg2)) (m (c.tc.loc main_arg3)) (m (c.tc.loc main_arg4)) := by
  refine heads_ext fun b p h e => ?_
  refine Eq.trans ?_ (Reference2Ideal.Even.keptV_at _ _ _ _ b p h e).symm
  pointwise [hz]
  by_cases hb : b.val < 1
  · rw [dif_pos hb]
    exact rowsAt_prompt m c _ _ b _ (by show 15872 + p.val = b.val * 16384 + (15872 + p.val); omega)
  · rw [dif_neg hb]
    exact rowsAt_prompt m c _ _ b _ (by show 32256 + p.val = b.val * 16384 + (15872 + p.val); omega)

/-- The old cache's last 448 rows above the sample's 64 new ones, split into heads. -/
theorem grownV_eq (c : Dev nD) (z : FVec Ideal S33280x512 .bf16) (old : FVec Ideal S1x8x512x8x64 .f32) (hz : ∀ n d, z (ix2 n d) = rowsAt m c n ⟨2576 + d.val, by omega⟩) :
    (broadcastInDim S1x8x512x8x64 ![1, 2, 3, 4] bcast_S8x512x8x64_S1x8x512x8x64_1_2_3_4 (concatenate S8x512x8x64 1 [⟨S8x448x8x64, (extractStridedSlice S8x448x8x64 ![0, 64, 0, 0] (shapeCast _ old shapeCasts_S1x8x512x8x64_S8x512x8x64) slices_S8x512x8x64_S8x448x8x64_0_64_0_0)⟩, ⟨S8x64x8x64, (shapeCast _ (extf (F := Ideal) .f32 (extractStridedSlice S512x512 ![32768, 0] z slices_S33280x512_S512x512_32768_0) bitsLt_bf16_f32) shapeCasts_S512x512_S8x64x8x64)⟩] concatenates_S8x448x8x64_S8x64x8x64_S8x512x8x64_d1) : FVec Ideal S1x8x512x8x64 .f32)
      = Reference2Ideal.Even.grownV (m (c.tc.loc main_arg1)) (m (c.tc.loc main_arg2)) (m (c.tc.loc main_arg3)) (m (c.tc.loc main_arg4)) old := by
  refine heads_ext fun b p h e => ?_
  refine Eq.trans ?_ (Reference2Ideal.Even.grownV_at _ _ _ _ _ b p h e).symm
  pointwise [hz]
  by_cases hp : p.val < 448
  · rw [dif_pos hp, dif_pos (by omega)]
  · rw [dif_neg hp, dif_neg (by omega)]
    exact rowsAt_sample m c _ _ b _ (by show 32768 + (b.val * 64 + (p.val - 448)) = 32768 + (b.val * 64 + (64 + p.val - 512)); omega)

theorem grownK_congr {y y' : FVec Ideal S8x64x1024 .f32} {s s' : FVec Ideal S16x6144 .f32} {g g' : FVec Ideal S1024 .f32} {w w' : FVec Ideal S1x1024x3088 .f32} {o o' : FVec Ideal S1x8x512x8x64 .f32}
    (ey : y = y') (es : s = s') (eg : g = g') (ew : w = w') (eo : o = o') : Reference2Ideal.Even.grownK y s g w o = Reference2Ideal.Even.grownK y' s' g' w' o' := by
  rw [ey, es, eg, ew, eo]

theorem grownV_congr {y y' : FVec Ideal S8x64x1024 .f32} {s s' : FVec Ideal S16x6144 .f32} {g g' : FVec Ideal S1024 .f32} {w w' : FVec Ideal S1x1024x3088 .f32} {o o' : FVec Ideal S1x8x512x8x64 .f32}
    (ey : y = y') (es : s = s') (eg : g = g') (ew : w = w') (eo : o = o') : Reference2Ideal.Even.grownV y s g w o = Reference2Ideal.Even.grownV y' s' g' w' o' := by
  rw [ey, es, eg, ew, eo]

set_option maxHeartbeats 2000000 in
theorem algebraic : Cert.algebraic_Kernel2Ideal_Reference2Ideal := by
  intro m g m' g' _ hargs
  refine ⟨fun c => Reference2Ideal.Even.resQa (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Reference2Ideal.Even.resKa (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Reference2Ideal.Even.resVa (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Reference2Ideal.Even.resRa (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Reference2Ideal.Even.resQb (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Reference2Ideal.Even.resKb (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Reference2Ideal.Even.resVb (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Reference2Ideal.Even.keptK (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Reference2Ideal.Even.keptV (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Reference2Ideal.Even.grownK (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg7)),
    fun c => Reference2Ideal.Even.grownV (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg8)), ?_, ?_⟩
  · refine (θ_run _ _ _).mono (fun r h c => ?_) (EvenRun.run m g)
    obtain ⟨h0, h1, h2, h3, h4, h5, h6, h7, h8, h9, h10, ha⟩ := h c
    exact ⟨h0.trans (resQa_eq m c), h1.trans (resKa_eq m c), h2.trans (resVa_eq m c), h3.trans (resRa_eq m c), h4.trans (resQb_eq m c), h5.trans (resKb_eq m c), h6.trans (resVb_eq m c),
      h7.trans (keptK_eq m c _ (endKb m c)), h8.trans (keptV_eq m c _ (endVb m c)), h9.trans (grownK_eq m c _ _ (endKb m c)), h10.trans (grownV_eq m c _ _ (endVb m c)), ha⟩
  · refine (θ_run _ _ _).mono (fun r h c => ?_) (Cert.Reference2Ideal.Even.run m' g')
    obtain ⟨e0, e1, e2, e3, e4, e5, e6, e7, e8⟩ := hargs c
    obtain ⟨h0, h1, h2, h3, h4, h5, h6, h7, h8, h9, h10, ha⟩ := h c
    rw [e0, e1, e2, e3, e4] at h0 h1 h2 h3 h4 h5 h6
    rw [e0, e2, e3, e4] at h7 h8
    exact ⟨h0, h1, h2, h3, h4, h5, h6, h7, h8, h9.trans (grownK_congr e1 e2 e3 e4 e7), h10.trans (grownV_congr e1 e2 e3 e4 e8), ha⟩

theorem preserves : Cert.preserves_Kernel2_Kernel2Ideal := trivial

theorem kernel : Cert.quiescent_Kernel2 := fun m ρ _ => Cert.Kernel2.Gen.frame m ρ
theorem ideal : Cert.quiescent_Kernel2Ideal := fun m ρ _ => Cert.Kernel2Ideal.Gen.frame m ρ
theorem reference : Cert.quiescent_Reference2Ideal := fun m ρ _ =>
  (θ_run Cert.Reference2Ideal.defs _ _).mono (fun r h => ⟨fun c => by
    obtain ⟨_, _, _, _, _, _, _, _, _, _, _, ha⟩ := h c
    exact ha, sem_eq_zero_of_no_sems rfl r.2⟩) (Cert.Reference2Ideal.Even.run m ρ)

end Cert.EvenValues

end
-- ==== Proof.OddRun.lean ====
module

public import proofs.«01_k».proof.Proof.Gen.Kernel3Ideal
public import proofs.«01_k».proof.Proof.Gen.Kernel3Ideal.Frame
public import Idealize.ShloMosaic.Lib.StableHlo.Run
public import Idealize.ShloMosaic.Lib.Pipeline.FrameSuffix

/-! The run of the odd input projection over the reals: the four arrays the region leaves are named (`reg_…`), the host
operations after it are read as one term of the key or value array and of the old cache (`kept`, `grown`), and `run` says that
every execution ends with these contents and the arguments unchanged. -/

@[expose] public section

noncomputable section

namespace Cert.OddRun

open Cert.Kernel3Ideal Cert.Kernel3Ideal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- The two key heads of 128 rows of the key or value array, without their copies. -/
def heads (z : FVec F S128x256 .bf16) : FVec F S1x128x128 .f32 :=
  broadcastInDim S1x128x128 ![1, 2] bcast_S128x128_S1x128x128_1_2 (extf .f32 (concatenate S128x128 1 [⟨S128x64, extractStridedSlice S128x64 ![0, 0] z slices_S128x256_S128x64_0_0⟩, ⟨S128x64, extractStridedSlice S128x64 ![0, 128] z slices_S128x256_S128x64_0_128⟩] concatenates_S128x64_S128x64_S128x128_d1) bitsLt_bf16_f32)

/-- The last 128 rows of the prompt's two sequences, split into heads. -/
def kept (z : FVec F S33280x256 .bf16) : FVec F S1x2x128x2x64 .f32 :=
  shapeCast S1x2x128x2x64 (concatenate S2x128x128 0 [⟨S1x128x128, heads (extractStridedSlice S128x256 ![16256, 0] z slices_S33280x256_S128x256_16256_0)⟩, ⟨S1x128x128, heads (extractStridedSlice S128x256 ![32640, 0] z slices_S33280x256_S128x256_32640_0)⟩] concatenates_S1x128x128_S1x128x128_S2x128x128_d0) shapeCasts_S2x128x128_S1x2x128x2x64

/-- The old cache's last 64 rows above the sample's 64 new ones. -/
def grown (z : FVec F S33280x256 .bf16) (old : FVec F S1x8x128x2x64 .f32) : FVec F S1x8x128x2x64 .f32 :=
  broadcastInDim S1x8x128x2x64 ![1, 2, 3, 4] bcast_S8x128x2x64_S1x8x128x2x64_1_2_3_4 (concatenate S8x128x2x64 1
    [⟨S8x64x2x64, extractStridedSlice S8x64x2x64 ![0, 64, 0, 0] (shapeCast S8x128x2x64 old shapeCasts_S1x8x128x2x64_S8x128x2x64) slices_S8x128x2x64_S8x64x2x64_0_64_0_0⟩,
     ⟨S8x64x2x64, shapeCast S8x64x2x64 (extf .f32 (concatenate S512x128 1 [⟨S512x64, extractStridedSlice S512x64 ![0, 0] (extractStridedSlice S512x256 ![32768, 0] z slices_S33280x256_S512x256_32768_0) slices_S512x256_S512x64_0_0⟩, ⟨S512x64, extractStridedSlice S512x64 ![0, 128] (extractStridedSlice S512x256 ![32768, 0] z slices_S33280x256_S512x256_32768_0) slices_S512x256_S512x64_0_128⟩] concatenates_S512x64_S512x64_S512x128_d1) bitsLt_bf16_f32) shapeCasts_S512x128_S8x64x2x64⟩]
    concatenates_S8x64x2x64_S8x64x2x64_S8x128x2x64_d1)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v83_0` (window 8's): not opened here. -/
def reg_main_v83_0 (c : Dev nD) : Buf (Elt F) ((c.tc : Thread nD τ).loc main_v83_0) := (Gen.dats m 0 c).arrAt 8 cfg0.N
/-- What the kernel region leaves in its result array `main_v83_1` (window 9's): not opened here. -/
def reg_main_v83_1 (c : Dev nD) : Buf (Elt F) ((c.tc : Thread nD τ).loc main_v83_1) := (Gen.dats m 0 c).arrAt 9 cfg0.N
/-- What the kernel region leaves in its result array `main_v83_2` (window 10's): not opened here. -/
def reg_main_v83_2 (c : Dev nD) : Buf (Elt F) ((c.tc : Thread nD τ).loc main_v83_2) := (Gen.dats m 0 c).arrAt 10 cfg0.N
/-- What the kernel region leaves in its result array `main_v83_3` (window 11's): not opened here. -/
def reg_main_v83_3 (c : Dev nD) : Buf (Elt F) ((c.tc : Thread nD τ).loc main_v83_3) := (Gen.dats m 0 c).arrAt 11 cfg0.N

/-- The exit contents at any array of the region: what its last point leaves. -/
theorem exit_arr (c : Dev nD) (w : Fin cfg0.W) :
    exitV m c (Proc.devRef .tc (Pipeline.arrRef spec0 w)) = (Gen.dats m 0 c).arrAt w cfg0.N :=
  Pipeline.Dat.withArrays_arrAt (Gen.dats m 0 c) Gen.launch₀0.sharedIn (Gen.V0 m c) (Gen.A_eq m c) w
theorem exit_main_arg6 (c : Dev nD) : exitV m c (Proc.devRef .tc main_arg6) = m ((c.tc : Thread nD τ).loc main_arg6) :=
  (Pipeline.withArrays_of_ne _ c (Gen.V0 m c) _ main_arg6 (by exact (by decide : ∀ w, Pipeline.arrRef spec0 w ≠ main_arg6))).trans (Gen.V_main_arg6 m c)
theorem exit_main_arg7 (c : Dev nD) : exitV m c (Proc.devRef .tc main_arg7) = m ((c.tc : Thread nD τ).loc main_arg7) :=
  (Pipeline.withArrays_of_ne _ c (Gen.V0 m c) _ main_arg7 (by exact (by decide : ∀ w, Pipeline.arrRef spec0 w ≠ main_arg7))).trans (Gen.V_main_arg7 m c)
theorem exit_main_v83_2 (c : Dev nD) : exitV m c (Proc.devRef .tc main_v83_2) = reg_main_v83_2 m c :=
  exit_arr m c 10
theorem exit_main_v83_3 (c : Dev nD) : exitV m c (Proc.devRef .tc main_v83_3) = reg_main_v83_3 m c :=
  exit_arr m c 11

set_option maxHeartbeats 2000000 in
/-- The later operations from any contents `V0`, read at result `main_v97`. -/
theorem tail_main_v97 (V0 : Valuation τ sig (Elt F)) :
    after (List.flatten [Gen.hostOps1]) V0 (Proc.devRef .tc main_v97) = kept (V0 (Proc.devRef .tc main_v83_2)) := by
  simp only [Gen.hostOps1, List.flatten_cons, List.flatten_nil, List.append_nil, List.cons_append, List.nil_append]
  after_results <;> rfl
/-- Result `main_v97` after the later operations from the region's exit contents. -/
theorem fin_main_v97 (c : Dev nD) :
    Pipeline.afterTail₀ cfgs (Gen.dats m) 0 (Gen.V0 m) [Gen.hostOps1] c main_v97 = kept (reg_main_v83_2 m c) :=
  (tail_main_v97 (exitV m c)).trans (by rw [exit_main_v83_2])

set_option maxHeartbeats 2000000 in
/-- The later operations from any contents `V0`, read at result `main_v111`. -/
theorem tail_main_v111 (V0 : Valuation τ sig (Elt F)) :
    after (List.flatten [Gen.hostOps1]) V0 (Proc.devRef .tc main_v111) = kept (V0 (Proc.devRef .tc main_v83_3)) := by
  simp only [Gen.hostOps1, List.flatten_cons, List.flatten_nil, List.append_nil, List.cons_append, List.nil_append]
  after_results <;> rfl
/-- Result `main_v111` after the later operations from the region's exit contents. -/
theorem fin_main_v111 (c : Dev nD) :
    Pipeline.afterTail₀ cfgs (Gen.dats m) 0 (Gen.V0 m) [Gen.hostOps1] c main_v111 = kept (reg_main_v83_3 m c) :=
  (tail_main_v111 (exitV m c)).trans (by rw [exit_main_v83_3])

set_option maxHeartbeats 2000000 in
/-- The later operations from any contents `V0`, read at result `main_v121`. -/
theorem tail_main_v121 (V0 : Valuation τ sig (Elt F)) :
    after (List.flatten [Gen.hostOps1]) V0 (Proc.devRef .tc main_v121) = grown (V0 (Proc.devRef .tc main_v83_2)) (V0 (Proc.devRef .tc main_arg6)) := by
  simp only [Gen.hostOps1, List.flatten_cons, List.flatten_nil, List.append_nil, List.cons_append, List.nil_append]
  after_results <;> rfl
/-- Result `main_v121` after the later operations from the region's exit contents. -/
theorem fin_main_v121 (c : Dev nD) :
    Pipeline.afterTail₀ cfgs (Gen.dats m) 0 (Gen.V0 m) [Gen.hostOps1] c main_v121 = grown (reg_main_v83_2 m c) (m ((c.tc : Thread nD τ).loc main_arg6)) :=
  (tail_main_v121 (exitV m c)).trans (by rw [exit_main_v83_2, exit_main_arg6])

set_option maxHeartbeats 2000000 in
/-- The later operations from any contents `V0`, read at result `main_v131`. -/
theorem tail_main_v131 (V0 : Valuation τ sig (Elt F)) :
    after (List.flatten [Gen.hostOps1]) V0 (Proc.devRef .tc main_v131) = grown (V0 (Proc.devRef .tc main_v83_3)) (V0 (Proc.devRef .tc main_arg7)) := by
  simp only [Gen.hostOps1, List.flatten_cons, List.flatten_nil, List.append_nil, List.cons_append, List.nil_append]
  after_results <;> rfl
/-- Result `main_v131` after the later operations from the region's exit contents. -/
theorem fin_main_v131 (c : Dev nD) :
    Pipeline.afterTail₀ cfgs (Gen.dats m) 0 (Gen.V0 m) [Gen.hostOps1] c main_v131 = grown (reg_main_v83_3 m c) (m ((c.tc : Thread nD τ).loc main_arg7)) :=
  (tail_main_v131 (exitV m c)).trans (by rw [exit_main_v83_3, exit_main_arg7])

set_option maxHeartbeats 1200000 in
/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v83_0) = reg_main_v83_0 m c
      ∧ r.2.mem ((c.tc : Thread nD τ).loc main_v83_1) = reg_main_v83_1 m c
      ∧ r.2.mem ((c.tc : Thread nD τ).loc main_v97) = kept (reg_main_v83_2 m c)
      ∧ r.2.mem ((c.tc : Thread nD τ).loc main_v111) = kept (reg_main_v83_3 m c)
      ∧ r.2.mem ((c.tc : Thread nD τ).loc main_v121) = grown (reg_main_v83_2 m c) (m ((c.tc : Thread nD τ).loc main_arg6))
      ∧ r.2.mem ((c.tc : Thread nD τ).loc main_v131) = grown (reg_main_v83_3 m c) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 8).trans (show _ = reg_main_v83_0 m c from rfl),
      ((h c).1 9).trans (show _ = reg_main_v83_1 m c from rfl),
      ((h c).2 main_v97 (Pipeline.mem_restRefs_of main_v97 (by decide) (by decide))).trans (fin_main_v97 m c),
      ((h c).2 main_v111 (Pipeline.mem_restRefs_of main_v111 (by decide) (by decide))).trans (fin_main_v111 m c),
      ((h c).2 main_v121 (Pipeline.mem_restRefs_of main_v121 (by decide) (by decide))).trans (fin_main_v121 m c),
      ((h c).2 main_v131 (Pipeline.mem_restRefs_of main_v131 (by decide) (by decide))).trans (fin_main_v131 m c),
      ((h c).2 main_arg0 (Pipeline.mem_restRefs_of main_arg0 (by decide) (by decide))).trans (Gen.W_main_arg0 m (Gen.dats m) c),
      ((h c).1 0).trans ((Gen.dats m 0 c).arrAt_in 0 rfl _ |>.trans (Gen.A_eq m c 0) |>.trans (Gen.V_main_arg1 m c)),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c)⟩) (Gen.run_main m ρ)

end Cert.OddRun

end
-- ==== Proof.Rotation.lean ====
/- The input projection of an odd layer, as plain sums: the row of the mixture is unpacked and added to the residual row, the sum
   is normalised, modulated and multiplied by the weights, and the heads of the queries and of the keys are turned by the row's
   position. A turn by a sum of two positions is composed of the turns by each. -/
module

public import proofs.«01_k».proof.Proof.Projection
public import Idealize.ShloMosaic.Lib.Pointwise

@[expose] public section

noncomputable section

namespace Cert.Rotation

open Idealize.ShloMosaic

/-- The sequence of row `n`: two of the prompt, then eight of the sample. -/
def seqOf (n : Fin 33280) : Fin 16 := if n.val < 32768 then ⟨n.val / 16384, by omega⟩ else ⟨2 + (n.val - 32768) / 64, by omega⟩

/-- The position of row `n` in its sequence: the sample continues at 4096. -/
def posOf (n : Fin 33280) : ℕ := if n.val < 32768 then n.val % 16384 else 4096 + (n.val - 32768) % 64

theorem seqOf_prompt (b : Fin 2) (r : Fin 16384) (h : b.val * 16384 + r.val < 33280) : seqOf ⟨b.val * 16384 + r.val, h⟩ = ⟨b.val, by omega⟩ := by
  unfold seqOf
  rw [if_pos (by show b.val * 16384 + r.val < 32768; omega)]
  exact Fin.ext (by show (b.val * 16384 + r.val) / 16384 = b.val; omega)

theorem posOf_prompt (b : Fin 2) (r : Fin 16384) (h : b.val * 16384 + r.val < 33280) : posOf ⟨b.val * 16384 + r.val, h⟩ = r.val := by
  unfold posOf
  rw [if_pos (by show b.val * 16384 + r.val < 32768; omega)]
  show (b.val * 16384 + r.val) % 16384 = r.val
  omega

theorem seqOf_sample (b : Fin 8) (r : Fin 64) (h : 32768 + (b.val * 64 + r.val) < 33280) : seqOf ⟨32768 + (b.val * 64 + r.val), h⟩ = ⟨2 + b.val, by omega⟩ := by
  unfold seqOf
  rw [if_neg (by show ¬ 32768 + (b.val * 64 + r.val) < 32768; omega)]
  exact Fin.ext (by show 2 + (32768 + (b.val * 64 + r.val) - 32768) / 64 = 2 + b.val; omega)

theorem posOf_sample (b : Fin 8) (r : Fin 64) (h : 32768 + (b.val * 64 + r.val) < 33280) : posOf ⟨32768 + (b.val * 64 + r.val), h⟩ = 4096 + r.val := by
  unfold posOf
  rw [if_neg (by show ¬ 32768 + (b.val * 64 + r.val) < 32768; omega)]
  show 4096 + (32768 + (b.val * 64 + r.val) - 32768) % 64 = 4096 + r.val
  omega

/-- The number of turns a unit of position makes in the plane `e`. -/
def freq (e : Fin 32) : EReal := Ideal.pow (Ideal.ofBits .f32 0x461C4000#32) (Ideal.div (-((e.val : ℝ) : EReal)) (Ideal.ofBits .f32 0x42000000#32))

def angle (p : ℕ) (e : Fin 32) : EReal := ((p : ℝ) : EReal) * freq e

/-- A head of 64 lanes turned by the position `p`: lane `e` and lane `e + 32` span a plane. -/
def turn (p : ℕ) (v : Fin 64 → EReal) (e : Fin 64) : EReal :=
  if h : e.val < 32 then v e * Ideal.cos (angle p ⟨e.val, h⟩) - v ⟨32 + e.val, by omega⟩ * Ideal.sin (angle p ⟨e.val, h⟩)
  else v e * Ideal.cos (angle p ⟨e.val - 32, by omega⟩) + v ⟨e.val - 32, by omega⟩ * Ideal.sin (angle p ⟨e.val - 32, by omega⟩)

theorem ofBits_tenThousand : Ideal.ofBits .f32 0x461C4000#32 = ((10000 : ℝ) : EReal) := by
  have h : (10240000 : ℝ) * (2 ^ 10)⁻¹ = 10000 := by norm_num
  simp [Ideal.ofBits, Ideal.ieee]
  rw [← EReal.coe_mul, h]

theorem ofBits_thirtyTwo : Ideal.ofBits .f32 0x42000000#32 = ((32 : ℝ) : EReal) := by
  have h : (8388608 : ℝ) * (2 ^ 18)⁻¹ = 32 := by norm_num
  simp [Ideal.ofBits, Ideal.ieee]
  rw [← EReal.coe_mul, h]

theorem freq_real (e : Fin 32) : ∃ f : ℝ, freq e = (f : EReal) := by
  refine ⟨Real.rpow 10000 (-(e.val : ℝ) * (32 : ℝ)⁻¹), ?_⟩
  unfold freq
  rw [ofBits_tenThousand, ofBits_thirtyTwo]
  have h : Ideal.div (-((e.val : ℝ) : EReal)) ((32 : ℝ) : EReal) = ((-(e.val : ℝ) * (32 : ℝ)⁻¹ : ℝ) : EReal) := by
    unfold Ideal.div
    rw [if_neg (by norm_num)]
    simp
    rw [← EReal.coe_inv]
  rw [h]
  rfl

theorem cos_add (a b : ℕ) (e : Fin 32) : Ideal.cos (angle a e) * Ideal.cos (angle b e) - Ideal.sin (angle a e) * Ideal.sin (angle b e) = Ideal.cos (angle (a + b) e) := by
  obtain ⟨f, hf⟩ := freq_real e
  unfold angle
  rw [hf, ← EReal.coe_mul, ← EReal.coe_mul, ← EReal.coe_mul]
  show ((Real.cos _ : ℝ) : EReal) * ((Real.cos _ : ℝ) : EReal) - ((Real.sin _ : ℝ) : EReal) * ((Real.sin _ : ℝ) : EReal) = ((Real.cos _ : ℝ) : EReal)
  rw [← EReal.coe_mul, ← EReal.coe_mul, ← EReal.coe_sub, ← Real.cos_add, ← add_mul, ← Nat.cast_add]

theorem sin_add (a b : ℕ) (e : Fin 32) : Ideal.sin (angle a e) * Ideal.cos (angle b e) + Ideal.cos (angle a e) * Ideal.sin (angle b e) = Ideal.sin (angle (a + b) e) := by
  obtain ⟨f, hf⟩ := freq_real e
  unfold angle
  rw [hf, ← EReal.coe_mul, ← EReal.coe_mul, ← EReal.coe_mul]
  show ((Real.sin _ : ℝ) : EReal) * ((Real.cos _ : ℝ) : EReal) + ((Real.cos _ : ℝ) : EReal) * ((Real.sin _ : ℝ) : EReal) = ((Real.sin _ : ℝ) : EReal)
  rw [← EReal.coe_mul, ← EReal.coe_mul, ← EReal.coe_add, ← Real.sin_add, ← add_mul, ← Nat.cast_add]

/-- A natural number below 2³¹, as a word read as an integer, is itself. -/
theorem sitofp_ofNat (n : ℕ) (h : n < 2147483648) : FloatOps.sitofp (F := Ideal) .f32 (BitVec.ofNat 32 n) = ((n : ℝ) : EReal) := by
  show (((BitVec.ofNat 32 n).toInt : ℝ) : EReal) = ((n : ℝ) : EReal)
  have e : (BitVec.ofNat 32 n).toInt = (n : ℤ) := by
    rw [BitVec.toInt_eq_toNat_of_lt (by rw [BitVec.toNat_ofNat]; omega), BitVec.toNat_ofNat]
    omega
  rw [e]
  rfl

theorem sitofp_addi (a n : ℕ) (h : n + a < 2147483648) : FloatOps.sitofp (F := Ideal) .f32 (IntOp.addi (BitVec.ofNat 32 n) (BitVec.ofNat 32 a)) = (((a + n : ℕ) : ℝ) : EReal) := by
  have e : IntOp.addi (BitVec.ofNat 32 n) (BitVec.ofNat 32 a) = BitVec.ofNat 32 (a + n) := by
    show BitVec.ofNat 32 n + BitVec.ofNat 32 a = _
    rw [← BitVec.ofNat_add, Nat.add_comm]
  rw [e]
  exact sitofp_ofNat _ (by omega)

section layer
variable (x : Fin 33280 → Fin 1024 → EReal) (z : Fin 4 → Fin 36864 → Fin 128 → BitVec 32) (mp md : Fin 16 → Fin 6144 → EReal) (g : Fin 1024 → EReal) (w : Fin 1024 → Fin 1280 → EReal)

/-- Column `d` of the mixture's row `n`: the low halves of the words are the first 512 columns, the high halves the last. -/
def mixed (n : Fin 33280) (d : Fin 1024) : EReal :=
  if h : d.val < 512 then Ideal.ofBits .f32 (IntOp.shli ArithUnit.host (z ⟨d.val / 128, by omega⟩ ⟨n.val, by omega⟩ ⟨d.val % 128, by omega⟩) 16#32)
  else Ideal.ofBits .f32 (IntOp.andi (z ⟨(d.val - 512) / 128, by omega⟩ ⟨n.val, by omega⟩ ⟨(d.val - 512) % 128, by omega⟩) 4294901760#32)

/-- The residual row plus the gated mixture. -/
def resid (n : Fin 33280) (d : Fin 1024) : EReal := x n d + mp (seqOf n) ⟨5120 + d.val, by omega⟩ * mixed z n d

/-- Column `c` of the projected row `n`. -/
def proj (n : Fin 33280) (c : Fin 1280) : EReal :=
  Projection.projected (resid x z mp n) g (fun d => md (seqOf n) ⟨d.val, by omega⟩) (fun d => md (seqOf n) ⟨1024 + d.val, by omega⟩) (fun d => w d c)

/-- Lane `e` of query head `h`, of key head `h` and of value head `h` in row `n`. -/
def query (n : Fin 33280) (h : Fin 16) (e : Fin 64) : EReal := turn (posOf n) (fun e => proj x z mp md g w n ⟨h.val * 64 + e.val, by omega⟩) e * Ideal.ofBits .f32 0x3E38AA3B#32
def key (n : Fin 33280) (h : Fin 2) (e : Fin 64) : EReal := turn (posOf n) (fun e => proj x z mp md g w n ⟨1024 + (h.val * 64 + e.val), by omega⟩) e
def value (n : Fin 33280) (h : Fin 2) (e : Fin 64) : EReal := proj x z mp md g w n ⟨1152 + (h.val * 64 + e.val), by omega⟩

end layer

end Cert.Rotation

end
-- ==== Proof.OddTables.lean ====
/- What the host prepares for the odd input projection, element by element: the joined columns of the weights (each key and value
   head twice), the cosine and sine of the angle of each position — products of two smaller tables, by the sum formulas —, and
   the row of the modulation that each group of 64 rows takes. -/
module

public import proofs.«01_k».proof.Proof.OddRun
public import proofs.«01_k».proof.Proof.Rotation
public import Idealize.ShloMosaic.Lib.Pointwise
public import Idealize.ShloMosaic.Lib.Routing.Ops

@[expose] public section

set_option maxRecDepth 16384

noncomputable section

namespace Cert.Kernel3Ideal.Odd

open Idealize.ShloMosaic Idealize.ShloMosaic.TcCoe Idealize.ShloMosaic.Tactic Idealize.ShloMosaic.StableHlo
open Idealize.SL Idealize.SL.Sem
open Cert.Kernel3Ideal Cert.Kernel3Ideal.Gen

/-- Two heads of 64 columns, each twice. -/
def twice (w : FVec Ideal S1024x128 .f32) : FVec Ideal S1024x256 .f32 :=
  concatenate S1024x256 1 [⟨S1024x64, extractStridedSlice S1024x64 ![0, 0] w slices_S1024x128_S1024x64_0_0⟩, ⟨S1024x64, extractStridedSlice S1024x64 ![0, 0] w slices_S1024x128_S1024x64_0_0⟩,
    ⟨S1024x64, extractStridedSlice S1024x64 ![0, 64] w slices_S1024x128_S1024x64_0_64⟩, ⟨S1024x64, extractStridedSlice S1024x64 ![0, 64] w slices_S1024x128_S1024x64_0_64⟩] concatenates_S1024x64_S1024x64_S1024x64_S1024x64_S1024x256_d1

/-- The weights' columns as the kernel takes them. -/
def joined (w : FVec Ideal S1x1024x1280 .f32) : FVec Ideal S1024x1536 .bf16 :=
  truncf (F := Ideal) .bf16 (concatenate S1024x1536 1 [⟨S1024x1024, extractStridedSlice S1024x1024 ![0, 0] (shapeCast S1024x1280 w shapeCasts_S1x1024x1280_S1024x1280) slices_S1024x1280_S1024x1024_0_0⟩,
    ⟨S1024x256, twice (extractStridedSlice S1024x128 ![0, 1024] (shapeCast S1024x1280 w shapeCasts_S1x1024x1280_S1024x1280) slices_S1024x1280_S1024x128_0_1024)⟩,
    ⟨S1024x256, twice (extractStridedSlice S1024x128 ![0, 1152] (shapeCast S1024x1280 w shapeCasts_S1x1024x1280_S1024x1280) slices_S1024x1280_S1024x128_0_1152)⟩] concatenates_S1024x1024_S1024x256_S1024x256_S1024x1536_d1) bitsLt_bf16_f32

/-- The frequency of each of the 128 lanes. -/
def lanes : FVec Ideal S128 .f32 :=
  shapeCast S128 (broadcastInDim S4x32 ![0, 1] bcast_S1x32_S4x32_0_1 (shapeCast S1x32 (Host.powf (F := Ideal) (broadcastInDim S32 ![] bcast_S_S32 (constant (F := Ideal) S_ .f32 0x461C4000#32))
    (Host.divf (F := Ideal) (Host.negf (F := Ideal) (sitofp (F := Ideal) .f32 (iotaInDim S32 32 0))) (broadcastInDim S32 ![] bcast_S_S32 (constant (F := Ideal) S_ .f32 0x42000000#32)))) shapeCasts_S32_S1x32)) shapeCasts_S4x32_S128

/-- The angles of the positions 0, 128, 256, … and of the positions 0 to 127. -/
def coarse : FVec Ideal S128x128 .f32 :=
  mulf (broadcastInDim S128x128 ![0, 1] bcast_S128x1_S128x128_0_1 (broadcastInDim S128x1 ![0] bcast_S128_S128x1_0 (fun i => FloatOps.ofBits .f32 (lit1 (S128.rowMajor i)) : FVec Ideal S128 .f32)))
    (broadcastInDim S128x128 ![0, 1] bcast_S1x128_S128x128_0_1 (broadcastInDim S1x128 ![1] bcast_S128_S1x128_1 lanes))
def fine : FVec Ideal S128x128 .f32 :=
  mulf (broadcastInDim S128x128 ![0, 1] bcast_S128x1_S128x128_0_1 (broadcastInDim S128x1 ![0] bcast_S128_S128x1_0 (fun i => FloatOps.ofBits .f32 (lit2 (S128.rowMajor i)) : FVec Ideal S128 .f32)))
    (broadcastInDim S128x128 ![0, 1] bcast_S1x128_S128x128_0_1 (broadcastInDim S1x128 ![1] bcast_S128_S1x128_1 lanes))

/-- A coarse and a fine table, at every pair of rows. -/
def overA (a : FVec Ideal S128x128 .f32) : FVec Ideal S128x128x128 .f32 := broadcastInDim S128x128x128 ![0, 1, 2] bcast_S128x1x128_S128x128x128_0_1_2 (broadcastInDim S128x1x128 ![0, 2] bcast_S128x128_S128x1x128_0_2 a)
def overB (b : FVec Ideal S128x128 .f32) : FVec Ideal S128x128x128 .f32 := broadcastInDim S128x128x128 ![0, 1, 2] bcast_S1x128x128_S128x128x128_0_1_2 (broadcastInDim S1x128x128 ![1, 2] bcast_S128x128_S1x128x128_1_2 b)

def cosT : FVec Ideal S16384x128 .f32 :=
  shapeCast S16384x128 (subf (mulf (overA (Host.cos (F := Ideal) coarse)) (overB (Host.cos (F := Ideal) fine))) (mulf (overA (Host.sin (F := Ideal) coarse)) (overB (Host.sin (F := Ideal) fine)))) shapeCasts_S128x128x128_S16384x128
def sinT : FVec Ideal S16384x128 .f32 :=
  shapeCast S16384x128 (mulf (addf (mulf (overA (Host.sin (F := Ideal) coarse)) (overB (Host.cos (F := Ideal) fine))) (mulf (overA (Host.cos (F := Ideal) coarse)) (overB (Host.sin (F := Ideal) fine))))
    (broadcastInDim S128x128x128 ![0, 1, 2] bcast_S1x1x128_S128x128x128_0_1_2 (broadcastInDim S1x1x128 ![2] bcast_S128_S1x1x128_2 (fun i => FloatOps.ofBits .f32 (lit0 (S128.rowMajor i)) : FVec Ideal S128 .f32)))) shapeCasts_S128x128x128_S16384x128

/-- A table above eight copies of its rows 4096 to 4159. -/
def tabled (t : FVec Ideal S16384x128 .f32) : FVec Ideal S16896x128 .f32 :=
  concatenate S16896x128 0 [⟨S16384x128, t⟩, ⟨S512x128, shapeCast S512x128 (broadcastInDim S8x64x1x128 ![0, 1, 2, 3] bcast_S1x64x1x128_S8x64x1x128_0_1_2_3 (shapeCast S1x64x1x128 (extractStridedSlice S64x128 ![4096, 0] t slices_S16384x128_S64x128_4096_0) shapeCasts_S64x128_S1x64x1x128)) shapeCasts_S8x64x1x128_S512x128⟩] concatenates_S16384x128_S512x128_S16896x128_d0

/-- The row of the modulation that each group of 64 rows takes. -/
def groups : IVec S520x1 32 :=
  broadcastInDim S520x1 ![0] bcast_S520_S520x1_0 (select (constantI S520 1 0#1) (addi (fun i => lit3 (S520.rowMajor i) : IVec S520 32) (broadcastInDim S520 ![] bcast_S_S520 (constantI S_ 32 16#32))) (fun i => lit3 (S520.rowMajor i) : IVec S520 32))

section host
variable (V0 : Valuation τ sig (Elt Ideal))

set_option maxHeartbeats 2000000 in
theorem host_v15 : after (List.flatten [Gen.hostOps0]) V0 (Proc.devRef .tc main_v15) = joined (V0 (Proc.devRef .tc main_arg5)) := by
  simp only [Gen.hostOps0, List.flatten_cons, List.flatten_nil, List.append_nil, List.cons_append, List.nil_append]
  after_results <;> rfl

set_option maxHeartbeats 4000000 in
theorem host_v66 : after (List.flatten [Gen.hostOps0]) V0 (Proc.devRef .tc main_v66) = tabled cosT := by
  simp only [Gen.hostOps0, List.flatten_cons, List.flatten_nil, List.append_nil, List.cons_append, List.nil_append]
  after_results <;> rfl

set_option maxHeartbeats 4000000 in
theorem host_v71 : after (List.flatten [Gen.hostOps0]) V0 (Proc.devRef .tc main_v71) = tabled sinT := by
  simp only [Gen.hostOps0, List.flatten_cons, List.flatten_nil, List.append_nil, List.cons_append, List.nil_append]
  after_results <;> rfl

theorem host_v76 : after (List.flatten [Gen.hostOps0]) V0 (Proc.devRef .tc main_v76)
    = (show FVec Ideal S520x6144 .f32 from Host.gather gather_S16x6144_S520x1_S520x6144_1_0_n_n_0_1_16144 (show FVec Ideal S16x6144 .f32 from V0 (Proc.devRef .tc main_arg2)) groups) := by
  simp only [Gen.hostOps0, List.flatten_cons, List.flatten_nil, List.append_nil, List.cons_append, List.nil_append]
  after_results <;> rfl

theorem host_v81 : after (List.flatten [Gen.hostOps0]) V0 (Proc.devRef .tc main_v81)
    = (show FVec Ideal S520x6144 .f32 from Host.gather gather_S16x6144_S520x1_S520x6144_1_0_n_n_0_1_16144 (show FVec Ideal S16x6144 .f32 from V0 (Proc.devRef .tc main_arg3)) groups) := by
  simp only [Gen.hostOps0, List.flatten_cons, List.flatten_nil, List.append_nil, List.cons_append, List.nil_append]
  after_results <;> rfl

theorem host_v82 : after (List.flatten [Gen.hostOps0]) V0 (Proc.devRef .tc main_v82) = broadcastInDim S1x1024 ![1] bcast_S1024_S1x1024_1 (V0 (Proc.devRef .tc main_arg4)) := by
  simp only [Gen.hostOps0, List.flatten_cons, List.flatten_nil, List.append_nil, List.cons_append, List.nil_append]
  after_results <;> rfl

end host

/-! The weights. -/

theorem twice_at (w : FVec Ideal S1024x128 .f32) (k : Fin 1024) (c : Fin 256) (q : Fin 128) (hq : q.val = 64 * (c.val / 128) + c.val % 64) : twice w (ix2 k c) = w (ix2 k q) := by
  unfold twice
  pointwise []
  by_cases h0 : c.val < 64
  · rw [dif_pos h0]; congr 2; exact Fin.ext (by show c.val = q.val; omega)
  rw [dif_neg h0]
  by_cases h1 : c.val - 64 < 64
  · rw [dif_pos h1]; congr 2; exact Fin.ext (by show c.val - 64 = q.val; omega)
  rw [dif_neg h1]
  by_cases h2 : c.val - 64 - 64 < 64
  · rw [dif_pos h2]; congr 2; exact Fin.ext (by show 64 + (c.val - 64 - 64) = q.val; omega)
  rw [dif_neg h2]
  congr 2; exact Fin.ext (by show 64 + (c.val - 64 - 64 - 64) = q.val; omega)

/-- The column of the weights that column `c` of the joined ones is. -/
def column (c : ℕ) : ℕ := if c < 1024 then c else if c < 1280 then 1024 + (64 * ((c - 1024) / 128) + (c - 1024) % 64) else 1152 + (64 * ((c - 1280) / 128) + (c - 1280) % 64)

theorem joined_at (w : FVec Ideal S1x1024x1280 .f32) (k : Fin 1024) (c : Fin 1536) (q : Fin 1280) (hq : q.val = column c.val) :
    joined w (ix2 k c) = w (ix3 0 k q) := by
  unfold joined
  unfold column at hq
  pointwise []
  by_cases h : c.val < 1024
  · rw [dif_pos h]; rw [if_pos h] at hq
    congr 2; exact Fin.ext hq.symm
  rw [dif_neg h]; rw [if_neg h] at hq
  by_cases h' : c.val - 1024 < 256
  · rw [dif_pos h']; rw [if_pos (by omega)] at hq
    rw [twice_at _ k ⟨c.val - 1024, by omega⟩ ⟨64 * ((c.val - 1024) / 128) + (c.val - 1024) % 64, by omega⟩ rfl]
    pointwise []
    congr 2; exact Fin.ext hq.symm
  rw [dif_neg h']; rw [if_neg (by omega)] at hq
  rw [twice_at _ k ⟨c.val - 1024 - 256, by omega⟩ ⟨64 * ((c.val - 1024 - 256) / 128) + (c.val - 1024 - 256) % 64, by omega⟩ rfl]
  pointwise []
  congr 2; exact Fin.ext (by show 1152 + (64 * ((c.val - 1024 - 256) / 128) + (c.val - 1024 - 256) % 64) = q.val; rw [hq]; omega)

/-! The tables of the rotation. -/

/-- A word of a positive natural number below 2²⁴. -/
theorem ofBits_word (w : BitVec 32) (k : ℕ) (h : (w.extractLsb' 31 1 == 1#1) = false ∧ (w.extractLsb' 23 8).toNat ≠ 255 ∧ (w.extractLsb' 23 8).toNat ≠ 0 ∧ (w.extractLsb' 23 8).toNat ≤ 150
      ∧ 2 ^ 23 + (w.extractLsb' 0 23).toNat = k * 2 ^ (150 - (w.extractLsb' 23 8).toNat)) :
    Ideal.ofBits .f32 w = ((k : ℝ) : EReal) := by
  obtain ⟨hs, h0, h1, h2, hm⟩ := h
  unfold Ideal.ofBits Ideal.ieee
  have h0' : ¬ (w.extractLsb' 23 8).toNat = 2 ^ 8 - 1 := by simpa using h0
  simp only [Nat.reduceAdd, hs]
  rw [if_neg h0', if_neg h1, hm]
  refine congrArg (fun r : ℝ => (r : EReal)) ?_
  obtain ⟨d, hd⟩ : ∃ d : ℕ, (w.extractLsb' 23 8).toNat + d = 150 := ⟨150 - (w.extractLsb' 23 8).toNat, by omega⟩
  have e1 : 150 - (w.extractLsb' 23 8).toNat = d := by omega
  have e2 : (((w.extractLsb' 23 8).toNat : Int) - (2 ^ (8 - 1) - 1) - ((23 : ℕ) : Int)) = -(d : Int) := by push_cast; omega
  rw [e1, e2]
  push_cast
  rw [zpow_neg, zpow_natCast]
  have : (2 : ℝ) ^ d ≠ 0 := by positivity
  field_simp

theorem words1 : ∀ k : Fin 128, k.val ≠ 0 → (((lit1 k).extractLsb' 31 1 == 1#1) = false ∧ ((lit1 k).extractLsb' 23 8).toNat ≠ 255 ∧ ((lit1 k).extractLsb' 23 8).toNat ≠ 0 ∧ ((lit1 k).extractLsb' 23 8).toNat ≤ 150
      ∧ 2 ^ 23 + ((lit1 k).extractLsb' 0 23).toNat = (128 * k.val) * 2 ^ (150 - ((lit1 k).extractLsb' 23 8).toNat)) := by decide +kernel
theorem words2 : ∀ k : Fin 128, k.val ≠ 0 → (((lit2 k).extractLsb' 31 1 == 1#1) = false ∧ ((lit2 k).extractLsb' 23 8).toNat ≠ 255 ∧ ((lit2 k).extractLsb' 23 8).toNat ≠ 0 ∧ ((lit2 k).extractLsb' 23 8).toNat ≤ 150
      ∧ 2 ^ 23 + ((lit2 k).extractLsb' 0 23).toNat = k.val * 2 ^ (150 - ((lit2 k).extractLsb' 23 8).toNat)) := by decide +kernel

theorem word_zero : Ideal.ofBits .f32 0x00000000#32 = (((0 : ℕ) : ℝ) : EReal) := by simp [Ideal.ofBits, Ideal.ieee]

theorem word1 (k : Fin 128) : Ideal.ofBits .f32 (lit1 k) = (((128 * k.val : ℕ) : ℝ) : EReal) := by
  by_cases h : k.val = 0
  · obtain rfl : k = 0 := Fin.ext h
    exact word_zero
  · exact ofBits_word _ _ (words1 k h)
theorem word2 (k : Fin 128) : Ideal.ofBits .f32 (lit2 k) = ((k.val : ℝ) : EReal) := by
  by_cases h : k.val = 0
  · obtain rfl : k = 0 := Fin.ext h
    exact word_zero
  · exact ofBits_word _ _ (words2 k h)

theorem row128_val : ∀ g : Fin 128, (S128.rowMajor (ix1 g)).val = g.val := by decide +kernel
theorem row128 (l : Fin 128 → BitVec 32) (g : Fin 128) : l (S128.rowMajor (ix1 g)) = l g := congrArg l (Fin.ext (row128_val g))

theorem lanes_at (j : Fin 128) : lanes (ix1 j) = Rotation.freq ⟨j.val % 32, by omega⟩ := by
  unfold lanes Rotation.freq
  pointwise []
  rw [Rotation.sitofp_ofNat (j.val % 32) (by omega)]

theorem coarse_at (a j : Fin 128) : coarse (ix2 a j) = Rotation.angle (128 * a.val) ⟨j.val % 32, by omega⟩ := by
  unfold coarse Rotation.angle
  pointwise [lanes_at]
  exact congrArg (· * Rotation.freq ⟨j.val % 32, by omega⟩) ((congrArg (Ideal.ofBits .f32) (row128 lit1 a)).trans (word1 a))

theorem fine_at (b j : Fin 128) : fine (ix2 b j) = Rotation.angle b.val ⟨j.val % 32, by omega⟩ := by
  unfold fine Rotation.angle
  pointwise [lanes_at]
  exact congrArg (· * Rotation.freq ⟨j.val % 32, by omega⟩) ((congrArg (Ideal.ofBits .f32) (row128 lit2 b)).trans (word2 b))

theorem sum128 (r : ℕ) : 128 * (r / 128) + r % 128 = r := by omega

theorem cosT_at (r : Fin 16384) (j : Fin 128) : cosT (ix2 r j) = Ideal.cos (Rotation.angle r.val ⟨j.val % 32, by omega⟩) := by
  unfold cosT overA overB
  pointwise [coarse_at, fine_at]
  rw [Rotation.cos_add, sum128]

theorem sinT_at (r : Fin 16384) (j : Fin 128) : sinT (ix2 r j) = Ideal.sin (Rotation.angle r.val ⟨j.val % 32, by omega⟩) * Ideal.ofBits .f32 (lit0 j) := by
  unfold sinT overA overB
  pointwise [coarse_at, fine_at]
  rw [Rotation.sin_add, sum128]
  exact congrArg (fun w => _ * Ideal.ofBits .f32 w) (row128 lit0 j)

theorem lit0_at : ∀ j : Fin 128, lit0 j = if j.val % 64 < 32 then 0xBF800000#32 else 0x3F800000#32 := by decide +kernel

set_option maxRecDepth 100000 in
theorem tabled_at (t : FVec Ideal S16384x128 .f32) (n : Fin 16896) (j : Fin 128) (p : Fin 16384) (hp : p.val = if n.val < 16384 then n.val else 4096 + (n.val - 16384) % 64) : tabled t (ix2 n j) = t (ix2 p j) := by
  unfold tabled
  pointwise []
  by_cases h : n.val < 16384
  · rw [dif_pos h]; rw [if_pos h] at hp
    congr 2; exact Fin.ext hp.symm
  · rw [dif_neg h]; rw [if_neg h] at hp
    congr 2; exact Fin.ext hp.symm

/-! The groups. -/

def seqGroup (g : Nat) : Nat := if g < 512 then g / 256 else 2 + (g - 512)

theorem row520 : ∀ g : Fin 520, (S520.rowMajor (ix1 g)).val = g.val := by decide +kernel

theorem lit3_seq : ∀ g : Fin 520, lit3 g = BitVec.ofNat 32 (seqGroup g.val) := by decide +kernel

theorem seqGroup_lt (g : Fin 520) : seqGroup g.val < 16 := by have := g.isLt; unfold seqGroup; split <;> omega

theorem groups_at (g : Fin 520) : groups (ix2 g (0 : Fin 1)) = BitVec.ofNat 32 (seqGroup g.val) := by
  rw [← lit3_seq]
  unfold groups
  pointwise []
  exact congrArg lit3 (Fin.ext (row520 g))

theorem gathered_at (x : FVec Ideal S16x6144 .f32) (g : Fin 520) (d : Fin 6144) :
    (show FVec Ideal S520x6144 .f32 from Host.gather gather_S16x6144_S520x1_S520x6144_1_0_n_n_0_1_16144 x groups) (ix2 g d) = x (ix2 ⟨seqGroup g.val, seqGroup_lt g⟩ d) :=
  Routing.gather_row gather_S16x6144_S520x1_S520x6144_1_0_n_n_0_1_16144 rfl rfl rfl rfl rfl x groups g d ⟨seqGroup g.val, seqGroup_lt g⟩ (groups_at g) (by decide)

end Cert.Kernel3Ideal.Odd

end
-- ==== Proof.OddTile.lean ====
/- One grid point of the odd input projection over the reals: its two halves unpack the mixture's words, add them to the residual
   rows brought in by the transfer, normalise, modulate and multiply 256 rows each, and turn the queries and the keys by the tables
   of cosines and sines. -/
module

public import proofs.«01_k».proof.Proof.Gen.Kernel3Ideal.Frame
public import proofs.«01_k».proof.Proof.Rotation
public import Idealize.ShloMosaic.Lib.Pointwise
public import Idealize.ShloMosaic.Lib.Pipeline.ValueKit
@[expose] public section

set_option maxRecDepth 16384

noncomputable section

namespace Cert.Kernel3Ideal.Odd

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen

/-- Column `d` of the block's mixture row `n`, unpacked from the words. -/
def bMix (Z : Vec Ideal S4x512x128 .i32) (n : Fin 512) (d : Fin 1024) : EReal :=
  if h : d.val < 512 then Ideal.ofBits .f32 (IntOp.shli ArithUnit.vector (Z (ix3 ⟨d.val / 128, by omega⟩ n ⟨d.val % 128, by omega⟩)) 16#32)
  else Ideal.ofBits .f32 (IntOp.andi (Z (ix3 ⟨(d.val - 512) / 128, by omega⟩ n ⟨(d.val - 512) % 128, by omega⟩)) 4294901760#32)

theorem bMix_lo (Z : Vec Ideal S4x512x128 .i32) (n : Fin 512) (d : Fin 1024) (q : Fin 4) (j : Fin 128) (h : d.val = q.val * 128 + j.val) :
    bMix Z n d = Ideal.ofBits .f32 (IntOp.shli ArithUnit.vector (Z (ix3 q n j)) 16#32) := by
  unfold bMix
  rw [dif_pos (by omega), show (⟨d.val / 128, by omega⟩ : Fin 4) = q from Fin.ext (by show d.val / 128 = q.val; omega), show (⟨d.val % 128, by omega⟩ : Fin 128) = j from Fin.ext (by show d.val % 128 = j.val; omega)]

theorem bMix_hi (Z : Vec Ideal S4x512x128 .i32) (n : Fin 512) (d : Fin 1024) (q : Fin 4) (j : Fin 128) (h : d.val = 512 + (q.val * 128 + j.val)) :
    bMix Z n d = Ideal.ofBits .f32 (IntOp.andi (Z (ix3 q n j)) 4294901760#32) := by
  unfold bMix
  rw [dif_neg (by omega), show (⟨(d.val - 512) / 128, by omega⟩ : Fin 4) = q from Fin.ext (by show (d.val - 512) / 128 = q.val; omega), show (⟨(d.val - 512) % 128, by omega⟩ : Fin 128) = j from Fin.ext (by show (d.val - 512) % 128 = j.val; omega)]

/-- Column `d` of the block's residual row `n`. -/
def bRes (Z : Vec Ideal S4x512x128 .i32) (X : Vec Ideal S512x1024 .f32) (gt : Vec Ideal S8x1024 .f32) (n : Fin 512) (d : Fin 1024) : EReal :=
  X (ix2 n d) + bMix Z n d * gt (ix2 ⟨n.val / 64, by omega⟩ d)

theorem bRes_of (Z : Vec Ideal S4x512x128 .i32) (X : Vec Ideal S512x1024 .f32) (gt : Vec Ideal S8x1024 .f32) (n n' n'' : Fin 512) (q : Fin 8) (d : Fin 1024) (e : n.val = n'.val) (e' : n.val = n''.val) (h : n.val / 64 = q.val) :
    X (ix2 n' d) + bMix Z n'' d * gt (ix2 q d) = bRes Z X gt n d := by
  unfold bRes
  rw [show n' = n from Fin.ext e.symm, show n'' = n from Fin.ext e'.symm, show (⟨n.val / 64, by omega⟩ : Fin 8) = q from Fin.ext h]

/-- The block's row `n`, normalised and modulated. -/
def bRow (Z : Vec Ideal S4x512x128 .i32) (X : Vec Ideal S512x1024 .f32) (gt sh sc : Vec Ideal S8x1024 .f32) (g : Vec Ideal S1x1024 .f32) (n : Fin 512) (d : Fin 1024) : EReal :=
  Projection.normed (bRes Z X gt n) (fun k => g (ix2 0 k)) (fun k => sh (ix2 ⟨n.val / 64, by omega⟩ k)) (fun k => sc (ix2 ⟨n.val / 64, by omega⟩ k)) d

theorem normed_of (R : FVec Ideal S256x1024 .f32) (sh sc : Vec Ideal S8x1024 .f32) (g : Vec Ideal S1x1024 .f32) (r r' : Fin 256) (n : Fin 512) (q : Fin 8) (d : Fin 1024) (e : r'.val = r.val) (h : n.val / 64 = q.val) :
    R (ix2 r' d) * Ideal.rsqrt (Ideal.div (∑ k, R (ix2 r' k) * R (ix2 r' k)) (Ideal.ofBits .f32 0x44800000#32) + Ideal.ofBits .f32 0x358637BD#32) * g (ix2 0 d) * (1 + sc (ix2 q d)) + sh (ix2 q d) = Projection.normed (fun k => R (ix2 r k)) (fun k => g (ix2 0 k)) (fun k => sh (ix2 ⟨n.val / 64, by omega⟩ k)) (fun k => sc (ix2 ⟨n.val / 64, by omega⟩ k)) d := by
  obtain rfl : r' = r := Fin.ext e
  have e : (⟨n.val / 64, by omega⟩ : Fin 8) = q := Fin.ext h
  unfold Projection.normed
  simp only [e]

/-- The eight pieces of 128 columns side by side. -/
theorem tower (Z : Vec Ideal S4x512x128 .i32) (n : Fin 512) (d : Fin 1024) : (if h0 : d.val < 128 then Ideal.ofBits .f32 (IntOp.shli ArithUnit.vector (Z (ix3 0 n ⟨d.val, by omega⟩)) 16#32) else (if h1 : d.val - 128 < 128 then Ideal.ofBits .f32 (IntOp.shli ArithUnit.vector (Z (ix3 1 n ⟨d.val - 128, by omega⟩)) 16#32) else (if h2 : d.val - 128 - 128 < 128 then Ideal.ofBits .f32 (IntOp.shli ArithUnit.vector (Z (ix3 2 n ⟨d.val - 128 - 128, by omega⟩)) 16#32) else (if h3 : d.val - 128 - 128 - 128 < 128 then Ideal.ofBits .f32 (IntOp.shli ArithUnit.vector (Z (ix3 3 n ⟨d.val - 128 - 128 - 128, by omega⟩)) 16#32) else (if h4 : d.val - 128 - 128 - 128 - 128 < 128 then Ideal.ofBits .f32 (IntOp.andi (Z (ix3 0 n ⟨d.val - 128 - 128 - 128 - 128, by omega⟩)) 4294901760#32) else (if h5 : d.val - 128 - 128 - 128 - 128 - 128 < 128 then Ideal.ofBits .f32 (IntOp.andi (Z (ix3 1 n ⟨d.val - 128 - 128 - 128 - 128 - 128, by omega⟩)) 4294901760#32) else (if h6 : d.val - 128 - 128 - 128 - 128 - 128 - 128 < 128 then Ideal.ofBits .f32 (IntOp.andi (Z (ix3 2 n ⟨d.val - 128 - 128 - 128 - 128 - 128 - 128, by omega⟩)) 4294901760#32) else Ideal.ofBits .f32 (IntOp.andi (Z (ix3 3 n ⟨d.val - 128 - 128 - 128 - 128 - 128 - 128 - 128, by omega⟩)) 4294901760#32)))))))) = bMix Z n d := by
  by_cases h0 : d.val < 128
  · rw [dif_pos h0]
    exact (bMix_lo Z n d 0 ⟨d.val, by omega⟩ (by show d.val = 0 * 128 + (d.val); omega)).symm
  rw [dif_neg h0]
  by_cases h1 : d.val - 128 < 128
  · rw [dif_pos h1]
    exact (bMix_lo Z n d 1 ⟨d.val - 128, by omega⟩ (by show d.val = 1 * 128 + (d.val - 128); omega)).symm
  rw [dif_neg h1]
  by_cases h2 : d.val - 128 - 128 < 128
  · rw [dif_pos h2]
    exact (bMix_lo Z n d 2 ⟨d.val - 128 - 128, by omega⟩ (by show d.val = 2 * 128 + (d.val - 128 - 128); omega)).symm
  rw [dif_neg h2]
  by_cases h3 : d.val - 128 - 128 - 128 < 128
  · rw [dif_pos h3]
    exact (bMix_lo Z n d 3 ⟨d.val - 128 - 128 - 128, by omega⟩ (by show d.val = 3 * 128 + (d.val - 128 - 128 - 128); omega)).symm
  rw [dif_neg h3]
  by_cases h4 : d.val - 128 - 128 - 128 - 128 < 128
  · rw [dif_pos h4]
    exact (bMix_hi Z n d 0 ⟨d.val - 128 - 128 - 128 - 128, by omega⟩ (by show d.val = 512 + (0 * 128 + (d.val - 128 - 128 - 128 - 128)); omega)).symm
  rw [dif_neg h4]
  by_cases h5 : d.val - 128 - 128 - 128 - 128 - 128 < 128
  · rw [dif_pos h5]
    exact (bMix_hi Z n d 1 ⟨d.val - 128 - 128 - 128 - 128 - 128, by omega⟩ (by show d.val = 512 + (1 * 128 + (d.val - 128 - 128 - 128 - 128 - 128)); omega)).symm
  rw [dif_neg h5]
  by_cases h6 : d.val - 128 - 128 - 128 - 128 - 128 - 128 < 128
  · rw [dif_pos h6]
    exact (bMix_hi Z n d 2 ⟨d.val - 128 - 128 - 128 - 128 - 128 - 128, by omega⟩ (by show d.val = 512 + (2 * 128 + (d.val - 128 - 128 - 128 - 128 - 128 - 128)); omega)).symm
  rw [dif_neg h6]
  exact (bMix_hi Z n d 3 ⟨d.val - 128 - 128 - 128 - 128 - 128 - 128 - 128, by omega⟩ (by show d.val = 512 + (3 * 128 + (d.val - 128 - 128 - 128 - 128 - 128 - 128 - 128)); omega)).symm

theorem mix0 (Z : Vec Ideal S4x512x128 .i32) (r : Fin 256) (d : Fin 1024) : k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0)) (ix2 r d) = bMix Z ⟨r.val, by omega⟩ d := by
  pointwise [k0_pay6, k0_pay7]
  exact tower Z ⟨r.val, by omega⟩ d

theorem res0 (Z : Vec Ideal S4x512x128 .i32) (X : Vec Ideal S512x1024 .f32) (gt : Vec Ideal S8x1024 .f32) (r : Fin 256) (d : Fin 1024) : k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (ix2 r d) = bRes Z X gt ⟨r.val, by omega⟩ d := by
  pointwise [k0_pay3, k0_pay8, k0_pay9, k0_pay10, k0_pay11, mix0]
  have hr := r.isLt
  by_cases h0 : r.val < 64
  · rw [dif_pos h0]
    exact bRes_of Z X gt ⟨r.val, by omega⟩ _ _ 0 d (by show r.val = r.val; omega) (by show r.val = r.val; omega) (by show (r.val) / 64 = 0; omega)
  rw [dif_neg h0]
  by_cases h1 : r.val - 64 < 64
  · rw [dif_pos h1]
    exact bRes_of Z X gt ⟨r.val, by omega⟩ _ _ 1 d (by show r.val = r.val; omega) (by show r.val = 64 + (r.val - 64); omega) (by show (r.val) / 64 = 1; omega)
  rw [dif_neg h1]
  by_cases h2 : r.val - 64 - 64 < 64
  · rw [dif_pos h2]
    exact bRes_of Z X gt ⟨r.val, by omega⟩ _ _ 2 d (by show r.val = r.val; omega) (by show r.val = 128 + (r.val - 64 - 64); omega) (by show (r.val) / 64 = 2; omega)
  rw [dif_neg h2]
  exact bRes_of Z X gt ⟨r.val, by omega⟩ _ _ 3 d (by show r.val = r.val; omega) (by show r.val = 192 + (r.val - 64 - 64 - 64); omega) (by show (r.val) / 64 = 3; omega)

set_option maxHeartbeats 2000000 in
theorem res1 (Z : Vec Ideal S4x512x128 .i32) (X : Vec Ideal S512x1024 .f32) (gt : Vec Ideal S8x1024 .f32) (r : Fin 256) (d : Fin 1024) : k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0)) (ix2 r d) = bRes Z X gt ⟨256 + r.val, by omega⟩ d := by
  pointwise [k0_pay3, k0_pay12, k0_pay13, k0_pay14, k0_pay15, k0_pay16, k0_pay17, k0_pay18, k0_pay19, k0_pay20, k0_pay21, k0_pay22, k0_pay23]
  have hr := r.isLt
  by_cases h0 : r.val < 64
  · rw [dif_pos h0]
    rw [tower Z ⟨256 + (r.val), by omega⟩ d]
    exact bRes_of Z X gt ⟨256 + r.val, by omega⟩ _ _ 4 d (by show 256 + r.val = 256 + r.val; omega) (by show 256 + r.val = 256 + (r.val); omega) (by show (256 + r.val) / 64 = 4; omega)
  rw [dif_neg h0]
  by_cases h1 : r.val - 64 < 64
  · rw [dif_pos h1]
    rw [tower Z ⟨256 + (64 + (r.val - 64)), by omega⟩ d]
    exact bRes_of Z X gt ⟨256 + r.val, by omega⟩ _ _ 5 d (by show 256 + r.val = 256 + r.val; omega) (by show 256 + r.val = 256 + (64 + (r.val - 64)); omega) (by show (256 + r.val) / 64 = 5; omega)
  rw [dif_neg h1]
  by_cases h2 : r.val - 64 - 64 < 64
  · rw [dif_pos h2]
    rw [tower Z ⟨256 + (128 + (r.val - 64 - 64)), by omega⟩ d]
    exact bRes_of Z X gt ⟨256 + r.val, by omega⟩ _ _ 6 d (by show 256 + r.val = 256 + r.val; omega) (by show 256 + r.val = 256 + (128 + (r.val - 64 - 64)); omega) (by show (256 + r.val) / 64 = 6; omega)
  rw [dif_neg h2]
  rw [tower Z ⟨256 + (192 + (r.val - 64 - 64 - 64)), by omega⟩ d]
  exact bRes_of Z X gt ⟨256 + r.val, by omega⟩ _ _ 7 d (by show 256 + r.val = 256 + r.val; omega) (by show 256 + r.val = 256 + (192 + (r.val - 64 - 64 - 64)); omega) (by show (256 + r.val) / 64 = 7; omega)

theorem nrm0 (R : FVec Ideal S256x1024 .f32) (sh sc : Vec Ideal S8x1024 .f32) (g : Vec Ideal S1x1024 .f32) (r : Fin 256) (d : Fin 1024) :
    k0_pay28 (F := Ideal) (k0_pay24 (k0_pay4 sh)) (k0_pay25 (k0_pay5 sc)) (k0_pay26 R) (k0_pay27 g) (ix2 r d) = Projection.normed (fun k => R (ix2 r k)) (fun k => g (ix2 0 k)) (fun k => sh (ix2 ⟨r.val / 64, by omega⟩ k)) (fun k => sc (ix2 ⟨r.val / 64, by omega⟩ k)) d := by
  pointwise [k0_pay4, k0_pay5, k0_pay24, k0_pay25, k0_pay26, k0_pay27, k0_pay28]
  have hr := r.isLt
  by_cases h0 : r.val < 64
  · rw [dif_pos h0]
    exact normed_of R sh sc g r _ ⟨r.val, by omega⟩ 0 d (by show r.val = r.val; omega) (by show (r.val) / 64 = 0; omega)
  rw [dif_neg h0]
  by_cases h1 : r.val - 64 < 64
  · rw [dif_pos h1]
    exact normed_of R sh sc g r _ ⟨r.val, by omega⟩ 1 d (by show 64 + (r.val - 64) = r.val; omega) (by show (r.val) / 64 = 1; omega)
  rw [dif_neg h1]
  by_cases h2 : r.val - 64 - 64 < 64
  · rw [dif_pos h2]
    exact normed_of R sh sc g r _ ⟨r.val, by omega⟩ 2 d (by show 128 + (r.val - 64 - 64) = r.val; omega) (by show (r.val) / 64 = 2; omega)
  rw [dif_neg h2]
  exact normed_of R sh sc g r _ ⟨r.val, by omega⟩ 3 d (by show 192 + (r.val - 64 - 64 - 64) = r.val; omega) (by show (r.val) / 64 = 3; omega)

theorem nrm1 (R : FVec Ideal S256x1024 .f32) (sh sc : Vec Ideal S8x1024 .f32) (g : Vec Ideal S1x1024 .f32) (r : Fin 256) (d : Fin 1024) :
    k0_pay34 (F := Ideal) (k0_pay29 (k0_pay4 sh)) (k0_pay30 R g) (k0_pay31 (k0_pay5 sc)) (k0_pay32 R g) (k0_pay33 (k0_pay5 sc)) (ix2 r d) = Projection.normed (fun k => R (ix2 r k)) (fun k => g (ix2 0 k)) (fun k => sh (ix2 ⟨(256 + r.val) / 64, by omega⟩ k)) (fun k => sc (ix2 ⟨(256 + r.val) / 64, by omega⟩ k)) d := by
  pointwise [k0_pay4, k0_pay5, k0_pay29, k0_pay30, k0_pay31, k0_pay32, k0_pay33, k0_pay34]
  have hr := r.isLt
  by_cases h0 : r.val < 64
  · rw [dif_pos h0]
    exact normed_of R sh sc g r _ ⟨256 + r.val, by omega⟩ 4 d (by show r.val = r.val; omega) (by show (256 + r.val) / 64 = 4; omega)
  rw [dif_neg h0]
  by_cases h1 : r.val - 64 < 64
  · rw [dif_pos h1]
    exact normed_of R sh sc g r _ ⟨256 + r.val, by omega⟩ 5 d (by show 64 + (r.val - 64) = r.val; omega) (by show (256 + r.val) / 64 = 5; omega)
  rw [dif_neg h1]
  by_cases h2 : r.val - 64 - 64 < 64
  · rw [dif_pos h2]
    exact normed_of R sh sc g r _ ⟨256 + r.val, by omega⟩ 6 d (by show 128 + (r.val - 64 - 64) = r.val; omega) (by show (256 + r.val) / 64 = 6; omega)
  rw [dif_neg h2]
  exact normed_of R sh sc g r _ ⟨256 + r.val, by omega⟩ 7 d (by show 192 + (r.val - 64 - 64 - 64) = r.val; omega) (by show (256 + r.val) / 64 = 7; omega)

/-- The rows the transfer brought in. -/
theorem landed (v : View sig .tc .vmem S512x1024 .f32) (X : Vec Ideal S512x1024 .f32) (R : Rect S512x1024) :
    v.readCov [⟨Rect.whole S512x1024, (ReadAs.same (Val := Elt Ideal) (e := .f32)).apply X⟩] R.toLoadRect = View.ld X R := by
  rw [View.readCov_eq_canon']
  funext j
  exact congrFun (View.canon_cons_unit_zero rfl _ X []) _

theorem arrives (t : Fin cfg0.N) (X : Vec Ideal S33280x1024 .f32) (r : Fin 512) (d : Fin 1024) :
    View.read (Elt Ideal) (srcB0_0 (Ring.bk 65 t.val)).view X (ix2 r d) = X (ix2 ⟨512 * t.val + r.val, by have := t.isLt; change t.val < 65 at this; omega⟩ d) := by
  have ht : t.val < 65 := t.isLt
  unfold srcB0_0
  show X _ = X _
  refine congrArg X ?_
  have hb : (Ring.bk 65 t.val).val = t.val := Ring.bk_val ht
  funext a
  apply Fin.ext
  fin_cases a
  · show 512 * (Ring.bk 65 t.val).val + 1 * r.val = 512 * t.val + r.val
    rw [hb, Nat.one_mul]
  · show 0 + 1 * d.val = d.val
    rw [Nat.zero_add, Nat.one_mul]

/-- The lane that `d` is paired with: 32 further in the lower half of a head, 32 back in the upper half. -/
def spunQ (d : ℕ) : ℕ := if d % 64 < 32 then (d + 1024 - 992) % 1024 else (d + 1024 - 32) % 1024
def spunK (d : ℕ) : ℕ := if d % 64 < 32 then (d + 256 - 224) % 256 else (d + 256 - 32) % 256

theorem spunQ_lt (d : ℕ) : spunQ d < 1024 := by unfold spunQ; split <;> omega
theorem spunK_lt (d : ℕ) : spunK d < 256 := by unfold spunK; split <;> omega

theorem pick (d : Fin 1024) : IntOp.cmpi CmpIPredicate.slt (IntOp.andi (BitVec.ofNat 32 d.val) 63#32) 32#32 = if d.val % 64 < 32 then 1#1 else 0#1 := by
  revert d
  decide +kernel

theorem selectQ (M : FVec Ideal S256x1024 .f32) (r : Fin 256) (d : Fin 1024) (h1 : (d.val + 1024 - 992) % 1024 < 1024) (h2 : (d.val + 1024 - 32) % 1024 < 1024) :
    Scalar.select (IntOp.cmpi CmpIPredicate.slt (IntOp.andi (BitVec.ofNat 32 d.val) 63#32) 32#32) (M (ix2 r ⟨(d.val + 1024 - 992) % 1024, h1⟩)) (M (ix2 r ⟨(d.val + 1024 - 32) % 1024, h2⟩)) = M (ix2 r ⟨spunQ d.val, spunQ_lt d.val⟩) := by
  rw [pick d]
  by_cases h : d.val % 64 < 32
  · rw [if_pos h]
    exact congrArg (fun j => M (ix2 r j)) (Fin.ext (by show (d.val + 1024 - 992) % 1024 = spunQ d.val; unfold spunQ; rw [if_pos h]))
  · rw [if_neg h]
    exact congrArg (fun j => M (ix2 r j)) (Fin.ext (by show (d.val + 1024 - 32) % 1024 = spunQ d.val; unfold spunQ; rw [if_neg h]))

theorem selectK (M : FVec Ideal S256x256 .f32) (r : Fin 256) (d : Fin 256) (h1 : (d.val + 256 - 224) % 256 < 256) (h2 : (d.val + 256 - 32) % 256 < 256) :
    Scalar.select (IntOp.cmpi CmpIPredicate.slt (IntOp.andi (BitVec.ofNat 32 d.val) 63#32) 32#32) (M (ix2 r ⟨(d.val + 256 - 224) % 256, h1⟩)) (M (ix2 r ⟨(d.val + 256 - 32) % 256, h2⟩)) = M (ix2 r ⟨spunK d.val, spunK_lt d.val⟩) := by
  rw [pick ⟨d.val, by omega⟩]
  by_cases h : d.val % 64 < 32
  · rw [if_pos (show d.val % 64 < 32 from h)]
    exact congrArg (fun j => M (ix2 r j)) (Fin.ext (by show (d.val + 256 - 224) % 256 = spunK d.val; unfold spunK; rw [if_pos h]))
  · rw [if_neg (show ¬ d.val % 64 < 32 from h)]
    exact congrArg (fun j => M (ix2 r j)) (Fin.ext (by show (d.val + 256 - 32) % 256 = spunK d.val; unfold spunK; rw [if_neg h]))

/-- Copies of one table of 128 lanes side by side. -/
theorem eight (T : Vec Ideal S256x128 .f32) (r : Fin 256) (d : Fin 1024) : (if h0 : d.val < 128 then T (ix2 r ⟨d.val, by omega⟩) else (if h1 : d.val - 128 < 128 then T (ix2 r ⟨d.val - 128, by omega⟩) else (if h2 : d.val - 128 - 128 < 128 then T (ix2 r ⟨d.val - 128 - 128, by omega⟩) else (if h3 : d.val - 128 - 128 - 128 < 128 then T (ix2 r ⟨d.val - 128 - 128 - 128, by omega⟩) else (if h4 : d.val - 128 - 128 - 128 - 128 < 128 then T (ix2 r ⟨d.val - 128 - 128 - 128 - 128, by omega⟩) else (if h5 : d.val - 128 - 128 - 128 - 128 - 128 < 128 then T (ix2 r ⟨d.val - 128 - 128 - 128 - 128 - 128, by omega⟩) else (if h6 : d.val - 128 - 128 - 128 - 128 - 128 - 128 < 128 then T (ix2 r ⟨d.val - 128 - 128 - 128 - 128 - 128 - 128, by omega⟩) else T (ix2 r ⟨d.val - 128 - 128 - 128 - 128 - 128 - 128 - 128, by omega⟩)))))))) = T (ix2 r ⟨d.val % 128, by omega⟩) := by
  by_cases h0 : d.val < 128
  · rw [dif_pos h0]
    exact congrArg (fun j => T (ix2 r j)) (Fin.ext (by show d.val = d.val % 128; omega))
  rw [dif_neg h0]
  by_cases h1 : d.val - 128 < 128
  · rw [dif_pos h1]
    exact congrArg (fun j => T (ix2 r j)) (Fin.ext (by show d.val - 128 = d.val % 128; omega))
  rw [dif_neg h1]
  by_cases h2 : d.val - 128 - 128 < 128
  · rw [dif_pos h2]
    exact congrArg (fun j => T (ix2 r j)) (Fin.ext (by show d.val - 128 - 128 = d.val % 128; omega))
  rw [dif_neg h2]
  by_cases h3 : d.val - 128 - 128 - 128 < 128
  · rw [dif_pos h3]
    exact congrArg (fun j => T (ix2 r j)) (Fin.ext (by show d.val - 128 - 128 - 128 = d.val % 128; omega))
  rw [dif_neg h3]
  by_cases h4 : d.val - 128 - 128 - 128 - 128 < 128
  · rw [dif_pos h4]
    exact congrArg (fun j => T (ix2 r j)) (Fin.ext (by show d.val - 128 - 128 - 128 - 128 = d.val % 128; omega))
  rw [dif_neg h4]
  by_cases h5 : d.val - 128 - 128 - 128 - 128 - 128 < 128
  · rw [dif_pos h5]
    exact congrArg (fun j => T (ix2 r j)) (Fin.ext (by show d.val - 128 - 128 - 128 - 128 - 128 = d.val % 128; omega))
  rw [dif_neg h5]
  by_cases h6 : d.val - 128 - 128 - 128 - 128 - 128 - 128 < 128
  · rw [dif_pos h6]
    exact congrArg (fun j => T (ix2 r j)) (Fin.ext (by show d.val - 128 - 128 - 128 - 128 - 128 - 128 = d.val % 128; omega))
  rw [dif_neg h6]
  exact congrArg (fun j => T (ix2 r j)) (Fin.ext (by show d.val - 128 - 128 - 128 - 128 - 128 - 128 - 128 = d.val % 128; omega))

theorem two (T : Vec Ideal S256x128 .f32) (r : Fin 256) (d : Fin 256) : (if h0 : d.val < 128 then T (ix2 r ⟨d.val, by omega⟩) else T (ix2 r ⟨d.val - 128, by omega⟩)) = T (ix2 r ⟨d.val % 128, by omega⟩) := by
  split
  · exact congrArg (fun j => T (ix2 r j)) (Fin.ext (by show d.val = d.val % 128; omega))
  · exact congrArg (fun j => T (ix2 r j)) (Fin.ext (by show d.val - 128 = d.val % 128; omega))

theorem rotQ0 (M : FVec Ideal S256x1024 .f32) (co si : Vec Ideal S256x128 .f32) (r : Fin 256) (d : Fin 1024) :
    k0_pay43 (F := Ideal) M co si (ix2 r d) = (M (ix2 r d) * co (ix2 r ⟨d.val % 128, by omega⟩) + M (ix2 r ⟨spunQ d.val, spunQ_lt d.val⟩) * si (ix2 r ⟨d.val % 128, by omega⟩)) * Ideal.ofBits .f32 0x3E38AA3B#32 := by
  pointwise [k0_pay43, k0_pay41, k0_pay42]
  rw [selectQ, eight co r d, eight si r d]

theorem rotQ1 (M : FVec Ideal S256x1024 .f32) (co si : Vec Ideal S256x128 .f32) (r : Fin 256) (d : Fin 1024) :
    k0_pay48 (F := Ideal) M co si (ix2 r d) = (M (ix2 r d) * co (ix2 r ⟨d.val % 128, by omega⟩) + M (ix2 r ⟨spunQ d.val, spunQ_lt d.val⟩) * si (ix2 r ⟨d.val % 128, by omega⟩)) * Ideal.ofBits .f32 0x3E38AA3B#32 := rotQ0 M co si r d

theorem rotK0 (M : FVec Ideal S256x256 .f32) (co si : Vec Ideal S256x128 .f32) (r : Fin 256) (d : Fin 256) :
    k0_pay44 (F := Ideal) M co si (ix2 r d) = M (ix2 r d) * co (ix2 r ⟨d.val % 128, by omega⟩) + M (ix2 r ⟨spunK d.val, spunK_lt d.val⟩) * si (ix2 r ⟨d.val % 128, by omega⟩) := by
  pointwise [k0_pay44, k0_pay41, k0_pay42]
  rw [selectK, two co r d, two si r d]

theorem rotK1 (M : FVec Ideal S256x256 .f32) (co si : Vec Ideal S256x128 .f32) (r : Fin 256) (d : Fin 256) :
    k0_pay1 (F := Ideal) (k0_pay49 M) (k0_pay50 M co) (k0_pay51 si) (ix2 r d) = M (ix2 r d) * co (ix2 r ⟨d.val % 128, by omega⟩) + M (ix2 r ⟨spunK d.val, spunK_lt d.val⟩) * si (ix2 r ⟨d.val % 128, by omega⟩) := rotK0 M co si r d

end Cert.Kernel3Ideal.Odd

end
-- ==== Proof.OddPoints.lean ====
/- One grid point of the odd input projection over the reals, at every element of its four output blocks. The three kinds of point —
   the first, those that start a further transfer, and the last ones — store the same values. -/
module

public import proofs.«01_k».proof.Proof.OddTile
@[expose] public section

set_option maxRecDepth 16384

noncomputable section

namespace Cert.Kernel3Ideal.Odd

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen

variable (m : (ℓ : Loc nD τ sig) → Buf (Elt Ideal) ℓ)

/-- The residual rows that grid point `t` waits for. -/
def arrived (c : Dev nD) (t : Fin cfg0.N) : Vec Ideal S512x1024 .f32 := View.read (Elt Ideal) (srcB0_0 (Ring.bk 65 t.val)).view (V m c main_arg0)

theorem landedAt (c : Dev nD) (t : Fin cfg0.N) (R : Rect S512x1024) :
    (rslot0_0 (Fin.ofNat 3 t.val)).view.readCov [⟨Rect.whole S512x1024, ReadAs.same.apply (View.read (Elt Ideal) (srcB0_0 (Ring.bk 65 t.val)).view (V m c main_arg0))⟩] R.toLoadRect = View.ld (arrived m c t) R := landed _ _ R

/-- The first half's rows, normalised and modulated. -/
theorem row0 (Z : Vec Ideal S4x512x128 .i32) (X : Vec Ideal S512x1024 .f32) (gt sh sc : Vec Ideal S8x1024 .f32) (g : Vec Ideal S1x1024 .f32) (r : Fin 256) (d : Fin 1024) :
    k0_pay28 (F := Ideal) (k0_pay24 (k0_pay4 sh)) (k0_pay25 (k0_pay5 sc)) (k0_pay26 (k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))))) (k0_pay27 g) (ix2 r d) = bRow Z X gt sh sc g ⟨r.val, by omega⟩ d := by
  rw [nrm0]
  refine congrArg (fun q => Projection.normed q _ _ _ d) (funext fun k => ?_)
  exact res0 Z X gt r k

/-- The second half's rows. -/
theorem row1 (Z : Vec Ideal S4x512x128 .i32) (X : Vec Ideal S512x1024 .f32) (gt sh sc : Vec Ideal S8x1024 .f32) (g : Vec Ideal S1x1024 .f32) (r : Fin 256) (d : Fin 1024) :
    k0_pay34 (F := Ideal) (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc)) (ix2 r d) = bRow Z X gt sh sc g ⟨256 + r.val, by omega⟩ d := by
  rw [nrm1]
  refine congrArg (fun q => Projection.normed q _ _ _ d) (funext fun k => ?_)
  exact res1 Z X gt r k

/-- Products with the three ranges of columns of the joined weights. -/
theorem timesQ (L : FVec Ideal S256x1024 .bf16) (W : Vec Ideal S1024x1536 .bf16) (r : Fin 256) (d : Fin 1024) :
    k0_pay35 (F := Ideal) L (View.ld W (Rect.unit ![0, 0] ![1024, 1024] inb_S1024x1536_S1024x1024_0_0)) (ix2 r d) = ∑ k, L (ix2 r k) * W (ix2 k ⟨d.val, by omega⟩) := by
  pointwise [k0_pay35]

theorem timesK (L : FVec Ideal S256x1024 .bf16) (W : Vec Ideal S1024x1536 .bf16) (r : Fin 256) (d : Fin 256) :
    k0_pay37 (F := Ideal) L (View.ld W (Rect.unit ![0, 1024] ![1024, 256] inb_S1024x1536_S1024x256_0_1024)) (ix2 r d) = ∑ k, L (ix2 r k) * W (ix2 k ⟨1024 + d.val, by omega⟩) := by
  pointwise [k0_pay37]

theorem timesV (L : FVec Ideal S256x1024 .bf16) (W : Vec Ideal S1024x1536 .bf16) (r : Fin 256) (d : Fin 256) :
    k0_pay39 (F := Ideal) L (View.ld W (Rect.unit ![0, 1280] ![1024, 256] inb_S1024x1536_S1024x256_0_1280)) (ix2 r d) = ∑ k, L (ix2 r k) * W (ix2 k ⟨1280 + d.val, by omega⟩) := by
  pointwise [k0_pay39]

theorem upper (v : Vec Ideal S512x128 .f32) (r : Fin 256) (j : Fin 128) : (View.ld v (Rect.unit ![0, 0] ![256, 128] inb_S512x128_S256x128_0_0)) (ix2 r j) = v (ix2 ⟨r.val, by omega⟩ j) := by
  pointwise []

theorem lower (v : Vec Ideal S512x128 .f32) (r : Fin 256) (j : Fin 128) : (View.ld v (Rect.unit ![256, 0] ![256, 128] inb_S512x128_S256x128_256_0)) (ix2 r j) = v (ix2 ⟨256 + r.val, by omega⟩ j) := by
  pointwise []

/-- Column `d` of the products of block row `n`. -/
def prodOf (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (n : Fin 512) (d : Fin 1536) : EReal := ∑ k, bRow Z X gt sh sc g n k * W (ix2 k d)

/-- A query element, a key element and a value element of block row `n`. -/
def bQ (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (n : Fin 512) (d : Fin 1024) : EReal :=
  (prodOf Z X gt sh sc g co si W n ⟨d.val, by omega⟩ * co (ix2 n ⟨d.val % 128, by omega⟩) + prodOf Z X gt sh sc g co si W n ⟨spunQ d.val, by have := spunQ_lt d.val; omega⟩ * si (ix2 n ⟨d.val % 128, by omega⟩)) * Ideal.ofBits .f32 0x3E38AA3B#32
def bK (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (n : Fin 512) (d : Fin 256) : EReal :=
  prodOf Z X gt sh sc g co si W n ⟨1024 + d.val, by omega⟩ * co (ix2 n ⟨d.val % 128, by omega⟩) + prodOf Z X gt sh sc g co si W n ⟨1024 + spunK d.val, by have := spunK_lt d.val; omega⟩ * si (ix2 n ⟨d.val % 128, by omega⟩)
def bV (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (n : Fin 512) (d : Fin 256) : EReal := prodOf Z X gt sh sc g co si W n ⟨1280 + d.val, by omega⟩

theorem sumQ0 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 1024) : k0_pay35 (F := Ideal) (k0_pay28 (F := Ideal) (k0_pay24 (k0_pay4 sh)) (k0_pay25 (k0_pay5 sc)) (k0_pay26 (k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))))) (k0_pay27 g)) (View.ld W (Rect.unit ![0, 0] ![1024, 1024] inb_S1024x1536_S1024x1024_0_0)) (ix2 r d) = prodOf Z X gt sh sc g co si W ⟨r.val, by omega⟩ ⟨d.val, by omega⟩ := by
  rw [timesQ]
  unfold prodOf
  exact Finset.sum_congr rfl fun k _ => congrArg (· * _) (row0 Z X gt sh sc g r k)

theorem sumK0 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 256) : k0_pay37 (F := Ideal) (k0_pay28 (F := Ideal) (k0_pay24 (k0_pay4 sh)) (k0_pay25 (k0_pay5 sc)) (k0_pay26 (k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))))) (k0_pay27 g)) (View.ld W (Rect.unit ![0, 1024] ![1024, 256] inb_S1024x1536_S1024x256_0_1024)) (ix2 r d) = prodOf Z X gt sh sc g co si W ⟨r.val, by omega⟩ ⟨1024 + d.val, by omega⟩ := by
  rw [timesK]
  unfold prodOf
  exact Finset.sum_congr rfl fun k _ => congrArg (· * _) (row0 Z X gt sh sc g r k)

theorem sumV0 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 256) : k0_pay39 (F := Ideal) (k0_pay28 (F := Ideal) (k0_pay24 (k0_pay4 sh)) (k0_pay25 (k0_pay5 sc)) (k0_pay26 (k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))))) (k0_pay27 g)) (View.ld W (Rect.unit ![0, 1280] ![1024, 256] inb_S1024x1536_S1024x256_0_1280)) (ix2 r d) = prodOf Z X gt sh sc g co si W ⟨r.val, by omega⟩ ⟨1280 + d.val, by omega⟩ := by
  rw [timesV]
  unfold prodOf
  exact Finset.sum_congr rfl fun k _ => congrArg (· * _) (row0 Z X gt sh sc g r k)

theorem halfQ0 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 1024) : k0_pay43 (F := Ideal) (k0_pay35 (k0_pay28 (F := Ideal) (k0_pay24 (k0_pay4 sh)) (k0_pay25 (k0_pay5 sc)) (k0_pay26 (k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))))) (k0_pay27 g)) (View.ld W (Rect.unit ![0, 0] ![1024, 1024] inb_S1024x1536_S1024x1024_0_0))) (View.ld co (Rect.unit ![0, 0] ![256, 128] inb_S512x128_S256x128_0_0)) (View.ld si (Rect.unit ![0, 0] ![256, 128] inb_S512x128_S256x128_0_0)) (ix2 r d) = bQ Z X gt sh sc g co si W ⟨r.val, by omega⟩ d := by
  refine (rotQ0 (k0_pay35 (k0_pay28 (F := Ideal) (k0_pay24 (k0_pay4 sh)) (k0_pay25 (k0_pay5 sc)) (k0_pay26 (k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))))) (k0_pay27 g)) (View.ld W (Rect.unit ![0, 0] ![1024, 1024] inb_S1024x1536_S1024x1024_0_0))) (View.ld co (Rect.unit ![0, 0] ![256, 128] inb_S512x128_S256x128_0_0)) (View.ld si (Rect.unit ![0, 0] ![256, 128] inb_S512x128_S256x128_0_0)) r d).trans ?_
  rw [sumQ0 Z X gt sh sc g co si W, sumQ0 Z X gt sh sc g co si W, upper, upper]
  rfl

theorem halfK0 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 256) : k0_pay44 (F := Ideal) (k0_pay37 (k0_pay28 (F := Ideal) (k0_pay24 (k0_pay4 sh)) (k0_pay25 (k0_pay5 sc)) (k0_pay26 (k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))))) (k0_pay27 g)) (View.ld W (Rect.unit ![0, 1024] ![1024, 256] inb_S1024x1536_S1024x256_0_1024))) (View.ld co (Rect.unit ![0, 0] ![256, 128] inb_S512x128_S256x128_0_0)) (View.ld si (Rect.unit ![0, 0] ![256, 128] inb_S512x128_S256x128_0_0)) (ix2 r d) = bK Z X gt sh sc g co si W ⟨r.val, by omega⟩ d := by
  refine (rotK0 (k0_pay37 (k0_pay28 (F := Ideal) (k0_pay24 (k0_pay4 sh)) (k0_pay25 (k0_pay5 sc)) (k0_pay26 (k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))))) (k0_pay27 g)) (View.ld W (Rect.unit ![0, 1024] ![1024, 256] inb_S1024x1536_S1024x256_0_1024))) (View.ld co (Rect.unit ![0, 0] ![256, 128] inb_S512x128_S256x128_0_0)) (View.ld si (Rect.unit ![0, 0] ![256, 128] inb_S512x128_S256x128_0_0)) r d).trans ?_
  rw [sumK0 Z X gt sh sc g co si W, sumK0 Z X gt sh sc g co si W, upper, upper]
  rfl

theorem halfV0 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 256) : k0_pay45 (F := Ideal) (k0_pay39 (k0_pay28 (F := Ideal) (k0_pay24 (k0_pay4 sh)) (k0_pay25 (k0_pay5 sc)) (k0_pay26 (k0_pay11 (F := Ideal) (k0_pay7 (F := Ideal) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (View.ld X (Rect.unit ![0, 0] ![256, 1024] inb_S512x1024_S256x1024_0_0)) (k0_pay8 (k0_pay3 gt)) (k0_pay9 (k0_pay3 gt) (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))) (k0_pay10 (k0_pay6 (View.ld Z (Rect.unit ![0, 0, 0] ![1, 256, 128] inb_S4x512x128_S1x256x128_0_0_0))) (View.ld Z (Rect.unit ![1, 0, 0] ![1, 256, 128] inb_S4x512x128_S1x256x128_1_0_0)) (View.ld Z (Rect.unit ![2, 0, 0] ![1, 256, 128] inb_S4x512x128_S1x256x128_2_0_0)) (View.ld Z (Rect.unit ![3, 0, 0] ![1, 256, 128] inb_S4x512x128_S1x256x128_3_0_0))))) (k0_pay27 g)) (View.ld W (Rect.unit ![0, 1280] ![1024, 256] inb_S1024x1536_S1024x256_0_1280))) (ix2 r d) = bV Z X gt sh sc g co si W ⟨r.val, by omega⟩ d :=
  sumV0 Z X gt sh sc g co si W r d

theorem sumQ1 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 1024) : k0_pay35 (F := Ideal) (k0_pay34 (F := Ideal) (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc))) (View.ld W (Rect.unit ![0, 0] ![1024, 1024] inb_S1024x1536_S1024x1024_0_0)) (ix2 r d) = prodOf Z X gt sh sc g co si W ⟨256 + r.val, by omega⟩ ⟨d.val, by omega⟩ := by
  rw [timesQ]
  unfold prodOf
  exact Finset.sum_congr rfl fun k _ => congrArg (· * _) (row1 Z X gt sh sc g r k)

theorem sumK1 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 256) : k0_pay37 (F := Ideal) (k0_pay34 (F := Ideal) (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc))) (View.ld W (Rect.unit ![0, 1024] ![1024, 256] inb_S1024x1536_S1024x256_0_1024)) (ix2 r d) = prodOf Z X gt sh sc g co si W ⟨256 + r.val, by omega⟩ ⟨1024 + d.val, by omega⟩ := by
  rw [timesK]
  unfold prodOf
  exact Finset.sum_congr rfl fun k _ => congrArg (· * _) (row1 Z X gt sh sc g r k)

theorem sumV1 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 256) : k0_pay39 (F := Ideal) (k0_pay34 (F := Ideal) (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc))) (View.ld W (Rect.unit ![0, 1280] ![1024, 256] inb_S1024x1536_S1024x256_0_1280)) (ix2 r d) = prodOf Z X gt sh sc g co si W ⟨256 + r.val, by omega⟩ ⟨1280 + d.val, by omega⟩ := by
  rw [timesV]
  unfold prodOf
  exact Finset.sum_congr rfl fun k _ => congrArg (· * _) (row1 Z X gt sh sc g r k)

theorem halfQ1 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 1024) : k0_pay48 (F := Ideal) (k0_pay36 (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc)) (View.ld W (Rect.unit ![0, 0] ![1024, 1024] inb_S1024x1536_S1024x1024_0_0))) (View.ld co (Rect.unit ![256, 0] ![256, 128] inb_S512x128_S256x128_256_0)) (View.ld si (Rect.unit ![256, 0] ![256, 128] inb_S512x128_S256x128_256_0)) (ix2 r d) = bQ Z X gt sh sc g co si W ⟨256 + r.val, by omega⟩ d := by
  refine (rotQ0 (k0_pay35 (k0_pay34 (F := Ideal) (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc))) (View.ld W (Rect.unit ![0, 0] ![1024, 1024] inb_S1024x1536_S1024x1024_0_0))) (View.ld co (Rect.unit ![256, 0] ![256, 128] inb_S512x128_S256x128_256_0)) (View.ld si (Rect.unit ![256, 0] ![256, 128] inb_S512x128_S256x128_256_0)) r d).trans ?_
  rw [sumQ1 Z X gt sh sc g co si W, sumQ1 Z X gt sh sc g co si W, lower, lower]
  rfl

theorem halfK1 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 256) : k0_pay1 (F := Ideal) (k0_pay49 (k0_pay38 (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc)) (View.ld W (Rect.unit ![0, 1024] ![1024, 256] inb_S1024x1536_S1024x256_0_1024)))) (k0_pay50 (k0_pay38 (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc)) (View.ld W (Rect.unit ![0, 1024] ![1024, 256] inb_S1024x1536_S1024x256_0_1024))) (View.ld co (Rect.unit ![256, 0] ![256, 128] inb_S512x128_S256x128_256_0))) (k0_pay51 (View.ld si (Rect.unit ![256, 0] ![256, 128] inb_S512x128_S256x128_256_0))) (ix2 r d) = bK Z X gt sh sc g co si W ⟨256 + r.val, by omega⟩ d := by
  refine (rotK0 (k0_pay37 (k0_pay34 (F := Ideal) (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc))) (View.ld W (Rect.unit ![0, 1024] ![1024, 256] inb_S1024x1536_S1024x256_0_1024))) (View.ld co (Rect.unit ![256, 0] ![256, 128] inb_S512x128_S256x128_256_0)) (View.ld si (Rect.unit ![256, 0] ![256, 128] inb_S512x128_S256x128_256_0)) r d).trans ?_
  rw [sumK1 Z X gt sh sc g co si W, sumK1 Z X gt sh sc g co si W, lower, lower]
  rfl

theorem halfV1 (Z : Vec Ideal S4x512x128 .i32) (X : Vec Ideal S512x1024 .f32) (gt sh sc : Vec Ideal S8x1024 .f32) (g : Vec Ideal S1x1024 .f32) (co si : Vec Ideal S512x128 .f32) (W : Vec Ideal S1024x1536 .bf16) (r : Fin 256) (d : Fin 256) : k0_pay2 (F := Ideal) (k0_pay40 (k0_pay34 (F := Ideal) (k0_pay29 (k0_pay4 sh)) (k0_pay30 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay31 (k0_pay5 sc)) (k0_pay32 (k0_pay23 (F := Ideal) (k0_pay3 gt) (k0_pay15 (View.ld Z (Rect.unit ![3, 256, 0] ![1, 256, 128] inb_S4x512x128_S1x256x128_3_256_0))) (k0_pay16 (View.ld Z (Rect.unit ![0, 256, 0] ![1, 256, 128] inb_S4x512x128_S1x256x128_0_256_0))) (k0_pay17 (View.ld Z (Rect.unit ![1, 256, 0] ![1, 256, 128] inb_S4x512x128_S1x256x128_1_256_0))) (k0_pay18 (View.ld Z (Rect.unit ![2, 256, 0] ![1, 256, 128] inb_S4x512x128_S1x256x128_2_256_0))) (k0_pay19 (View.ld Z (Rect.unit ![3, 256, 0] ![1, 256, 128] inb_S4x512x128_S1x256x128_3_256_0))) (k0_pay20 (View.ld Z (Rect.unit ![0, 256, 0] ![1, 256, 128] inb_S4x512x128_S1x256x128_0_256_0))) (k0_pay21 (View.ld Z (Rect.unit ![1, 256, 0] ![1, 256, 128] inb_S4x512x128_S1x256x128_1_256_0))) (k0_pay22 (View.ld Z (Rect.unit ![2, 256, 0] ![1, 256, 128] inb_S4x512x128_S1x256x128_2_256_0))) (View.ld X (Rect.unit ![256, 0] ![256, 1024] inb_S512x1024_S256x1024_256_0))) g) (k0_pay33 (k0_pay5 sc))) (View.ld W (Rect.unit ![0, 1280] ![1024, 256] inb_S1024x1536_S1024x256_0_1280))) (ix2 r d) = bV Z X gt sh sc g co si W ⟨256 + r.val, by omega⟩ d :=
  sumV1 Z X gt sh sc g co si W r d

theorem pointXA (c : Dev nD) (t : Fin cfg0.N) (h0 : t.val % 65 = 0) (h1 : t.val < 63) (y : S512x1024.Idx) : (outsAt0 m c t.val t.isLt).1 y = bRes (iblk m c 0 t) (arrived m c t) (iblk m c 1 t) (y 0) (y 1) := by
  rw [outsAt0_A m c t h0 h1]
  frame_out
  canon_tiles x h
  case piece0 =>
    rw [landedAt m c t (Rect.unit ![256, 0] ![256, 1024] inb_S512x1024_S256x1024_256_0)]
    have e : x = ix2 (show Fin 256 from x 0) (show Fin 1024 from x 1) := (ix2_eta x).symm
    refine (congrArg _ e).trans ((res1 (iblk m c 0 t) (arrived m c t) (iblk m c 1 t) (x 0) (x 1)).trans ?_)
    exact congrArg₂ (bRes (iblk m c 0 t) (arrived m c t) (iblk m c 1 t)) (Fin.ext h0.symm) (Fin.ext h1.symm)
  case piece1 =>
    rw [landedAt m c t (Rect.unit ![0, 0] ![256, 1024] inb_S512x1024_S256x1024_0_0)]
    have e : x = ix2 (show Fin 256 from x 0) (show Fin 1024 from x 1) := (ix2_eta x).symm
    refine (congrArg _ e).trans ((res0 (iblk m c 0 t) (arrived m c t) (iblk m c 1 t) (x 0) (x 1)).trans ?_)
    exact congrArg₂ (bRes (iblk m c 0 t) (arrived m c t) (iblk m c 1 t)) (Fin.ext h0.symm) (Fin.ext h1.symm)

theorem pointXB (c : Dev nD) (t : Fin cfg0.N) (h0 : ¬ t.val % 65 = 0) (h1 : t.val < 63) (y : S512x1024.Idx) : (outsAt0 m c t.val t.isLt).1 y = bRes (iblk m c 0 t) (arrived m c t) (iblk m c 1 t) (y 0) (y 1) := by
  rw [outsAt0_B m c t h0 h1]
  frame_out
  canon_tiles x h
  case piece0 =>
    rw [landedAt m c t (Rect.unit ![256, 0] ![256, 1024] inb_S512x1024_S256x1024_256_0)]
    have e : x = ix2 (show Fin 256 from x 0) (show Fin 1024 from x 1) := (ix2_eta x).symm
    refine (congrArg _ e).trans ((res1 (iblk m c 0 t) (arrived m c t) (iblk m c 1 t) (x 0) (x 1)).trans ?_)
    exact congrArg₂ (bRes (iblk m c 0 t) (arrived m c t) (iblk m c 1 t)) (Fin.ext h0.symm) (Fin.ext h1.symm)
  case piece1 =>
    rw [landedAt m c t (Rect.unit ![0, 0] ![256, 1024] inb_S512x1024_S256x1024_0_0)]
    have e : x = ix2 (show Fin 256 from x 0) (show Fin 1024 from x 1) := (ix2_eta x).symm
    refine (congrArg _ e).trans ((res0 (iblk m c 0 t) (arrived m c t) (iblk m c 1 t) (x 0) (x 1)).trans ?_)
    exact congrArg₂ (bRes (iblk m c 0 t) (arrived m c t) (iblk m c 1 t)) (Fin.ext h0.symm) (Fin.ext h1.symm)

theorem pointXC (c : Dev nD) (t : Fin cfg0.N) (h0 : ¬ t.val % 65 = 0) (h1 : ¬ t.val < 63) (y : S512x1024.Idx) : (outsAt0 m c t.val t.isLt).1 y = bRes (iblk m c 0 t) (arrived m c t) (iblk m c 1 t) (y 0) (y 1) := by
  rw [outsAt0_C m c t h0 h1]
  frame_out
  canon_tiles x h
  case piece0 =>
    rw [landedAt m c t (Rect.unit ![256, 0] ![256, 1024] inb_S512x1024_S256x1024_256_0)]
    have e : x = ix2 (show Fin 256 from x 0) (show Fin 1024 from x 1) := (ix2_eta x).symm
    refine (congrArg _ e).trans ((res1 (iblk m c 0 t) (arrived m c t) (iblk m c 1 t) (x 0) (x 1)).trans ?_)
    exact congrArg₂ (bRes (iblk m c 0 t) (arrived m c t) (iblk m c 1 t)) (Fin.ext h0.symm) (Fin.ext h1.symm)
  case piece1 =>
    rw [landedAt m c t (Rect.unit ![0, 0] ![256, 1024] inb_S512x1024_S256x1024_0_0)]
    have e : x = ix2 (show Fin 256 from x 0) (show Fin 1024 from x 1) := (ix2_eta x).symm
    refine (congrArg _ e).trans ((res0 (iblk m c 0 t) (arrived m c t) (iblk m c 1 t) (x 0) (x 1)).trans ?_)
    exact congrArg₂ (bRes (iblk m c 0 t) (arrived m c t) (iblk m c 1 t)) (Fin.ext h0.symm) (Fin.ext h1.symm)

theorem pointX (c : Dev nD) (t : Fin cfg0.N) (y : S512x1024.Idx) : (outsAt0 m c t.val t.isLt).1 y = bRes (iblk m c 0 t) (arrived m c t) (iblk m c 1 t) (y 0) (y 1) := by
  by_cases h1 : t.val < 63
  · by_cases h0 : t.val % 65 = 0
    · exact pointXA m c t h0 h1 y
    · exact pointXB m c t h0 h1 y
  · exact pointXC m c t (by have := t.isLt; change t.val < 65 at this; omega) h1 y

theorem pointQA (c : Dev nD) (t : Fin cfg0.N) (h0 : t.val % 65 = 0) (h1 : t.val < 63) (y : S512x1024.Idx) : (outsAt0 m c t.val t.isLt).2.1 y = bQ (iblk m c 0 t) (arrived m c t) (iblk m c 1 t) (iblk m c 2 t) (iblk m c 3 t) (iblk m c 4 t) (iblk m c 5 t) (iblk m c 6 t) (iblk m c 7 t) (y 0) (y 1) := by
  rw [outsAt0_A m c t h0 h1]
  frame_out
  canon_tiles x h
  case piece0 =>
    rw [landedAt m c t (Rect.unit ![256, 0] ![256, 1024] inb_S512x1024_S256x1024_256_0)]
    have e : x = ix2 (show Fin 256 from x 0) (show Fin 1024 from x 1) := (ix2_eta x).symm
    refine (congrArg _ e).trans ((halfQ1 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bQ (iblk m c 0 t) (arrived m c t) (iblk m c 1 t) (iblk m c 2 t) (iblk m c 3 t) (iblk m c 4 t) (iblk m c 5 t) (iblk m c 6 t) (iblk m c 7 t)) (Fin.ext h0.symm) (Fin.ext h1.symm)
  case piece1 =>
    rw [landedAt m c t (Rect.unit ![0, 0] ![256, 1024] inb_S512x1024_S256x1024_0_0)]
    have e : x = ix2 (show Fin 256 from x 0) (show Fin 1024 from x 1) := (ix2_eta x).symm
    refine (congrArg _ e).trans ((halfQ0 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bQ (iblk m c 0 t) (arrived m c t) (iblk m c 1 t) (iblk m c 2 t) (iblk m c 3 t) (iblk m c 4 t) (iblk m c 5 t) (iblk m c 6 t) (iblk m c 7 t)) (Fin.ext h0.symm) (Fin.ext h1.symm)

theorem pointQB (c : Dev nD) (t : Fin cfg0.N) (h0 : ¬ t.val % 65 = 0) (h1 : t.val < 63) (y : S512x1024.Idx) : (outsAt0 m c t.val t.isLt).2.1 y = bQ (iblk m c 0 t) (arrived m c t) (iblk m c 1 t) (iblk m c 2 t) (iblk m c 3 t) (iblk m c 4 t) (iblk m c 5 t) (iblk m c 6 t) (iblk m c 7 t) (y 0) (y 1) := by
  rw [outsAt0_B m c t h0 h1]
  frame_out
  canon_tiles x h
  case piece0 =>
    rw [landedAt m c t (Rect.unit ![256, 0] ![256, 1024] inb_S512x1024_S256x1024_256_0)]
    have e : x = ix2 (show Fin 256 from x 0) (show Fin 1024 from x 1) := (ix2_eta x).symm
    refine (congrArg _ e).trans ((halfQ1 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bQ (iblk m c 0 t) (arrived m c t) (iblk m c 1 t) (iblk m c 2 t) (iblk m c 3 t) (iblk m c 4 t) (iblk m c 5 t) (iblk m c 6 t) (iblk m c 7 t)) (Fin.ext h0.symm) (Fin.ext h1.symm)
  case piece1 =>
    rw [landedAt m c t (Rect.unit ![0, 0] ![256, 1024] inb_S512x1024_S256x1024_0_0)]
    have e : x = ix2 (show Fin 256 from x 0) (show Fin 1024 from x 1) := (ix2_eta x).symm
    refine (congrArg _ e).trans ((halfQ0 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bQ (iblk m c 0 t) (arrived m c t) (iblk m c 1 t) (iblk m c 2 t) (iblk m c 3 t) (iblk m c 4 t) (iblk m c 5 t) (iblk m c 6 t) (iblk m c 7 t)) (Fin.ext h0.symm) (Fin.ext h1.symm)

theorem pointQC (c : Dev nD) (t : Fin cfg0.N) (h0 : ¬ t.val % 65 = 0) (h1 : ¬ t.val < 63) (y : S512x1024.Idx) : (outsAt0 m c t.val t.isLt).2.1 y = bQ (iblk m c 0 t) (arrived m c t) (iblk m c 1 t) (iblk m c 2 t) (iblk m c 3 t) (iblk m c 4 t) (iblk m c 5 t) (iblk m c 6 t) (iblk m c 7 t) (y 0) (y 1) := by
  rw [outsAt0_C m c t h0 h1]
  frame_out
  canon_tiles x h
  case piece0 =>
    rw [landedAt m c t (Rect.unit ![256, 0] ![256, 1024] inb_S512x1024_S256x1024_256_0)]
    have e : x = ix2 (show Fin 256 from x 0) (show Fin 1024 from x 1) := (ix2_eta x).symm
    refine (congrArg _ e).trans ((halfQ1 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bQ (iblk m c 0 t) (arrived m c t) (iblk m c 1 t) (iblk m c 2 t) (iblk m c 3 t) (iblk m c 4 t) (iblk m c 5 t) (iblk m c 6 t) (iblk m c 7 t)) (Fin.ext h0.symm) (Fin.ext h1.symm)
  case piece1 =>
    rw [landedAt m c t (Rect.unit ![0, 0] ![256, 1024] inb_S512x1024_S256x1024_0_0)]
    have e : x = ix2 (show Fin 256 from x 0) (show Fin 1024 from x 1) := (ix2_eta x).symm
    refine (congrArg _ e).trans ((halfQ0 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bQ (iblk m c 0 t) (arrived m c t) (iblk m c 1 t) (iblk m c 2 t) (iblk m c 3 t) (iblk m c 4 t) (iblk m c 5 t) (iblk m c 6 t) (iblk m c 7 t)) (Fin.ext h0.symm) (Fin.ext h1.symm)

theorem pointQ (c : Dev nD) (t : Fin cfg0.N) (y : S512x1024.Idx) : (outsAt0 m c t.val t.isLt).2.1 y = bQ (iblk m c 0 t) (arrived m c t) (iblk m c 1 t) (iblk m c 2 t) (iblk m c 3 t) (iblk m c 4 t) (iblk m c 5 t) (iblk m c 6 t) (iblk m c 7 t) (y 0) (y 1) := by
  by_cases h1 : t.val < 63
  · by_cases h0 : t.val % 65 = 0
    · exact pointQA m c t h0 h1 y
    · exact pointQB m c t h0 h1 y
  · exact pointQC m c t (by have := t.isLt; change t.val < 65 at this; omega) h1 y

theorem pointKA (c : Dev nD) (t : Fin cfg0.N) (h0 : t.val % 65 = 0) (h1 : t.val < 63) (y : S512x256.Idx) : (outsAt0 m c t.val t.isLt).2.2.1 y = bK (iblk m c 0 t) (arrived m c t) (iblk m c 1 t) (iblk m c 2 t) (iblk m c 3 t) (iblk m c 4 t) (iblk m c 5 t) (iblk m c 6 t) (iblk m c 7 t) (y 0) (y 1) := by
  rw [outsAt0_A m c t h0 h1]
  frame_out
  canon_tiles x h
  case piece0 =>
    rw [landedAt m c t (Rect.unit ![256, 0] ![256, 1024] inb_S512x1024_S256x1024_256_0)]
    have e : x = ix2 (show Fin 256 from x 0) (show Fin 256 from x 1) := (ix2_eta x).symm
    refine (congrArg _ e).trans ((halfK1 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bK (iblk m c 0 t) (arrived m c t) (iblk m c 1 t) (iblk m c 2 t) (iblk m c 3 t) (iblk m c 4 t) (iblk m c 5 t) (iblk m c 6 t) (iblk m c 7 t)) (Fin.ext h0.symm) (Fin.ext h1.symm)
  case piece1 =>
    rw [landedAt m c t (Rect.unit ![0, 0] ![256, 1024] inb_S512x1024_S256x1024_0_0)]
    have e : x = ix2 (show Fin 256 from x 0) (show Fin 256 from x 1) := (ix2_eta x).symm
    refine (congrArg _ e).trans ((halfK0 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bK (iblk m c 0 t) (arrived m c t) (iblk m c 1 t) (iblk m c 2 t) (iblk m c 3 t) (iblk m c 4 t) (iblk m c 5 t) (iblk m c 6 t) (iblk m c 7 t)) (Fin.ext h0.symm) (Fin.ext h1.symm)

theorem pointKB (c : Dev nD) (t : Fin cfg0.N) (h0 : ¬ t.val % 65 = 0) (h1 : t.val < 63) (y : S512x256.Idx) : (outsAt0 m c t.val t.isLt).2.2.1 y = bK (iblk m c 0 t) (arrived m c t) (iblk m c 1 t) (iblk m c 2 t) (iblk m c 3 t) (iblk m c 4 t) (iblk m c 5 t) (iblk m c 6 t) (iblk m c 7 t) (y 0) (y 1) := by
  rw [outsAt0_B m c t h0 h1]
  frame_out
  canon_tiles x h
  case piece0 =>
    rw [landedAt m c t (Rect.unit ![256, 0] ![256, 1024] inb_S512x1024_S256x1024_256_0)]
    have e : x = ix2 (show Fin 256 from x 0) (show Fin 256 from x 1) := (ix2_eta x).symm
    refine (congrArg _ e).trans ((halfK1 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bK (iblk m c 0 t) (arrived m c t) (iblk m c 1 t) (iblk m c 2 t) (iblk m c 3 t) (iblk m c 4 t) (iblk m c 5 t) (iblk m c 6 t) (iblk m c 7 t)) (Fin.ext h0.symm) (Fin.ext h1.symm)
  case piece1 =>
    rw [landedAt m c t (Rect.unit ![0, 0] ![256, 1024] inb_S512x1024_S256x1024_0_0)]
    have e : x = ix2 (show Fin 256 from x 0) (show Fin 256 from x 1) := (ix2_eta x).symm
    refine (congrArg _ e).trans ((halfK0 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bK (iblk m c 0 t) (arrived m c t) (iblk m c 1 t) (iblk m c 2 t) (iblk m c 3 t) (iblk m c 4 t) (iblk m c 5 t) (iblk m c 6 t) (iblk m c 7 t)) (Fin.ext h0.symm) (Fin.ext h1.symm)

theorem pointKC (c : Dev nD) (t : Fin cfg0.N) (h0 : ¬ t.val % 65 = 0) (h1 : ¬ t.val < 63) (y : S512x256.Idx) : (outsAt0 m c t.val t.isLt).2.2.1 y = bK (iblk m c 0 t) (arrived m c t) (iblk m c 1 t) (iblk m c 2 t) (iblk m c 3 t) (iblk m c 4 t) (iblk m c 5 t) (iblk m c 6 t) (iblk m c 7 t) (y 0) (y 1) := by
  rw [outsAt0_C m c t h0 h1]
  frame_out
  canon_tiles x h
  case piece0 =>
    rw [landedAt m c t (Rect.unit ![256, 0] ![256, 1024] inb_S512x1024_S256x1024_256_0)]
    have e : x = ix2 (show Fin 256 from x 0) (show Fin 256 from x 1) := (ix2_eta x).symm
    refine (congrArg _ e).trans ((halfK1 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bK (iblk m c 0 t) (arrived m c t) (iblk m c 1 t) (iblk m c 2 t) (iblk m c 3 t) (iblk m c 4 t) (iblk m c 5 t) (iblk m c 6 t) (iblk m c 7 t)) (Fin.ext h0.symm) (Fin.ext h1.symm)
  case piece1 =>
    rw [landedAt m c t (Rect.unit ![0, 0] ![256, 1024] inb_S512x1024_S256x1024_0_0)]
    have e : x = ix2 (show Fin 256 from x 0) (show Fin 256 from x 1) := (ix2_eta x).symm
    refine (congrArg _ e).trans ((halfK0 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bK (iblk m c 0 t) (arrived m c t) (iblk m c 1 t) (iblk m c 2 t) (iblk m c 3 t) (iblk m c 4 t) (iblk m c 5 t) (iblk m c 6 t) (iblk m c 7 t)) (Fin.ext h0.symm) (Fin.ext h1.symm)

theorem pointK (c : Dev nD) (t : Fin cfg0.N) (y : S512x256.Idx) : (outsAt0 m c t.val t.isLt).2.2.1 y = bK (iblk m c 0 t) (arrived m c t) (iblk m c 1 t) (iblk m c 2 t) (iblk m c 3 t) (iblk m c 4 t) (iblk m c 5 t) (iblk m c 6 t) (iblk m c 7 t) (y 0) (y 1) := by
  by_cases h1 : t.val < 63
  · by_cases h0 : t.val % 65 = 0
    · exact pointKA m c t h0 h1 y
    · exact pointKB m c t h0 h1 y
  · exact pointKC m c t (by have := t.isLt; change t.val < 65 at this; omega) h1 y

theorem pointVA (c : Dev nD) (t : Fin cfg0.N) (h0 : t.val % 65 = 0) (h1 : t.val < 63) (y : S512x256.Idx) : (outsAt0 m c t.val t.isLt).2.2.2 y = bV (iblk m c 0 t) (arrived m c t) (iblk m c 1 t) (iblk m c 2 t) (iblk m c 3 t) (iblk m c 4 t) (iblk m c 5 t) (iblk m c 6 t) (iblk m c 7 t) (y 0) (y 1) := by
  rw [outsAt0_A m c t h0 h1]
  frame_out
  canon_tiles x h
  case piece0 =>
    rw [landedAt m c t (Rect.unit ![256, 0] ![256, 1024] inb_S512x1024_S256x1024_256_0)]
    have e : x = ix2 (show Fin 256 from x 0) (show Fin 256 from x 1) := (ix2_eta x).symm
    refine (congrArg _ e).trans ((halfV1 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bV (iblk m c 0 t) (arrived m c t) (iblk m c 1 t) (iblk m c 2 t) (iblk m c 3 t) (iblk m c 4 t) (iblk m c 5 t) (iblk m c 6 t) (iblk m c 7 t)) (Fin.ext h0.symm) (Fin.ext h1.symm)
  case piece1 =>
    rw [landedAt m c t (Rect.unit ![0, 0] ![256, 1024] inb_S512x1024_S256x1024_0_0)]
    have e : x = ix2 (show Fin 256 from x 0) (show Fin 256 from x 1) := (ix2_eta x).symm
    refine (congrArg _ e).trans ((halfV0 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bV (iblk m c 0 t) (arrived m c t) (iblk m c 1 t) (iblk m c 2 t) (iblk m c 3 t) (iblk m c 4 t) (iblk m c 5 t) (iblk m c 6 t) (iblk m c 7 t)) (Fin.ext h0.symm) (Fin.ext h1.symm)

theorem pointVB (c : Dev nD) (t : Fin cfg0.N) (h0 : ¬ t.val % 65 = 0) (h1 : t.val < 63) (y : S512x256.Idx) : (outsAt0 m c t.val t.isLt).2.2.2 y = bV (iblk m c 0 t) (arrived m c t) (iblk m c 1 t) (iblk m c 2 t) (iblk m c 3 t) (iblk m c 4 t) (iblk m c 5 t) (iblk m c 6 t) (iblk m c 7 t) (y 0) (y 1) := by
  rw [outsAt0_B m c t h0 h1]
  frame_out
  canon_tiles x h
  case piece0 =>
    rw [landedAt m c t (Rect.unit ![256, 0] ![256, 1024] inb_S512x1024_S256x1024_256_0)]
    have e : x = ix2 (show Fin 256 from x 0) (show Fin 256 from x 1) := (ix2_eta x).symm
    refine (congrArg _ e).trans ((halfV1 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bV (iblk m c 0 t) (arrived m c t) (iblk m c 1 t) (iblk m c 2 t) (iblk m c 3 t) (iblk m c 4 t) (iblk m c 5 t) (iblk m c 6 t) (iblk m c 7 t)) (Fin.ext h0.symm) (Fin.ext h1.symm)
  case piece1 =>
    rw [landedAt m c t (Rect.unit ![0, 0] ![256, 1024] inb_S512x1024_S256x1024_0_0)]
    have e : x = ix2 (show Fin 256 from x 0) (show Fin 256 from x 1) := (ix2_eta x).symm
    refine (congrArg _ e).trans ((halfV0 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bV (iblk m c 0 t) (arrived m c t) (iblk m c 1 t) (iblk m c 2 t) (iblk m c 3 t) (iblk m c 4 t) (iblk m c 5 t) (iblk m c 6 t) (iblk m c 7 t)) (Fin.ext h0.symm) (Fin.ext h1.symm)

theorem pointVC (c : Dev nD) (t : Fin cfg0.N) (h0 : ¬ t.val % 65 = 0) (h1 : ¬ t.val < 63) (y : S512x256.Idx) : (outsAt0 m c t.val t.isLt).2.2.2 y = bV (iblk m c 0 t) (arrived m c t) (iblk m c 1 t) (iblk m c 2 t) (iblk m c 3 t) (iblk m c 4 t) (iblk m c 5 t) (iblk m c 6 t) (iblk m c 7 t) (y 0) (y 1) := by
  rw [outsAt0_C m c t h0 h1]
  frame_out
  canon_tiles x h
  case piece0 =>
    rw [landedAt m c t (Rect.unit ![256, 0] ![256, 1024] inb_S512x1024_S256x1024_256_0)]
    have e : x = ix2 (show Fin 256 from x 0) (show Fin 256 from x 1) := (ix2_eta x).symm
    refine (congrArg _ e).trans ((halfV1 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bV (iblk m c 0 t) (arrived m c t) (iblk m c 1 t) (iblk m c 2 t) (iblk m c 3 t) (iblk m c 4 t) (iblk m c 5 t) (iblk m c 6 t) (iblk m c 7 t)) (Fin.ext h0.symm) (Fin.ext h1.symm)
  case piece1 =>
    rw [landedAt m c t (Rect.unit ![0, 0] ![256, 1024] inb_S512x1024_S256x1024_0_0)]
    have e : x = ix2 (show Fin 256 from x 0) (show Fin 256 from x 1) := (ix2_eta x).symm
    refine (congrArg _ e).trans ((halfV0 (iblk m c 0 t) (arrived m c t) (iblk m c 1 t) (iblk m c 2 t) (iblk m c 3 t) (iblk m c 4 t) (iblk m c 5 t) (iblk m c 6 t) (iblk m c 7 t) (x 0) (x 1)).trans ?_)
    exact congrArg₂ (bV (iblk m c 0 t) (arrived m c t) (iblk m c 1 t) (iblk m c 2 t) (iblk m c 3 t) (iblk m c 4 t) (iblk m c 5 t) (iblk m c 6 t) (iblk m c 7 t)) (Fin.ext h0.symm) (Fin.ext h1.symm)

theorem pointV (c : Dev nD) (t : Fin cfg0.N) (y : S512x256.Idx) : (outsAt0 m c t.val t.isLt).2.2.2 y = bV (iblk m c 0 t) (arrived m c t) (iblk m c 1 t) (iblk m c 2 t) (iblk m c 3 t) (iblk m c 4 t) (iblk m c 5 t) (iblk m c 6 t) (iblk m c 7 t) (y 0) (y 1) := by
  by_cases h1 : t.val < 63
  · by_cases h0 : t.val % 65 = 0
    · exact pointVA m c t h0 h1 y
    · exact pointVB m c t h0 h1 y
  · exact pointVC m c t (by have := t.isLt; change t.val < 65 at this; omega) h1 y

end Cert.Kernel3Ideal.Odd

end
-- ==== Proof.OddBlocks.lean ====
/- What one grid point of the odd input projection reads, element by element, in terms of the layer's arguments. -/
module

public import proofs.«01_k».proof.Proof.OddTables
public import proofs.«01_k».proof.Proof.OddPoints

@[expose] public section

set_option maxRecDepth 16384

noncomputable section

namespace Cert.Kernel3Ideal.Odd

open Idealize.ShloMosaic Idealize.ShloMosaic.TcCoe Idealize.ShloMosaic.Tactic Idealize.ShloMosaic.StableHlo
open Idealize.SL Idealize.SL.Sem
open Cert.Kernel3Ideal Cert.Kernel3Ideal.Gen

variable (m : (ℓ : Loc nD τ sig) → Buf (Elt Ideal) ℓ)

/-- The arguments at their coordinates. -/
def aX (c : Dev nD) (n : Fin 33280) (k : Fin 1024) : EReal := (show Vec Ideal S33280x1024 .f32 from m (c.tc.loc main_arg0)) (ix2 n k)
def aZ (c : Dev nD) (a : Fin 4) (n : Fin 36864) (k : Fin 128) : BitVec 32 := (show Vec Ideal S4x36864x128 .i32 from m (c.tc.loc main_arg1)) (ix3 a n k)
def aMp (c : Dev nD) (s : Fin 16) (d : Fin 6144) : EReal := (show Vec Ideal S16x6144 .f32 from m (c.tc.loc main_arg2)) (ix2 s d)
def aMd (c : Dev nD) (s : Fin 16) (d : Fin 6144) : EReal := (show Vec Ideal S16x6144 .f32 from m (c.tc.loc main_arg3)) (ix2 s d)
def aG (c : Dev nD) (k : Fin 1024) : EReal := (show Vec Ideal S1024 .f32 from m (c.tc.loc main_arg4)) (ix1 k)
def aW (c : Dev nD) (k : Fin 1024) (q : Fin 1280) : EReal := (show Vec Ideal S1x1024x1280 .f32 from m (c.tc.loc main_arg5)) (ix3 0 k q)

/-- The block row of the rotation's tables at point `t`. -/
def ropeRow (t : ℕ) : ℕ := if t < 64 then t % 32 else 32

theorem step0 : ∀ t : Fin grid0.N, cc0_transform_1 (grid0.coords t) = ![0, t.val, 0] := by decide +kernel
theorem step1 : ∀ t : Fin grid0.N, cc0_transform_2 (grid0.coords t) = ![t.val, 5] := by decide +kernel
theorem step2 : ∀ t : Fin grid0.N, cc0_transform_3 (grid0.coords t) = ![t.val, 0] := by decide +kernel
theorem step3 : ∀ t : Fin grid0.N, cc0_transform_4 (grid0.coords t) = ![t.val, 1] := by decide +kernel
theorem step4 : ∀ t : Fin grid0.N, cc0_transform_5 (grid0.coords t) = ![0, 0] := by decide +kernel
theorem step5 : ∀ t : Fin grid0.N, cc0_transform_6 (grid0.coords t) = ![ropeRow t.val, 0] := by decide +kernel
theorem step6 : ∀ t : Fin grid0.N, cc0_transform_7 (grid0.coords t) = ![ropeRow t.val, 0] := by decide +kernel
theorem step7 : ∀ t : Fin grid0.N, cc0_transform_8 (grid0.coords t) = ![0, 0] := by decide +kernel

/-- The rows that have arrived. -/
theorem arrived_at (c : Dev nD) (t : Fin cfg0.N) (r : Fin 512) (d : Fin 1024) (n : Fin 33280) (hn : n.val = 512 * t.val + r.val) :
    arrived m c t (ix2 r d) = aX m c n d := by
  have e : V m c main_arg0 = m (c.tc.loc main_arg0) := Gen.V_main_arg0 m c
  unfold arrived
  refine (arrives t (V m c main_arg0) r d).trans ?_
  rw [e]
  unfold aX
  congr 2
  exact Fin.ext hn.symm

/-- The packed halves of the mixture. -/
theorem iblk0_at (c : Dev nD) (t : Fin cfg0.N) (a : Fin 4) (r : Fin 512) (k : Fin 128) (n : Fin 36864) (hn : n.val = 512 * t.val + r.val) :
    (show Vec Ideal S4x512x128 .i32 from iblk m c 0 t) (ix3 a r k) = aZ m c a n k := by
  have e : V m c main_arg1 = m (c.tc.loc main_arg1) := Gen.V_main_arg1 m c
  have p : (((cfg0).win 0).blk t).view.emb (ix3 a r k : S4x512x128.Idx) = (ix3 a n k : S4x36864x128.Idx) := by
    funext i
    apply Fin.ext
    fin_cases i
    · show cc0_transform_1 (grid0.coords t) 0 * 4 + 1 * a.val = a.val
      rw [step0]; show 0 * 4 + 1 * a.val = a.val; omega
    · show cc0_transform_1 (grid0.coords t) 1 * 512 + 1 * r.val = n.val
      rw [step0]; show t.val * 512 + 1 * r.val = n.val; omega
    · show cc0_transform_1 (grid0.coords t) 2 * 128 + 1 * k.val = k.val
      rw [step0]; show 0 * 128 + 1 * k.val = k.val; omega
  show (show Vec Ideal S4x36864x128 .i32 from V m c main_arg1) ((((cfg0).win 0).blk t).view.emb (ix3 a r k : S4x512x128.Idx)) = _
  rw [e]
  exact congrArg (show Vec Ideal S4x36864x128 .i32 from m (c.tc.loc main_arg1)) p

/-- The gate of the point's groups. -/
theorem iblk1_at (c : Dev nD) (t : Fin cfg0.N) (q : Fin 8) (k : Fin 1024) (s : Fin 16) (d : Fin 6144) (hs : s.val = seqGroup (8 * t.val + q.val)) (hd : d.val = 5120 + k.val) :
    (show Vec Ideal S8x1024 .f32 from iblk m c 1 t) (ix2 q k) = aMp m c s d := by
  have e : V m c main_v76 = (show FVec Ideal S520x6144 .f32 from Host.gather gather_S16x6144_S520x1_S520x6144_1_0_n_n_0_1_16144 (show FVec Ideal S16x6144 .f32 from m (c.tc.loc main_arg2)) groups) := host_v76 _
  have ht : t.val < 65 := t.isLt
  have p : (((cfg0).win 1).blk t).view.emb (ix2 q k : S8x1024.Idx) = (ix2 ⟨8 * t.val + q.val, by omega⟩ d : S520x6144.Idx) := by
    funext a
    apply Fin.ext
    fin_cases a
    · show cc0_transform_2 (grid0.coords t) 0 * 8 + 1 * q.val = 8 * t.val + q.val
      rw [step1]; show t.val * 8 + 1 * q.val = 8 * t.val + q.val; omega
    · show cc0_transform_2 (grid0.coords t) 1 * 1024 + 1 * k.val = d.val
      rw [step1]; show 5 * 1024 + 1 * k.val = d.val; omega
  show (show Vec Ideal S520x6144 .f32 from V m c main_v76) ((((cfg0).win 1).blk t).view.emb (ix2 q k : S8x1024.Idx)) = _
  rw [e]
  refine (congrArg (show FVec Ideal S520x6144 .f32 from Host.gather gather_S16x6144_S520x1_S520x6144_1_0_n_n_0_1_16144 (show FVec Ideal S16x6144 .f32 from m (c.tc.loc main_arg2)) groups) p).trans ?_
  refine (gathered_at _ _ _).trans ?_
  unfold aMp
  congr 2
  exact Fin.ext hs.symm

/-- The shift of the point's groups. -/
theorem iblk2_at (c : Dev nD) (t : Fin cfg0.N) (q : Fin 8) (k : Fin 1024) (s : Fin 16) (d : Fin 6144) (hs : s.val = seqGroup (8 * t.val + q.val)) (hd : d.val = k.val) :
    (show Vec Ideal S8x1024 .f32 from iblk m c 2 t) (ix2 q k) = aMd m c s d := by
  have e : V m c main_v81 = (show FVec Ideal S520x6144 .f32 from Host.gather gather_S16x6144_S520x1_S520x6144_1_0_n_n_0_1_16144 (show FVec Ideal S16x6144 .f32 from m (c.tc.loc main_arg3)) groups) := host_v81 _
  have ht : t.val < 65 := t.isLt
  have p : (((cfg0).win 2).blk t).view.emb (ix2 q k : S8x1024.Idx) = (ix2 ⟨8 * t.val + q.val, by omega⟩ d : S520x6144.Idx) := by
    funext a
    apply Fin.ext
    fin_cases a
    · show cc0_transform_3 (grid0.coords t) 0 * 8 + 1 * q.val = 8 * t.val + q.val
      rw [step2]; show t.val * 8 + 1 * q.val = 8 * t.val + q.val; omega
    · show cc0_transform_3 (grid0.coords t) 1 * 1024 + 1 * k.val = d.val
      rw [step2]; show 0 * 1024 + 1 * k.val = d.val; omega
  show (show Vec Ideal S520x6144 .f32 from V m c main_v81) ((((cfg0).win 2).blk t).view.emb (ix2 q k : S8x1024.Idx)) = _
  rw [e]
  refine (congrArg (show FVec Ideal S520x6144 .f32 from Host.gather gather_S16x6144_S520x1_S520x6144_1_0_n_n_0_1_16144 (show FVec Ideal S16x6144 .f32 from m (c.tc.loc main_arg3)) groups) p).trans ?_
  refine (gathered_at _ _ _).trans ?_
  unfold aMd
  congr 2
  exact Fin.ext hs.symm

/-- The scale of the point's groups. -/
theorem iblk3_at (c : Dev nD) (t : Fin cfg0.N) (q : Fin 8) (k : Fin 1024) (s : Fin 16) (d : Fin 6144) (hs : s.val = seqGroup (8 * t.val + q.val)) (hd : d.val = 1024 + k.val) :
    (show Vec Ideal S8x1024 .f32 from iblk m c 3 t) (ix2 q k) = aMd m c s d := by
  have e : V m c main_v81 = (show FVec Ideal S520x6144 .f32 from Host.gather gather_S16x6144_S520x1_S520x6144_1_0_n_n_0_1_16144 (show FVec Ideal S16x6144 .f32 from m (c.tc.loc main_arg3)) groups) := host_v81 _
  have ht : t.val < 65 := t.isLt
  have p : (((cfg0).win 3).blk t).view.emb (ix2 q k : S8x1024.Idx) = (ix2 ⟨8 * t.val + q.val, by omega⟩ d : S520x6144.Idx) := by
    funext a
    apply Fin.ext
    fin_cases a
    · show cc0_transform_4 (grid0.coords t) 0 * 8 + 1 * q.val = 8 * t.val + q.val
      rw [step3]; show t.val * 8 + 1 * q.val = 8 * t.val + q.val; omega
    · show cc0_transform_4 (grid0.coords t) 1 * 1024 + 1 * k.val = d.val
      rw [step3]; show 1 * 1024 + 1 * k.val = d.val; omega
  show (show Vec Ideal S520x6144 .f32 from V m c main_v81) ((((cfg0).win 3).blk t).view.emb (ix2 q k : S8x1024.Idx)) = _
  rw [e]
  refine (congrArg (show FVec Ideal S520x6144 .f32 from Host.gather gather_S16x6144_S520x1_S520x6144_1_0_n_n_0_1_16144 (show FVec Ideal S16x6144 .f32 from m (c.tc.loc main_arg3)) groups) p).trans ?_
  refine (gathered_at _ _ _).trans ?_
  unfold aMd
  congr 2
  exact Fin.ext hs.symm

/-- The norm's weights. -/
theorem iblk4_at (c : Dev nD) (t : Fin cfg0.N) (k : Fin 1024) :
    (show Vec Ideal S1x1024 .f32 from iblk m c 4 t) (ix2 0 k) = aG m c k := by
  have e : V m c main_v82 = broadcastInDim S1x1024 ![1] bcast_S1024_S1x1024_1 (show Vec Ideal S1024 .f32 from m (c.tc.loc main_arg4)) := host_v82 _
  have p : (((cfg0).win 4).blk t).view.emb (ix2 0 k : S1x1024.Idx) = (ix2 0 k : S1x1024.Idx) := by
    funext a
    apply Fin.ext
    fin_cases a
    · show cc0_transform_5 (grid0.coords t) 0 * 1 + 1 * 0 = 0
      rw [step4]; rfl
    · show cc0_transform_5 (grid0.coords t) 1 * 1024 + 1 * k.val = k.val
      rw [step4]; show 0 * 1024 + 1 * k.val = k.val; rw [Nat.zero_mul, Nat.zero_add, Nat.one_mul]
  show (show Vec Ideal S1x1024 .f32 from V m c main_v82) ((((cfg0).win 4).blk t).view.emb (ix2 0 k : S1x1024.Idx)) = _
  rw [e]
  refine (congrArg (broadcastInDim S1x1024 ![1] bcast_S1024_S1x1024_1 (show Vec Ideal S1024 .f32 from m (c.tc.loc main_arg4))) p).trans ?_
  unfold aG
  pointwise []

/-- The cosines of the point's rows. -/
theorem iblk5_at (c : Dev nD) (t : Fin cfg0.N) (r : Fin 512) (j : Fin 128) (n : Fin 33280) (hn : n.val = 512 * t.val + r.val) :
    (show Vec Ideal S512x128 .f32 from iblk m c 5 t) (ix2 r j) = Ideal.cos (Rotation.angle (Rotation.posOf n) ⟨j.val % 32, by omega⟩) := by
  have e : V m c main_v66 = tabled cosT := host_v66 _
  have ht : t.val < 65 := t.isLt
  have hR : 512 * ropeRow t.val + r.val < 16896 := by unfold ropeRow; split <;> omega
  have p : (((cfg0).win 5).blk t).view.emb (ix2 r j : S512x128.Idx) = (ix2 ⟨512 * ropeRow t.val + r.val, hR⟩ j : S16896x128.Idx) := by
    funext a
    apply Fin.ext
    fin_cases a
    · show cc0_transform_6 (grid0.coords t) 0 * 512 + 1 * r.val = 512 * ropeRow t.val + r.val
      rw [step5]; show ropeRow t.val * 512 + 1 * r.val = 512 * ropeRow t.val + r.val; omega
    · show cc0_transform_6 (grid0.coords t) 1 * 128 + 1 * j.val = j.val
      rw [step5]; show 0 * 128 + 1 * j.val = j.val; omega
  show (show Vec Ideal S16896x128 .f32 from V m c main_v66) ((((cfg0).win 5).blk t).view.emb (ix2 r j : S512x128.Idx)) = _
  rw [e]
  refine (congrArg (tabled cosT) p).trans ?_
  have hp : Rotation.posOf n < 16384 := by unfold Rotation.posOf; split <;> omega
  refine (tabled_at cosT ⟨512 * ropeRow t.val + r.val, hR⟩ j ⟨Rotation.posOf n, hp⟩ ?_).trans (cosT_at _ _)
  show Rotation.posOf n = if 512 * ropeRow t.val + r.val < 16384 then 512 * ropeRow t.val + r.val else 4096 + (512 * ropeRow t.val + r.val - 16384) % 64
  unfold Rotation.posOf ropeRow
  have hr := r.isLt
  by_cases h : t.val < 64
  · rw [if_pos h, if_pos (by omega), if_pos (by omega)]; omega
  · rw [if_neg h, if_neg (by omega), if_neg (by omega)]; omega

/-- The sines, the lower half of each head negated of the point's rows. -/
theorem iblk6_at (c : Dev nD) (t : Fin cfg0.N) (r : Fin 512) (j : Fin 128) (n : Fin 33280) (hn : n.val = 512 * t.val + r.val) :
    (show Vec Ideal S512x128 .f32 from iblk m c 6 t) (ix2 r j) = Ideal.sin (Rotation.angle (Rotation.posOf n) ⟨j.val % 32, by omega⟩) * Ideal.ofBits .f32 (lit0 j) := by
  have e : V m c main_v71 = tabled sinT := host_v71 _
  have ht : t.val < 65 := t.isLt
  have hR : 512 * ropeRow t.val + r.val < 16896 := by unfold ropeRow; split <;> omega
  have p : (((cfg0).win 6).blk t).view.emb (ix2 r j : S512x128.Idx) = (ix2 ⟨512 * ropeRow t.val + r.val, hR⟩ j : S16896x128.Idx) := by
    funext a
    apply Fin.ext
    fin_cases a
    · show cc0_transform_7 (grid0.coords t) 0 * 512 + 1 * r.val = 512 * ropeRow t.val + r.val
      rw [step6]; show ropeRow t.val * 512 + 1 * r.val = 512 * ropeRow t.val + r.val; omega
    · show cc0_transform_7 (grid0.coords t) 1 * 128 + 1 * j.val = j.val
      rw [step6]; show 0 * 128 + 1 * j.val = j.val; omega
  show (show Vec Ideal S16896x128 .f32 from V m c main_v71) ((((cfg0).win 6).blk t).view.emb (ix2 r j : S512x128.Idx)) = _
  rw [e]
  refine (congrArg (tabled sinT) p).trans ?_
  have hp : Rotation.posOf n < 16384 := by unfold Rotation.posOf; split <;> omega
  refine (tabled_at sinT ⟨512 * ropeRow t.val + r.val, hR⟩ j ⟨Rotation.posOf n, hp⟩ ?_).trans (sinT_at _ _)
  show Rotation.posOf n = if 512 * ropeRow t.val + r.val < 16384 then 512 * ropeRow t.val + r.val else 4096 + (512 * ropeRow t.val + r.val - 16384) % 64
  unfold Rotation.posOf ropeRow
  have hr := r.isLt
  by_cases h : t.val < 64
  · rw [if_pos h, if_pos (by omega), if_pos (by omega)]; omega
  · rw [if_neg h, if_neg (by omega), if_neg (by omega)]; omega

/-- The weights. -/
theorem iblk7_at (c : Dev nD) (t : Fin cfg0.N) (k : Fin 1024) (f : Fin 1536) (q : Fin 1280) (hq : q.val = column f.val) :
    (show Vec Ideal S1024x1536 .bf16 from iblk m c 7 t) (ix2 k f) = aW m c k q := by
  have e : V m c main_v15 = joined (show Vec Ideal S1x1024x1280 .f32 from m (c.tc.loc main_arg5)) := host_v15 _
  have p : (((cfg0).win 7).blk t).view.emb (ix2 k f : S1024x1536.Idx) = (ix2 k f : S1024x1536.Idx) := by
    funext a
    apply Fin.ext
    fin_cases a
    · show cc0_transform_8 (grid0.coords t) 0 * 1024 + 1 * k.val = k.val
      rw [step7]; show 0 * 1024 + 1 * k.val = k.val; rw [Nat.zero_mul, Nat.zero_add, Nat.one_mul]
    · show cc0_transform_8 (grid0.coords t) 1 * 1536 + 1 * f.val = f.val
      rw [step7]; show 0 * 1536 + 1 * f.val = f.val; omega
  show (show Vec Ideal S1024x1536 .bf16 from V m c main_v15) ((((cfg0).win 7).blk t).view.emb (ix2 k f : S1024x1536.Idx)) = _
  rw [e]
  refine (congrArg (joined (show Vec Ideal S1x1024x1280 .f32 from m (c.tc.loc main_arg5))) p).trans ?_
  exact joined_at _ k f q hq

end Cert.Kernel3Ideal.Odd

end
-- ==== Proof.OddArrays.lean ====
/- The arrays the odd input projection leaves, element by element: the residual rows, and the queries, keys and values of each row,
   with every key head and every value head standing twice. -/
module

public import proofs.«01_k».proof.Proof.OddBlocks
public import proofs.«01_k».proof.Proof.OddRun

@[expose] public section

set_option maxRecDepth 16384

noncomputable section

namespace Cert.Kernel3Ideal.Odd

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen

variable (m : (ℓ : Loc nD τ sig) → Buf (Elt Ideal) ℓ)

theorem seq_eq (n : Fin 33280) (t r : ℕ) (hr : r < 512) (ht : t < 65) (hn : n.val = 512 * t + r) : (Rotation.seqOf n).val = seqGroup (8 * t + r / 64) := by
  unfold Rotation.seqOf seqGroup
  by_cases h : n.val < 32768
  · rw [if_pos h, if_pos (by omega)]; show n.val / 16384 = _; omega
  · rw [if_neg h, if_neg (by omega)]; show 2 + (n.val - 32768) / 64 = _; omega

theorem bMix_eq (c : Dev nD) (t : Fin cfg0.N) (r : Fin 512) (d : Fin 1024) (n : Fin 33280) (hn : n.val = 512 * t.val + r.val) :
    bMix (iblk m c 0 t) r d = Rotation.mixed (aZ m c) n d := by
  unfold bMix Rotation.mixed
  by_cases h : d.val < 512
  · rw [dif_pos h, dif_pos h]
    exact congrArg (fun w => Ideal.ofBits .f32 (IntOp.shli ArithUnit.vector w 16#32)) (iblk0_at m c t _ r _ ⟨n.val, by omega⟩ hn)
  · rw [dif_neg h, dif_neg h]
    exact congrArg (fun w => Ideal.ofBits .f32 (IntOp.andi w 4294901760#32)) (iblk0_at m c t _ r _ ⟨n.val, by omega⟩ hn)

theorem bRes_val (Z : Vec Ideal S4x512x128 .i32) (X : Vec Ideal S512x1024 .f32) (gt : Vec Ideal S8x1024 .f32) (r : Fin 512) (d : Fin 1024) (x y w : EReal)
    (hx : X (ix2 r d) = x) (hy : bMix Z r d = y) (hw : gt (ix2 ⟨r.val / 64, by omega⟩ d) = w) : bRes Z X gt r d = x + w * y := by
  unfold bRes
  rw [hx, hy, hw, mul_comm]

/-- A block row of the residual is the layer's row. -/
theorem bRes_eq (c : Dev nD) (t : Fin cfg0.N) (r : Fin 512) (d : Fin 1024) (n : Fin 33280) (hn : n.val = 512 * t.val + r.val) :
    bRes (iblk m c 0 t) (arrived m c t) (iblk m c 1 t) r d = Rotation.resid (aX m c) (aZ m c) (aMp m c) n d := by
  have ht : t.val < 65 := t.isLt
  have e1 := iblk1_at m c t ⟨r.val / 64, by omega⟩ d (Rotation.seqOf n) ⟨5120 + d.val, by omega⟩ (seq_eq n t.val r.val r.isLt ht hn) (Eq.refl (5120 + d.val))
  unfold Rotation.resid
  exact bRes_val _ _ _ r d _ _ _ (arrived_at m c t r d n hn) (bMix_eq m c t r d n hn) e1

theorem prod_val (Z : Vec Ideal S4x512x128 .i32) (A : Vec Ideal S512x1024 .f32) (gt sh sc : Vec Ideal S8x1024 .f32) (g : Vec Ideal S1x1024 .f32) (co si : Vec Ideal S512x128 .f32) (M : Vec Ideal S1024x1536 .bf16)
    (r : Fin 512) (f : Fin 1536) (X G S C W : Fin 1024 → EReal)
    (hx : ∀ k, bRes Z A gt r k = X k) (hg : ∀ k, g (ix2 0 k) = G k) (hs : ∀ k, sh (ix2 ⟨r.val / 64, by omega⟩ k) = S k) (hc : ∀ k, sc (ix2 ⟨r.val / 64, by omega⟩ k) = C k) (hw : ∀ k, M (ix2 k f) = W k) :
    prodOf Z A gt sh sc g co si M r f = Projection.projected X G S C W := by
  obtain rfl : X = bRes Z A gt r := funext fun k => (hx k).symm
  obtain rfl : G = fun k => g (ix2 0 k) := funext fun k => (hg k).symm
  obtain rfl : S = fun k => sh (ix2 ⟨r.val / 64, by omega⟩ k) := funext fun k => (hs k).symm
  obtain rfl : C = fun k => sc (ix2 ⟨r.val / 64, by omega⟩ k) := funext fun k => (hc k).symm
  obtain rfl : W = fun k => M (ix2 k f) := funext fun k => (hw k).symm
  rfl

/-- A column of a projected block row is a column of the layer's projected row. -/
theorem prod_eq (c : Dev nD) (t : Fin cfg0.N) (r : Fin 512) (f : Fin 1536) (n : Fin 33280) (q : Fin 1280) (hn : n.val = 512 * t.val + r.val) (hq : q.val = column f.val) :
    prodOf (iblk m c 0 t) (arrived m c t) (iblk m c 1 t) (iblk m c 2 t) (iblk m c 3 t) (iblk m c 4 t) (iblk m c 5 t) (iblk m c 6 t) (iblk m c 7 t) r f = Rotation.proj (aX m c) (aZ m c) (aMp m c) (aMd m c) (aG m c) (aW m c) n q := by
  have ht : t.val < 65 := t.isLt
  have hs := seq_eq n t.val r.val r.isLt ht hn
  have f2 : ∀ k : Fin 1024, (show Vec Ideal S8x1024 .f32 from iblk m c 2 t) (ix2 (⟨r.val / 64, by omega⟩ : Fin 8) k) = aMd m c (Rotation.seqOf n) ⟨k.val, by omega⟩ :=
    fun k => iblk2_at m c t ⟨r.val / 64, by omega⟩ k (Rotation.seqOf n) ⟨k.val, by omega⟩ hs (Eq.refl k.val)
  have f3 : ∀ k : Fin 1024, (show Vec Ideal S8x1024 .f32 from iblk m c 3 t) (ix2 (⟨r.val / 64, by omega⟩ : Fin 8) k) = aMd m c (Rotation.seqOf n) ⟨1024 + k.val, by omega⟩ :=
    fun k => iblk3_at m c t ⟨r.val / 64, by omega⟩ k (Rotation.seqOf n) ⟨1024 + k.val, by omega⟩ hs (Eq.refl (1024 + k.val))
  unfold Rotation.proj
  exact prod_val _ _ _ _ _ _ _ _ _ r f _ _ _ _ _ (fun k => bRes_eq m c t r k n hn) (fun k => iblk4_at m c t k) f2 f3 (fun k => iblk7_at m c t k f q hq)

theorem ofBits_minusOne : Ideal.ofBits .f32 0xBF800000#32 = (-1 : EReal) := by
  have h : (8388608 : ℝ) * (2 ^ 23)⁻¹ = 1 := by norm_num
  simp [Ideal.ofBits, Ideal.ieee]
  rw [← EReal.coe_mul, h]
  rfl

theorem ofBits_plusOne : Ideal.ofBits .f32 0x3F800000#32 = (1 : EReal) := by
  have h : (8388608 : ℝ) * (2 ^ 23)⁻¹ = 1 := by norm_num
  simp [Ideal.ofBits, Ideal.ieee]
  rw [← EReal.coe_mul, h]
  rfl

/-- The signed sum of the two lanes of a plane is the turn. -/
theorem turned (p : ℕ) (v : Fin 64 → EReal) (e : Fin 64) (j : Fin 128) (hj : j.val % 64 = e.val) (a b : EReal) (ha : a = v e) (hb : b = v ⟨if e.val < 32 then 32 + e.val else e.val - 32, by split <;> omega⟩) :
    a * Ideal.cos (Rotation.angle p ⟨j.val % 32, by omega⟩) + b * (Ideal.sin (Rotation.angle p ⟨j.val % 32, by omega⟩) * Ideal.ofBits .f32 (lit0 j)) = Rotation.turn p v e := by
  rw [lit0_at, hj]
  unfold Rotation.turn
  by_cases h : e.val < 32
  · rw [if_pos h, dif_pos h]
    have f : (⟨j.val % 32, by omega⟩ : Fin 32) = ⟨e.val, h⟩ := Fin.ext (by show j.val % 32 = e.val; omega)
    have g : (⟨if e.val < 32 then 32 + e.val else e.val - 32, by split <;> omega⟩ : Fin 64) = ⟨32 + e.val, by omega⟩ := Fin.ext (if_pos h)
    rw [g] at hb
    rw [f, ha, hb, ofBits_minusOne, mul_neg, mul_one, mul_neg, sub_eq_add_neg]
  · rw [if_neg h, dif_neg h]
    have f : (⟨j.val % 32, by omega⟩ : Fin 32) = ⟨e.val - 32, by omega⟩ := Fin.ext (by show j.val % 32 = e.val - 32; omega)
    have g : (⟨if e.val < 32 then 32 + e.val else e.val - 32, by split <;> omega⟩ : Fin 64) = ⟨e.val - 32, by omega⟩ := Fin.ext (if_neg h)
    rw [g] at hb
    rw [f, ha, hb, ofBits_plusOne, mul_one]

theorem column_q (d : ℕ) (h : d < 1024) : column d = d := if_pos h

theorem column_k (d : ℕ) (h : d < 256) : column (1024 + d) = 1024 + (d / 128 * 64 + d % 64) := by
  unfold column; rw [if_neg (by omega), if_pos (by omega)]; omega

theorem column_v (d : ℕ) (h : d < 256) : column (1280 + d) = 1152 + (d / 128 * 64 + d % 64) := by
  unfold column; rw [if_neg (by omega), if_neg (by omega)]; omega

theorem bQ_eq (c : Dev nD) (t : Fin cfg0.N) (r : Fin 512) (d : Fin 1024) (n : Fin 33280) (hn : n.val = 512 * t.val + r.val) :
    bQ (iblk m c 0 t) (arrived m c t) (iblk m c 1 t) (iblk m c 2 t) (iblk m c 3 t) (iblk m c 4 t) (iblk m c 5 t) (iblk m c 6 t) (iblk m c 7 t) r d
      = Rotation.query (aX m c) (aZ m c) (aMp m c) (aMd m c) (aG m c) (aW m c) n ⟨d.val / 64, by omega⟩ ⟨d.val % 64, by omega⟩ := by
  unfold bQ Rotation.query
  refine congrArg (· * _) ?_
  refine (congrArg₂ (fun x y => _ * x + _ * y) (iblk5_at m c t r ⟨d.val % 128, by omega⟩ n hn) (iblk6_at m c t r ⟨d.val % 128, by omega⟩ n hn)).trans ?_
  refine turned _ _ ⟨d.val % 64, by omega⟩ ⟨d.val % 128, by omega⟩ (by show d.val % 128 % 64 = d.val % 64; omega) _ _ ?_ ?_
  · exact prod_eq m c t r _ n _ hn (by rw [column_q _ d.isLt]; show d.val / 64 * 64 + d.val % 64 = d.val; omega)
  · refine prod_eq m c t r _ n _ hn ?_
    show d.val / 64 * 64 + (if d.val % 64 < 32 then 32 + d.val % 64 else d.val % 64 - 32) = column (spunQ d.val)
    rw [column_q _ (spunQ_lt _)]
    unfold spunQ
    by_cases h : d.val % 64 < 32
    · rw [if_pos h, if_pos h]; omega
    · rw [if_neg h, if_neg h]; omega

theorem bK_eq (c : Dev nD) (t : Fin cfg0.N) (r : Fin 512) (d : Fin 256) (n : Fin 33280) (hn : n.val = 512 * t.val + r.val) :
    bK (iblk m c 0 t) (arrived m c t) (iblk m c 1 t) (iblk m c 2 t) (iblk m c 3 t) (iblk m c 4 t) (iblk m c 5 t) (iblk m c 6 t) (iblk m c 7 t) r d
      = Rotation.key (aX m c) (aZ m c) (aMp m c) (aMd m c) (aG m c) (aW m c) n ⟨d.val / 128, by omega⟩ ⟨d.val % 64, by omega⟩ := by
  unfold bK Rotation.key
  refine (congrArg₂ (fun x y => _ * x + _ * y) (iblk5_at m c t r ⟨d.val % 128, by omega⟩ n hn) (iblk6_at m c t r ⟨d.val % 128, by omega⟩ n hn)).trans ?_
  refine turned _ _ ⟨d.val % 64, by omega⟩ ⟨d.val % 128, by omega⟩ (by show d.val % 128 % 64 = d.val % 64; omega) _ _ ?_ ?_
  · exact prod_eq m c t r _ n _ hn (column_k _ d.isLt).symm
  · refine prod_eq m c t r _ n _ hn ?_
    show 1024 + (d.val / 128 * 64 + (if d.val % 64 < 32 then 32 + d.val % 64 else d.val % 64 - 32)) = column (1024 + spunK d.val)
    rw [column_k _ (spunK_lt _)]
    have hd := d.isLt
    unfold spunK
    by_cases h : d.val % 64 < 32
    · rw [if_pos h, if_pos h]; omega
    · rw [if_neg h, if_neg h]; omega

theorem bV_eq (c : Dev nD) (t : Fin cfg0.N) (r : Fin 512) (d : Fin 256) (n : Fin 33280) (hn : n.val = 512 * t.val + r.val) :
    bV (iblk m c 0 t) (arrived m c t) (iblk m c 1 t) (iblk m c 2 t) (iblk m c 3 t) (iblk m c 4 t) (iblk m c 5 t) (iblk m c 6 t) (iblk m c 7 t) r d
      = Rotation.value (aX m c) (aZ m c) (aMp m c) (aMd m c) (aG m c) (aW m c) n ⟨d.val / 128, by omega⟩ ⟨d.val % 64, by omega⟩ := by
  unfold bV Rotation.value
  exact prod_eq m c t r _ n _ hn (column_v _ d.isLt).symm

theorem step8 : ∀ t : Fin grid0.N, cc0_transform_9 (grid0.coords t) = ![t.val, 0] := by decide +kernel

theorem flush8 : ∀ t : Fin cfg0.N, (cfg0.win 8).flush t = true := (by decide +kernel : ∀ t : Fin grid0.N, (win0_8).flush t = true)

theorem disjoint8 : ∀ t t' : Fin cfg0.N, (cfg0.win 8).flush t = true → (cfg0.win 8).flush t' = true → t ≠ t' →
    Disjoint ((cfg0.win 8).blk t).view.set ((cfg0.win 8).blk t').view.set :=
  Window.hdisj_of_index_inj (cfg0.win 8) fun t t' _ _ h => by
    have e : cc0_transform_9 (grid0.coords t) 0 = cc0_transform_9 (grid0.coords t') 0 := congrFun h (0 : Fin 2)
    rw [step8, step8] at e
    exact Fin.ext e

theorem endX (c₀ : Dev nD) (n : Fin 33280) (d : Fin 1024) :
    (show Vec Ideal S33280x1024 .f32 from OddRun.reg_main_v83_0 m c₀) (ix2 n d) = Rotation.resid (aX m c₀) (aZ m c₀) (aMp m c₀) n d := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x1024.Idx from ((cfg0.win 8).blk t).view.emb (ix2 r d : S512x1024.Idx)) = ix2 n d := by
    funext a
    apply Fin.ext
    fin_cases a
    · show cc0_transform_9 (grid0.coords t) 0 * 512 + 1 * r.val = n.val
      rw [step8]; show t.val * 512 + 1 * r.val = n.val; rw [hr]; omega
    · show cc0_transform_9 (grid0.coords t) 1 * 1024 + 1 * d.val = d.val
      rw [step8]; show 0 * 1024 + 1 * d.val = d.val; rw [Nat.zero_mul, Nat.zero_add, Nat.one_mul]
  have h := (dats m 0 c₀).arrAt_emb_eq_flushed 8 disjoint8 t (flush8 t) (ix2 r d : S512x1024.Idx)
  have a : (dats m 0 c₀).flushed 8 t = (outsAt0 m c₀ t.val t.isLt).1 := by
    show (cfg0.win 8).cut (grid0.coords t) ((dats m 0 c₀).after 8 t) = _
    rw [after0_8]
    rfl
  rw [← e]
  refine h.trans ((congrFun a (ix2 r d)).trans ?_)
  exact (pointX m c₀ t (ix2 r d)).trans (bRes_eq m c₀ t r d n hr)

theorem step9 : ∀ t : Fin grid0.N, cc0_transform_10 (grid0.coords t) = ![t.val, 0] := by decide +kernel

theorem flush9 : ∀ t : Fin cfg0.N, (cfg0.win 9).flush t = true := (by decide +kernel : ∀ t : Fin grid0.N, (win0_9).flush t = true)

theorem disjoint9 : ∀ t t' : Fin cfg0.N, (cfg0.win 9).flush t = true → (cfg0.win 9).flush t' = true → t ≠ t' →
    Disjoint ((cfg0.win 9).blk t).view.set ((cfg0.win 9).blk t').view.set :=
  Window.hdisj_of_index_inj (cfg0.win 9) fun t t' _ _ h => by
    have e : cc0_transform_10 (grid0.coords t) 0 = cc0_transform_10 (grid0.coords t') 0 := congrFun h (0 : Fin 2)
    rw [step9, step9] at e
    exact Fin.ext e

theorem endQ (c₀ : Dev nD) (n : Fin 33280) (d : Fin 1024) :
    (show Vec Ideal S33280x1024 .bf16 from OddRun.reg_main_v83_1 m c₀) (ix2 n d) = Rotation.query (aX m c₀) (aZ m c₀) (aMp m c₀) (aMd m c₀) (aG m c₀) (aW m c₀) n ⟨d.val / 64, by omega⟩ ⟨d.val % 64, by omega⟩ := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x1024.Idx from ((cfg0.win 9).blk t).view.emb (ix2 r d : S512x1024.Idx)) = ix2 n d := by
    funext a
    apply Fin.ext
    fin_cases a
    · show cc0_transform_10 (grid0.coords t) 0 * 512 + 1 * r.val = n.val
      rw [step9]; show t.val * 512 + 1 * r.val = n.val; rw [hr]; omega
    · show cc0_transform_10 (grid0.coords t) 1 * 1024 + 1 * d.val = d.val
      rw [step9]; show 0 * 1024 + 1 * d.val = d.val; rw [Nat.zero_mul, Nat.zero_add, Nat.one_mul]
  have h := (dats m 0 c₀).arrAt_emb_eq_flushed 9 disjoint9 t (flush9 t) (ix2 r d : S512x1024.Idx)
  have a : (dats m 0 c₀).flushed 9 t = (outsAt0 m c₀ t.val t.isLt).2.1 := by
    show (cfg0.win 9).cut (grid0.coords t) ((dats m 0 c₀).after 9 t) = _
    rw [after0_9]
    rfl
  rw [← e]
  refine h.trans ((congrFun a (ix2 r d)).trans ?_)
  exact (pointQ m c₀ t (ix2 r d)).trans (bQ_eq m c₀ t r d n hr)

theorem step10 : ∀ t : Fin grid0.N, cc0_transform_11 (grid0.coords t) = ![t.val, 0] := by decide +kernel

theorem flush10 : ∀ t : Fin cfg0.N, (cfg0.win 10).flush t = true := (by decide +kernel : ∀ t : Fin grid0.N, (win0_10).flush t = true)

theorem disjoint10 : ∀ t t' : Fin cfg0.N, (cfg0.win 10).flush t = true → (cfg0.win 10).flush t' = true → t ≠ t' →
    Disjoint ((cfg0.win 10).blk t).view.set ((cfg0.win 10).blk t').view.set :=
  Window.hdisj_of_index_inj (cfg0.win 10) fun t t' _ _ h => by
    have e : cc0_transform_11 (grid0.coords t) 0 = cc0_transform_11 (grid0.coords t') 0 := congrFun h (0 : Fin 2)
    rw [step10, step10] at e
    exact Fin.ext e

theorem endK (c₀ : Dev nD) (n : Fin 33280) (d : Fin 256) :
    (show Vec Ideal S33280x256 .bf16 from OddRun.reg_main_v83_2 m c₀) (ix2 n d) = Rotation.key (aX m c₀) (aZ m c₀) (aMp m c₀) (aMd m c₀) (aG m c₀) (aW m c₀) n ⟨d.val / 128, by omega⟩ ⟨d.val % 64, by omega⟩ := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x256.Idx from ((cfg0.win 10).blk t).view.emb (ix2 r d : S512x256.Idx)) = ix2 n d := by
    funext a
    apply Fin.ext
    fin_cases a
    · show cc0_transform_11 (grid0.coords t) 0 * 512 + 1 * r.val = n.val
      rw [step10]; show t.val * 512 + 1 * r.val = n.val; rw [hr]; omega
    · show cc0_transform_11 (grid0.coords t) 1 * 256 + 1 * d.val = d.val
      rw [step10]; show 0 * 256 + 1 * d.val = d.val; rw [Nat.zero_mul, Nat.zero_add, Nat.one_mul]
  have h := (dats m 0 c₀).arrAt_emb_eq_flushed 10 disjoint10 t (flush10 t) (ix2 r d : S512x256.Idx)
  have a : (dats m 0 c₀).flushed 10 t = (outsAt0 m c₀ t.val t.isLt).2.2.1 := by
    show (cfg0.win 10).cut (grid0.coords t) ((dats m 0 c₀).after 10 t) = _
    rw [after0_10]
    rfl
  rw [← e]
  refine h.trans ((congrFun a (ix2 r d)).trans ?_)
  exact (pointK m c₀ t (ix2 r d)).trans (bK_eq m c₀ t r d n hr)

theorem step11 : ∀ t : Fin grid0.N, cc0_transform_12 (grid0.coords t) = ![t.val, 0] := by decide +kernel

theorem flush11 : ∀ t : Fin cfg0.N, (cfg0.win 11).flush t = true := (by decide +kernel : ∀ t : Fin grid0.N, (win0_11).flush t = true)

theorem disjoint11 : ∀ t t' : Fin cfg0.N, (cfg0.win 11).flush t = true → (cfg0.win 11).flush t' = true → t ≠ t' →
    Disjoint ((cfg0.win 11).blk t).view.set ((cfg0.win 11).blk t').view.set :=
  Window.hdisj_of_index_inj (cfg0.win 11) fun t t' _ _ h => by
    have e : cc0_transform_12 (grid0.coords t) 0 = cc0_transform_12 (grid0.coords t') 0 := congrFun h (0 : Fin 2)
    rw [step11, step11] at e
    exact Fin.ext e

theorem endV (c₀ : Dev nD) (n : Fin 33280) (d : Fin 256) :
    (show Vec Ideal S33280x256 .bf16 from OddRun.reg_main_v83_3 m c₀) (ix2 n d) = Rotation.value (aX m c₀) (aZ m c₀) (aMp m c₀) (aMd m c₀) (aG m c₀) (aW m c₀) n ⟨d.val / 128, by omega⟩ ⟨d.val % 64, by omega⟩ := by
  have hn := n.isLt
  let t : Fin cfg0.N := ⟨n.val / 512, by show n.val / 512 < 65; omega⟩
  let r : Fin 512 := ⟨n.val % 512, by omega⟩
  have hr : n.val = 512 * t.val + r.val := by show n.val = 512 * (n.val / 512) + n.val % 512; omega
  have e : (show S33280x256.Idx from ((cfg0.win 11).blk t).view.emb (ix2 r d : S512x256.Idx)) = ix2 n d := by
    funext a
    apply Fin.ext
    fin_cases a
    · show cc0_transform_12 (grid0.coords t) 0 * 512 + 1 * r.val = n.val
      rw [step11]; show t.val * 512 + 1 * r.val = n.val; rw [hr]; omega
    · show cc0_transform_12 (grid0.coords t) 1 * 256 + 1 * d.val = d.val
      rw [step11]; show 0 * 256 + 1 * d.val = d.val; rw [Nat.zero_mul, Nat.zero_add, Nat.one_mul]
  have h := (dats m 0 c₀).arrAt_emb_eq_flushed 11 disjoint11 t (flush11 t) (ix2 r d : S512x256.Idx)
  have a : (dats m 0 c₀).flushed 11 t = (outsAt0 m c₀ t.val t.isLt).2.2.2 := by
    show (cfg0.win 11).cut (grid0.coords t) ((dats m 0 c₀).after 11 t) = _
    rw [after0_11]
    rfl
  rw [← e]
  refine h.trans ((congrFun a (ix2 r d)).trans ?_)
  exact (pointV m c₀ t (ix2 r d)).trans (bV_eq m c₀ t r d n hr)

end Cert.Kernel3Ideal.Odd

end
-- ==== Proof.OddReference.lean ====
/- The rows of the reference's odd input projection at an index, read in stages: the words, the unpacked rows, the residual rows
   of the prompt and of the sample, their projections, the angles, and the results. -/
module

public import proofs.«01_k».proof.Proof.Gen.Reference3Ideal.Run
public import proofs.«01_k».proof.Proof.Rotation
public import Idealize.ShloMosaic.Lib.Pointwise

@[expose] public section

set_option maxRecDepth 16384

noncomputable section

namespace Cert.Reference3Ideal.Odd

open Cert.Reference3Ideal Cert.Reference3Ideal.Gen Cert.Reference3Ideal.Value Idealize.ShloMosaic Idealize.ShloMosaic.TcCoe Idealize.SL.Sem Idealize.ShloMosaic.StableHlo

variable (V0 : Valuation τ sig (Elt Ideal))

/-- The arguments as functions of plain coordinates. -/
abbrev fX : Fin 33280 → Fin 1024 → EReal := fun n k => V0 (Proc.devRef .tc main_arg0) (ix2 n k)
abbrev fZ : Fin 4 → Fin 36864 → Fin 128 → BitVec 32 := fun a n k => V0 (Proc.devRef .tc main_arg1) (ix3 a n k)
abbrev fMp : Fin 16 → Fin 6144 → EReal := fun s k => V0 (Proc.devRef .tc main_arg2) (ix2 s k)
abbrev fMd : Fin 16 → Fin 6144 → EReal := fun s k => V0 (Proc.devRef .tc main_arg3) (ix2 s k)
abbrev fG : Fin 1024 → EReal := fun k => V0 (Proc.devRef .tc main_arg4) (ix1 k)
abbrev fW : Fin 1024 → Fin 1280 → EReal := fun k c => V0 (Proc.devRef .tc main_arg5) (ix3 0 k c)

theorem v2_at (n : Fin 33280) (e : Fin 512) : @Eq (BitVec 32) (res_main_v2 V0 (ix2 n e)) (fZ V0 ⟨e.val / 128, by omega⟩ ⟨n.val, by omega⟩ ⟨e.val % 128, by omega⟩) := by
  unfold res_main_v2
  pointwise []

theorem v9_at (n : Fin 33280) (d : Fin 1024) : @Eq EReal (res_main_v9 V0 (ix2 n d)) (Rotation.mixed (fZ V0) n d) := by
  unfold res_main_v9 Rotation.mixed
  pointwise [v2_at]

theorem v24_at (b : Fin 2) (r : Fin 16384) (d : Fin 1024) : @Eq EReal (res_main_v24 V0 (ix3 b r d)) (Rotation.resid (fX V0) (fZ V0) (fMp V0) ⟨b.val * 16384 + r.val, by omega⟩ d) := by
  unfold res_main_v24 Rotation.resid
  rw [Rotation.seqOf_prompt]
  pointwise [v9_at]

theorem v123_at (b : Fin 8) (r : Fin 64) (d : Fin 1024) : @Eq EReal (res_main_v123 V0 (ix3 b r d)) (Rotation.resid (fX V0) (fZ V0) (fMp V0) ⟨32768 + (b.val * 64 + r.val), by omega⟩ d) := by
  unfold res_main_v123 Rotation.resid
  rw [Rotation.seqOf_sample]
  pointwise [v9_at]

theorem v49_at (b : Fin 2) (r : Fin 16384) (k : Fin 1280) : @Eq EReal (res_main_v49 V0 (ix3 b r k)) (Rotation.proj (fX V0) (fZ V0) (fMp V0) (fMd V0) (fG V0) (fW V0) ⟨b.val * 16384 + r.val, by omega⟩ k) := by
  unfold res_main_v49 Rotation.proj Projection.projected Projection.normed
  rw [Rotation.seqOf_prompt]
  pointwise [res_main_v19, v24_at]

theorem v148_at (b : Fin 8) (r : Fin 64) (k : Fin 1280) : @Eq EReal (res_main_v148 V0 (ix3 b r k)) (Rotation.proj (fX V0) (fZ V0) (fMp V0) (fMd V0) (fG V0) (fW V0) ⟨32768 + (b.val * 64 + r.val), by omega⟩ k) := by
  unfold res_main_v148 Rotation.proj Projection.projected Projection.normed
  rw [Rotation.seqOf_sample]
  pointwise [res_main_v118, v123_at]

theorem v68_at (r : Fin 16384) (e : Fin 32) : @Eq EReal (res_main_v68 V0 (ix2 r e)) (Rotation.angle r.val e) := by
  unfold res_main_v68 res_main_v55 Rotation.angle Rotation.freq
  pointwise []
  rw [Rotation.sitofp_addi 0 r.val (by omega), Rotation.sitofp_ofNat e.val (by omega), Nat.zero_add]

theorem v167_at (r : Fin 64) (e : Fin 32) : @Eq EReal (res_main_v167 V0 (ix2 r e)) (Rotation.angle (4096 + r.val) e) := by
  unfold res_main_v167 res_main_v154 Rotation.angle Rotation.freq
  pointwise []
  rw [Rotation.sitofp_addi 4096 r.val (by omega), Rotation.sitofp_ofNat e.val (by omega)]

theorem v98_at (r : Fin 16384) (e : Fin 32) : @Eq EReal (res_main_v98 V0 (ix2 r e)) (Rotation.angle r.val e) := v68_at V0 r e
theorem v197_at (r : Fin 64) (e : Fin 32) : @Eq EReal (res_main_v197 V0 (ix2 r e)) (Rotation.angle (4096 + r.val) e) := v167_at V0 r e

/-- The query heads of the prompt and of the sample, turned. -/
def qP : FVec Ideal S2x16384x16x64 .f32 :=
  fn_main_v85 (F := Ideal) (subf (F := Ideal) (φ := .f32) (mulf (F := Ideal) (φ := .f32) (res_main_v73 V0) (broadcastInDim S2x16384x16x32 ![0, 1, 2, 3] bcast_S1x16384x1x32_S2x16384x16x32_0_1_2_3 (res_main_v70 V0))) (mulf (F := Ideal) (φ := .f32) (res_main_v74 V0) (broadcastInDim S2x16384x16x32 ![0, 1, 2, 3] bcast_S1x16384x1x32_S2x16384x16x32_0_1_2_3 (res_main_v72 V0))))
    (addf (F := Ideal) (φ := .f32) (mulf (F := Ideal) (φ := .f32) (res_main_v74 V0) (broadcastInDim S2x16384x16x32 ![0, 1, 2, 3] bcast_S1x16384x1x32_S2x16384x16x32_0_1_2_3 (res_main_v70 V0))) (mulf (F := Ideal) (φ := .f32) (res_main_v73 V0) (broadcastInDim S2x16384x16x32 ![0, 1, 2, 3] bcast_S1x16384x1x32_S2x16384x16x32_0_1_2_3 (res_main_v72 V0))))
def qS : FVec Ideal S8x64x16x64 .f32 :=
  fn_main_v184 (F := Ideal) (subf (F := Ideal) (φ := .f32) (mulf (F := Ideal) (φ := .f32) (res_main_v172 V0) (broadcastInDim S8x64x16x32 ![0, 1, 2, 3] bcast_S1x64x1x32_S8x64x16x32_0_1_2_3 (res_main_v169 V0))) (mulf (F := Ideal) (φ := .f32) (res_main_v173 V0) (broadcastInDim S8x64x16x32 ![0, 1, 2, 3] bcast_S1x64x1x32_S8x64x16x32_0_1_2_3 (res_main_v171 V0))))
    (addf (F := Ideal) (φ := .f32) (mulf (F := Ideal) (φ := .f32) (res_main_v173 V0) (broadcastInDim S8x64x16x32 ![0, 1, 2, 3] bcast_S1x64x1x32_S8x64x16x32_0_1_2_3 (res_main_v169 V0))) (mulf (F := Ideal) (φ := .f32) (res_main_v172 V0) (broadcastInDim S8x64x16x32 ![0, 1, 2, 3] bcast_S1x64x1x32_S8x64x16x32_0_1_2_3 (res_main_v171 V0))))
/-- The key heads of the prompt and of the sample, turned. -/
def kP : FVec Ideal S2x16384x2x64 .f32 :=
  fn_main_v115 (F := Ideal) (subf (F := Ideal) (φ := .f32) (mulf (F := Ideal) (φ := .f32) (res_main_v103 V0) (broadcastInDim S2x16384x2x32 ![0, 1, 2, 3] bcast_S1x16384x1x32_S2x16384x2x32_0_1_2_3 (res_main_v100 V0))) (mulf (F := Ideal) (φ := .f32) (res_main_v104 V0) (broadcastInDim S2x16384x2x32 ![0, 1, 2, 3] bcast_S1x16384x1x32_S2x16384x2x32_0_1_2_3 (res_main_v102 V0))))
    (addf (F := Ideal) (φ := .f32) (mulf (F := Ideal) (φ := .f32) (res_main_v104 V0) (broadcastInDim S2x16384x2x32 ![0, 1, 2, 3] bcast_S1x16384x1x32_S2x16384x2x32_0_1_2_3 (res_main_v100 V0))) (mulf (F := Ideal) (φ := .f32) (res_main_v103 V0) (broadcastInDim S2x16384x2x32 ![0, 1, 2, 3] bcast_S1x16384x1x32_S2x16384x2x32_0_1_2_3 (res_main_v102 V0))))
def kS : FVec Ideal S8x64x2x64 .f32 :=
  fn_main_v214 (F := Ideal) (subf (F := Ideal) (φ := .f32) (mulf (F := Ideal) (φ := .f32) (res_main_v202 V0) (broadcastInDim S8x64x2x32 ![0, 1, 2, 3] bcast_S1x64x1x32_S8x64x2x32_0_1_2_3 (res_main_v199 V0))) (mulf (F := Ideal) (φ := .f32) (res_main_v203 V0) (broadcastInDim S8x64x2x32 ![0, 1, 2, 3] bcast_S1x64x1x32_S8x64x2x32_0_1_2_3 (res_main_v201 V0))))
    (addf (F := Ideal) (φ := .f32) (mulf (F := Ideal) (φ := .f32) (res_main_v203 V0) (broadcastInDim S8x64x2x32 ![0, 1, 2, 3] bcast_S1x64x1x32_S8x64x2x32_0_1_2_3 (res_main_v199 V0))) (mulf (F := Ideal) (φ := .f32) (res_main_v202 V0) (broadcastInDim S8x64x2x32 ![0, 1, 2, 3] bcast_S1x64x1x32_S8x64x2x32_0_1_2_3 (res_main_v201 V0))))

theorem lane32 (h e : ℕ) (he : ¬ e < 32) : h * 64 + (32 + (e - 32)) = h * 64 + e := by omega

theorem kP_at (b : Fin 2) (r : Fin 16384) (h : Fin 2) (e : Fin 64) : kP V0 (ix4 b r h e) = Rotation.key (fX V0) (fZ V0) (fMp V0) (fMd V0) (fG V0) (fW V0) ⟨b.val * 16384 + r.val, by omega⟩ h e := by
  unfold kP Rotation.key Rotation.turn
  rw [Rotation.posOf_prompt]
  pointwise [fn_main_v115, res_main_v103, res_main_v104, res_main_v100, res_main_v102, res_main_v86, v98_at, v49_at]
  split <;> rename_i he
  · rfl
  · simp only [lane32 _ _ he]

theorem kS_at (b : Fin 8) (r : Fin 64) (h : Fin 2) (e : Fin 64) : kS V0 (ix4 b r h e) = Rotation.key (fX V0) (fZ V0) (fMp V0) (fMd V0) (fG V0) (fW V0) ⟨32768 + (b.val * 64 + r.val), by omega⟩ h e := by
  unfold kS Rotation.key Rotation.turn
  rw [Rotation.posOf_sample]
  pointwise [fn_main_v214, res_main_v202, res_main_v203, res_main_v199, res_main_v201, res_main_v185, v197_at, v148_at]
  split <;> rename_i he
  · rfl
  · simp only [lane32 _ _ he]

theorem qP_at (b : Fin 2) (r : Fin 16384) (h : Fin 16) (e : Fin 64) : qP V0 (ix4 b r h e) = Rotation.turn r.val (fun e => Rotation.proj (fX V0) (fZ V0) (fMp V0) (fMd V0) (fG V0) (fW V0) ⟨b.val * 16384 + r.val, by omega⟩ ⟨h.val * 64 + e.val, by omega⟩) e := by
  unfold qP Rotation.turn
  pointwise [fn_main_v85, res_main_v73, res_main_v74, res_main_v70, res_main_v72, res_main_v56, v68_at, v49_at]
  split <;> rename_i he
  · rfl
  · simp only [lane32 _ _ he]

theorem qS_at (b : Fin 8) (r : Fin 64) (h : Fin 16) (e : Fin 64) : qS V0 (ix4 b r h e) = Rotation.turn (4096 + r.val) (fun e => Rotation.proj (fX V0) (fZ V0) (fMp V0) (fMd V0) (fG V0) (fW V0) ⟨32768 + (b.val * 64 + r.val), by omega⟩ ⟨h.val * 64 + e.val, by omega⟩) e := by
  unfold qS Rotation.turn
  pointwise [fn_main_v184, res_main_v172, res_main_v173, res_main_v169, res_main_v171, res_main_v155, v167_at, v148_at]
  split <;> rename_i he
  · rfl
  · simp only [lane32 _ _ he]

/-- The results. -/
def resX : FVec Ideal S33280x1024 .f32 :=
  fn_main_v218 (F := Ideal) (shapeCast S32768x1024 (res_main_v24 V0) shapeCasts_S2x16384x1024_S32768x1024) (shapeCast S512x1024 (res_main_v123 V0) shapeCasts_S8x64x1024_S512x1024)
def resQ : FVec Ideal S33280x1024 .bf16 :=
  truncf (F := Ideal) .bf16 (mulf (F := Ideal) (fn_main_v223 (F := Ideal) (shapeCast S32768x1024 (qP V0) shapeCasts_S2x16384x16x64_S32768x1024) (shapeCast S512x1024 (qS V0) shapeCasts_S8x64x16x64_S512x1024)) (broadcastInDim S33280x1024 ![] bcast_S_S33280x1024 (constant (F := Ideal) S_ .f32 0x3E38AA3B#32))) bitsLt_bf16_f32
def keptK : FVec Ideal S1x2x128x2x64 .f32 := broadcastInDim S1x2x128x2x64 ![1, 2, 3, 4] bcast_S2x128x2x64_S1x2x128x2x64_1_2_3_4 (extractStridedSlice S2x128x2x64 ![0, 16256, 0, 0] (kP V0) slices_S2x16384x2x64_S2x128x2x64_0_16256_0_0)
def keptV : FVec Ideal S1x2x128x2x64 .f32 := broadcastInDim S1x2x128x2x64 ![1, 2, 3, 4] bcast_S2x128x2x64_S1x2x128x2x64_1_2_3_4 (extractStridedSlice S2x128x2x64 ![0, 16256, 0, 0] (shapeCast S2x16384x2x64 (extractStridedSlice S2x16384x128 ![0, 0, 1152] (show FVec Ideal S2x16384x1280 .f32 from res_main_v49 V0) slices_S2x16384x1280_S2x16384x128_0_0_1152) shapeCasts_S2x16384x128_S2x16384x2x64) slices_S2x16384x2x64_S2x128x2x64_0_16256_0_0)
def grownK : FVec Ideal S1x8x128x2x64 .f32 := broadcastInDim S1x8x128x2x64 ![1, 2, 3, 4] bcast_S8x128x2x64_S1x8x128x2x64_1_2_3_4 (extractStridedSlice S8x128x2x64 ![0, 64, 0, 0] (fn_main_v230 (F := Ideal) (shapeCast S8x128x2x64 (V0 (Proc.devRef .tc main_arg6)) shapeCasts_S1x8x128x2x64_S8x128x2x64) (kS V0)) slices_S8x192x2x64_S8x128x2x64_0_64_0_0)
def grownV : FVec Ideal S1x8x128x2x64 .f32 := broadcastInDim S1x8x128x2x64 ![1, 2, 3, 4] bcast_S8x128x2x64_S1x8x128x2x64_1_2_3_4 (extractStridedSlice S8x128x2x64 ![0, 64, 0, 0] (fn_main_v234 (F := Ideal) (shapeCast S8x128x2x64 (V0 (Proc.devRef .tc main_arg7)) shapeCasts_S1x8x128x2x64_S8x128x2x64) (shapeCast S8x64x2x64 (extractStridedSlice S8x64x128 ![0, 0, 1152] (show FVec Ideal S8x64x1280 .f32 from res_main_v148 V0) slices_S8x64x1280_S8x64x128_0_0_1152) shapeCasts_S8x64x128_S8x64x2x64)) slices_S8x192x2x64_S8x128x2x64_0_64_0_0)

theorem row_prompt (n : Fin 33280) (h : n.val < 32768) : n.val / 16384 * 16384 + n.val % 16384 = n.val := by omega
theorem row_sample (n : Fin 33280) (h : ¬ n.val < 32768) : 32768 + ((n.val - 32768) / 64 * 64 + (n.val - 32768) % 64) = n.val := by omega

theorem resX_at (n : Fin 33280) (d : Fin 1024) : resX V0 (ix2 n d) = Rotation.resid (fX V0) (fZ V0) (fMp V0) n d := by
  unfold resX
  pointwise [fn_main_v218, v24_at, v123_at]
  split <;> rename_i hn
  · simp only [row_prompt n hn]
  · simp only [row_sample n hn]

theorem resQ_at (n : Fin 33280) (d : Fin 1024) : resQ V0 (ix2 n d) = Rotation.query (fX V0) (fZ V0) (fMp V0) (fMd V0) (fG V0) (fW V0) n ⟨d.val / 64, by omega⟩ ⟨d.val % 64, by omega⟩ := by
  unfold resQ Rotation.query Rotation.posOf
  pointwise [fn_main_v223, qP_at, qS_at]
  by_cases hn : n.val < 32768
  · rw [dif_pos hn, if_pos hn]
    simp only [row_prompt n hn]
  · rw [dif_neg hn, if_neg hn]
    simp only [row_sample n hn]

theorem keptK_at (b : Fin 2) (p : Fin 128) (h : Fin 2) (e : Fin 64) : keptK V0 (ix5 0 b p h e) = Rotation.key (fX V0) (fZ V0) (fMp V0) (fMd V0) (fG V0) (fW V0) ⟨b.val * 16384 + (16256 + p.val), by omega⟩ h e := by
  unfold keptK
  pointwise [kP_at]

theorem keptV_at (b : Fin 2) (p : Fin 128) (h : Fin 2) (e : Fin 64) : keptV V0 (ix5 0 b p h e) = Rotation.value (fX V0) (fZ V0) (fMp V0) (fMd V0) (fG V0) (fW V0) ⟨b.val * 16384 + (16256 + p.val), by omega⟩ h e := by
  unfold keptV Rotation.value
  pointwise [v49_at]

theorem grownK_at (b : Fin 8) (p : Fin 128) (h : Fin 2) (e : Fin 64) : grownK V0 (ix5 0 b p h e) =
    if h' : 64 + p.val < 128 then (show EReal from V0 (Proc.devRef .tc main_arg6) (ix5 0 b ⟨64 + p.val, h'⟩ h e))
    else Rotation.key (fX V0) (fZ V0) (fMp V0) (fMd V0) (fG V0) (fW V0) ⟨32768 + (b.val * 64 + (64 + p.val - 128)), by omega⟩ h e := by
  unfold grownK
  pointwise [fn_main_v230, kS_at]

theorem grownV_at (b : Fin 8) (p : Fin 128) (h : Fin 2) (e : Fin 64) : grownV V0 (ix5 0 b p h e) =
    if h' : 64 + p.val < 128 then (show EReal from V0 (Proc.devRef .tc main_arg7) (ix5 0 b ⟨64 + p.val, h'⟩ h e))
    else Rotation.value (fX V0) (fZ V0) (fMp V0) (fMd V0) (fG V0) (fW V0) ⟨32768 + (b.val * 64 + (64 + p.val - 128)), by omega⟩ h e := by
  unfold grownV Rotation.value
  pointwise [fn_main_v234, v148_at]

set_option maxHeartbeats 2000000 in
/-- The reference's run: every execution ends with these results and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v223) = resX (launchContents m c)
      ∧ r.2.mem ((c.tc : Thread nD τ).loc main_v224) = resQ (launchContents m c)
      ∧ r.2.mem ((c.tc : Thread nD τ).loc main_v226) = keptK (launchContents m c)
      ∧ r.2.mem ((c.tc : Thread nD τ).loc main_v228) = keptV (launchContents m c)
      ∧ r.2.mem ((c.tc : Thread nD τ).loc main_v232) = grownK (launchContents m c)
      ∧ r.2.mem ((c.tc : Thread nD τ).loc main_v236) = grownV (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => by
    obtain ⟨h0, h1, h2, h3, h4, h5, ha⟩ := h c
    exact ⟨h0, h1, h2, h3, h4, h5, ha⟩) (Cert.Reference3Ideal.Value.run m ρ)

end Cert.Reference3Ideal.Odd

end
-- ==== Proof.OddValues.lean ====
/- The input projection of an odd layer, kernel against reference: both leave the same residual rows, the same queries and the same
   four caches. -/
module

public import proofs.«01_k».proof.Proof.OddArrays
public import proofs.«01_k».proof.Proof.OddReference
public import proofs.«01_k».proof.Defs
public import proofs.«01_k».proof.Proof.Gen.Kernel3
public import proofs.«01_k».proof.Proof.Gen.Kernel3.Frame
public import Idealize.ShloMosaic.Lib.Quiescent

@[expose] public section

set_option maxRecDepth 16384

noncomputable section

namespace Cert.OddValues

open Idealize.ShloMosaic Idealize.ShloMosaic.TcCoe Idealize.ShloMosaic.Tactic Idealize.ShloMosaic.StableHlo
open Idealize.SL Idealize.SL.Sem
open Cert.Kernel3Ideal Cert.Kernel3Ideal.Gen Cert.Kernel3Ideal.Odd

variable (m : (ℓ : Loc nD τ sig) → Buf (Elt Ideal) ℓ)

theorem heads_ext {B P : Nat} {f g : (⟨5, ![1, B, P, 2, 64]⟩ : Shape).Idx → EReal} (h : ∀ (b : Fin B) (p : Fin P) (k : Fin 2) (e : Fin 64), f (ix5 0 b p k e) = g (ix5 0 b p k e)) : f = g := by
  funext i
  have h0 : (show Fin 1 from i 0) = 0 := Subsingleton.elim _ _
  have hi : i = ix5 (0 : Fin 1) (i 1) (i 2) (i 3) (i 4) := (ix5_eta i).symm.trans (congrArg (fun z : Fin 1 => (ix5 z (i 1) (i 2) (i 3) (i 4) : (⟨5, ![1, B, P, 2, 64]⟩ : Shape).Idx)) h0)
  rw [hi]
  exact h _ _ _ _

theorem place (K : Fin 33280 → Fin 2 → Fin 64 → EReal) {n n' : Fin 33280} {h h' : Fin 2} {e e' : Fin 64} (hn : n.val = n'.val) (hh : h.val = h'.val) (he : e.val = e'.val) : K n h e = K n' h' e' := by
  rw [Fin.ext hn, Fin.ext hh, Fin.ext he]

/-- The last 128 rows of each prompt sequence, read from an array whose heads stand twice. -/
theorem kept_at (K : Fin 33280 → Fin 2 → Fin 64 → EReal) (z : FVec Ideal S33280x256 .bf16) (hz : ∀ n d, z (ix2 n d) = K n ⟨d.val / 128, by omega⟩ ⟨d.val % 64, by omega⟩)
    (b : Fin 2) (p : Fin 128) (h : Fin 2) (e : Fin 64) : OddRun.kept z (ix5 0 b p h e) = K ⟨b.val * 16384 + (16256 + p.val), by omega⟩ h e := by
  unfold OddRun.kept OddRun.heads
  pointwise [hz]
  by_cases hb : b.val < 1
  · rw [dif_pos hb]
    by_cases hh : h.val * 64 + e.val < 64
    · rw [dif_pos hh]; exact place K (by show 16256 + p.val = b.val * 16384 + (16256 + p.val); omega) (by show (h.val * 64 + e.val) / 128 = h.val; omega) (by show (h.val * 64 + e.val) % 64 = e.val; omega)
    · rw [dif_neg hh]; exact place K (by show 16256 + p.val = b.val * 16384 + (16256 + p.val); omega) (by show (128 + (h.val * 64 + e.val - 64)) / 128 = h.val; omega) (by show (128 + (h.val * 64 + e.val - 64)) % 64 = e.val; omega)
  · rw [dif_neg hb]
    by_cases hh : h.val * 64 + e.val < 64
    · rw [dif_pos hh]; exact place K (by show 32640 + p.val = b.val * 16384 + (16256 + p.val); omega) (by show (h.val * 64 + e.val) / 128 = h.val; omega) (by show (h.val * 64 + e.val) % 64 = e.val; omega)
    · rw [dif_neg hh]; exact place K (by show 32640 + p.val = b.val * 16384 + (16256 + p.val); omega) (by show (128 + (h.val * 64 + e.val - 64)) / 128 = h.val; omega) (by show (128 + (h.val * 64 + e.val - 64)) % 64 = e.val; omega)

/-- The old cache's last 64 rows above the sample's 64 new ones. -/
theorem grown_at (K : Fin 33280 → Fin 2 → Fin 64 → EReal) (z : FVec Ideal S33280x256 .bf16) (old : FVec Ideal S1x8x128x2x64 .f32) (hz : ∀ n d, z (ix2 n d) = K n ⟨d.val / 128, by omega⟩ ⟨d.val % 64, by omega⟩)
    (b : Fin 8) (p : Fin 128) (h : Fin 2) (e : Fin 64) : OddRun.grown z old (ix5 0 b p h e) = if h' : 64 + p.val < 128 then old (ix5 0 b ⟨64 + p.val, h'⟩ h e) else K ⟨32768 + (b.val * 64 + (64 + p.val - 128)), by omega⟩ h e := by
  unfold OddRun.grown
  pointwise [hz]
  by_cases hp : p.val < 64
  · rw [dif_pos hp, dif_pos (show 64 + p.val < 128 by omega)]
  · refine (dif_neg hp).trans (Eq.trans ?_ (dif_neg (show ¬ 64 + p.val < 128 by omega)).symm)
    by_cases hh : h.val * 64 + e.val < 64
    · rw [dif_pos hh]; exact place K (by show 32768 + (b.val * 64 + (p.val - 64)) = 32768 + (b.val * 64 + (64 + p.val - 128)); omega) (by show (h.val * 64 + e.val) / 128 = h.val; omega) (by show (h.val * 64 + e.val) % 64 = e.val; omega)
    · rw [dif_neg hh]; exact place K (by show 32768 + (b.val * 64 + (p.val - 64)) = 32768 + (b.val * 64 + (64 + p.val - 128)); omega) (by show (128 + (h.val * 64 + e.val - 64)) / 128 = h.val; omega) (by show (128 + (h.val * 64 + e.val - 64)) % 64 = e.val; omega)

/-- The contents `V` hold the kernel's arguments. -/
structure Same (c : Dev nD) (V : Valuation Cert.Reference3Ideal.τ Cert.Reference3Ideal.sig (Elt Ideal)) : Prop where
  x : Reference3Ideal.Odd.fX V = aX m c
  z : Reference3Ideal.Odd.fZ V = aZ m c
  mp : Reference3Ideal.Odd.fMp V = aMp m c
  md : Reference3Ideal.Odd.fMd V = aMd m c
  g : Reference3Ideal.Odd.fG V = aG m c
  w : Reference3Ideal.Odd.fW V = aW m c
  k : V (Proc.devRef .tc Cert.Reference3Ideal.main_arg6) = m (c.tc.loc main_arg6)
  v : V (Proc.devRef .tc Cert.Reference3Ideal.main_arg7) = m (c.tc.loc main_arg7)

variable {V : Valuation Cert.Reference3Ideal.τ Cert.Reference3Ideal.sig (Elt Ideal)}

theorem resid_of {c : Dev nD} (s : Same m c V) : Rotation.resid (Reference3Ideal.Odd.fX V) (Reference3Ideal.Odd.fZ V) (Reference3Ideal.Odd.fMp V) = Rotation.resid (aX m c) (aZ m c) (aMp m c) := by
  rw [s.x, s.z, s.mp]

theorem query_of {c : Dev nD} (s : Same m c V) : Rotation.query (Reference3Ideal.Odd.fX V) (Reference3Ideal.Odd.fZ V) (Reference3Ideal.Odd.fMp V) (Reference3Ideal.Odd.fMd V) (Reference3Ideal.Odd.fG V) (Reference3Ideal.Odd.fW V) = Rotation.query (aX m c) (aZ m c) (aMp m c) (aMd m c) (aG m c) (aW m c) := by
  rw [s.x, s.z, s.mp, s.md, s.g, s.w]

theorem key_of {c : Dev nD} (s : Same m c V) : Rotation.key (Reference3Ideal.Odd.fX V) (Reference3Ideal.Odd.fZ V) (Reference3Ideal.Odd.fMp V) (Reference3Ideal.Odd.fMd V) (Reference3Ideal.Odd.fG V) (Reference3Ideal.Odd.fW V) = Rotation.key (aX m c) (aZ m c) (aMp m c) (aMd m c) (aG m c) (aW m c) := by
  rw [s.x, s.z, s.mp, s.md, s.g, s.w]

theorem value_of {c : Dev nD} (s : Same m c V) : Rotation.value (Reference3Ideal.Odd.fX V) (Reference3Ideal.Odd.fZ V) (Reference3Ideal.Odd.fMp V) (Reference3Ideal.Odd.fMd V) (Reference3Ideal.Odd.fG V) (Reference3Ideal.Odd.fW V) = Rotation.value (aX m c) (aZ m c) (aMp m c) (aMd m c) (aG m c) (aW m c) := by
  rw [s.x, s.z, s.mp, s.md, s.g, s.w]

theorem resX_eq (c : Dev nD) (s : Same m c V) : OddRun.reg_main_v83_0 m c = Reference3Ideal.Odd.resX V := by
  funext i
  rw [← ix2_eta (show S33280x1024.Idx from i)]
  exact (endX m c _ _).trans ((congrFun (congrFun (resid_of m s) _) _).symm.trans (Reference3Ideal.Odd.resX_at V _ _).symm)

theorem resQ_eq (c : Dev nD) (s : Same m c V) : OddRun.reg_main_v83_1 m c = Reference3Ideal.Odd.resQ V := by
  funext i
  rw [← ix2_eta (show S33280x1024.Idx from i)]
  exact (endQ m c _ _).trans ((congrFun (congrFun (congrFun (query_of m s) _) _) _).symm.trans (Reference3Ideal.Odd.resQ_at V _ _).symm)

theorem keptK_eq (c : Dev nD) (s : Same m c V) : OddRun.kept (OddRun.reg_main_v83_2 m c) = Reference3Ideal.Odd.keptK V :=
  heads_ext fun b p h e => (kept_at (Rotation.key (aX m c) (aZ m c) (aMp m c) (aMd m c) (aG m c) (aW m c)) _ (endK m c) b p h e).trans ((congrFun (congrFun (congrFun (key_of m s) _) _) _).symm.trans (Reference3Ideal.Odd.keptK_at V b p h e).symm)

theorem grownK_eq (c : Dev nD) (s : Same m c V) : OddRun.grown (OddRun.reg_main_v83_2 m c) (m (c.tc.loc main_arg6)) = Reference3Ideal.Odd.grownK V :=
  heads_ext fun b p h e => (grown_at (Rotation.key (aX m c) (aZ m c) (aMp m c) (aMd m c) (aG m c) (aW m c)) _ _ (endK m c) b p h e).trans (by
    refine Eq.trans ?_ (Reference3Ideal.Odd.grownK_at V b p h e).symm
    rw [key_of m s]
    by_cases h' : 64 + p.val < 128
    · rw [dif_pos h', dif_pos h']
      exact (congrFun s.k (ix5 0 b ⟨64 + p.val, h'⟩ h e : S1x8x128x2x64.Idx)).symm
    · rw [dif_neg h', dif_neg h'])

theorem keptV_eq (c : Dev nD) (s : Same m c V) : OddRun.kept (OddRun.reg_main_v83_3 m c) = Reference3Ideal.Odd.keptV V :=
  heads_ext fun b p h e => (kept_at (Rotation.value (aX m c) (aZ m c) (aMp m c) (aMd m c) (aG m c) (aW m c)) _ (endV m c) b p h e).trans ((congrFun (congrFun (congrFun (value_of m s) _) _) _).symm.trans (Reference3Ideal.Odd.keptV_at V b p h e).symm)

theorem grownV_eq (c : Dev nD) (s : Same m c V) : OddRun.grown (OddRun.reg_main_v83_3 m c) (m (c.tc.loc main_arg7)) = Reference3Ideal.Odd.grownV V :=
  heads_ext fun b p h e => (grown_at (Rotation.value (aX m c) (aZ m c) (aMp m c) (aMd m c) (aG m c) (aW m c)) _ _ (endV m c) b p h e).trans (by
    refine Eq.trans ?_ (Reference3Ideal.Odd.grownV_at V b p h e).symm
    rw [value_of m s]
    by_cases h' : 64 + p.val < 128
    · rw [dif_pos h', dif_pos h']
      exact (congrFun s.v (ix5 0 b ⟨64 + p.val, h'⟩ h e : S1x8x128x2x64.Idx)).symm
    · rw [dif_neg h', dif_neg h'])

set_option maxHeartbeats 2000000 in
theorem algebraic : Cert.algebraic_Kernel3Ideal_Reference3Ideal := by
  intro m g m' g' _ hargs
  have s : ∀ c : Dev nD, Same m c (launchContents m' c) := fun c => by
    obtain ⟨e0, e1, e2, e3, e4, e5, e6, e7⟩ := hargs c
    exact ⟨funext fun n => funext fun k => congrFun e0 (ix2 n k : S33280x1024.Idx), funext fun a => funext fun n => funext fun k => congrFun e1 (ix3 a n k : S4x36864x128.Idx),
      funext fun q => funext fun k => congrFun e2 (ix2 q k : S16x6144.Idx), funext fun q => funext fun k => congrFun e3 (ix2 q k : S16x6144.Idx),
      funext fun k => congrFun e4 (ix1 k : S1024.Idx), funext fun k => funext fun q => congrFun e5 (ix3 0 k q : S1x1024x1280.Idx), e6, e7⟩
  refine ⟨fun c => Reference3Ideal.Odd.resX (launchContents m' c), fun c => Reference3Ideal.Odd.resQ (launchContents m' c),
    fun c => Reference3Ideal.Odd.keptK (launchContents m' c), fun c => Reference3Ideal.Odd.keptV (launchContents m' c),
    fun c => Reference3Ideal.Odd.grownK (launchContents m' c), fun c => Reference3Ideal.Odd.grownV (launchContents m' c), ?_, ?_⟩
  · refine (θ_run _ _ _).mono (fun r h c => ?_) (OddRun.run m g)
    obtain ⟨h0, h1, h2, h3, h4, h5, ha⟩ := h c
    exact ⟨h0.trans (resX_eq m c (s c)), h1.trans (resQ_eq m c (s c)), h2.trans (keptK_eq m c (s c)), h3.trans (keptV_eq m c (s c)),
      h4.trans (grownK_eq m c (s c)), h5.trans (grownV_eq m c (s c)), ha⟩
  · exact Cert.Reference3Ideal.Odd.run m' g'

theorem preserves : Cert.preserves_Kernel3_Kernel3Ideal := trivial

theorem kernel : Cert.quiescent_Kernel3 := fun m ρ _ => Cert.Kernel3.Gen.frame m ρ
theorem ideal : Cert.quiescent_Kernel3Ideal := fun m ρ _ => Cert.Kernel3Ideal.Gen.frame m ρ
theorem reference : Cert.quiescent_Reference3Ideal := fun m ρ _ =>
  (θ_run Cert.Reference3Ideal.defs _ _).mono (fun r h => ⟨fun c => by
    obtain ⟨_, _, _, _, _, _, ha⟩ := h c
    exact ha, sem_eq_zero_of_no_sems rfl r.2⟩) (Cert.Reference3Ideal.Odd.run m ρ)

end Cert.OddValues

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_experts_exist
public import proofs.«01_k».proof.Proof.Gen.Pre_experts_differ
public import proofs.«01_k».proof.Proof.Gen.On_rows_of_tokens
public import proofs.«01_k».proof.Proof.Frames
public import proofs.«01_k».proof.Proof.Values
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.EvenValues
public import proofs.«01_k».proof.Proof.OddValues
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_experts_exist.Gen.facts, Cert.Pre_experts_differ.Gen.facts, Cert.On_rows_of_tokens.Gen.facts,
  Cert.Frames.kernel, Cert.Frames.ideal, Cert.Frames.ideal_differ, Cert.Frames.reference, Cert.Frames.reference_differ,
  Cert.EvenValues.kernel, Cert.EvenValues.ideal, Cert.EvenValues.reference,
  Cert.OddValues.kernel, Cert.OddValues.ideal, Cert.OddValues.reference,
  Cert.Frames.preserves, Cert.Values.algebraic, Cert.EvenValues.preserves, Cert.EvenValues.algebraic,
  Cert.OddValues.preserves, Cert.OddValues.algebraic⟩

end Cert.Proof

end
